-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 4096, 32, 128]⟩ ⟨4, ![1, 16384, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 32, 128]⟩ ⟨4, ![1, 16384, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x4096 : Shape := ⟨2, ![1024, 4096]⟩
abbrev S1x16384x32x128 : Shape := ⟨4, ![1, 16384, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x16384x32x128 : S_.BroadcastsInDim S1x16384x32x128 (![] : Fin 0 → Fin S1x16384x32x128.rank)
  reducesTo_S1x16384x32x128_S_d0_1_2_3 : S1x16384x32x128.ReducesTo [0, 1, 2, 3] S_

variable [Facts]

def fn {F : FTy → Type} [FloatOps F] (main_arg0 : FVec F S1x256x1024 .f32) (main_arg1 : FVec F S1024x4096 .f32) (main_arg2 : FVec F S1x16384x32x128 .f32) (main_arg3 : FVec F S1x16384x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x16384x32x128 .f32 := Host.absf main_arg2
  let main_cst_2 : FVec F S_ .f32 := constant S_ .f32 0x7F800000#32
  let main_v10 : FVec F S1x16384x32x128 .f32 := broadcastInDim S1x16384x32x128 ![] bcast_S_S1x16384x32x128 main_cst_2
  let main_v11 : IVec S1x16384x32x128 1 := cmpf .olt main_v9 main_v10
  let main_c_3 : IVec S_ 1 := constantI S_ 1 1#1
  let main_v12 : IVec S_ 1 := (fun x v => Host.reduce IntOp.andi x v reducesTo_S1x16384x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S4x256x1024 : Shape := ⟨3, ![4, 256, 1024]⟩
abbrev S2x4096x128 : Shape := ⟨3, ![2, 4096, 128]⟩
abbrev S3x1408x128 : Shape := ⟨3, ![3, 1408, 128]⟩
abbrev S4x8x256 : Shape := ⟨3, ![4, 8, 256]⟩
abbrev S2 : Shape := ⟨1, ![2]⟩
abbrev S4 : Shape := ⟨1, ![4]⟩
abbrev S_ : Shape := ⟨0, ![]⟩
abbrev S2x64x128 : Shape := ⟨3, ![2, 64, 128]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x1024 : Shape := ⟨2, ![256, 1024]⟩
abbrev S1x1408 : Shape := ⟨2, ![1, 1408]⟩
abbrev S128x256 : Shape := ⟨2, ![128, 256]⟩
abbrev S1x64x128 : Shape := ⟨3, ![1, 64, 128]⟩
abbrev S64x128 : Shape := ⟨2, ![64, 128]⟩
abbrev S1408x128 : Shape := ⟨2, ![1408, 128]⟩
abbrev S1x1408x128 : Shape := ⟨3, ![1, 1408, 128]⟩
abbrev S1344x128 : Shape := ⟨2, ![1344, 128]⟩
abbrev S1x1344x128 : Shape := ⟨3, ![1, 1344, 128]⟩
abbrev S1x256x128 : Shape := ⟨3, ![1, 256, 128]⟩
abbrev S256x128 : Shape := ⟨2, ![256, 128]⟩
abbrev S128x128 : Shape := ⟨2, ![128, 128]⟩
abbrev S128x1408 : Shape := ⟨2, ![128, 1408]⟩
abbrev S128 : Shape := ⟨1, ![128]⟩
abbrev S64x1408 : Shape := ⟨2, ![64, 1408]⟩
abbrev S64 : Shape := ⟨1, ![64]⟩
abbrev S1x128x128 : Shape := ⟨3, ![1, 128, 128]⟩
abbrev S256 : Shape := ⟨1, ![256]⟩
abbrev S1x1x256 : Shape := ⟨3, ![1, 1, 256]⟩
abbrev S1x8x256 : Shape := ⟨3, ![1, 8, 256]⟩
abbrev S8x256 : Shape := ⟨2, ![8, 256]⟩
abbrev S4x256x128 : Shape := ⟨3, ![4, 256, 128]⟩
abbrev S1x256 : Shape := ⟨2, ![1, 256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x256x1024, .bf16⟩
  | .local _ .vmem, ⟨5, _⟩ => ⟨S2x4096x128, .f32⟩
  | .local _ .vmem, ⟨6, _⟩ => ⟨S2x4096x128, .f32⟩
  | .local _ .vmem, ⟨7, _⟩ => ⟨S3x1408x128, .bf16⟩
  | .local _ .vmem, ⟨8, _⟩ => ⟨S3x1408x128, .bf16⟩
  | .local _ .vmem, ⟨9, _⟩ => ⟨S4x256x1024, .bf16⟩
  | .local _ .vmem, ⟨10, _⟩ => ⟨S4x8x256, .f32⟩
  | .local _ .vmem, ⟨11, _⟩ => ⟨S4x256x1024, .bf16⟩
  | .local _ .vmem, ⟨12, _⟩ => ⟨S4x8x256, .f32⟩
  | .local _ .vmem, ⟨13, _⟩ => ⟨S4x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 4 → Nat :=
  let c0_i32_17 : BitVec 32 := 0#32
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v24 : BitVec 32 := Scalar.muli v2 c8_i32
  let c0_i32_23 : BitVec 32 := 0#32
  ![0, 0, v24.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : Index := Scalar.indexCast v2
  let c0_38 : Index := 0#32
  let c0_39 : Index := 0#32
  ![v47.toNat, 0, 0]
def k0_off3 (d0 : Dev nD) (c1_i32_40 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v51 : BitVec 32 := Scalar.addi v2 c1_i32_40
  let c4_i32_41 : BitVec 32 := 4#32
  let v52 : BitVec 32 := Scalar.remsi v51 c4_i32_41
  ![v52.toNat]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_44 : BitVec 32 := 0#32
  let c0_i32_45 : BitVec 32 := 0#32
  ![v2.toNat, 0, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v51 : BitVec 32 := Scalar.addi v2 c1_i32_40
  let c4_i32_41 : BitVec 32 := 4#32
  let v52 : BitVec 32 := Scalar.remsi v51 c4_i32_41
  let c1_i32_42 : BitVec 32 := 1#32
  let v53 : BitVec 32 := Scalar.muli v52 c1_i32_42
  let v54 : BitVec 32 := Scalar.addi c0_i32_43 v53
  v54.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v63 : BitVec 32 := Scalar.addi v2 c2_i32_48
  let c4_i32_49 : BitVec 32 := 4#32
  let v64 : BitVec 32 := Scalar.remsi v63 c4_i32_49
  let c1_i32_50 : BitVec 32 := 1#32
  let v65 : BitVec 32 := Scalar.muli v64 c1_i32_50
  let v66 : BitVec 32 := Scalar.addi c0_i32_51 v65
  v66.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v75 : BitVec 32 := Scalar.addi v2 c3_i32_56
  let c4_i32_57 : BitVec 32 := 4#32
  let v76 : BitVec 32 := Scalar.remsi v75 c4_i32_57
  let c1_i32_58 : BitVec 32 := 1#32
  let v77 : BitVec 32 := Scalar.muli v76 c1_i32_58
  let v78 : BitVec 32 := Scalar.addi c0_i32_59 v77
  v78.toNat
@[reducible] def k0_t1_loop : Scf.Loop 32 :=
  let c0_i32_83 : BitVec 32 := 0#32
  let c8_i32_84 : BitVec 32 := 8#32
  let v142 : BitVec 32 := Scalar.addi c0_i32_83 c8_i32_84
  let c1_i32_85 : BitVec 32 := 1#32
  ⟨c0_i32_83, v142, c1_i32_85⟩
def k0_cond1 (k0_t1 : Fin k0_t1_loop.trips) : BitVec 1 :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c1_i32_366 : BitVec 32 := 1#32
  let v540 : BitVec 32 := Scalar.addi v538 c1_i32_366
  let c32_i32 : BitVec 32 := 32#32
  let v541 : BitVec 1 := Scalar.cmpi .slt v540 c32_i32
  let v542 : BitVec 32 := Scalar.extui v541
  let c0_i32_367 : BitVec 32 := 0#32
  let v543 : BitVec 1 := Scalar.cmpi .ne v542 c0_i32_367
  v543

def k0_off6 (k0_t1 : Fin k0_t1_loop.trips) : Fin 1 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c1_i32_656 : BitVec 32 := 1#32
  let v1115 : BitVec 32 := Scalar.addi v538 c1_i32_656
  let c2_i32_657 : BitVec 32 := 2#32
  let v1116 : BitVec 32 := Scalar.remsi v1115 c2_i32_657
  ![v1116.toNat]
def k0_off7 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c1_i32_656 : BitVec 32 := 1#32
  let v1115 : BitVec 32 := Scalar.addi v538 c1_i32_656
  let c2_i32_657 : BitVec 32 := 2#32
  let v1116 : BitVec 32 := Scalar.remsi v1115 c2_i32_657
  let c0_i32_659 : BitVec 32 := 0#32
  let c0_i32_660 : BitVec 32 := 0#32
  ![v1116.toNat, 0, 0]
def k0_off8 (d0 : Dev nD) (k0_t1 : Fin k0_t1_loop.trips) : Fin 4 → Nat :=
  let c0_i32_658 : BitVec 32 := 0#32
  let c0_i32_661 : BitVec 32 := 0#32
  let c0_i32_83 : BitVec 32 := 0#32
  let c1_i32_85 : BitVec 32 := 1#32
  let arg26 : BitVec 32 := Scf.iv c0_i32_83 c1_i32_85 k0_t1
  let c1_i32_649 : BitVec 32 := 1#32
  let v1106 : BitVec 32 := Scalar.addi arg26 c1_i32_649
  let c8_i32_650 : BitVec 32 := 8#32
  let v1107 : BitVec 1 := Scalar.cmpi .slt v1106 c8_i32_650
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let c8_i32_651 : BitVec 32 := 8#32
  let v1108 : BitVec 32 := Scalar.muli v141 c8_i32_651
  let v1109 : BitVec 32 := Scalar.addi v1108 arg26
  let c1_i32_652 : BitVec 32 := 1#32
  let v1110 : BitVec 32 := Scalar.addi v1109 c1_i32_652
  let c1_i32_653 : BitVec 32 := 1#32
  let v1111 : BitVec 32 := Scalar.addi v141 c1_i32_653
  let c4_i32_654 : BitVec 32 := 4#32
  let v1112 : BitVec 32 := Scalar.remsi v1111 c4_i32_654
  let c8_i32_655 : BitVec 32 := 8#32
  let v1113 : BitVec 32 := Scalar.muli v1112 c8_i32_655
  let v1114 : BitVec 32 := Scalar.select v1107 v1110 v1113
  let c0_i32_662 : BitVec 32 := 0#32
  ![0, 0, v1114.toNat, 0]
def k0_off9 (k0_t1 : Fin k0_t1_loop.trips) : Fin 1 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  ![v539.toNat]
def k0_off10 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let c0_i32_370 : BitVec 32 := 0#32
  let c0_i32_371 : BitVec 32 := 0#32
  ![v539.toNat, 0, 0]
def k0_off11 (d0 : Dev nD) (k0_t1 : Fin k0_t1_loop.trips) : Fin 4 → Nat :=
  let c0_i32_369 : BitVec 32 := 0#32
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let c8_i32_368 : BitVec 32 := 8#32
  let v544 : BitVec 32 := Scalar.muli v141 c8_i32_368
  let c0_i32_83 : BitVec 32 := 0#32
  let c1_i32_85 : BitVec 32 := 1#32
  let arg26 : BitVec 32 := Scf.iv c0_i32_83 c1_i32_85 k0_t1
  let v545 : BitVec 32 := Scalar.addi v544 arg26
  let c0_i32_373 : BitVec 32 := 0#32
  ![0, 0, v545.toNat, 0]
def k0_off12 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v558 : Index := Scalar.indexCast v539
  let c0_379 : Index := 0#32
  let c0_380 : Index := 0#32
  ![v558.toNat, 0, 0]
def k0_off13 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v561 : Index := Scalar.indexCast v539
  let c192 : Index := 192#32
  let c0_381 : Index := 0#32
  ![v561.toNat, 192, 0]
def k0_off14 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v564 : Index := Scalar.indexCast v539
  let c384_382 : Index := 384#32
  let c0_383 : Index := 0#32
  ![v564.toNat, 384, 0]
def k0_off15 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v567 : Index := Scalar.indexCast v539
  let c576 : Index := 576#32
  let c0_384 : Index := 0#32
  ![v567.toNat, 576, 0]
def k0_off16 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v570 : Index := Scalar.indexCast v539
  let c768_385 : Index := 768#32
  let c0_386 : Index := 0#32
  ![v570.toNat, 768, 0]
def k0_off17 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v573 : Index := Scalar.indexCast v539
  let c960 : Index := 960#32
  let c0_387 : Index := 0#32
  ![v573.toNat, 960, 0]
def k0_off18 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v576 : Index := Scalar.indexCast v539
  let c1152 : Index := 1152#32
  let c0_388 : Index := 0#32
  ![v576.toNat, 1152, 0]
def k0_off19 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v579 : Index := Scalar.indexCast v539
  let c1344_389 : Index := 1344#32
  let c0_390 : Index := 0#32
  ![v579.toNat, 1344, 0]
def k0_off20 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v582 : Index := Scalar.indexCast v539
  let c1536 : Index := 1536#32
  let c0_391 : Index := 0#32
  ![v582.toNat, 1536, 0]
def k0_off21 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v585 : Index := Scalar.indexCast v539
  let c1728 : Index := 1728#32
  let c0_392 : Index := 0#32
  ![v585.toNat, 1728, 0]
def k0_off22 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v588 : Index := Scalar.indexCast v539
  let c1920 : Index := 1920#32
  let c0_393 : Index := 0#32
  ![v588.toNat, 1920, 0]
def k0_off23 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v591 : Index := Scalar.indexCast v539
  let c2112 : Index := 2112#32
  let c0_394 : Index := 0#32
  ![v591.toNat, 2112, 0]
def k0_off24 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v594 : Index := Scalar.indexCast v539
  let c2304 : Index := 2304#32
  let c0_395 : Index := 0#32
  ![v594.toNat, 2304, 0]
def k0_off25 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v597 : Index := Scalar.indexCast v539
  let c2496 : Index := 2496#32
  let c0_396 : Index := 0#32
  ![v597.toNat, 2496, 0]
def k0_off26 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v600 : Index := Scalar.indexCast v539
  let c2688 : Index := 2688#32
  let c0_397 : Index := 0#32
  ![v600.toNat, 2688, 0]
def k0_off27 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v603 : Index := Scalar.indexCast v539
  let c2880 : Index := 2880#32
  let c0_398 : Index := 0#32
  ![v603.toNat, 2880, 0]
def k0_off28 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v606 : Index := Scalar.indexCast v539
  let c3072 : Index := 3072#32
  let c0_399 : Index := 0#32
  ![v606.toNat, 3072, 0]
def k0_off29 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v609 : Index := Scalar.indexCast v539
  let c3264 : Index := 3264#32
  let c0_400 : Index := 0#32
  ![v609.toNat, 3264, 0]
def k0_off30 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v612 : Index := Scalar.indexCast v539
  let c3456 : Index := 3456#32
  let c0_401 : Index := 0#32
  ![v612.toNat, 3456, 0]
def k0_off31 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v615 : Index := Scalar.indexCast v539
  let c3648 : Index := 3648#32
  let c0_402 : Index := 0#32
  ![v615.toNat, 3648, 0]
def k0_off32 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v618 : Index := Scalar.indexCast v539
  let c3840 : Index := 3840#32
  let c0_403 : Index := 0#32
  ![v618.toNat, 3840, 0]
def k0_off33 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v621 : Index := Scalar.indexCast v539
  let c4032 : Index := 4032#32
  let c0_404 : Index := 0#32
  ![v621.toNat, 4032, 0]
def k0_off34 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v700 : Index := Scalar.indexCast v539
  let c64 : Index := 64#32
  let c0_455 : Index := 0#32
  ![v700.toNat, 64, 0]
def k0_off35 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v703 : Index := Scalar.indexCast v539
  let c256_456 : Index := 256#32
  let c0_457 : Index := 0#32
  ![v703.toNat, 256, 0]
def k0_off36 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v706 : Index := Scalar.indexCast v539
  let c448 : Index := 448#32
  let c0_458 : Index := 0#32
  ![v706.toNat, 448, 0]
def k0_off37 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v709 : Index := Scalar.indexCast v539
  let c640_459 : Index := 640#32
  let c0_460 : Index := 0#32
  ![v709.toNat, 640, 0]
def k0_off38 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v712 : Index := Scalar.indexCast v539
  let c832 : Index := 832#32
  let c0_461 : Index := 0#32
  ![v712.toNat, 832, 0]
def k0_off39 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v715 : Index := Scalar.indexCast v539
  let c1024 : Index := 1024#32
  let c0_462 : Index := 0#32
  ![v715.toNat, 1024, 0]
def k0_off40 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v718 : Index := Scalar.indexCast v539
  let c1216 : Index := 1216#32
  let c0_463 : Index := 0#32
  ![v718.toNat, 1216, 0]
def k0_off41 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v721 : Index := Scalar.indexCast v539
  let c1408 : Index := 1408#32
  let c0_464 : Index := 0#32
  ![v721.toNat, 1408, 0]
def k0_off42 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v724 : Index := Scalar.indexCast v539
  let c1600 : Index := 1600#32
  let c0_465 : Index := 0#32
  ![v724.toNat, 1600, 0]
def k0_off43 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v727 : Index := Scalar.indexCast v539
  let c1792 : Index := 1792#32
  let c0_466 : Index := 0#32
  ![v727.toNat, 1792, 0]
def k0_off44 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v730 : Index := Scalar.indexCast v539
  let c1984 : Index := 1984#32
  let c0_467 : Index := 0#32
  ![v730.toNat, 1984, 0]
def k0_off45 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v733 : Index := Scalar.indexCast v539
  let c2176 : Index := 2176#32
  let c0_468 : Index := 0#32
  ![v733.toNat, 2176, 0]
def k0_off46 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v736 : Index := Scalar.indexCast v539
  let c2368 : Index := 2368#32
  let c0_469 : Index := 0#32
  ![v736.toNat, 2368, 0]
def k0_off47 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v739 : Index := Scalar.indexCast v539
  let c2560 : Index := 2560#32
  let c0_470 : Index := 0#32
  ![v739.toNat, 2560, 0]
def k0_off48 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v742 : Index := Scalar.indexCast v539
  let c2752 : Index := 2752#32
  let c0_471 : Index := 0#32
  ![v742.toNat, 2752, 0]
def k0_off49 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v745 : Index := Scalar.indexCast v539
  let c2944 : Index := 2944#32
  let c0_472 : Index := 0#32
  ![v745.toNat, 2944, 0]
def k0_off50 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v748 : Index := Scalar.indexCast v539
  let c3136 : Index := 3136#32
  let c0_473 : Index := 0#32
  ![v748.toNat, 3136, 0]
def k0_off51 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v751 : Index := Scalar.indexCast v539
  let c3328 : Index := 3328#32
  let c0_474 : Index := 0#32
  ![v751.toNat, 3328, 0]
def k0_off52 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v754 : Index := Scalar.indexCast v539
  let c3520 : Index := 3520#32
  let c0_475 : Index := 0#32
  ![v754.toNat, 3520, 0]
def k0_off53 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v757 : Index := Scalar.indexCast v539
  let c3712 : Index := 3712#32
  let c0_476 : Index := 0#32
  ![v757.toNat, 3712, 0]
def k0_off54 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v760 : Index := Scalar.indexCast v539
  let c3904 : Index := 3904#32
  let c0_477 : Index := 0#32
  ![v760.toNat, 3904, 0]
def k0_off55 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v836 : Index := Scalar.indexCast v539
  let c128_526 : Index := 128#32
  let c0_527 : Index := 0#32
  ![v836.toNat, 128, 0]
def k0_off56 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v839 : Index := Scalar.indexCast v539
  let c320 : Index := 320#32
  let c0_528 : Index := 0#32
  ![v839.toNat, 320, 0]
def k0_off57 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v842 : Index := Scalar.indexCast v539
  let c512_529 : Index := 512#32
  let c0_530 : Index := 0#32
  ![v842.toNat, 512, 0]
def k0_off58 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v845 : Index := Scalar.indexCast v539
  let c704 : Index := 704#32
  let c0_531 : Index := 0#32
  ![v845.toNat, 704, 0]
def k0_off59 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v848 : Index := Scalar.indexCast v539
  let c896_532 : Index := 896#32
  let c0_533 : Index := 0#32
  ![v848.toNat, 896, 0]
def k0_off60 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v851 : Index := Scalar.indexCast v539
  let c1088 : Index := 1088#32
  let c0_534 : Index := 0#32
  ![v851.toNat, 1088, 0]
def k0_off61 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v854 : Index := Scalar.indexCast v539
  let c1280 : Index := 1280#32
  let c0_535 : Index := 0#32
  ![v854.toNat, 1280, 0]
def k0_off62 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v857 : Index := Scalar.indexCast v539
  let c1472 : Index := 1472#32
  let c0_536 : Index := 0#32
  ![v857.toNat, 1472, 0]
def k0_off63 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v860 : Index := Scalar.indexCast v539
  let c1664 : Index := 1664#32
  let c0_537 : Index := 0#32
  ![v860.toNat, 1664, 0]
def k0_off64 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v863 : Index := Scalar.indexCast v539
  let c1856 : Index := 1856#32
  let c0_538 : Index := 0#32
  ![v863.toNat, 1856, 0]
def k0_off65 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v866 : Index := Scalar.indexCast v539
  let c2048 : Index := 2048#32
  let c0_539 : Index := 0#32
  ![v866.toNat, 2048, 0]
def k0_off66 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v869 : Index := Scalar.indexCast v539
  let c2240 : Index := 2240#32
  let c0_540 : Index := 0#32
  ![v869.toNat, 2240, 0]
def k0_off67 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v872 : Index := Scalar.indexCast v539
  let c2432 : Index := 2432#32
  let c0_541 : Index := 0#32
  ![v872.toNat, 2432, 0]
def k0_off68 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v875 : Index := Scalar.indexCast v539
  let c2624 : Index := 2624#32
  let c0_542 : Index := 0#32
  ![v875.toNat, 2624, 0]
def k0_off69 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v878 : Index := Scalar.indexCast v539
  let c2816 : Index := 2816#32
  let c0_543 : Index := 0#32
  ![v878.toNat, 2816, 0]
def k0_off70 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v881 : Index := Scalar.indexCast v539
  let c3008 : Index := 3008#32
  let c0_544 : Index := 0#32
  ![v881.toNat, 3008, 0]
def k0_off71 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v884 : Index := Scalar.indexCast v539
  let c3200 : Index := 3200#32
  let c0_545 : Index := 0#32
  ![v884.toNat, 3200, 0]
def k0_off72 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v887 : Index := Scalar.indexCast v539
  let c3392 : Index := 3392#32
  let c0_546 : Index := 0#32
  ![v887.toNat, 3392, 0]
def k0_off73 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v890 : Index := Scalar.indexCast v539
  let c3584 : Index := 3584#32
  let c0_547 : Index := 0#32
  ![v890.toNat, 3584, 0]
def k0_off74 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v893 : Index := Scalar.indexCast v539
  let c3776 : Index := 3776#32
  let c0_548 : Index := 0#32
  ![v893.toNat, 3776, 0]
def k0_off75 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v896 : Index := Scalar.indexCast v539
  let c3968 : Index := 3968#32
  let c0_549 : Index := 0#32
  ![v896.toNat, 3968, 0]
def k0_off76 (k0_t1 : Fin k0_t1_loop.trips) : Fin 3 → Nat :=
  let c0_i32_364 : BitVec 32 := 0#32
  let c0_i32_83 : BitVec 32 := 0#32
  let c1_i32_85 : BitVec 32 := 1#32
  let arg26 : BitVec 32 := Scf.iv c0_i32_83 c1_i32_85 k0_t1
  let v538 : BitVec 32 := Scalar.addi c0_i32_364 arg26
  let c2_i32_365 : BitVec 32 := 2#32
  let v539 : BitVec 32 := Scalar.remsi v538 c2_i32_365
  let v972 : Index := Scalar.indexCast v539
  let c0_597 : Index := 0#32
  let c0_598 : Index := 0#32
  ![v972.toNat, 0, 0]
def k0_off77 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v981 : Index := Scalar.indexCast v141
  let c0_601 : Index := 0#32
  let c0_i32_83 : BitVec 32 := 0#32
  let c1_i32_85 : BitVec 32 := 1#32
  let arg26 : BitVec 32 := Scf.iv c0_i32_83 c1_i32_85 k0_t1
  let c128_i32 : BitVec 32 := 128#32
  let v980 : BitVec 32 := Scalar.muli arg26 c128_i32
  let v982 : Index := Scalar.indexCast v980
  ![v981.toNat, 0, v982.toNat]
def k0_off78 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v985 : Index := Scalar.indexCast v141
  let c192_602 : Index := 192#32
  let c0_i32_83 : BitVec 32 := 0#32
  let c1_i32_85 : BitVec 32 := 1#32
  let arg26 : BitVec 32 := Scf.iv c0_i32_83 c1_i32_85 k0_t1
  let c128_i32 : BitVec 32 := 128#32
  let v980 : BitVec 32 := Scalar.muli arg26 c128_i32
  let v986 : Index := Scalar.indexCast v980
  ![v985.toNat, 192, v986.toNat]
def k0_off79 (d0 : Dev nD) : Fin 3 → Nat :=
  let c3_i32_604 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_603 : BitVec 32 := 3#32
  let v990 : BitVec 32 := Scalar.remsi v2 c3_i32_603
  let v991 : BitVec 32 := Scalar.subi c3_i32_604 v990
  let c3_i32_605 : BitVec 32 := 3#32
  let v992 : BitVec 32 := Scalar.remsi v991 c3_i32_605
  let v993 : Index := Scalar.indexCast v992
  let c0_606 : Index := 0#32
  let c0_607 : Index := 0#32
  ![v993.toNat, 0, 0]
def k0_off80 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v1008 : Index := Scalar.indexCast v141
  let c64_614 : Index := 64#32
  let c0_i32_83 : BitVec 32 := 0#32
  let c1_i32_85 : BitVec 32 := 1#32
  let arg26 : BitVec 32 := Scf.iv c0_i32_83 c1_i32_85 k0_t1
  let c128_i32 : BitVec 32 := 128#32
  let v980 : BitVec 32 := Scalar.muli arg26 c128_i32
  let v1009 : Index := Scalar.indexCast v980
  ![v1008.toNat, 64, v1009.toNat]
def k0_off81 (d0 : Dev nD) (c1_i32_615 : BitVec 32) : Fin 3 → Nat :=
  let c3_i32_617 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : BitVec 32 := Scalar.addi c1_i32_615 v2
  let c3_i32_616 : BitVec 32 := 3#32
  let v1013 : BitVec 32 := Scalar.remsi v1012 c3_i32_616
  let v1014 : BitVec 32 := Scalar.subi c3_i32_617 v1013
  let c3_i32_618 : BitVec 32 := 3#32
  let v1015 : BitVec 32 := Scalar.remsi v1014 c3_i32_618
  let v1016 : Index := Scalar.indexCast v1015
  let c0_619 : Index := 0#32
  let c0_620 : Index := 0#32
  ![v1016.toNat, 0, 0]
def k0_off82 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v1031 : Index := Scalar.indexCast v141
  let c128_627 : Index := 128#32
  let c0_i32_83 : BitVec 32 := 0#32
  let c1_i32_85 : BitVec 32 := 1#32
  let arg26 : BitVec 32 := Scf.iv c0_i32_83 c1_i32_85 k0_t1
  let c128_i32 : BitVec 32 := 128#32
  let v980 : BitVec 32 := Scalar.muli arg26 c128_i32
  let v1032 : Index := Scalar.indexCast v980
  ![v1031.toNat, 128, v1032.toNat]
def k0_off83 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v1054 : Index := Scalar.indexCast v141
  let c64_640 : Index := 64#32
  let c0_i32_83 : BitVec 32 := 0#32
  let c1_i32_85 : BitVec 32 := 1#32
  let arg26 : BitVec 32 := Scf.iv c0_i32_83 c1_i32_85 k0_t1
  let c128_i32 : BitVec 32 := 128#32
  let v980 : BitVec 32 := Scalar.muli arg26 c128_i32
  let v1055 : Index := Scalar.indexCast v980
  ![v1054.toNat, 64, v1055.toNat]
def k0_off84 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let v140 : BitVec 32 := Scalar.addi v2 c0_i32_81
  let c4_i32_82 : BitVec 32 := 4#32
  let v141 : BitVec 32 := Scalar.remsi v140 c4_i32_82
  let v1101 : Index := Scalar.indexCast v141
  let c0_i32_83 : BitVec 32 := 0#32
  let c1_i32_85 : BitVec 32 := 1#32
  let arg26 : BitVec 32 := Scf.iv c0_i32_83 c1_i32_85 k0_t1
  let v1102 : Index := Scalar.indexCast arg26
  let c0_648 : Index := 0#32
  ![v1101.toNat, v1102.toNat, 0]
def k0_off85 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : Index := Scalar.indexCast v2
  let c0_91 : Index := 0#32
  let c0_92 : Index := 0#32
  ![v150.toNat, 0, 0]
def k0_off86 (d0 : Dev nD) (c1_i32_95 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v157 : BitVec 32 := Scalar.addi v2 c1_i32_95
  let c4_i32_96 : BitVec 32 := 4#32
  let v158 : BitVec 32 := Scalar.remsi v157 c4_i32_96
  let c0_i32_99 : BitVec 32 := 0#32
  let c0_i32_100 : BitVec 32 := 0#32
  ![v158.toNat, 0, 0]
@[reducible] def k0_t2_loop : Scf.Loop 32 :=
  let c0_i32_103 : BitVec 32 := 0#32
  let c8_i32_104 : BitVec 32 := 8#32
  let v167 : BitVec 32 := Scalar.addi c0_i32_103 c8_i32_104
  let c1_i32_105 : BitVec 32 := 1#32
  ⟨c0_i32_103, v167, c1_i32_105⟩
def k0_cond2 (k0_t2 : Fin k0_t2_loop.trips) : BitVec 1 :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c1_i32_366 : BitVec 32 := 1#32
  let v540 : BitVec 32 := Scalar.addi v538 c1_i32_366
  let c32_i32 : BitVec 32 := 32#32
  let v541 : BitVec 1 := Scalar.cmpi .slt v540 c32_i32
  let v542 : BitVec 32 := Scalar.extui v541
  let c0_i32_367 : BitVec 32 := 0#32
  let v543 : BitVec 1 := Scalar.cmpi .ne v542 c0_i32_367
  v543

def k0_off87 (k0_t2 : Fin k0_t2_loop.trips) : Fin 1 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c1_i32_656 : BitVec 32 := 1#32
  let v1115 : BitVec 32 := Scalar.addi v538 c1_i32_656
  let c2_i32_657 : BitVec 32 := 2#32
  let v1116 : BitVec 32 := Scalar.remsi v1115 c2_i32_657
  ![v1116.toNat]
def k0_off88 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c1_i32_656 : BitVec 32 := 1#32
  let v1115 : BitVec 32 := Scalar.addi v538 c1_i32_656
  let c2_i32_657 : BitVec 32 := 2#32
  let v1116 : BitVec 32 := Scalar.remsi v1115 c2_i32_657
  let c0_i32_659 : BitVec 32 := 0#32
  let c0_i32_660 : BitVec 32 := 0#32
  ![v1116.toNat, 0, 0]
def k0_off89 (d0 : Dev nD) (k0_t2 : Fin k0_t2_loop.trips) : Fin 4 → Nat :=
  let c0_i32_658 : BitVec 32 := 0#32
  let c0_i32_661 : BitVec 32 := 0#32
  let c0_i32_103 : BitVec 32 := 0#32
  let c1_i32_105 : BitVec 32 := 1#32
  let arg26 : BitVec 32 := Scf.iv c0_i32_103 c1_i32_105 k0_t2
  let c1_i32_649 : BitVec 32 := 1#32
  let v1106 : BitVec 32 := Scalar.addi arg26 c1_i32_649
  let c8_i32_650 : BitVec 32 := 8#32
  let v1107 : BitVec 1 := Scalar.cmpi .slt v1106 c8_i32_650
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let c8_i32_651 : BitVec 32 := 8#32
  let v1108 : BitVec 32 := Scalar.muli v158 c8_i32_651
  let v1109 : BitVec 32 := Scalar.addi v1108 arg26
  let c1_i32_652 : BitVec 32 := 1#32
  let v1110 : BitVec 32 := Scalar.addi v1109 c1_i32_652
  let c1_i32_653 : BitVec 32 := 1#32
  let v1111 : BitVec 32 := Scalar.addi v158 c1_i32_653
  let c4_i32_654 : BitVec 32 := 4#32
  let v1112 : BitVec 32 := Scalar.remsi v1111 c4_i32_654
  let c8_i32_655 : BitVec 32 := 8#32
  let v1113 : BitVec 32 := Scalar.muli v1112 c8_i32_655
  let v1114 : BitVec 32 := Scalar.select v1107 v1110 v1113
  let c0_i32_662 : BitVec 32 := 0#32
  ![0, 0, v1114.toNat, 0]
def k0_off90 (k0_t2 : Fin k0_t2_loop.trips) : Fin 1 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  ![v539.toNat]
def k0_off91 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let c0_i32_370 : BitVec 32 := 0#32
  let c0_i32_371 : BitVec 32 := 0#32
  ![v539.toNat, 0, 0]
def k0_off92 (d0 : Dev nD) (k0_t2 : Fin k0_t2_loop.trips) : Fin 4 → Nat :=
  let c0_i32_369 : BitVec 32 := 0#32
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let c8_i32_368 : BitVec 32 := 8#32
  let v544 : BitVec 32 := Scalar.muli v158 c8_i32_368
  let c0_i32_103 : BitVec 32 := 0#32
  let c1_i32_105 : BitVec 32 := 1#32
  let arg26 : BitVec 32 := Scf.iv c0_i32_103 c1_i32_105 k0_t2
  let v545 : BitVec 32 := Scalar.addi v544 arg26
  let c0_i32_373 : BitVec 32 := 0#32
  ![0, 0, v545.toNat, 0]
def k0_off93 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v558 : Index := Scalar.indexCast v539
  let c0_379 : Index := 0#32
  let c0_380 : Index := 0#32
  ![v558.toNat, 0, 0]
def k0_off94 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v561 : Index := Scalar.indexCast v539
  let c192 : Index := 192#32
  let c0_381 : Index := 0#32
  ![v561.toNat, 192, 0]
def k0_off95 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v564 : Index := Scalar.indexCast v539
  let c384_382 : Index := 384#32
  let c0_383 : Index := 0#32
  ![v564.toNat, 384, 0]
def k0_off96 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v567 : Index := Scalar.indexCast v539
  let c576 : Index := 576#32
  let c0_384 : Index := 0#32
  ![v567.toNat, 576, 0]
def k0_off97 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v570 : Index := Scalar.indexCast v539
  let c768_385 : Index := 768#32
  let c0_386 : Index := 0#32
  ![v570.toNat, 768, 0]
def k0_off98 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v573 : Index := Scalar.indexCast v539
  let c960 : Index := 960#32
  let c0_387 : Index := 0#32
  ![v573.toNat, 960, 0]
def k0_off99 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v576 : Index := Scalar.indexCast v539
  let c1152 : Index := 1152#32
  let c0_388 : Index := 0#32
  ![v576.toNat, 1152, 0]
def k0_off100 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v579 : Index := Scalar.indexCast v539
  let c1344_389 : Index := 1344#32
  let c0_390 : Index := 0#32
  ![v579.toNat, 1344, 0]
def k0_off101 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v582 : Index := Scalar.indexCast v539
  let c1536 : Index := 1536#32
  let c0_391 : Index := 0#32
  ![v582.toNat, 1536, 0]
def k0_off102 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v585 : Index := Scalar.indexCast v539
  let c1728 : Index := 1728#32
  let c0_392 : Index := 0#32
  ![v585.toNat, 1728, 0]
def k0_off103 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v588 : Index := Scalar.indexCast v539
  let c1920 : Index := 1920#32
  let c0_393 : Index := 0#32
  ![v588.toNat, 1920, 0]
def k0_off104 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v591 : Index := Scalar.indexCast v539
  let c2112 : Index := 2112#32
  let c0_394 : Index := 0#32
  ![v591.toNat, 2112, 0]
def k0_off105 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v594 : Index := Scalar.indexCast v539
  let c2304 : Index := 2304#32
  let c0_395 : Index := 0#32
  ![v594.toNat, 2304, 0]
def k0_off106 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v597 : Index := Scalar.indexCast v539
  let c2496 : Index := 2496#32
  let c0_396 : Index := 0#32
  ![v597.toNat, 2496, 0]
def k0_off107 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v600 : Index := Scalar.indexCast v539
  let c2688 : Index := 2688#32
  let c0_397 : Index := 0#32
  ![v600.toNat, 2688, 0]
def k0_off108 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v603 : Index := Scalar.indexCast v539
  let c2880 : Index := 2880#32
  let c0_398 : Index := 0#32
  ![v603.toNat, 2880, 0]
def k0_off109 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v606 : Index := Scalar.indexCast v539
  let c3072 : Index := 3072#32
  let c0_399 : Index := 0#32
  ![v606.toNat, 3072, 0]
def k0_off110 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v609 : Index := Scalar.indexCast v539
  let c3264 : Index := 3264#32
  let c0_400 : Index := 0#32
  ![v609.toNat, 3264, 0]
def k0_off111 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v612 : Index := Scalar.indexCast v539
  let c3456 : Index := 3456#32
  let c0_401 : Index := 0#32
  ![v612.toNat, 3456, 0]
def k0_off112 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v615 : Index := Scalar.indexCast v539
  let c3648 : Index := 3648#32
  let c0_402 : Index := 0#32
  ![v615.toNat, 3648, 0]
def k0_off113 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v618 : Index := Scalar.indexCast v539
  let c3840 : Index := 3840#32
  let c0_403 : Index := 0#32
  ![v618.toNat, 3840, 0]
def k0_off114 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v621 : Index := Scalar.indexCast v539
  let c4032 : Index := 4032#32
  let c0_404 : Index := 0#32
  ![v621.toNat, 4032, 0]
def k0_off115 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v700 : Index := Scalar.indexCast v539
  let c64 : Index := 64#32
  let c0_455 : Index := 0#32
  ![v700.toNat, 64, 0]
def k0_off116 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v703 : Index := Scalar.indexCast v539
  let c256_456 : Index := 256#32
  let c0_457 : Index := 0#32
  ![v703.toNat, 256, 0]
def k0_off117 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v706 : Index := Scalar.indexCast v539
  let c448 : Index := 448#32
  let c0_458 : Index := 0#32
  ![v706.toNat, 448, 0]
def k0_off118 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v709 : Index := Scalar.indexCast v539
  let c640_459 : Index := 640#32
  let c0_460 : Index := 0#32
  ![v709.toNat, 640, 0]
def k0_off119 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v712 : Index := Scalar.indexCast v539
  let c832 : Index := 832#32
  let c0_461 : Index := 0#32
  ![v712.toNat, 832, 0]
def k0_off120 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v715 : Index := Scalar.indexCast v539
  let c1024 : Index := 1024#32
  let c0_462 : Index := 0#32
  ![v715.toNat, 1024, 0]
def k0_off121 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v718 : Index := Scalar.indexCast v539
  let c1216 : Index := 1216#32
  let c0_463 : Index := 0#32
  ![v718.toNat, 1216, 0]
def k0_off122 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v721 : Index := Scalar.indexCast v539
  let c1408 : Index := 1408#32
  let c0_464 : Index := 0#32
  ![v721.toNat, 1408, 0]
def k0_off123 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v724 : Index := Scalar.indexCast v539
  let c1600 : Index := 1600#32
  let c0_465 : Index := 0#32
  ![v724.toNat, 1600, 0]
def k0_off124 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v727 : Index := Scalar.indexCast v539
  let c1792 : Index := 1792#32
  let c0_466 : Index := 0#32
  ![v727.toNat, 1792, 0]
def k0_off125 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v730 : Index := Scalar.indexCast v539
  let c1984 : Index := 1984#32
  let c0_467 : Index := 0#32
  ![v730.toNat, 1984, 0]
def k0_off126 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v733 : Index := Scalar.indexCast v539
  let c2176 : Index := 2176#32
  let c0_468 : Index := 0#32
  ![v733.toNat, 2176, 0]
def k0_off127 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v736 : Index := Scalar.indexCast v539
  let c2368 : Index := 2368#32
  let c0_469 : Index := 0#32
  ![v736.toNat, 2368, 0]
def k0_off128 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v739 : Index := Scalar.indexCast v539
  let c2560 : Index := 2560#32
  let c0_470 : Index := 0#32
  ![v739.toNat, 2560, 0]
def k0_off129 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v742 : Index := Scalar.indexCast v539
  let c2752 : Index := 2752#32
  let c0_471 : Index := 0#32
  ![v742.toNat, 2752, 0]
def k0_off130 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v745 : Index := Scalar.indexCast v539
  let c2944 : Index := 2944#32
  let c0_472 : Index := 0#32
  ![v745.toNat, 2944, 0]
def k0_off131 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v748 : Index := Scalar.indexCast v539
  let c3136 : Index := 3136#32
  let c0_473 : Index := 0#32
  ![v748.toNat, 3136, 0]
def k0_off132 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v751 : Index := Scalar.indexCast v539
  let c3328 : Index := 3328#32
  let c0_474 : Index := 0#32
  ![v751.toNat, 3328, 0]
def k0_off133 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v754 : Index := Scalar.indexCast v539
  let c3520 : Index := 3520#32
  let c0_475 : Index := 0#32
  ![v754.toNat, 3520, 0]
def k0_off134 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v757 : Index := Scalar.indexCast v539
  let c3712 : Index := 3712#32
  let c0_476 : Index := 0#32
  ![v757.toNat, 3712, 0]
def k0_off135 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v760 : Index := Scalar.indexCast v539
  let c3904 : Index := 3904#32
  let c0_477 : Index := 0#32
  ![v760.toNat, 3904, 0]
def k0_off136 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v836 : Index := Scalar.indexCast v539
  let c128_526 : Index := 128#32
  let c0_527 : Index := 0#32
  ![v836.toNat, 128, 0]
def k0_off137 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v839 : Index := Scalar.indexCast v539
  let c320 : Index := 320#32
  let c0_528 : Index := 0#32
  ![v839.toNat, 320, 0]
def k0_off138 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v842 : Index := Scalar.indexCast v539
  let c512_529 : Index := 512#32
  let c0_530 : Index := 0#32
  ![v842.toNat, 512, 0]
def k0_off139 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v845 : Index := Scalar.indexCast v539
  let c704 : Index := 704#32
  let c0_531 : Index := 0#32
  ![v845.toNat, 704, 0]
def k0_off140 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v848 : Index := Scalar.indexCast v539
  let c896_532 : Index := 896#32
  let c0_533 : Index := 0#32
  ![v848.toNat, 896, 0]
def k0_off141 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v851 : Index := Scalar.indexCast v539
  let c1088 : Index := 1088#32
  let c0_534 : Index := 0#32
  ![v851.toNat, 1088, 0]
def k0_off142 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v854 : Index := Scalar.indexCast v539
  let c1280 : Index := 1280#32
  let c0_535 : Index := 0#32
  ![v854.toNat, 1280, 0]
def k0_off143 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v857 : Index := Scalar.indexCast v539
  let c1472 : Index := 1472#32
  let c0_536 : Index := 0#32
  ![v857.toNat, 1472, 0]
def k0_off144 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v860 : Index := Scalar.indexCast v539
  let c1664 : Index := 1664#32
  let c0_537 : Index := 0#32
  ![v860.toNat, 1664, 0]
def k0_off145 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v863 : Index := Scalar.indexCast v539
  let c1856 : Index := 1856#32
  let c0_538 : Index := 0#32
  ![v863.toNat, 1856, 0]
def k0_off146 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v866 : Index := Scalar.indexCast v539
  let c2048 : Index := 2048#32
  let c0_539 : Index := 0#32
  ![v866.toNat, 2048, 0]
def k0_off147 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v869 : Index := Scalar.indexCast v539
  let c2240 : Index := 2240#32
  let c0_540 : Index := 0#32
  ![v869.toNat, 2240, 0]
def k0_off148 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v872 : Index := Scalar.indexCast v539
  let c2432 : Index := 2432#32
  let c0_541 : Index := 0#32
  ![v872.toNat, 2432, 0]
def k0_off149 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v875 : Index := Scalar.indexCast v539
  let c2624 : Index := 2624#32
  let c0_542 : Index := 0#32
  ![v875.toNat, 2624, 0]
def k0_off150 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v878 : Index := Scalar.indexCast v539
  let c2816 : Index := 2816#32
  let c0_543 : Index := 0#32
  ![v878.toNat, 2816, 0]
def k0_off151 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v881 : Index := Scalar.indexCast v539
  let c3008 : Index := 3008#32
  let c0_544 : Index := 0#32
  ![v881.toNat, 3008, 0]
def k0_off152 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v884 : Index := Scalar.indexCast v539
  let c3200 : Index := 3200#32
  let c0_545 : Index := 0#32
  ![v884.toNat, 3200, 0]
def k0_off153 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v887 : Index := Scalar.indexCast v539
  let c3392 : Index := 3392#32
  let c0_546 : Index := 0#32
  ![v887.toNat, 3392, 0]
def k0_off154 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v890 : Index := Scalar.indexCast v539
  let c3584 : Index := 3584#32
  let c0_547 : Index := 0#32
  ![v890.toNat, 3584, 0]
def k0_off155 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v893 : Index := Scalar.indexCast v539
  let c3776 : Index := 3776#32
  let c0_548 : Index := 0#32
  ![v893.toNat, 3776, 0]
def k0_off156 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v896 : Index := Scalar.indexCast v539
  let c3968 : Index := 3968#32
  let c0_549 : Index := 0#32
  ![v896.toNat, 3968, 0]
def k0_off157 (k0_t2 : Fin k0_t2_loop.trips) : Fin 3 → Nat :=
  let c8_i32_364 : BitVec 32 := 8#32
  let c0_i32_103 : BitVec 32 := 0#32
  let c1_i32_105 : BitVec 32 := 1#32
  let arg26 : BitVec 32 := Scf.iv c0_i32_103 c1_i32_105 k0_t2
  let v538 : BitVec 32 := Scalar.addi c8_i32_364 arg26
  let c2_i32_365 : BitVec 32 := 2#32
  let v539 : BitVec 32 := Scalar.remsi v538 c2_i32_365
  let v972 : Index := Scalar.indexCast v539
  let c0_597 : Index := 0#32
  let c0_598 : Index := 0#32
  ![v972.toNat, 0, 0]
def k0_off158 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v981 : Index := Scalar.indexCast v158
  let c0_601 : Index := 0#32
  let c0_i32_103 : BitVec 32 := 0#32
  let c1_i32_105 : BitVec 32 := 1#32
  let arg26 : BitVec 32 := Scf.iv c0_i32_103 c1_i32_105 k0_t2
  let c128_i32 : BitVec 32 := 128#32
  let v980 : BitVec 32 := Scalar.muli arg26 c128_i32
  let v982 : Index := Scalar.indexCast v980
  ![v981.toNat, 0, v982.toNat]
def k0_off159 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v985 : Index := Scalar.indexCast v158
  let c192_602 : Index := 192#32
  let c0_i32_103 : BitVec 32 := 0#32
  let c1_i32_105 : BitVec 32 := 1#32
  let arg26 : BitVec 32 := Scf.iv c0_i32_103 c1_i32_105 k0_t2
  let c128_i32 : BitVec 32 := 128#32
  let v980 : BitVec 32 := Scalar.muli arg26 c128_i32
  let v986 : Index := Scalar.indexCast v980
  ![v985.toNat, 192, v986.toNat]
def k0_off160 (d0 : Dev nD) : Fin 3 → Nat :=
  let c3_i32_604 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_603 : BitVec 32 := 3#32
  let v990 : BitVec 32 := Scalar.remsi v2 c3_i32_603
  let v991 : BitVec 32 := Scalar.subi c3_i32_604 v990
  let c3_i32_605 : BitVec 32 := 3#32
  let v992 : BitVec 32 := Scalar.remsi v991 c3_i32_605
  let v993 : Index := Scalar.indexCast v992
  let c0_606 : Index := 0#32
  let c0_607 : Index := 0#32
  ![v993.toNat, 0, 0]
def k0_off161 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v1008 : Index := Scalar.indexCast v158
  let c64_614 : Index := 64#32
  let c0_i32_103 : BitVec 32 := 0#32
  let c1_i32_105 : BitVec 32 := 1#32
  let arg26 : BitVec 32 := Scf.iv c0_i32_103 c1_i32_105 k0_t2
  let c128_i32 : BitVec 32 := 128#32
  let v980 : BitVec 32 := Scalar.muli arg26 c128_i32
  let v1009 : Index := Scalar.indexCast v980
  ![v1008.toNat, 64, v1009.toNat]
def k0_off162 (d0 : Dev nD) (c1_i32_615 : BitVec 32) : Fin 3 → Nat :=
  let c3_i32_617 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : BitVec 32 := Scalar.addi c1_i32_615 v2
  let c3_i32_616 : BitVec 32 := 3#32
  let v1013 : BitVec 32 := Scalar.remsi v1012 c3_i32_616
  let v1014 : BitVec 32 := Scalar.subi c3_i32_617 v1013
  let c3_i32_618 : BitVec 32 := 3#32
  let v1015 : BitVec 32 := Scalar.remsi v1014 c3_i32_618
  let v1016 : Index := Scalar.indexCast v1015
  let c0_619 : Index := 0#32
  let c0_620 : Index := 0#32
  ![v1016.toNat, 0, 0]
def k0_off163 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v1031 : Index := Scalar.indexCast v158
  let c128_627 : Index := 128#32
  let c0_i32_103 : BitVec 32 := 0#32
  let c1_i32_105 : BitVec 32 := 1#32
  let arg26 : BitVec 32 := Scf.iv c0_i32_103 c1_i32_105 k0_t2
  let c128_i32 : BitVec 32 := 128#32
  let v980 : BitVec 32 := Scalar.muli arg26 c128_i32
  let v1032 : Index := Scalar.indexCast v980
  ![v1031.toNat, 128, v1032.toNat]
def k0_off164 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v1054 : Index := Scalar.indexCast v158
  let c64_640 : Index := 64#32
  let c0_i32_103 : BitVec 32 := 0#32
  let c1_i32_105 : BitVec 32 := 1#32
  let arg26 : BitVec 32 := Scf.iv c0_i32_103 c1_i32_105 k0_t2
  let c128_i32 : BitVec 32 := 128#32
  let v980 : BitVec 32 := Scalar.muli arg26 c128_i32
  let v1055 : Index := Scalar.indexCast v980
  ![v1054.toNat, 64, v1055.toNat]
def k0_off165 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let v1101 : Index := Scalar.indexCast v158
  let c0_i32_103 : BitVec 32 := 0#32
  let c1_i32_105 : BitVec 32 := 1#32
  let arg26 : BitVec 32 := Scf.iv c0_i32_103 c1_i32_105 k0_t2
  let v1102 : Index := Scalar.indexCast arg26
  let c0_648 : Index := 0#32
  ![v1101.toNat, v1102.toNat, 0]
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let c1_i32_107 : BitVec 32 := 1#32
  let v168 : BitVec 32 := Scalar.muli v158 c1_i32_107
  let v169 : BitVec 32 := Scalar.addi c0_i32_108 v168
  v169.toNat
def k0_off166 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_115 : BitVec 32 := 0#32
  let c0_i32_116 : BitVec 32 := 0#32
  ![v2.toNat, 0, 0]
def k0_off167 (d0 : Dev nD) (c1_i32_95 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v157 : BitVec 32 := Scalar.addi v2 c1_i32_95
  let c4_i32_96 : BitVec 32 := 4#32
  let v158 : BitVec 32 := Scalar.remsi v157 c4_i32_96
  let c0_i32_117 : BitVec 32 := 0#32
  let c0_i32_118 : BitVec 32 := 0#32
  ![v158.toNat, 0, 0]
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v157 : BitVec 32 := Scalar.addi v2 c1_i32_95
  let c4_i32_96 : BitVec 32 := 4#32
  let v158 : BitVec 32 := Scalar.remsi v157 c4_i32_96
  let c1_i32_113 : BitVec 32 := 1#32
  let v178 : BitVec 32 := Scalar.muli v158 c1_i32_113
  let v179 : BitVec 32 := Scalar.addi c0_i32_114 v178
  v179.toNat
@[reducible] def k0_t3_loop : Scf.Loop 32 :=
  let c0_i32_127 : BitVec 32 := 0#32
  let c8_i32_128 : BitVec 32 := 8#32
  let v198 : BitVec 32 := Scalar.addi c0_i32_127 c8_i32_128
  let c1_i32_129 : BitVec 32 := 1#32
  ⟨c0_i32_127, v198, c1_i32_129⟩
def k0_cond3 (k0_t3 : Fin k0_t3_loop.trips) : BitVec 1 :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c1_i32_365 : BitVec 32 := 1#32
  let v540 : BitVec 32 := Scalar.addi v538 c1_i32_365
  let c32_i32 : BitVec 32 := 32#32
  let v541 : BitVec 1 := Scalar.cmpi .slt v540 c32_i32
  let v542 : BitVec 32 := Scalar.extui v541
  let c0_i32_366 : BitVec 32 := 0#32
  let v543 : BitVec 1 := Scalar.cmpi .ne v542 c0_i32_366
  v543

def k0_off168 (k0_t3 : Fin k0_t3_loop.trips) : Fin 1 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c1_i32_655 : BitVec 32 := 1#32
  let v1115 : BitVec 32 := Scalar.addi v538 c1_i32_655
  let c2_i32_656 : BitVec 32 := 2#32
  let v1116 : BitVec 32 := Scalar.remsi v1115 c2_i32_656
  ![v1116.toNat]
def k0_off169 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c1_i32_655 : BitVec 32 := 1#32
  let v1115 : BitVec 32 := Scalar.addi v538 c1_i32_655
  let c2_i32_656 : BitVec 32 := 2#32
  let v1116 : BitVec 32 := Scalar.remsi v1115 c2_i32_656
  let c0_i32_658 : BitVec 32 := 0#32
  let c0_i32_659 : BitVec 32 := 0#32
  ![v1116.toNat, 0, 0]
def k0_off170 (d0 : Dev nD) (k0_t3 : Fin k0_t3_loop.trips) : Fin 4 → Nat :=
  let c0_i32_657 : BitVec 32 := 0#32
  let c0_i32_660 : BitVec 32 := 0#32
  let c0_i32_127 : BitVec 32 := 0#32
  let c1_i32_129 : BitVec 32 := 1#32
  let arg26 : BitVec 32 := Scf.iv c0_i32_127 c1_i32_129 k0_t3
  let c1_i32_648 : BitVec 32 := 1#32
  let v1106 : BitVec 32 := Scalar.addi arg26 c1_i32_648
  let c8_i32_649 : BitVec 32 := 8#32
  let v1107 : BitVec 1 := Scalar.cmpi .slt v1106 c8_i32_649
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let c8_i32_650 : BitVec 32 := 8#32
  let v1108 : BitVec 32 := Scalar.muli v189 c8_i32_650
  let v1109 : BitVec 32 := Scalar.addi v1108 arg26
  let c1_i32_651 : BitVec 32 := 1#32
  let v1110 : BitVec 32 := Scalar.addi v1109 c1_i32_651
  let c1_i32_652 : BitVec 32 := 1#32
  let v1111 : BitVec 32 := Scalar.addi v189 c1_i32_652
  let c4_i32_653 : BitVec 32 := 4#32
  let v1112 : BitVec 32 := Scalar.remsi v1111 c4_i32_653
  let c8_i32_654 : BitVec 32 := 8#32
  let v1113 : BitVec 32 := Scalar.muli v1112 c8_i32_654
  let v1114 : BitVec 32 := Scalar.select v1107 v1110 v1113
  let c0_i32_661 : BitVec 32 := 0#32
  ![0, 0, v1114.toNat, 0]
def k0_off171 (k0_t3 : Fin k0_t3_loop.trips) : Fin 1 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  ![v539.toNat]
def k0_off172 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let c0_i32_369 : BitVec 32 := 0#32
  let c0_i32_370 : BitVec 32 := 0#32
  ![v539.toNat, 0, 0]
def k0_off173 (d0 : Dev nD) (k0_t3 : Fin k0_t3_loop.trips) : Fin 4 → Nat :=
  let c0_i32_368 : BitVec 32 := 0#32
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let c8_i32_367 : BitVec 32 := 8#32
  let v544 : BitVec 32 := Scalar.muli v189 c8_i32_367
  let c0_i32_127 : BitVec 32 := 0#32
  let c1_i32_129 : BitVec 32 := 1#32
  let arg26 : BitVec 32 := Scf.iv c0_i32_127 c1_i32_129 k0_t3
  let v545 : BitVec 32 := Scalar.addi v544 arg26
  let c0_i32_372 : BitVec 32 := 0#32
  ![0, 0, v545.toNat, 0]
def k0_off174 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v558 : Index := Scalar.indexCast v539
  let c0_378 : Index := 0#32
  let c0_379 : Index := 0#32
  ![v558.toNat, 0, 0]
def k0_off175 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v561 : Index := Scalar.indexCast v539
  let c192 : Index := 192#32
  let c0_380 : Index := 0#32
  ![v561.toNat, 192, 0]
def k0_off176 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v564 : Index := Scalar.indexCast v539
  let c384_381 : Index := 384#32
  let c0_382 : Index := 0#32
  ![v564.toNat, 384, 0]
def k0_off177 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v567 : Index := Scalar.indexCast v539
  let c576 : Index := 576#32
  let c0_383 : Index := 0#32
  ![v567.toNat, 576, 0]
def k0_off178 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v570 : Index := Scalar.indexCast v539
  let c768_384 : Index := 768#32
  let c0_385 : Index := 0#32
  ![v570.toNat, 768, 0]
def k0_off179 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v573 : Index := Scalar.indexCast v539
  let c960 : Index := 960#32
  let c0_386 : Index := 0#32
  ![v573.toNat, 960, 0]
def k0_off180 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v576 : Index := Scalar.indexCast v539
  let c1152 : Index := 1152#32
  let c0_387 : Index := 0#32
  ![v576.toNat, 1152, 0]
def k0_off181 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v579 : Index := Scalar.indexCast v539
  let c1344_388 : Index := 1344#32
  let c0_389 : Index := 0#32
  ![v579.toNat, 1344, 0]
def k0_off182 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v582 : Index := Scalar.indexCast v539
  let c1536 : Index := 1536#32
  let c0_390 : Index := 0#32
  ![v582.toNat, 1536, 0]
def k0_off183 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v585 : Index := Scalar.indexCast v539
  let c1728 : Index := 1728#32
  let c0_391 : Index := 0#32
  ![v585.toNat, 1728, 0]
def k0_off184 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v588 : Index := Scalar.indexCast v539
  let c1920 : Index := 1920#32
  let c0_392 : Index := 0#32
  ![v588.toNat, 1920, 0]
def k0_off185 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v591 : Index := Scalar.indexCast v539
  let c2112 : Index := 2112#32
  let c0_393 : Index := 0#32
  ![v591.toNat, 2112, 0]
def k0_off186 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v594 : Index := Scalar.indexCast v539
  let c2304 : Index := 2304#32
  let c0_394 : Index := 0#32
  ![v594.toNat, 2304, 0]
def k0_off187 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v597 : Index := Scalar.indexCast v539
  let c2496 : Index := 2496#32
  let c0_395 : Index := 0#32
  ![v597.toNat, 2496, 0]
def k0_off188 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v600 : Index := Scalar.indexCast v539
  let c2688 : Index := 2688#32
  let c0_396 : Index := 0#32
  ![v600.toNat, 2688, 0]
def k0_off189 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v603 : Index := Scalar.indexCast v539
  let c2880 : Index := 2880#32
  let c0_397 : Index := 0#32
  ![v603.toNat, 2880, 0]
def k0_off190 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v606 : Index := Scalar.indexCast v539
  let c3072 : Index := 3072#32
  let c0_398 : Index := 0#32
  ![v606.toNat, 3072, 0]
def k0_off191 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v609 : Index := Scalar.indexCast v539
  let c3264 : Index := 3264#32
  let c0_399 : Index := 0#32
  ![v609.toNat, 3264, 0]
def k0_off192 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v612 : Index := Scalar.indexCast v539
  let c3456 : Index := 3456#32
  let c0_400 : Index := 0#32
  ![v612.toNat, 3456, 0]
def k0_off193 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v615 : Index := Scalar.indexCast v539
  let c3648 : Index := 3648#32
  let c0_401 : Index := 0#32
  ![v615.toNat, 3648, 0]
def k0_off194 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v618 : Index := Scalar.indexCast v539
  let c3840 : Index := 3840#32
  let c0_402 : Index := 0#32
  ![v618.toNat, 3840, 0]
def k0_off195 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v621 : Index := Scalar.indexCast v539
  let c4032 : Index := 4032#32
  let c0_403 : Index := 0#32
  ![v621.toNat, 4032, 0]
def k0_off196 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v700 : Index := Scalar.indexCast v539
  let c64 : Index := 64#32
  let c0_454 : Index := 0#32
  ![v700.toNat, 64, 0]
def k0_off197 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v703 : Index := Scalar.indexCast v539
  let c256_455 : Index := 256#32
  let c0_456 : Index := 0#32
  ![v703.toNat, 256, 0]
def k0_off198 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v706 : Index := Scalar.indexCast v539
  let c448 : Index := 448#32
  let c0_457 : Index := 0#32
  ![v706.toNat, 448, 0]
def k0_off199 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v709 : Index := Scalar.indexCast v539
  let c640_458 : Index := 640#32
  let c0_459 : Index := 0#32
  ![v709.toNat, 640, 0]
def k0_off200 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v712 : Index := Scalar.indexCast v539
  let c832 : Index := 832#32
  let c0_460 : Index := 0#32
  ![v712.toNat, 832, 0]
def k0_off201 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v715 : Index := Scalar.indexCast v539
  let c1024 : Index := 1024#32
  let c0_461 : Index := 0#32
  ![v715.toNat, 1024, 0]
def k0_off202 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v718 : Index := Scalar.indexCast v539
  let c1216 : Index := 1216#32
  let c0_462 : Index := 0#32
  ![v718.toNat, 1216, 0]
def k0_off203 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v721 : Index := Scalar.indexCast v539
  let c1408 : Index := 1408#32
  let c0_463 : Index := 0#32
  ![v721.toNat, 1408, 0]
def k0_off204 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v724 : Index := Scalar.indexCast v539
  let c1600 : Index := 1600#32
  let c0_464 : Index := 0#32
  ![v724.toNat, 1600, 0]
def k0_off205 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v727 : Index := Scalar.indexCast v539
  let c1792 : Index := 1792#32
  let c0_465 : Index := 0#32
  ![v727.toNat, 1792, 0]
def k0_off206 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v730 : Index := Scalar.indexCast v539
  let c1984 : Index := 1984#32
  let c0_466 : Index := 0#32
  ![v730.toNat, 1984, 0]
def k0_off207 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v733 : Index := Scalar.indexCast v539
  let c2176 : Index := 2176#32
  let c0_467 : Index := 0#32
  ![v733.toNat, 2176, 0]
def k0_off208 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v736 : Index := Scalar.indexCast v539
  let c2368 : Index := 2368#32
  let c0_468 : Index := 0#32
  ![v736.toNat, 2368, 0]
def k0_off209 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v739 : Index := Scalar.indexCast v539
  let c2560 : Index := 2560#32
  let c0_469 : Index := 0#32
  ![v739.toNat, 2560, 0]
def k0_off210 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v742 : Index := Scalar.indexCast v539
  let c2752 : Index := 2752#32
  let c0_470 : Index := 0#32
  ![v742.toNat, 2752, 0]
def k0_off211 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v745 : Index := Scalar.indexCast v539
  let c2944 : Index := 2944#32
  let c0_471 : Index := 0#32
  ![v745.toNat, 2944, 0]
def k0_off212 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v748 : Index := Scalar.indexCast v539
  let c3136 : Index := 3136#32
  let c0_472 : Index := 0#32
  ![v748.toNat, 3136, 0]
def k0_off213 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v751 : Index := Scalar.indexCast v539
  let c3328 : Index := 3328#32
  let c0_473 : Index := 0#32
  ![v751.toNat, 3328, 0]
def k0_off214 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v754 : Index := Scalar.indexCast v539
  let c3520 : Index := 3520#32
  let c0_474 : Index := 0#32
  ![v754.toNat, 3520, 0]
def k0_off215 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v757 : Index := Scalar.indexCast v539
  let c3712 : Index := 3712#32
  let c0_475 : Index := 0#32
  ![v757.toNat, 3712, 0]
def k0_off216 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v760 : Index := Scalar.indexCast v539
  let c3904 : Index := 3904#32
  let c0_476 : Index := 0#32
  ![v760.toNat, 3904, 0]
def k0_off217 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v836 : Index := Scalar.indexCast v539
  let c128_525 : Index := 128#32
  let c0_526 : Index := 0#32
  ![v836.toNat, 128, 0]
def k0_off218 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v839 : Index := Scalar.indexCast v539
  let c320 : Index := 320#32
  let c0_527 : Index := 0#32
  ![v839.toNat, 320, 0]
def k0_off219 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v842 : Index := Scalar.indexCast v539
  let c512_528 : Index := 512#32
  let c0_529 : Index := 0#32
  ![v842.toNat, 512, 0]
def k0_off220 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v845 : Index := Scalar.indexCast v539
  let c704 : Index := 704#32
  let c0_530 : Index := 0#32
  ![v845.toNat, 704, 0]
def k0_off221 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v848 : Index := Scalar.indexCast v539
  let c896_531 : Index := 896#32
  let c0_532 : Index := 0#32
  ![v848.toNat, 896, 0]
def k0_off222 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v851 : Index := Scalar.indexCast v539
  let c1088 : Index := 1088#32
  let c0_533 : Index := 0#32
  ![v851.toNat, 1088, 0]
def k0_off223 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v854 : Index := Scalar.indexCast v539
  let c1280 : Index := 1280#32
  let c0_534 : Index := 0#32
  ![v854.toNat, 1280, 0]
def k0_off224 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v857 : Index := Scalar.indexCast v539
  let c1472 : Index := 1472#32
  let c0_535 : Index := 0#32
  ![v857.toNat, 1472, 0]
def k0_off225 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v860 : Index := Scalar.indexCast v539
  let c1664 : Index := 1664#32
  let c0_536 : Index := 0#32
  ![v860.toNat, 1664, 0]
def k0_off226 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v863 : Index := Scalar.indexCast v539
  let c1856 : Index := 1856#32
  let c0_537 : Index := 0#32
  ![v863.toNat, 1856, 0]
def k0_off227 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v866 : Index := Scalar.indexCast v539
  let c2048 : Index := 2048#32
  let c0_538 : Index := 0#32
  ![v866.toNat, 2048, 0]
def k0_off228 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v869 : Index := Scalar.indexCast v539
  let c2240 : Index := 2240#32
  let c0_539 : Index := 0#32
  ![v869.toNat, 2240, 0]
def k0_off229 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v872 : Index := Scalar.indexCast v539
  let c2432 : Index := 2432#32
  let c0_540 : Index := 0#32
  ![v872.toNat, 2432, 0]
def k0_off230 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v875 : Index := Scalar.indexCast v539
  let c2624 : Index := 2624#32
  let c0_541 : Index := 0#32
  ![v875.toNat, 2624, 0]
def k0_off231 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v878 : Index := Scalar.indexCast v539
  let c2816 : Index := 2816#32
  let c0_542 : Index := 0#32
  ![v878.toNat, 2816, 0]
def k0_off232 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v881 : Index := Scalar.indexCast v539
  let c3008 : Index := 3008#32
  let c0_543 : Index := 0#32
  ![v881.toNat, 3008, 0]
def k0_off233 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v884 : Index := Scalar.indexCast v539
  let c3200 : Index := 3200#32
  let c0_544 : Index := 0#32
  ![v884.toNat, 3200, 0]
def k0_off234 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v887 : Index := Scalar.indexCast v539
  let c3392 : Index := 3392#32
  let c0_545 : Index := 0#32
  ![v887.toNat, 3392, 0]
def k0_off235 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v890 : Index := Scalar.indexCast v539
  let c3584 : Index := 3584#32
  let c0_546 : Index := 0#32
  ![v890.toNat, 3584, 0]
def k0_off236 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v893 : Index := Scalar.indexCast v539
  let c3776 : Index := 3776#32
  let c0_547 : Index := 0#32
  ![v893.toNat, 3776, 0]
def k0_off237 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v896 : Index := Scalar.indexCast v539
  let c3968 : Index := 3968#32
  let c0_548 : Index := 0#32
  ![v896.toNat, 3968, 0]
def k0_off238 (k0_t3 : Fin k0_t3_loop.trips) : Fin 3 → Nat :=
  let c16_i32 : BitVec 32 := 16#32
  let c0_i32_127 : BitVec 32 := 0#32
  let c1_i32_129 : BitVec 32 := 1#32
  let arg26 : BitVec 32 := Scf.iv c0_i32_127 c1_i32_129 k0_t3
  let v538 : BitVec 32 := Scalar.addi c16_i32 arg26
  let c2_i32_364 : BitVec 32 := 2#32
  let v539 : BitVec 32 := Scalar.remsi v538 c2_i32_364
  let v972 : Index := Scalar.indexCast v539
  let c0_596 : Index := 0#32
  let c0_597 : Index := 0#32
  ![v972.toNat, 0, 0]
def k0_off239 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v981 : Index := Scalar.indexCast v189
  let c0_600 : Index := 0#32
  let c0_i32_127 : BitVec 32 := 0#32
  let c1_i32_129 : BitVec 32 := 1#32
  let arg26 : BitVec 32 := Scf.iv c0_i32_127 c1_i32_129 k0_t3
  let c128_i32 : BitVec 32 := 128#32
  let v980 : BitVec 32 := Scalar.muli arg26 c128_i32
  let v982 : Index := Scalar.indexCast v980
  ![v981.toNat, 0, v982.toNat]
def k0_off240 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v985 : Index := Scalar.indexCast v189
  let c192_601 : Index := 192#32
  let c0_i32_127 : BitVec 32 := 0#32
  let c1_i32_129 : BitVec 32 := 1#32
  let arg26 : BitVec 32 := Scf.iv c0_i32_127 c1_i32_129 k0_t3
  let c128_i32 : BitVec 32 := 128#32
  let v980 : BitVec 32 := Scalar.muli arg26 c128_i32
  let v986 : Index := Scalar.indexCast v980
  ![v985.toNat, 192, v986.toNat]
def k0_off241 (d0 : Dev nD) : Fin 3 → Nat :=
  let c3_i32_603 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_602 : BitVec 32 := 3#32
  let v990 : BitVec 32 := Scalar.remsi v2 c3_i32_602
  let v991 : BitVec 32 := Scalar.subi c3_i32_603 v990
  let c3_i32_604 : BitVec 32 := 3#32
  let v992 : BitVec 32 := Scalar.remsi v991 c3_i32_604
  let v993 : Index := Scalar.indexCast v992
  let c0_605 : Index := 0#32
  let c0_606 : Index := 0#32
  ![v993.toNat, 0, 0]
def k0_off242 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v1008 : Index := Scalar.indexCast v189
  let c64_613 : Index := 64#32
  let c0_i32_127 : BitVec 32 := 0#32
  let c1_i32_129 : BitVec 32 := 1#32
  let arg26 : BitVec 32 := Scf.iv c0_i32_127 c1_i32_129 k0_t3
  let c128_i32 : BitVec 32 := 128#32
  let v980 : BitVec 32 := Scalar.muli arg26 c128_i32
  let v1009 : Index := Scalar.indexCast v980
  ![v1008.toNat, 64, v1009.toNat]
def k0_off243 (d0 : Dev nD) (c1_i32_614 : BitVec 32) : Fin 3 → Nat :=
  let c3_i32_616 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : BitVec 32 := Scalar.addi c1_i32_614 v2
  let c3_i32_615 : BitVec 32 := 3#32
  let v1013 : BitVec 32 := Scalar.remsi v1012 c3_i32_615
  let v1014 : BitVec 32 := Scalar.subi c3_i32_616 v1013
  let c3_i32_617 : BitVec 32 := 3#32
  let v1015 : BitVec 32 := Scalar.remsi v1014 c3_i32_617
  let v1016 : Index := Scalar.indexCast v1015
  let c0_618 : Index := 0#32
  let c0_619 : Index := 0#32
  ![v1016.toNat, 0, 0]
def k0_off244 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v1031 : Index := Scalar.indexCast v189
  let c128_626 : Index := 128#32
  let c0_i32_127 : BitVec 32 := 0#32
  let c1_i32_129 : BitVec 32 := 1#32
  let arg26 : BitVec 32 := Scf.iv c0_i32_127 c1_i32_129 k0_t3
  let c128_i32 : BitVec 32 := 128#32
  let v980 : BitVec 32 := Scalar.muli arg26 c128_i32
  let v1032 : Index := Scalar.indexCast v980
  ![v1031.toNat, 128, v1032.toNat]
def k0_off245 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v1054 : Index := Scalar.indexCast v189
  let c64_639 : Index := 64#32
  let c0_i32_127 : BitVec 32 := 0#32
  let c1_i32_129 : BitVec 32 := 1#32
  let arg26 : BitVec 32 := Scf.iv c0_i32_127 c1_i32_129 k0_t3
  let c128_i32 : BitVec 32 := 128#32
  let v980 : BitVec 32 := Scalar.muli arg26 c128_i32
  let v1055 : Index := Scalar.indexCast v980
  ![v1054.toNat, 64, v1055.toNat]
def k0_off246 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let v1101 : Index := Scalar.indexCast v189
  let c0_i32_127 : BitVec 32 := 0#32
  let c1_i32_129 : BitVec 32 := 1#32
  let arg26 : BitVec 32 := Scf.iv c0_i32_127 c1_i32_129 k0_t3
  let v1102 : Index := Scalar.indexCast arg26
  let c0_647 : Index := 0#32
  ![v1101.toNat, v1102.toNat, 0]
def k0_dev9 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let c1_i32_131 : BitVec 32 := 1#32
  let v199 : BitVec 32 := Scalar.muli v189 c1_i32_131
  let v200 : BitVec 32 := Scalar.addi c0_i32_132 v199
  v200.toNat
def k0_dev10 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_119 : BitVec 32 := 2#32
  let v188 : BitVec 32 := Scalar.addi v2 c2_i32_119
  let c4_i32_120 : BitVec 32 := 4#32
  let v189 : BitVec 32 := Scalar.remsi v188 c4_i32_120
  let c1_i32_137 : BitVec 32 := 1#32
  let v209 : BitVec 32 := Scalar.muli v189 c1_i32_137
  let v210 : BitVec 32 := Scalar.addi c0_i32_138 v209
  v210.toNat
@[reducible] def k0_t4_loop : Scf.Loop 32 :=
  let c0_i32_151 : BitVec 32 := 0#32
  let c8_i32_152 : BitVec 32 := 8#32
  let v229 : BitVec 32 := Scalar.addi c0_i32_151 c8_i32_152
  let c1_i32_153 : BitVec 32 := 1#32
  ⟨c0_i32_151, v229, c1_i32_153⟩
def k0_cond4 (k0_t4 : Fin k0_t4_loop.trips) : BitVec 1 :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c1_i32_365 : BitVec 32 := 1#32
  let v540 : BitVec 32 := Scalar.addi v538 c1_i32_365
  let c32_i32 : BitVec 32 := 32#32
  let v541 : BitVec 1 := Scalar.cmpi .slt v540 c32_i32
  let v542 : BitVec 32 := Scalar.extui v541
  let c0_i32_366 : BitVec 32 := 0#32
  let v543 : BitVec 1 := Scalar.cmpi .ne v542 c0_i32_366
  v543

def k0_off247 (k0_t4 : Fin k0_t4_loop.trips) : Fin 1 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c1_i32_655 : BitVec 32 := 1#32
  let v1115 : BitVec 32 := Scalar.addi v538 c1_i32_655
  let c2_i32_656 : BitVec 32 := 2#32
  let v1116 : BitVec 32 := Scalar.remsi v1115 c2_i32_656
  ![v1116.toNat]
def k0_off248 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c1_i32_655 : BitVec 32 := 1#32
  let v1115 : BitVec 32 := Scalar.addi v538 c1_i32_655
  let c2_i32_656 : BitVec 32 := 2#32
  let v1116 : BitVec 32 := Scalar.remsi v1115 c2_i32_656
  let c0_i32_658 : BitVec 32 := 0#32
  let c0_i32_659 : BitVec 32 := 0#32
  ![v1116.toNat, 0, 0]
def k0_off249 (d0 : Dev nD) (k0_t4 : Fin k0_t4_loop.trips) : Fin 4 → Nat :=
  let c0_i32_657 : BitVec 32 := 0#32
  let c0_i32_660 : BitVec 32 := 0#32
  let c0_i32_151 : BitVec 32 := 0#32
  let c1_i32_153 : BitVec 32 := 1#32
  let arg26 : BitVec 32 := Scf.iv c0_i32_151 c1_i32_153 k0_t4
  let c1_i32_648 : BitVec 32 := 1#32
  let v1106 : BitVec 32 := Scalar.addi arg26 c1_i32_648
  let c8_i32_649 : BitVec 32 := 8#32
  let v1107 : BitVec 1 := Scalar.cmpi .slt v1106 c8_i32_649
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let c8_i32_650 : BitVec 32 := 8#32
  let v1108 : BitVec 32 := Scalar.muli v220 c8_i32_650
  let v1109 : BitVec 32 := Scalar.addi v1108 arg26
  let c1_i32_651 : BitVec 32 := 1#32
  let v1110 : BitVec 32 := Scalar.addi v1109 c1_i32_651
  let c1_i32_652 : BitVec 32 := 1#32
  let v1111 : BitVec 32 := Scalar.addi v220 c1_i32_652
  let c4_i32_653 : BitVec 32 := 4#32
  let v1112 : BitVec 32 := Scalar.remsi v1111 c4_i32_653
  let c8_i32_654 : BitVec 32 := 8#32
  let v1113 : BitVec 32 := Scalar.muli v1112 c8_i32_654
  let v1114 : BitVec 32 := Scalar.select v1107 v1110 v1113
  let c0_i32_661 : BitVec 32 := 0#32
  ![0, 0, v1114.toNat, 0]
def k0_off250 (k0_t4 : Fin k0_t4_loop.trips) : Fin 1 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  ![v539.toNat]
def k0_off251 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let c0_i32_369 : BitVec 32 := 0#32
  let c0_i32_370 : BitVec 32 := 0#32
  ![v539.toNat, 0, 0]
def k0_off252 (d0 : Dev nD) (k0_t4 : Fin k0_t4_loop.trips) : Fin 4 → Nat :=
  let c0_i32_368 : BitVec 32 := 0#32
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let c8_i32_367 : BitVec 32 := 8#32
  let v544 : BitVec 32 := Scalar.muli v220 c8_i32_367
  let c0_i32_151 : BitVec 32 := 0#32
  let c1_i32_153 : BitVec 32 := 1#32
  let arg26 : BitVec 32 := Scf.iv c0_i32_151 c1_i32_153 k0_t4
  let v545 : BitVec 32 := Scalar.addi v544 arg26
  let c0_i32_372 : BitVec 32 := 0#32
  ![0, 0, v545.toNat, 0]
def k0_off253 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v558 : Index := Scalar.indexCast v539
  let c0_378 : Index := 0#32
  let c0_379 : Index := 0#32
  ![v558.toNat, 0, 0]
def k0_off254 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v561 : Index := Scalar.indexCast v539
  let c192 : Index := 192#32
  let c0_380 : Index := 0#32
  ![v561.toNat, 192, 0]
def k0_off255 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v564 : Index := Scalar.indexCast v539
  let c384_381 : Index := 384#32
  let c0_382 : Index := 0#32
  ![v564.toNat, 384, 0]
def k0_off256 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v567 : Index := Scalar.indexCast v539
  let c576 : Index := 576#32
  let c0_383 : Index := 0#32
  ![v567.toNat, 576, 0]
def k0_off257 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v570 : Index := Scalar.indexCast v539
  let c768_384 : Index := 768#32
  let c0_385 : Index := 0#32
  ![v570.toNat, 768, 0]
def k0_off258 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v573 : Index := Scalar.indexCast v539
  let c960 : Index := 960#32
  let c0_386 : Index := 0#32
  ![v573.toNat, 960, 0]
def k0_off259 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v576 : Index := Scalar.indexCast v539
  let c1152 : Index := 1152#32
  let c0_387 : Index := 0#32
  ![v576.toNat, 1152, 0]
def k0_off260 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v579 : Index := Scalar.indexCast v539
  let c1344_388 : Index := 1344#32
  let c0_389 : Index := 0#32
  ![v579.toNat, 1344, 0]
def k0_off261 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v582 : Index := Scalar.indexCast v539
  let c1536 : Index := 1536#32
  let c0_390 : Index := 0#32
  ![v582.toNat, 1536, 0]
def k0_off262 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v585 : Index := Scalar.indexCast v539
  let c1728 : Index := 1728#32
  let c0_391 : Index := 0#32
  ![v585.toNat, 1728, 0]
def k0_off263 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v588 : Index := Scalar.indexCast v539
  let c1920 : Index := 1920#32
  let c0_392 : Index := 0#32
  ![v588.toNat, 1920, 0]
def k0_off264 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v591 : Index := Scalar.indexCast v539
  let c2112 : Index := 2112#32
  let c0_393 : Index := 0#32
  ![v591.toNat, 2112, 0]
def k0_off265 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v594 : Index := Scalar.indexCast v539
  let c2304 : Index := 2304#32
  let c0_394 : Index := 0#32
  ![v594.toNat, 2304, 0]
def k0_off266 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v597 : Index := Scalar.indexCast v539
  let c2496 : Index := 2496#32
  let c0_395 : Index := 0#32
  ![v597.toNat, 2496, 0]
def k0_off267 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v600 : Index := Scalar.indexCast v539
  let c2688 : Index := 2688#32
  let c0_396 : Index := 0#32
  ![v600.toNat, 2688, 0]
def k0_off268 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v603 : Index := Scalar.indexCast v539
  let c2880 : Index := 2880#32
  let c0_397 : Index := 0#32
  ![v603.toNat, 2880, 0]
def k0_off269 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v606 : Index := Scalar.indexCast v539
  let c3072 : Index := 3072#32
  let c0_398 : Index := 0#32
  ![v606.toNat, 3072, 0]
def k0_off270 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v609 : Index := Scalar.indexCast v539
  let c3264 : Index := 3264#32
  let c0_399 : Index := 0#32
  ![v609.toNat, 3264, 0]
def k0_off271 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v612 : Index := Scalar.indexCast v539
  let c3456 : Index := 3456#32
  let c0_400 : Index := 0#32
  ![v612.toNat, 3456, 0]
def k0_off272 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v615 : Index := Scalar.indexCast v539
  let c3648 : Index := 3648#32
  let c0_401 : Index := 0#32
  ![v615.toNat, 3648, 0]
def k0_off273 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v618 : Index := Scalar.indexCast v539
  let c3840 : Index := 3840#32
  let c0_402 : Index := 0#32
  ![v618.toNat, 3840, 0]
def k0_off274 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v621 : Index := Scalar.indexCast v539
  let c4032 : Index := 4032#32
  let c0_403 : Index := 0#32
  ![v621.toNat, 4032, 0]
def k0_off275 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v700 : Index := Scalar.indexCast v539
  let c64 : Index := 64#32
  let c0_454 : Index := 0#32
  ![v700.toNat, 64, 0]
def k0_off276 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v703 : Index := Scalar.indexCast v539
  let c256_455 : Index := 256#32
  let c0_456 : Index := 0#32
  ![v703.toNat, 256, 0]
def k0_off277 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v706 : Index := Scalar.indexCast v539
  let c448 : Index := 448#32
  let c0_457 : Index := 0#32
  ![v706.toNat, 448, 0]
def k0_off278 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v709 : Index := Scalar.indexCast v539
  let c640_458 : Index := 640#32
  let c0_459 : Index := 0#32
  ![v709.toNat, 640, 0]
def k0_off279 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v712 : Index := Scalar.indexCast v539
  let c832 : Index := 832#32
  let c0_460 : Index := 0#32
  ![v712.toNat, 832, 0]
def k0_off280 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v715 : Index := Scalar.indexCast v539
  let c1024 : Index := 1024#32
  let c0_461 : Index := 0#32
  ![v715.toNat, 1024, 0]
def k0_off281 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v718 : Index := Scalar.indexCast v539
  let c1216 : Index := 1216#32
  let c0_462 : Index := 0#32
  ![v718.toNat, 1216, 0]
def k0_off282 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v721 : Index := Scalar.indexCast v539
  let c1408 : Index := 1408#32
  let c0_463 : Index := 0#32
  ![v721.toNat, 1408, 0]
def k0_off283 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v724 : Index := Scalar.indexCast v539
  let c1600 : Index := 1600#32
  let c0_464 : Index := 0#32
  ![v724.toNat, 1600, 0]
def k0_off284 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v727 : Index := Scalar.indexCast v539
  let c1792 : Index := 1792#32
  let c0_465 : Index := 0#32
  ![v727.toNat, 1792, 0]
def k0_off285 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v730 : Index := Scalar.indexCast v539
  let c1984 : Index := 1984#32
  let c0_466 : Index := 0#32
  ![v730.toNat, 1984, 0]
def k0_off286 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v733 : Index := Scalar.indexCast v539
  let c2176 : Index := 2176#32
  let c0_467 : Index := 0#32
  ![v733.toNat, 2176, 0]
def k0_off287 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v736 : Index := Scalar.indexCast v539
  let c2368 : Index := 2368#32
  let c0_468 : Index := 0#32
  ![v736.toNat, 2368, 0]
def k0_off288 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v739 : Index := Scalar.indexCast v539
  let c2560 : Index := 2560#32
  let c0_469 : Index := 0#32
  ![v739.toNat, 2560, 0]
def k0_off289 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v742 : Index := Scalar.indexCast v539
  let c2752 : Index := 2752#32
  let c0_470 : Index := 0#32
  ![v742.toNat, 2752, 0]
def k0_off290 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v745 : Index := Scalar.indexCast v539
  let c2944 : Index := 2944#32
  let c0_471 : Index := 0#32
  ![v745.toNat, 2944, 0]
def k0_off291 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v748 : Index := Scalar.indexCast v539
  let c3136 : Index := 3136#32
  let c0_472 : Index := 0#32
  ![v748.toNat, 3136, 0]
def k0_off292 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v751 : Index := Scalar.indexCast v539
  let c3328 : Index := 3328#32
  let c0_473 : Index := 0#32
  ![v751.toNat, 3328, 0]
def k0_off293 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v754 : Index := Scalar.indexCast v539
  let c3520 : Index := 3520#32
  let c0_474 : Index := 0#32
  ![v754.toNat, 3520, 0]
def k0_off294 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v757 : Index := Scalar.indexCast v539
  let c3712 : Index := 3712#32
  let c0_475 : Index := 0#32
  ![v757.toNat, 3712, 0]
def k0_off295 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v760 : Index := Scalar.indexCast v539
  let c3904 : Index := 3904#32
  let c0_476 : Index := 0#32
  ![v760.toNat, 3904, 0]
def k0_off296 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v836 : Index := Scalar.indexCast v539
  let c128_525 : Index := 128#32
  let c0_526 : Index := 0#32
  ![v836.toNat, 128, 0]
def k0_off297 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v839 : Index := Scalar.indexCast v539
  let c320 : Index := 320#32
  let c0_527 : Index := 0#32
  ![v839.toNat, 320, 0]
def k0_off298 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v842 : Index := Scalar.indexCast v539
  let c512_528 : Index := 512#32
  let c0_529 : Index := 0#32
  ![v842.toNat, 512, 0]
def k0_off299 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v845 : Index := Scalar.indexCast v539
  let c704 : Index := 704#32
  let c0_530 : Index := 0#32
  ![v845.toNat, 704, 0]
def k0_off300 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v848 : Index := Scalar.indexCast v539
  let c896_531 : Index := 896#32
  let c0_532 : Index := 0#32
  ![v848.toNat, 896, 0]
def k0_off301 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v851 : Index := Scalar.indexCast v539
  let c1088 : Index := 1088#32
  let c0_533 : Index := 0#32
  ![v851.toNat, 1088, 0]
def k0_off302 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v854 : Index := Scalar.indexCast v539
  let c1280 : Index := 1280#32
  let c0_534 : Index := 0#32
  ![v854.toNat, 1280, 0]
def k0_off303 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v857 : Index := Scalar.indexCast v539
  let c1472 : Index := 1472#32
  let c0_535 : Index := 0#32
  ![v857.toNat, 1472, 0]
def k0_off304 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v860 : Index := Scalar.indexCast v539
  let c1664 : Index := 1664#32
  let c0_536 : Index := 0#32
  ![v860.toNat, 1664, 0]
def k0_off305 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v863 : Index := Scalar.indexCast v539
  let c1856 : Index := 1856#32
  let c0_537 : Index := 0#32
  ![v863.toNat, 1856, 0]
def k0_off306 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v866 : Index := Scalar.indexCast v539
  let c2048 : Index := 2048#32
  let c0_538 : Index := 0#32
  ![v866.toNat, 2048, 0]
def k0_off307 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v869 : Index := Scalar.indexCast v539
  let c2240 : Index := 2240#32
  let c0_539 : Index := 0#32
  ![v869.toNat, 2240, 0]
def k0_off308 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v872 : Index := Scalar.indexCast v539
  let c2432 : Index := 2432#32
  let c0_540 : Index := 0#32
  ![v872.toNat, 2432, 0]
def k0_off309 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v875 : Index := Scalar.indexCast v539
  let c2624 : Index := 2624#32
  let c0_541 : Index := 0#32
  ![v875.toNat, 2624, 0]
def k0_off310 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v878 : Index := Scalar.indexCast v539
  let c2816 : Index := 2816#32
  let c0_542 : Index := 0#32
  ![v878.toNat, 2816, 0]
def k0_off311 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v881 : Index := Scalar.indexCast v539
  let c3008 : Index := 3008#32
  let c0_543 : Index := 0#32
  ![v881.toNat, 3008, 0]
def k0_off312 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v884 : Index := Scalar.indexCast v539
  let c3200 : Index := 3200#32
  let c0_544 : Index := 0#32
  ![v884.toNat, 3200, 0]
def k0_off313 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v887 : Index := Scalar.indexCast v539
  let c3392 : Index := 3392#32
  let c0_545 : Index := 0#32
  ![v887.toNat, 3392, 0]
def k0_off314 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v890 : Index := Scalar.indexCast v539
  let c3584 : Index := 3584#32
  let c0_546 : Index := 0#32
  ![v890.toNat, 3584, 0]
def k0_off315 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v893 : Index := Scalar.indexCast v539
  let c3776 : Index := 3776#32
  let c0_547 : Index := 0#32
  ![v893.toNat, 3776, 0]
def k0_off316 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v896 : Index := Scalar.indexCast v539
  let c3968 : Index := 3968#32
  let c0_548 : Index := 0#32
  ![v896.toNat, 3968, 0]
def k0_off317 (k0_t4 : Fin k0_t4_loop.trips) : Fin 3 → Nat :=
  let c24_i32 : BitVec 32 := 24#32
  let c0_i32_151 : BitVec 32 := 0#32
  let c1_i32_153 : BitVec 32 := 1#32
  let arg26 : BitVec 32 := Scf.iv c0_i32_151 c1_i32_153 k0_t4
  let v538 : BitVec 32 := Scalar.addi c24_i32 arg26
  let c2_i32_364 : BitVec 32 := 2#32
  let v539 : BitVec 32 := Scalar.remsi v538 c2_i32_364
  let v972 : Index := Scalar.indexCast v539
  let c0_596 : Index := 0#32
  let c0_597 : Index := 0#32
  ![v972.toNat, 0, 0]
def k0_off318 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v981 : Index := Scalar.indexCast v220
  let c0_600 : Index := 0#32
  let c0_i32_151 : BitVec 32 := 0#32
  let c1_i32_153 : BitVec 32 := 1#32
  let arg26 : BitVec 32 := Scf.iv c0_i32_151 c1_i32_153 k0_t4
  let c128_i32 : BitVec 32 := 128#32
  let v980 : BitVec 32 := Scalar.muli arg26 c128_i32
  let v982 : Index := Scalar.indexCast v980
  ![v981.toNat, 0, v982.toNat]
def k0_off319 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v985 : Index := Scalar.indexCast v220
  let c192_601 : Index := 192#32
  let c0_i32_151 : BitVec 32 := 0#32
  let c1_i32_153 : BitVec 32 := 1#32
  let arg26 : BitVec 32 := Scf.iv c0_i32_151 c1_i32_153 k0_t4
  let c128_i32 : BitVec 32 := 128#32
  let v980 : BitVec 32 := Scalar.muli arg26 c128_i32
  let v986 : Index := Scalar.indexCast v980
  ![v985.toNat, 192, v986.toNat]
def k0_off320 (d0 : Dev nD) : Fin 3 → Nat :=
  let c3_i32_603 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_602 : BitVec 32 := 3#32
  let v990 : BitVec 32 := Scalar.remsi v2 c3_i32_602
  let v991 : BitVec 32 := Scalar.subi c3_i32_603 v990
  let c3_i32_604 : BitVec 32 := 3#32
  let v992 : BitVec 32 := Scalar.remsi v991 c3_i32_604
  let v993 : Index := Scalar.indexCast v992
  let c0_605 : Index := 0#32
  let c0_606 : Index := 0#32
  ![v993.toNat, 0, 0]
def k0_off321 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v1008 : Index := Scalar.indexCast v220
  let c64_613 : Index := 64#32
  let c0_i32_151 : BitVec 32 := 0#32
  let c1_i32_153 : BitVec 32 := 1#32
  let arg26 : BitVec 32 := Scf.iv c0_i32_151 c1_i32_153 k0_t4
  let c128_i32 : BitVec 32 := 128#32
  let v980 : BitVec 32 := Scalar.muli arg26 c128_i32
  let v1009 : Index := Scalar.indexCast v980
  ![v1008.toNat, 64, v1009.toNat]
def k0_off322 (d0 : Dev nD) (c1_i32_614 : BitVec 32) : Fin 3 → Nat :=
  let c3_i32_616 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1012 : BitVec 32 := Scalar.addi c1_i32_614 v2
  let c3_i32_615 : BitVec 32 := 3#32
  let v1013 : BitVec 32 := Scalar.remsi v1012 c3_i32_615
  let v1014 : BitVec 32 := Scalar.subi c3_i32_616 v1013
  let c3_i32_617 : BitVec 32 := 3#32
  let v1015 : BitVec 32 := Scalar.remsi v1014 c3_i32_617
  let v1016 : Index := Scalar.indexCast v1015
  let c0_618 : Index := 0#32
  let c0_619 : Index := 0#32
  ![v1016.toNat, 0, 0]
def k0_off323 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v1031 : Index := Scalar.indexCast v220
  let c128_626 : Index := 128#32
  let c0_i32_151 : BitVec 32 := 0#32
  let c1_i32_153 : BitVec 32 := 1#32
  let arg26 : BitVec 32 := Scf.iv c0_i32_151 c1_i32_153 k0_t4
  let c128_i32 : BitVec 32 := 128#32
  let v980 : BitVec 32 := Scalar.muli arg26 c128_i32
  let v1032 : Index := Scalar.indexCast v980
  ![v1031.toNat, 128, v1032.toNat]
def k0_off324 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v1054 : Index := Scalar.indexCast v220
  let c64_639 : Index := 64#32
  let c0_i32_151 : BitVec 32 := 0#32
  let c1_i32_153 : BitVec 32 := 1#32
  let arg26 : BitVec 32 := Scf.iv c0_i32_151 c1_i32_153 k0_t4
  let c128_i32 : BitVec 32 := 128#32
  let v980 : BitVec 32 := Scalar.muli arg26 c128_i32
  let v1055 : Index := Scalar.indexCast v980
  ![v1054.toNat, 64, v1055.toNat]
def k0_off325 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let v1101 : Index := Scalar.indexCast v220
  let c0_i32_151 : BitVec 32 := 0#32
  let c1_i32_153 : BitVec 32 := 1#32
  let arg26 : BitVec 32 := Scf.iv c0_i32_151 c1_i32_153 k0_t4
  let v1102 : Index := Scalar.indexCast arg26
  let c0_647 : Index := 0#32
  ![v1101.toNat, v1102.toNat, 0]
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let c1_i32_155 : BitVec 32 := 1#32
  let v230 : BitVec 32 := Scalar.muli v220 c1_i32_155
  let v231 : BitVec 32 := Scalar.addi c0_i32_156 v230
  v231.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v219 : BitVec 32 := Scalar.addi v2 c3_i32_143
  let c4_i32_144 : BitVec 32 := 4#32
  let v220 : BitVec 32 := Scalar.remsi v219 c4_i32_144
  let c1_i32_161 : BitVec 32 := 1#32
  let v240 : BitVec 32 := Scalar.muli v220 c1_i32_161
  let v241 : BitVec 32 := Scalar.addi c0_i32_162 v240
  v241.toNat
def k0_dev13 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_294 : BitVec 32 := 1#32
  let v448 : BitVec 32 := Scalar.addi v2 c1_i32_294
  let c4_i32_295 : BitVec 32 := 4#32
  let v449 : BitVec 32 := Scalar.remsi v448 c4_i32_295
  let c1_i32_296 : BitVec 32 := 1#32
  let v450 : BitVec 32 := Scalar.muli v449 c1_i32_296
  let v451 : BitVec 32 := Scalar.addi c0_i32_297 v450
  v451.toNat
def k0_dev14 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_302 : BitVec 32 := 2#32
  let v460 : BitVec 32 := Scalar.addi v2 c2_i32_302
  let c4_i32_303 : BitVec 32 := 4#32
  let v461 : BitVec 32 := Scalar.remsi v460 c4_i32_303
  let c1_i32_304 : BitVec 32 := 1#32
  let v462 : BitVec 32 := Scalar.muli v461 c1_i32_304
  let v463 : BitVec 32 := Scalar.addi c0_i32_305 v462
  v463.toNat
def k0_dev15 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_310 : BitVec 32 := 3#32
  let v472 : BitVec 32 := Scalar.addi v2 c3_i32_310
  let c4_i32_311 : BitVec 32 := 4#32
  let v473 : BitVec 32 := Scalar.remsi v472 c4_i32_311
  let c1_i32_312 : BitVec 32 := 1#32
  let v474 : BitVec 32 := Scalar.muli v473 c1_i32_312
  let v475 : BitVec 32 := Scalar.addi c0_i32_313 v474
  v475.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x256x1024 : Shape := ⟨3, ![1, 256, 1024]⟩
abbrev S1024x4096 : Shape := ⟨2, ![1024, 4096]⟩
abbrev S1x16384x32x128 : Shape := ⟨4, ![1, 16384, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S16384 : Shape := ⟨1, ![16384]⟩
abbrev S1x16384 : Shape := ⟨2, ![1, 16384]⟩
abbrev S256x16384 : Shape := ⟨2, ![256, 16384]⟩
abbrev S1x32x256x16384 : Shape := ⟨4, ![1, 32, 256, 16384]⟩
abbrev S1x1x256x16384 : Shape := ⟨4, ![1, 1, 256, 16384]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x16384x32x128, .f32⟩
  | .hbm, ⟨3, _⟩ => ⟨S1x16384x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S256x16384, .i32⟩
  | .hbm, ⟨48, _⟩ => ⟨S256x16384, .i32⟩
  | .hbm, ⟨49, _⟩ => ⟨S256x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S256x16384, .i1⟩
  | .hbm, ⟨54, _⟩ => ⟨S256x16384, .i1⟩
  | .hbm, ⟨55, _⟩ => ⟨S256x16384, .i32⟩
  | .hbm, ⟨56, _⟩ => ⟨S256x16384, .i32⟩
  | .hbm, ⟨57, _⟩ => ⟨S256x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x16384, .i32⟩
  | .hbm, ⟨65, _⟩ => ⟨S256x16384, .i32⟩
  | .hbm, ⟨66, _⟩ => ⟨S_, .i32⟩
  | .hbm, ⟨67, _⟩ => ⟨S256x16384, .i32⟩
  | .hbm, ⟨68, _⟩ => ⟨S256x16384, .i1⟩
  | .hbm, ⟨69, _⟩ => ⟨S_, .i32⟩
  | .hbm, ⟨70, _⟩ => ⟨S256x16384, .i32⟩
  | .hbm, ⟨71, _⟩ => ⟨S256x16384, .i1⟩
  | .hbm, ⟨72, _⟩ => ⟨S_, .i32⟩
  | .hbm, ⟨73, _⟩ => ⟨S_, .i1⟩
  | .hbm, ⟨74, _⟩ => ⟨S256x16384, .i1⟩
  | .hbm, ⟨75, _⟩ => ⟨S256x16384, .i1⟩
  | .hbm, ⟨76, _⟩ => ⟨S256x16384, .i1⟩
  | .hbm, ⟨77, _⟩ => ⟨S256x16384, .i32⟩
  | .hbm, ⟨78, _⟩ => ⟨S256x16384, .i32⟩
  | .hbm, ⟨79, _⟩ => ⟨S256x16384, .i32⟩
  | .hbm, ⟨80, _⟩ => ⟨S_, .i32⟩
  | .hbm, ⟨81, _⟩ => ⟨S256x16384, .i32⟩
  | .hbm, ⟨82, _⟩ => ⟨S256x16384, .i1⟩
  | .hbm, ⟨83, _⟩ => ⟨S256x16384, .i1⟩
  | .hbm, ⟨84, _⟩ => ⟨S1x32x256x16384, .f32⟩
  | .hbm, ⟨85, _⟩ => ⟨S_, .f32⟩
  | .hbm, ⟨86, _⟩ => ⟨S1x32x256x16384, .f32⟩
  | .hbm, ⟨87, _⟩ => ⟨S1x32x256x16384, .f32⟩
  | .hbm, ⟨88, _⟩ => ⟨S1x1x256x16384, .i1⟩
  | .hbm, ⟨89, _⟩ => ⟨S_, .f32⟩
  | .hbm, ⟨90, _⟩ => ⟨S_, .f32⟩
  | .hbm, ⟨91, _⟩ => ⟨S1x32x256x16384, .i1⟩
  | .hbm, ⟨92, _⟩ => ⟨S1x32x256x16384, .f32⟩
  | .hbm, ⟨93, _⟩ => ⟨S1x32x256x16384, .f32⟩
  | .hbm, ⟨94, _⟩ => ⟨S_, .f32⟩
  | .hbm, ⟨95, _⟩ => ⟨S1x32x256, .f32⟩
  | .hbm, ⟨96, _⟩ => ⟨S1x32x256x1, .f32⟩
  | .hbm, ⟨97, _⟩ => ⟨S1x32x256x16384, .f32⟩
  | .hbm, ⟨98, _⟩ => ⟨S1x32x256x16384, .f32⟩
  | .hbm, ⟨99, _⟩ => ⟨S1x32x256x16384, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x32x256, .f32⟩
  | .hbm, ⟨105, _⟩ => ⟨S1x32x256x1, .f32⟩
  | .hbm, ⟨106, _⟩ => ⟨S_, .f32⟩
  | .hbm, ⟨107, _⟩ => ⟨S_, .f32⟩
  | .hbm, ⟨108, _⟩ => ⟨S1x32x256x1, .i1⟩
  | .hbm, ⟨109, _⟩ => ⟨S1x32x256x1, .f32⟩
  | .hbm, ⟨110, _⟩ => ⟨S1x32x256x1, .f32⟩
  | .hbm, ⟨111, _⟩ => ⟨S1x32x256x16384, .f32⟩
  | .hbm, ⟨112, _⟩ => ⟨S1x32x256x16384, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x32x256x16384, .i1⟩
  | .hbm, ⟨117, _⟩ => ⟨S1x32x256x16384, .f32⟩
  | .hbm, ⟨118, _⟩ => ⟨S1x32x256x16384, .f32⟩
  | .hbm, ⟨119, _⟩ => ⟨S1x32x128x256, .f32⟩
  | .hbm, ⟨120, _⟩ => ⟨S1x256x32x128, .f32⟩
  | .hbm, ⟨121, _⟩ => ⟨S1x256x4096, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Launch

@[expose] public section

noncomputable section

/-! # One trip of the head loop

The kernel's body runs the same loop over eight heads four times, once for each block of query heads. Here its trip
is written once, for the `d`-th of the four loops, and each loop's printed trip is shown to be it. -/

namespace Cert.KernelIdeal.Own

open Idealize.ShloMosaic Idealize.ShloMosaic.TcCoe Idealize.SL.Sem
open Cert.KernelIdeal.Gen

variable {F : FTy → Type} [FloatOps F] [Named F]

/-! ## The scalars -/

/-- The first head's count of loop `d`. -/
def c8 : Fin 4 → BitVec 32
  | 0 => 0#32
  | 1 => 8#32
  | 2 => 16#32
  | 3 => 24#32
/-- Loop `d`'s distance around the mesh. -/
def c1 : Fin 4 → BitVec 32
  | 0 => 0#32
  | 1 => 1#32
  | 2 => 2#32
  | 3 => 3#32

/-- The device's place in the mesh. -/
def pW (d0 : Dev nD) : BitVec 32 := Scalar.remsi (Scalar.divsi (Dev.word d0) 1#32) 4#32
/-- The block of query heads loop `d` works on. -/
def gW (d : Fin 4) (d0 : Dev nD) : BitVec 32 := Scalar.remsi (Scalar.addi (pW d0) (c1 d)) 4#32
/-- The trip's number among the loop's eight. -/
def hW (k : Fin 8) : BitVec 32 := Scf.iv 0#32 1#32 (k : ℕ)
/-- The head's count among all thirty-two. -/
def tW (d : Fin 4) (k : Fin 8) : BitVec 32 := Scalar.addi (c8 d) (hW k)
/-- The slot the head's keys and values land in. -/
def sW (d : Fin 4) (k : Fin 8) : BitVec 32 := Scalar.remsi (tW d k) 2#32
/-- The next head's slot. -/
def nW (d : Fin 4) (k : Fin 8) : BitVec 32 := Scalar.remsi (Scalar.addi (tW d k) 1#32) 2#32
/-- Whether a next head is there. -/
def cW (d : Fin 4) (k : Fin 8) : BitVec 1 :=
  Scalar.cmpi .ne (Scalar.extui (Scalar.cmpi .slt (Scalar.addi (tW d k) 1#32) 32#32) : BitVec 32) 0#32
/-- The head of the arrays this trip works on. -/
def headW (d : Fin 4) (d0 : Dev nD) (k : Fin 8) : BitVec 32 := Scalar.addi (Scalar.muli (gW d d0) 8#32) (hW k)
/-- The head of the arrays the next trip works on. -/
def nextW (d : Fin 4) (d0 : Dev nD) (k : Fin 8) : BitVec 32 :=
  Scalar.select (Scalar.cmpi .slt (Scalar.addi (hW k) 1#32) 8#32)
    (Scalar.addi (Scalar.addi (Scalar.muli (gW d d0) 8#32) (hW k)) 1#32)
    (Scalar.muli (Scalar.remsi (Scalar.addi (gW d d0) 1#32) 4#32) 8#32)
/-- The class of key blocks that query block `i` may see. -/
def clsW0 (d0 : Dev nD) : BitVec 32 := Scalar.remsi (Scalar.subi 3#32 (Scalar.remsi (pW d0) 3#32)) 3#32
def clsW (d0 : Dev nD) (i : BitVec 32) : BitVec 32 :=
  Scalar.remsi (Scalar.subi 3#32 (Scalar.remsi (Scalar.addi i (pW d0)) 3#32)) 3#32

/-- The column a head's queries begin at. -/
def colW (k : Fin 8) : BitVec 32 := Scalar.muli (hW k) 128#32

/-- Rows `r`, … of slot `w`. -/
def rowOff (w : BitVec 32) (r : ℕ) : Fin 3 → ℕ := ![w.toNat, r, 0]
/-- Rows `r`, … of the head's columns in block `g`. -/
def qOff (d : Fin 4) (d0 : Dev nD) (k : Fin 8) (r : ℕ) : Fin 3 → ℕ := ![(gW d d0).toNat, r, (colW k).toNat]
def lOff (d : Fin 4) (d0 : Dev nD) (k : Fin 8) : Fin 3 → ℕ := ![(gW d d0).toNat, (hW k).toNat, 0]
def kvOff (w : BitVec 32) : Fin 4 → ℕ := ![0, 0, w.toNat, 0]

/-! ## What the offsets keep to -/

/-- The bounds of every access a trip makes. -/
structure InB (d : Fin 4) (d0 : Dev nD) (k : Fin 8) : Prop where
  sem : ∀ a, (![(sW d k).toNat] : Fin 1 → ℕ) a + S1.size a ≤ S2.size a
  semN : cW d k = 1#1 → ∀ a, (![(nW d k).toNat] : Fin 1 → ℕ) a + S1.size a ≤ S2.size a
  slot : ∀ a, rowOff (sW d k) 0 a + S1x4096x128.size a ≤ S2x4096x128.size a
  slotN : cW d k = 1#1 → ∀ a, rowOff (nW d k) 0 a + S1x4096x128.size a ≤ S2x4096x128.size a
  head : ∀ a, kvOff (headW d d0 k) a + S1x4096x1x128.size a ≤ S1x4096x32x128.size a
  headN : cW d k = 1#1 → ∀ a, kvOff (nextW d d0 k) a + S1x4096x1x128.size a ≤ S1x4096x32x128.size a
  x : ∀ a, rowOff (sW d k) 0 a + S1x256x128.size a ≤ S2x4096x128.size a
  q0 : ∀ a, qOff d d0 k 0 a + S1x64x128.size a ≤ S4x256x1024.size a
  q1 : ∀ a, qOff d d0 k 64 a + S1x64x128.size a ≤ S4x256x1024.size a
  q2 : ∀ a, qOff d d0 k 128 a + S1x64x128.size a ≤ S4x256x1024.size a
  q3 : ∀ a, qOff d d0 k 192 a + S1x64x128.size a ≤ S4x256x1024.size a
  q12 : ∀ a, qOff d d0 k 64 a + S1x128x128.size a ≤ S4x256x1024.size a
  cls0 : ∀ a, rowOff (clsW0 d0) 0 a + S1x1408x128.size a ≤ S3x1408x128.size a
  cls1 : ∀ a, rowOff (clsW d0 1#32) 0 a + S1x1408x128.size a ≤ S3x1408x128.size a
  cls2 : ∀ a, rowOff (clsW d0 2#32) 0 a + S1x1408x128.size a ≤ S3x1408x128.size a
  l : ∀ a, lOff d d0 k a + S1x1x256.size a ≤ S4x8x256.size a
  p0 : (Rect.unit (s := S4x256x1024) (qOff d d0 k 0) S1x64x128.size q0).PackedRows (EltTy.packing .bf16)
  p1 : (Rect.unit (s := S4x256x1024) (qOff d d0 k 64) S1x64x128.size q1).PackedRows (EltTy.packing .bf16)
  p2 : (Rect.unit (s := S4x256x1024) (qOff d d0 k 128) S1x64x128.size q2).PackedRows (EltTy.packing .bf16)
  p3 : (Rect.unit (s := S4x256x1024) (qOff d d0 k 192) S1x64x128.size q3).PackedRows (EltTy.packing .bf16)

theorem InB.row {d : Fin 4} {d0 : Dev nD} {k : Fin 8} (h : InB d d0 k) {r : ℕ} (hr : r + 64 ≤ 4096) :
    ∀ a, rowOff (sW d k) r a + S1x64x128.size a ≤ S2x4096x128.size a := by
  intro a
  have h0 := h.slot 0
  fin_cases a
  · exact h0
  · exact hr
  · exact Nat.le_refl 128

/-! ## The pieces of a trip -/

section

variable (arg2 arg3 : Memref sig .tc .hbm S1x4096x32x128 .f32)
  (arg6 : Memref sig .tc .vmem S4x256x1024 .bf16)
  (arg7 arg8 : Memref sig .tc .vmem S2x4096x128 .f32)
  (arg9 : Memref sig .tc .vmem S3x1408x128 .bf16) (harg9 : arg9.IsWhole)
  (arg10 : Memref sig .tc .vmem S3x1408x128 .bf16) (harg10 : arg10.IsWhole)
  (arg11 : Memref sig .tc .vmem S4x256x1024 .bf16) (harg11 : arg11.IsWhole)
  (arg12 : Memref sig .tc .vmem S4x8x256 .f32)
  (arg16 arg17 : DmaSems sig S2)

abbrev HeadInB (w : BitVec 32) : Prop := ∀ a, kvOff w a + S1x4096x1x128.size a ≤ S1x4096x32x128.size a
abbrev SlotInB (w : BitVec 32) : Prop := ∀ a, rowOff w 0 a + S1x4096x128.size a ≤ S2x4096x128.size a
abbrev SemInB (w : BitVec 32) : Prop := ∀ a, (![w.toNat] : Fin 1 → ℕ) a + S1.size a ≤ S2.size a
abbrev RowInB (w : BitVec 32) : Prop := ∀ r, r + 64 ≤ 4096 → ∀ a, rowOff w r a + S1x64x128.size a ≤ S2x4096x128.size a
abbrev P (α : Type) := Prog (TpuEff nD τ sig (Elt F) Λ₀ .tc) α

/-- One of the two counters of a pair. -/
def semAt (a : DmaSems sig S2) (w : BitVec 32) (h : ∀ a, (![w.toNat] : Fin 1 → ℕ) a + S1.size a ≤ S2.size a) :
    DmaSems sig S_ :=
  (a.slice (Rect.unit (s := S2) ![w.toNat] S1.size h)).squeeze S_ squeezes_S1_S_
/-- A slot of one of the two landing buffers. -/
def slotAt (b : Memref sig .tc .vmem S2x4096x128 .f32) (w : BitVec 32)
    (h : ∀ a, rowOff w 0 a + S1x4096x128.size a ≤ S2x4096x128.size a) : Memref sig .tc .vmem S4096x128 .f32 :=
  (b.slice (Rect.unit (s := S2x4096x128) (rowOff w 0) S1x4096x128.size h) (fun _ => rfl)).squeeze S4096x128
    squeezes_S1x4096x128_S4096x128
/-- One head of the keys or the values. -/
def headAt (b : Memref sig .tc .hbm S1x4096x32x128 .f32) (w : BitVec 32)
    (h : ∀ a, kvOff w a + S1x4096x1x128.size a ≤ S1x4096x32x128.size a) : Memref sig .tc .hbm S4096x128 .f32 :=
  (b.slice (Rect.unit (s := S1x4096x32x128) (kvOff w) S1x4096x1x128.size h) (fun _ => rfl)).squeeze S4096x128
    squeezes_S1x4096x1x128_S4096x128

/-- A head's copy into a slot, then the rest. -/
def fetch (b : Memref sig .tc .hbm S1x4096x32x128 .f32) (w : BitVec 32) (hw : HeadInB w) (dst : Memref sig .tc .vmem S2x4096x128 .f32)
    (a : DmaSems sig S2) (s : BitVec 32) (hs : SlotInB s) (hs' : SemInB s) (K : P (F := F) PUnit) : P (F := F) PUnit :=
  .op (.enqueueDma (headAt b w hw) (.here (slotAt dst s hs)) (.dma (semAt a s hs').sem)
    ((View.wordExact_bits rfl).reshape _ _) ((View.wordExact_bits rfl).reshape _ _) ⟨Or.inl rfl, trivial⟩) fun _ => K
/-- The wait for it. -/
def await (b : Memref sig .tc .hbm S1x4096x32x128 .f32) (w : BitVec 32) (hw : HeadInB w) (dst : Memref sig .tc .vmem S2x4096x128 .f32)
    (a : DmaSems sig S2) (s : BitVec 32) (hs : SlotInB s) (hs' : SemInB s) (K : P (F := F) PUnit) : P (F := F) PUnit :=
  .op (.waitDma2 (semAt a s hs').sem (headAt b w hw) (slotAt dst s hs)
    ((View.wordExact_bits rfl).reshape _ _) ((View.wordExact_bits rfl).reshape _ _)) fun _ => K

/-- The loads of every third block of a slot, from row `r` on. -/
def loads (b : Memref sig .tc .vmem S2x4096x128 .f32) (w : BitVec 32) (hw : RowInB w) :
    (n r : ℕ) → r + 192 * n ≤ 4224 → ((Fin n → Vec F S1x64x128 .f32) → P (F := F) PUnit) → P (F := F) PUnit
  | 0, _, _, K => K Fin.elim0
  | n + 1, r, h, K => .op (.load b (Rect.unit (s := S2x4096x128) (rowOff w r) S1x64x128.size
      (hw r (by omega))).toLoadRect (View.loadsAt_vmem h_S1x64x128)) fun v =>
    loads b w hw n (r + 192) (by omega) fun vs => K (Fin.cons v vs)

/-- Twenty-two blocks one after another, in the narrow format. -/
def cat22 (v : Fin 22 → Vec F S1x64x128 .f32) : FVec F S1x1408x128 .bf16 :=
  k0_pay18 (k0_pay2 (v 0)) (k0_pay2 (v 1)) (k0_pay2 (v 2)) (k0_pay2 (v 3)) (k0_pay2 (v 4)) (k0_pay2 (v 5)) (k0_pay2 (v 6)) (k0_pay2 (v 7)) (k0_pay2 (v 8)) (k0_pay2 (v 9)) (k0_pay2 (v 10)) (k0_pay2 (v 11)) (k0_pay2 (v 12)) (k0_pay2 (v 13)) (k0_pay2 (v 14)) (k0_pay2 (v 15)) (v 16) (v 17) (v 18) (v 19) (v 20) (v 21)
/-- Twenty-one. -/
def cat21 (v : Fin 21 → Vec F S1x64x128 .f32) : FVec F S1x1344x128 .bf16 :=
  k0_pay110 (k0_pay2 (v 0)) (k0_pay2 (v 1)) (k0_pay2 (v 2)) (k0_pay2 (v 3)) (k0_pay2 (v 4)) (k0_pay2 (v 5)) (k0_pay2 (v 6)) (k0_pay2 (v 7)) (k0_pay2 (v 8)) (k0_pay2 (v 9)) (k0_pay2 (v 10)) (k0_pay2 (v 11)) (k0_pay2 (v 12)) (k0_pay2 (v 13)) (k0_pay2 (v 14)) (k0_pay2 (v 15)) (k0_pay2 (v 16)) (k0_pay2 (v 17)) (k0_pay2 (v 18)) (k0_pay2 (v 19)) (v 20)

/-- Class 0 of the blocks gathered. -/
def gather22 (b : Memref sig .tc .vmem S2x4096x128 .f32) (w : BitVec 32) (hw : RowInB w)
    (o : Memref sig .tc .vmem S3x1408x128 .bf16) (ho : o.IsWhole) (K : P (F := F) PUnit) : P (F := F) PUnit :=
  loads b w hw 22 0 (by omega) fun v =>
  .op (.load o (Rect.unit (s := S3x1408x128) ![0, 0, 0] S1x1408x128.size inb_S3x1408x128_S1x1408x128_0_0_0).toLoadRect (View.loadsAt_vmem h_S1x1408x128)) fun _ =>
  .op (.store o (Rect.unit (s := S3x1408x128) ![0, 0, 0] S1x1408x128.size inb_S3x1408x128_S1x1408x128_0_0_0) (cat22 v) Finset.univ (View.stores_vmem h_S1x1408x128 (ho.storeExact_slice rfl _ packedbf16_S3x1408x128_S1x1408x128_0_0_0) (fun _ => rfl)) (.inl rfl)) fun _ => K
/-- Class `c`, from row `r` on. -/
def gather21 (b : Memref sig .tc .vmem S2x4096x128 .f32) (w : BitVec 32) (hw : RowInB w) (r : ℕ) (hr : r + 192 * 21 ≤ 4224)
    (o : Memref sig .tc .vmem S3x1408x128 .bf16) (ho : o.IsWhole) (c : ℕ)
    (hc : ∀ a, (![c, 0, 0] : Fin 3 → ℕ) a + S1x1344x128.size a ≤ S3x1408x128.size a)
    (hp : (Rect.unit (s := S3x1408x128) ![c, 0, 0] S1x1344x128.size hc).PackedRows (EltTy.packing .bf16))
    (K : P (F := F) PUnit) : P (F := F) PUnit :=
  loads b w hw 21 r hr fun v =>
  .op (.load o (Rect.unit (s := S3x1408x128) ![c, 0, 0] S1x1344x128.size hc).toLoadRect (View.loadsAt_vmem h_S1x1344x128)) fun _ =>
  .op (.store o (Rect.unit (s := S3x1408x128) ![c, 0, 0] S1x1344x128.size hc) (cat21 v) Finset.univ (View.stores_vmem h_S1x1344x128 (ho.storeExact_slice rfl _ hp) (fun _ => rfl)) (.inl rfl)) fun _ => K

/-- The keys and values of the trip's head fetched: the next head's copies begun, this head's waited for. -/
def fetches (d : Fin 4) (d0 : Dev nD) (k : Fin 8) (h : InB d d0 k) (K : P (F := F) PUnit) : P (F := F) PUnit :=
  (if hc : cW d k = 1#1 then
      fetch arg2 (nextW d d0 k) (h.headN hc) arg7 arg16 (nW d k) (h.slotN hc) (h.semN hc)
        (fetch arg3 (nextW d d0 k) (h.headN hc) arg8 arg17 (nW d k) (h.slotN hc) (h.semN hc) (.ret ⟨⟩))
    else .ret ⟨⟩ : P (F := F) PUnit).bind fun _ =>
  await arg2 (headW d d0 k) h.head arg7 arg16 (sW d k) h.slot h.sem <|
  await arg3 (headW d d0 k) h.head arg8 arg17 (sW d k) h.slot h.sem K

/-- The three classes of the head's blocks gathered. -/
def gathers (d : Fin 4) (d0 : Dev nD) (k : Fin 8) (h : InB d d0 k) (K : P (F := F) PUnit) : P (F := F) PUnit :=
  gather22 arg7 (sW d k) (fun _ => h.row) arg9 harg9 <|
  gather22 arg8 (sW d k) (fun _ => h.row) arg10 harg10 <|
  gather21 arg7 (sW d k) (fun _ => h.row) 64 (by omega) arg9 harg9 1 inb_S3x1408x128_S1x1344x128_1_0_0 packedbf16_S3x1408x128_S1x1344x128_1_0_0 <|
  gather21 arg8 (sW d k) (fun _ => h.row) 64 (by omega) arg10 harg10 1 inb_S3x1408x128_S1x1344x128_1_0_0 packedbf16_S3x1408x128_S1x1344x128_1_0_0 <|
  gather21 arg7 (sW d k) (fun _ => h.row) 128 (by omega) arg9 harg9 2 inb_S3x1408x128_S1x1344x128_2_0_0 packedbf16_S3x1408x128_S1x1344x128_2_0_0 <|
  gather21 arg8 (sW d k) (fun _ => h.row) 128 (by omega) arg10 harg10 2 inb_S3x1408x128_S1x1344x128_2_0_0 packedbf16_S3x1408x128_S1x1344x128_2_0_0 K

/-- A block of the head's queries. -/
def ldQ (b : Memref sig .tc .vmem S4x256x1024 .bf16) (off : Fin 3 → ℕ) (h : ∀ a, off a + S1x64x128.size a ≤ S4x256x1024.size a)
    (K : Vec F S1x64x128 .bf16 → P (F := F) PUnit) : P (F := F) PUnit :=
  .op (.load b (Rect.unit (s := S4x256x1024) off S1x64x128.size h).toLoadRect (View.loadsAt_vmem h_S1x64x128)) K
/-- A class of the head's blocks. -/
def ldC (b : Memref sig .tc .vmem S3x1408x128 .bf16) (w : BitVec 32) (h : ∀ a, rowOff w 0 a + S1x1408x128.size a ≤ S3x1408x128.size a)
    (K : Vec F S1x1408x128 .bf16 → P (F := F) PUnit) : P (F := F) PUnit :=
  .op (.load b (Rect.unit (s := S3x1408x128) (rowOff w 0) S1x1408x128.size h).toLoadRect (View.loadsAt_vmem h_S1x1408x128)) K
/-- The head's first four blocks. -/
def ldX (b : Memref sig .tc .vmem S2x4096x128 .f32) (w : BitVec 32) (h : ∀ a, rowOff w 0 a + S1x256x128.size a ≤ S2x4096x128.size a)
    (K : Vec F S1x256x128 .f32 → P (F := F) PUnit) : P (F := F) PUnit :=
  .op (.load b (Rect.unit (s := S2x4096x128) (rowOff w 0) S1x256x128.size h).toLoadRect (View.loadsAt_vmem h_S1x256x128)) K
/-- A block of the head's result stored, over a load of what was there. -/
def stO (off : Fin 3 → ℕ) (h : ∀ a, off a + S1x64x128.size a ≤ S4x256x1024.size a)
    (hp : (Rect.unit (s := S4x256x1024) off S1x64x128.size h).PackedRows (EltTy.packing .bf16))
    (v : FVec F S1x64x128 .bf16) (K : P (F := F) PUnit) : P (F := F) PUnit :=
  .op (.load arg11 (Rect.unit (s := S4x256x1024) off S1x64x128.size h).toLoadRect (View.loadsAt_vmem h_S1x64x128)) fun _ =>
  .op (.store arg11 (Rect.unit (s := S4x256x1024) off S1x64x128.size h) v Finset.univ (View.stores_vmem h_S1x64x128 (harg11.storeExact_slice rfl _ hp) (fun _ => rfl)) (.inl rfl)) fun _ => K

/-- What a trip reads of the gathered head before it computes. -/
structure Got (F : FTy → Type) where
  kx : Vec F S1x256x128 .f32
  vx : Vec F S1x256x128 .f32
  q0 : Vec F S1x64x128 .bf16
  q3 : Vec F S1x64x128 .bf16
  k0 : Vec F S1x1408x128 .bf16
  v0 : Vec F S1x1408x128 .bf16
  q1 : Vec F S1x64x128 .bf16
  k1 : Vec F S1x1408x128 .bf16
  v1 : Vec F S1x1408x128 .bf16
  q2 : Vec F S1x64x128 .bf16
  k2 : Vec F S1x1408x128 .bf16
  v2 : Vec F S1x1408x128 .bf16
  q12 : Vec F S1x128x128 .bf16

/-- The reads. -/
def got (d : Fin 4) (d0 : Dev nD) (k : Fin 8) (h : InB d d0 k) (K : Got F → P (F := F) PUnit) : P (F := F) PUnit :=
  ldX arg7 (sW d k) h.x fun kx =>
  ldX arg8 (sW d k) h.x fun vx =>
  ldQ arg6 (qOff d d0 k 0) h.q0 fun q0 =>
  ldQ arg6 (qOff d d0 k 192) h.q3 fun q3 =>
  ldC arg9 (clsW0 d0) h.cls0 fun k0 =>
  ldC arg10 (clsW0 d0) h.cls0 fun v0 =>
  ldQ arg6 (qOff d d0 k 64) h.q1 fun q1 =>
  ldC arg9 (clsW d0 1#32) h.cls1 fun k1 =>
  ldC arg10 (clsW d0 1#32) h.cls1 fun v1 =>
  ldQ arg6 (qOff d d0 k 128) h.q2 fun q2 =>
  ldC arg9 (clsW d0 2#32) h.cls2 fun k2 =>
  ldC arg10 (clsW d0 2#32) h.cls2 fun v2 =>
  .op (.load arg6 (Rect.unit (s := S4x256x1024) (qOff d d0 k 64) S1x128x128.size h.q12).toLoadRect (View.loadsAt_vmem h_S1x128x128)) fun q12 =>
  K ⟨kx, vx, q0, q3, k0, v0, q1, k1, v1, q2, k2, v2, q12⟩

/-! ## What a trip stores -/

variable (d0 : Dev nD) (t22 t21 : FVec F S1x1408 .f32) (xb : FVec F S128x256 .f32) (w : Got F)

/-- Query blocks 0 and 3 against their class: the weighted values, and the sums of the weights. -/
def o03 : FVec F S128x128 .f32 := k0_pay115 (k0_pay114 (pW d0) t22 t21 w.q0 w.q3 w.k0) w.v0
def l03 : FVec F S128 .f32 := k0_pay116 (k0_pay113 (pW d0) t22 t21 w.q0 w.q3 w.k0)
def o1 : FVec F S64x128 .f32 := k0_pay118 (pW d0) t22 t21 w.q1 w.k1 w.v1
def l1 : FVec F S64 .f32 := k0_pay119 (pW d0) t22 t21 w.q1 w.k1
def l2 : FVec F S64 .f32 := k0_pay122 t22 t21 (k0_pay120 w.q2) (clsW d0 2#32) w.k2
def lx : FVec F S128 .f32 := k0_pay124 xb (k0_pay111 w.kx) w.q12
def out0 : FVec F S1x64x128 .bf16 := k0_pay126 (o03 d0 t22 t21 w)
def out1 : FVec F S1x64x128 .bf16 := k0_pay127 xb (k0_pay111 w.kx) (k0_pay112 w.vx) (o1 d0 t22 t21 w) w.q12
def out2 : FVec F S1x64x128 .bf16 :=
  k0_pay518 (k0_pay128 t22 t21 xb (k0_pay111 w.kx) (k0_pay112 w.vx) (k0_pay120 w.q2) (clsW d0 2#32) w.k2 w.v2 w.q12)
def out3 : FVec F S1x64x128 .bf16 := k0_pay519 (o03 d0 t22 t21 w)
def outL : FVec F S1x1x256 .f32 := k0_pay520 (l03 d0 t22 t21 w) (l1 d0 t22 t21 w) (l2 d0 t22 t21 w) (lx xb w)

/-- The trip. -/
def trip (d : Fin 4) (k : Fin 8) (h : InB d d0 k) : P (F := F) PUnit :=
  fetches arg2 arg3 arg7 arg8 arg16 arg17 d d0 k h <|
  gathers arg7 arg8 arg9 harg9 arg10 harg10 d d0 k h <|
  got arg6 arg7 arg8 arg9 arg10 d d0 k h fun w =>
  stO arg11 harg11 (qOff d d0 k 0) h.q0 h.p0 (out0 d0 t22 t21 w) <|
  stO arg11 harg11 (qOff d d0 k 64) h.q1 h.p1 (out1 d0 t22 t21 xb w) <|
  stO arg11 harg11 (qOff d d0 k 128) h.q2 h.p2 (out2 d0 t22 t21 xb w) <|
  stO arg11 harg11 (qOff d d0 k 192) h.q3 h.p3 (out3 d0 t22 t21 w) <|
  .op (.load arg12 (Rect.unit (s := S4x8x256) (lOff d d0 k) S1x1x256.size h.l).toLoadRect (View.loadsAt_vmem h_S1x1x256)) fun _ =>
  .op (.store arg12 (Rect.unit (s := S4x8x256) (lOff d d0 k) S1x1x256.size h.l) (outL d0 t22 t21 xb w) Finset.univ (View.stores_vmem_bits_univ h_S1x1x256 rfl) (.inl rfl)) fun _ =>
  .ret ⟨⟩

end

/-! ## The bounds hold -/

set_option maxHeartbeats 0 in
theorem inB0 (d0 : Dev nD) (k : Fin 8) : InB 0 d0 k where
  sem := k0_off9_inb k
  semN := k0_off6_inb k
  slot := k0_off10_inb k
  slotN := k0_off7_inb k
  head := k0_off11_inb d0 k
  headN := k0_off8_inb d0 k
  x := k0_off76_inb k
  q0 := k0_off77_inb d0 k
  q1 := k0_off80_inb d0 k
  q2 := k0_off82_inb d0 k
  q3 := k0_off78_inb d0 k
  q12 := k0_off83_inb d0 k
  cls0 := k0_off79_inb d0
  cls1 := k0_off81_inb d0 0
  cls2 := k0_off81_inb d0 1
  l := k0_off84_inb d0 k
  p0 := k0_off77_packedbf16 d0 k
  p1 := k0_off80_packedbf16 d0 k
  p2 := k0_off82_packedbf16 d0 k
  p3 := k0_off78_packedbf16 d0 k

set_option maxHeartbeats 0 in
theorem inB1 (d0 : Dev nD) (k : Fin 8) : InB 1 d0 k where
  sem := k0_off90_inb k
  semN := k0_off87_inb k
  slot := k0_off91_inb k
  slotN := k0_off88_inb k
  head := k0_off92_inb d0 k
  headN := k0_off89_inb d0 k
  x := k0_off157_inb k
  q0 := k0_off158_inb d0 k
  q1 := k0_off161_inb d0 k
  q2 := k0_off163_inb d0 k
  q3 := k0_off159_inb d0 k
  q12 := k0_off164_inb d0 k
  cls0 := k0_off160_inb d0
  cls1 := k0_off162_inb d0 0
  cls2 := k0_off162_inb d0 1
  l := k0_off165_inb d0 k
  p0 := k0_off158_packedbf16 d0 k
  p1 := k0_off161_packedbf16 d0 k
  p2 := k0_off163_packedbf16 d0 k
  p3 := k0_off159_packedbf16 d0 k

set_option maxHeartbeats 0 in
theorem inB2 (d0 : Dev nD) (k : Fin 8) : InB 2 d0 k where
  sem := k0_off171_inb k
  semN := k0_off168_inb k
  slot := k0_off172_inb k
  slotN := k0_off169_inb k
  head := k0_off173_inb d0 k
  headN := k0_off170_inb d0 k
  x := k0_off238_inb k
  q0 := k0_off239_inb d0 k
  q1 := k0_off242_inb d0 k
  q2 := k0_off244_inb d0 k
  q3 := k0_off240_inb d0 k
  q12 := k0_off245_inb d0 k
  cls0 := k0_off241_inb d0
  cls1 := k0_off243_inb d0 0
  cls2 := k0_off243_inb d0 1
  l := k0_off246_inb d0 k
  p0 := k0_off239_packedbf16 d0 k
  p1 := k0_off242_packedbf16 d0 k
  p2 := k0_off244_packedbf16 d0 k
  p3 := k0_off240_packedbf16 d0 k

set_option maxHeartbeats 0 in
theorem inB3 (d0 : Dev nD) (k : Fin 8) : InB 3 d0 k where
  sem := k0_off250_inb k
  semN := k0_off247_inb k
  slot := k0_off251_inb k
  slotN := k0_off248_inb k
  head := k0_off252_inb d0 k
  headN := k0_off249_inb d0 k
  x := k0_off317_inb k
  q0 := k0_off318_inb d0 k
  q1 := k0_off321_inb d0 k
  q2 := k0_off323_inb d0 k
  q3 := k0_off319_inb d0 k
  q12 := k0_off324_inb d0 k
  cls0 := k0_off320_inb d0
  cls1 := k0_off322_inb d0 0
  cls2 := k0_off322_inb d0 1
  l := k0_off325_inb d0 k
  p0 := k0_off318_packedbf16 d0 k
  p1 := k0_off321_packedbf16 d0 k
  p2 := k0_off323_packedbf16 d0 k
  p3 := k0_off319_packedbf16 d0 k

theorem inB (d : Fin 4) (d0 : Dev nD) (k : Fin 8) : InB d d0 k := match d with
  | 0 => inB0 d0 k
  | 1 => inB1 d0 k
  | 2 => inB2 d0 k
  | 3 => inB3 d0 k

end Cert.KernelIdeal.Own

end
-- ==== Proof.Model.lean ====
module

public import proofs.«01_k».proof.Proof.Trip
public import Idealize.ShloMosaic.Lib.Pointwise.Index

@[expose] public section

noncomputable section

/-! # What the buffers hold

Each buffer's contents after the kernel has filled it, as a function of the devices' inputs. A head's keys (or values)
on one device are 4096 rows of 128; `p` is the device's place in the mesh. -/

namespace Cert.KernelIdeal.Own

open Idealize.ShloMosaic Idealize.ShloMosaic.TcCoe Idealize.SL.Sem
open Cert.KernelIdeal.Gen

variable {F : FTy → Type} [FloatOps F] [Named F]

/-- One head's keys, or values. -/
abbrev Head (F : FTy → Type) := Fin 4096 → Fin 128 → F .f32

/-- Sixty-four rows from row `r` on. -/
def blk (kh : Head F) (r : ℕ) (hr : r + 64 ≤ 4096) : Vec F S1x64x128 .f32 :=
  fun x => kh ⟨r + (x 1 : ℕ), by have : (x 1 : ℕ) < 64 := (x 1).isLt; omega⟩ (x 2)

/-- Every third block of rows, from block 0 on. -/
def cls22 (kh : Head F) : FVec F S1x1408x128 .bf16 := cat22 fun i => blk kh (0 + 192 * (i : ℕ)) (by omega)
/-- Every third block of rows, from row `r` on. -/
def cls21 (kh : Head F) (r : ℕ) (hr : r + 192 * 21 ≤ 4224) : FVec F S1x1344x128 .bf16 :=
  cat21 fun i => blk kh (r + 192 * (i : ℕ)) (by omega)

/-- The head's blocks by class: class 0 has 22 blocks, classes 1 and 2 have 21 and then a block of zeros. -/
def clsA (kh : Head F) : Vec F S3x1408x128 .bf16 := fun i =>
  if (i 0 : ℕ) = 0 then cls22 kh (ix3 (0 : Fin 1) (i 1 : Fin 1408) (i 2 : Fin 128))
  else if h : (i 1 : ℕ) < 1344 then
    cls21 kh (64 * (i 0 : ℕ)) (by have : (i 0 : ℕ) < 3 := (i 0).isLt; omega)
      (ix3 (0 : Fin 1) (⟨(i 1 : ℕ), h⟩ : Fin 1344) (i 2 : Fin 128))
  else Scalar.ofBits .bf16 0x0000#16

/-- The class that query block `i` may see on the device at place `p`. -/
def clsF (p : Fin 4) (i : ℕ) : Fin 3 := ⟨(3 - (i + p) % 3) % 3, Nat.mod_lt _ (by decide)⟩

/-- Rows of a head's queries: `n` rows from row `r` on, in block `g`. -/
def qRows (q : Vec F S4x256x1024 .bf16) (g : Fin 4) (k : Fin 8) (n r : ℕ) (hr : r + n ≤ 256) :
    Vec F ⟨3, ![1, n, 128]⟩ .bf16 := fun x =>
  q (ix3 g (⟨r + (x 1 : ℕ), by have : (x 1 : ℕ) < n := (x 1).isLt; omega⟩ : Fin 256)
    (⟨128 * k + (x 2 : ℕ), by have : (x 2 : ℕ) < 128 := (x 2).isLt; omega⟩ : Fin 1024))

/-- A class's rows. -/
def clsRow (f : Vec F S3x1408x128 .bf16) (c : Fin 3) : Vec F S1x1408x128 .bf16 :=
  fun x => f (ix3 c (x 1 : Fin 1408) (x 2 : Fin 128))

/-- The head's first four blocks. -/
def xRows (kh : Head F) : Vec F S1x256x128 .f32 :=
  fun x => kh ⟨(x 1 : ℕ), by have : (x 1 : ℕ) < 256 := (x 1).isLt; omega⟩ (x 2)

/-- What the trip for head `k` of block `g` reads. -/
def gotM (q : Vec F S4x256x1024 .bf16) (kh vh : Head F) (p : Fin 4) (g : Fin 4) (k : Fin 8) : Got F where
  kx := xRows kh
  vx := xRows vh
  q0 := qRows q g k 64 0 (by decide)
  q3 := qRows q g k 64 192 (by decide)
  k0 := clsRow (clsA kh) (clsF p 0)
  v0 := clsRow (clsA vh) (clsF p 0)
  q1 := qRows q g k 64 64 (by decide)
  k1 := clsRow (clsA kh) (clsF p 1)
  v1 := clsRow (clsA vh) (clsF p 1)
  q2 := qRows q g k 64 128 (by decide)
  k2 := clsRow (clsA kh) (clsF p 2)
  v2 := clsRow (clsA vh) (clsF p 2)
  q12 := qRows q g k 128 64 (by decide)

/-- The bias over a class of 22 blocks, the one over a class of 21, and the one over a device's first four blocks. -/
def t22M : FVec F S1x1408 .f32 := k0_pay513
def t21M : FVec F S1x1408 .f32 := k0_pay515 (iota .tc S1x1408 32 [1] iota_S1x1408_d1_w32) k0_pay514
def xbM (d0 : Dev nD) : FVec F S128x256 .f32 := k0_pay517 (Scalar.cmpi .eq (pW d0) 0#32) k0_pay516

/-- Head `h` of the keys or the values. -/
def headOf (A : Vec F S1x4096x32x128 .f32) (h : Fin 32) : Head F := fun a b => A (ix4 (0 : Fin 1) a h b)

/-- Head `k` of block `g`, among all thirty-two. -/
def hd (g : Fin 4) (k : Fin 8) : Fin 32 := ⟨8 * g + k, by omega⟩

/-- What device `d0` reads for head `k` of block `g`. -/
def gotD (q : Vec F S4x256x1024 .bf16) (K V : Vec F S1x4096x32x128 .f32) (d0 : Dev nD) (g : Fin 4) (k : Fin 8) : Got F :=
  gotM q (headOf K (hd g k)) (headOf V (hd g k)) d0 g k

/-- A query block's share of the result, from what was read. -/
def outB (d0 : Dev nD) (w : Got F) (i : ℕ) : FVec F S1x64x128 .bf16 :=
  match i with
  | 0 => out0 d0 t22M t21M w
  | 1 => out1 d0 t22M t21M (xbM d0) w
  | 2 => out2 d0 t22M t21M (xbM d0) w
  | _ => out3 d0 t22M t21M w

/-- The weighted values that device `d0` finds over its part of the keys: block of heads, query, head and lane. -/
def opM (q : Vec F S4x256x1024 .bf16) (K V : Vec F S1x4096x32x128 .f32) (d0 : Dev nD) : Vec F S4x256x1024 .bf16 := fun i =>
  outB d0 (gotD q K V d0 (i 0 : Fin 4)
      ⟨(i 2 : ℕ) / 128, by have : (i 2 : ℕ) < 1024 := (i 2).isLt; omega⟩) ((i 1 : ℕ) / 64)
    (ix3 (0 : Fin 1) (⟨(i 1 : ℕ) % 64, Nat.mod_lt _ (by decide)⟩ : Fin 64) (⟨(i 2 : ℕ) % 128, Nat.mod_lt _ (by decide)⟩ : Fin 128))

/-- The sums of the weights. -/
def lpM (q : Vec F S4x256x1024 .bf16) (K V : Vec F S1x4096x32x128 .f32) (d0 : Dev nD) : Vec F S4x8x256 .f32 := fun i =>
  outL d0 t22M t21M (xbM d0) (gotD q K V d0 (i 0 : Fin 4) (i 1 : Fin 8)) (ix3 (0 : Fin 1) (0 : Fin 1) (i 2 : Fin 256))

/-! ## Over the whole mesh -/

/-- The devices' inputs. -/
structure Ins (F : FTy → Type) where
  x : Dev nD → Vec F S1x256x1024 .f32
  wq : Dev nD → Vec F S1024x1024 .f32
  K : Dev nD → Vec F S1x4096x32x128 .f32
  V : Dev nD → Vec F S1x4096x32x128 .f32
  wo : Dev nD → Vec F S1024x1024 .f32

variable (I : Ins F)

/-- The queries: block `g` is device `g`'s. -/
def qAll : Vec F S4x256x1024 .bf16 := fun i =>
  k0_pay512 (I.x (i 0)) (I.wq (i 0)) (ix3 (0 : Fin 1) (i 1 : Fin 256) (i 2 : Fin 1024))

/-- Device `d`'s own weighted values and sums of weights. -/
def opD (d : Dev nD) : Vec F S4x256x1024 .bf16 := opM (qAll I) (I.K d) (I.V d) d
def lpD (d : Dev nD) : Vec F S4x8x256 .f32 := lpM (qAll I) (I.K d) (I.V d) d

/-- What device `c` has gathered of them for its own block of heads: slot `s` is device `s`'s. -/
def oaD (c : Dev nD) : Vec F S4x256x1024 .bf16 := fun i => opD I (i 0) (ix3 (c : Fin 4) (i 1 : Fin 256) (i 2 : Fin 1024))
def laD (c : Dev nD) : Vec F S4x8x256 .f32 := fun i => lpD I (i 0) (ix3 (c : Fin 4) (i 1 : Fin 8) (i 2 : Fin 256))

/-- Head `j`'s columns of every slot. -/
def oaCol (o : Vec F S4x256x1024 .bf16) (j : Fin 8) : Vec F S4x256x128 .bf16 := fun x =>
  o (ix3 (x 0 : Fin 4) (x 1 : Fin 256) (⟨128 * j + (x 2 : ℕ), by have : (x 2 : ℕ) < 128 := (x 2).isLt; omega⟩ : Fin 1024))

/-- A device's share of the output, from what it gathered. -/
def arM (o : Vec F S4x256x1024 .bf16) (l : Vec F S4x8x256 .f32) (wo : Vec F S1024x1024 .f32) : FVec F S1x256x1024 .bf16 :=
  k0_pay542 (k0_pay532 l) (k0_pay533 l (oaCol o 0)) (k0_pay534 l (oaCol o 1))
    (k0_pay537 (k0_pay535 (oaCol o 2)) (k0_pay536 l)) (k0_pay538 (k0_pay532 l) (oaCol o 3))
    (k0_pay539 (k0_pay532 l) (oaCol o 4)) (k0_pay540 (k0_pay532 l) (oaCol o 5)) (k0_pay541 (k0_pay532 l) (oaCol o 6))
    (oaCol o 7) wo

/-- The shares of all devices. -/
def arAll : Vec F S4x256x1024 .bf16 := fun i =>
  arM (oaD I (i 0)) (laD I (i 0)) (I.wo (i 0)) (ix3 (0 : Fin 1) (i 1 : Fin 256) (i 2 : Fin 1024))

/-- The result, the same on every device. -/
def resM : FVec F S1x256x1024 .f32 := k0_pay1 (arAll I)

end Cert.KernelIdeal.Own

end
-- ==== Proof.Geom.lean ====
module

public import proofs.«01_k».proof.Proof.Model

@[expose] public section

noncomputable section

/-! # Boxes, slots and counters

Which elements a slot of a buffer is, what a store into a box leaves, and which counter a slot of a counter array is. -/

namespace Cert.KernelIdeal.Own

open Idealize.ShloMosaic Idealize.ShloMosaic.TcCoe Idealize.SL.Sem
open Cert.KernelIdeal.Gen

/-! ## Boxes -/

section Box

variable {Val : EltTy → Type} {sp : Space} {s : Shape} {e : EltTy}

/-- Inside the box a store leaves what was stored. -/
theorem write_in {v : View sig .tc sp s e} (off size : Fin s.rank → ℕ) (h : ∀ a, off a + size a ≤ s.size a)
    (f : v.ty.Contents Val) (w : (Rect.unit off size h).shape.Idx → Val e) (x : (Rect.unit off size h).shape.Idx) (i : s.Idx)
    (hi : ∀ a, (i a : ℕ) = off a + (x a : ℕ)) :
    (v.slice (Rect.unit off size h)).write Val f w Finset.univ (v.emb i) = _root_.cast (congrArg Val v.elt_eq.symm) (w x) := by
  have e : (v.slice (Rect.unit off size h)).emb x = v.emb i := by
    show v.emb ((Rect.unit off size h).emb x) = v.emb i
    congr 1
    funext a
    apply Fin.ext
    rw [Rect.emb_apply, hi a]
    show off a + 1 * (x a : ℕ) = _
    rw [Nat.one_mul]
  rw [← e]
  exact View.write_emb_of_mem (v := v.slice (Rect.unit off size h)) f w (Finset.mem_univ x)

/-- Outside it leaves what was there. -/
theorem write_out {v : View sig .tc sp s e} (off size : Fin s.rank → ℕ) (h : ∀ a, off a + size a ≤ s.size a)
    (f : v.ty.Contents Val) (w : (Rect.unit off size h).shape.Idx → Val e) (i : s.Idx)
    (hi : ∃ a, ¬ (off a ≤ (i a : ℕ) ∧ (i a : ℕ) < off a + size a)) :
    (v.slice (Rect.unit off size h)).write Val f w Finset.univ (v.emb i) = f (v.emb i) := by
  apply View.write_of_not_mem
  intro hm
  have hm' : v.emb i ∈ (v.slice (Rect.unit off size h)).set := hm
  rw [View.set_slice, Finset.mem_map] at hm'
  obtain ⟨j, hj, hij⟩ := hm'
  have := v.emb.injective hij
  subst this
  obtain ⟨a, ha⟩ := hi
  exact ha ((Rect.mem_set_unit.mp hj) a)

end Box

/-! ## Slots -/

/-- Slot `s` of a buffer of four. -/
def slotsQ (s : Fin 4) : Finset S4x256x1024.Idx := Finset.univ.filter fun i => (i 0 : ℕ) = s
def slotsL (s : Fin 4) : Finset S4x8x256.Idx := Finset.univ.filter fun i => (i 0 : ℕ) = s
/-- Slot `s` of a landing buffer of two. -/
def slots2 (s : Fin 2) : Finset S2x4096x128.Idx := Finset.univ.filter fun i => (i 0 : ℕ) = s
/-- Head `h` of the keys or the values. -/
def headSet (h : Fin 32) : Finset S1x4096x32x128.Idx := Finset.univ.filter fun i => (i 2 : ℕ) = h

abbrev slotQ (b : Memref sig .tc .vmem S4x256x1024 .bf16) (off : Fin 3 → ℕ)
    (h : ∀ a, off a + S1x256x1024.size a ≤ S4x256x1024.size a) : Memref sig .tc .vmem S256x1024 .bf16 :=
  (b.slice (Rect.unit (s := S4x256x1024) off S1x256x1024.size h) (fun _ => rfl)).squeeze S256x1024
    squeezes_S1x256x1024_S256x1024
abbrev slotL (b : Memref sig .tc .vmem S4x8x256 .f32) (off : Fin 3 → ℕ)
    (h : ∀ a, off a + S1x8x256.size a ≤ S4x8x256.size a) : Memref sig .tc .vmem S8x256 .f32 :=
  (b.slice (Rect.unit (s := S4x8x256) off S1x8x256.size h) (fun _ => rfl)).squeeze S8x256
    squeezes_S1x8x256_S8x256

theorem box_slotsQ {off : Fin 3 → ℕ} (h : ∀ a, off a + S1x256x1024.size a ≤ S4x256x1024.size a) {s : Fin 4}
    (e : off = ![(s : ℕ), 0, 0]) : (Rect.unit (s := S4x256x1024) off S1x256x1024.size h).set = slotsQ s := by
  subst e
  ext i
  rw [Rect.mem_set_unit, slotsQ, Finset.mem_filter]
  constructor
  · intro hm
    have h0 := hm 0
    refine ⟨Finset.mem_univ _, ?_⟩
    have : (s : ℕ) ≤ (i 0 : ℕ) ∧ (i 0 : ℕ) < (s : ℕ) + 1 := h0
    omega
  · rintro ⟨-, hs⟩ a
    have hs' : (i 0 : ℕ) = (s : ℕ) := hs
    match a with
    | ⟨0, _⟩ => exact ⟨(Nat.le_of_eq hs'.symm : (s : ℕ) ≤ (i 0 : ℕ)), (by omega : (i 0 : ℕ) < (s : ℕ) + 1)⟩
    | ⟨1, _⟩ => exact ⟨Nat.zero_le _, (by have : (i 1 : ℕ) < 256 := (i 1).isLt; omega : (i 1 : ℕ) < 0 + 256)⟩
    | ⟨2, _⟩ => exact ⟨Nat.zero_le _, (by have : (i 2 : ℕ) < 1024 := (i 2).isLt; omega : (i 2 : ℕ) < 0 + 1024)⟩

theorem box_slotsL {off : Fin 3 → ℕ} (h : ∀ a, off a + S1x8x256.size a ≤ S4x8x256.size a) {s : Fin 4}
    (e : off = ![(s : ℕ), 0, 0]) : (Rect.unit (s := S4x8x256) off S1x8x256.size h).set = slotsL s := by
  subst e
  ext i
  rw [Rect.mem_set_unit, slotsL, Finset.mem_filter]
  constructor
  · intro hm
    have h0 := hm 0
    refine ⟨Finset.mem_univ _, ?_⟩
    have : (s : ℕ) ≤ (i 0 : ℕ) ∧ (i 0 : ℕ) < (s : ℕ) + 1 := h0
    omega
  · rintro ⟨-, hs⟩ a
    have hs' : (i 0 : ℕ) = (s : ℕ) := hs
    match a with
    | ⟨0, _⟩ => exact ⟨(Nat.le_of_eq hs'.symm : (s : ℕ) ≤ (i 0 : ℕ)), (by omega : (i 0 : ℕ) < (s : ℕ) + 1)⟩
    | ⟨1, _⟩ => exact ⟨Nat.zero_le _, (by have : (i 1 : ℕ) < 8 := (i 1).isLt; omega : (i 1 : ℕ) < 0 + 8)⟩
    | ⟨2, _⟩ => exact ⟨Nat.zero_le _, (by have : (i 2 : ℕ) < 256 := (i 2).isLt; omega : (i 2 : ℕ) < 0 + 256)⟩

theorem box_slots2 {off : Fin 3 → ℕ} (h : ∀ a, off a + S1x4096x128.size a ≤ S2x4096x128.size a) {s : Fin 2}
    (e : off = ![(s : ℕ), 0, 0]) : (Rect.unit (s := S2x4096x128) off S1x4096x128.size h).set = slots2 s := by
  subst e
  ext i
  rw [Rect.mem_set_unit, slots2, Finset.mem_filter]
  constructor
  · intro hm
    have h0 := hm 0
    refine ⟨Finset.mem_univ _, ?_⟩
    have : (s : ℕ) ≤ (i 0 : ℕ) ∧ (i 0 : ℕ) < (s : ℕ) + 1 := h0
    omega
  · rintro ⟨-, hs⟩ a
    have hs' : (i 0 : ℕ) = (s : ℕ) := hs
    match a with
    | ⟨0, _⟩ => exact ⟨(Nat.le_of_eq hs'.symm : (s : ℕ) ≤ (i 0 : ℕ)), (by omega : (i 0 : ℕ) < (s : ℕ) + 1)⟩
    | ⟨1, _⟩ => exact ⟨Nat.zero_le _, (by have : (i 1 : ℕ) < 4096 := (i 1).isLt; omega : (i 1 : ℕ) < 0 + 4096)⟩
    | ⟨2, _⟩ => exact ⟨Nat.zero_le _, (by have : (i 2 : ℕ) < 128 := (i 2).isLt; omega : (i 2 : ℕ) < 0 + 128)⟩

theorem box_head {off : Fin 4 → ℕ} (h : ∀ a, off a + S1x4096x1x128.size a ≤ S1x4096x32x128.size a) {k : Fin 32}
    (e : off = ![0, 0, (k : ℕ), 0]) : (Rect.unit (s := S1x4096x32x128) off S1x4096x1x128.size h).set = headSet k := by
  subst e
  ext i
  rw [Rect.mem_set_unit, headSet, Finset.mem_filter]
  constructor
  · intro hm
    have h0 := hm 2
    refine ⟨Finset.mem_univ _, ?_⟩
    have : (k : ℕ) ≤ (i 2 : ℕ) ∧ (i 2 : ℕ) < (k : ℕ) + 1 := h0
    omega
  · rintro ⟨-, hs⟩ a
    have hs' : (i 2 : ℕ) = (k : ℕ) := hs
    match a with
    | ⟨0, _⟩ => exact ⟨Nat.zero_le _, (by have : (i 0 : ℕ) < 1 := (i 0).isLt; omega : (i 0 : ℕ) < 0 + 1)⟩
    | ⟨1, _⟩ => exact ⟨Nat.zero_le _, (by have : (i 1 : ℕ) < 4096 := (i 1).isLt; omega : (i 1 : ℕ) < 0 + 4096)⟩
    | ⟨2, _⟩ => exact ⟨(Nat.le_of_eq hs'.symm : (k : ℕ) ≤ (i 2 : ℕ)), (by omega : (i 2 : ℕ) < (k : ℕ) + 1)⟩
    | ⟨3, _⟩ => exact ⟨Nat.zero_le _, (by have : (i 3 : ℕ) < 128 := (i 3).isLt; omega : (i 3 : ℕ) < 0 + 128)⟩

/-! ## Landings -/

section Land

variable {Val : EltTy → Type} {sp sp' : Space} {s s' t : Shape} {e : EltTy}

/-- A copy between two boxes of one shape, both squeezed alike: element `y` of the one box lands at element `y` of the
other. -/
theorem land_box (v : View sig .tc sp s e) (v' : View sig .tc sp' s' e) (r : Rect s) (r' : Rect s')
    (h : t.numel = r.shape.numel) (h' : t.numel = r'.shape.numel) (x : t.Idx) (g : v.ty.Contents Val)
    (f : v'.ty.Contents Val) :
    ((v'.slice r').reshape t h').write Val f (((v.slice r).reshape t h).read Val g) Finset.univ
        (v'.emb (r'.emb (Shape.reshapeEquiv h' x)))
      = _root_.cast (congrArg Val v'.elt_eq.symm) (v.read Val g (r.emb (Shape.reshapeEquiv h x))) :=
  View.write_emb_of_mem (v := (v'.slice r').reshape t h') f _ (Finset.mem_univ x)

theorem reshape_ix2_ix3 (h : S4096x128.numel = S1x4096x128.numel) (a : Fin 4096) (b : Fin 128) :
    Shape.reshapeEquiv h (ix2 a b) = ix3 (0 : Fin 1) a b :=
  Shape.reshapeEquiv_eq_of_rowMajor h (by
    rw [Shape.rowMajor_val_two, Shape.rowMajor_val_three]
    show ((0 : ℕ) * 4096 + (a : ℕ)) * 128 + (b : ℕ) = (a : ℕ) * 128 + b
    omega)
theorem reshape_ix2_ix4 (h : S4096x128.numel = S1x4096x1x128.numel) (a : Fin 4096) (b : Fin 128) :
    Shape.reshapeEquiv h (ix2 a b) = ix4 (0 : Fin 1) a (0 : Fin 1) b :=
  Shape.reshapeEquiv_eq_of_rowMajor h (by
    rw [Shape.rowMajor_val_two, Shape.rowMajor_val_four]
    show (((0 : ℕ) * 4096 + (a : ℕ)) * 1 + 0) * 128 + (b : ℕ) = (a : ℕ) * 128 + b
    omega)

/-- A slot's copy into a slot. -/
theorem land_slotQ (v v' : View sig .tc sp S4x256x1024 e) {off off' : Fin 3 → ℕ}
    (h : ∀ a, off a + S1x256x1024.size a ≤ S4x256x1024.size a) (h' : ∀ a, off' a + S1x256x1024.size a ≤ S4x256x1024.size a)
    {s s' : Fin 4} (e₁ : off = ![(s : ℕ), 0, 0]) (e₂ : off' = ![(s' : ℕ), 0, 0]) (hr : S256x1024.numel = S1x256x1024.numel)
    (g : v.ty.Contents Val) (f : v'.ty.Contents Val) (i : S4x256x1024.Idx) (hi : (i 0 : ℕ) = s') :
    ((v'.slice (Rect.unit (s := S4x256x1024) off' S1x256x1024.size h')).reshape S256x1024 hr).write Val f
        (((v.slice (Rect.unit (s := S4x256x1024) off S1x256x1024.size h)).reshape S256x1024 hr).read Val g) Finset.univ (v'.emb i)
      = _root_.cast (congrArg Val v'.elt_eq.symm) (v.read Val g (ix3 s (i 1 : Fin 256) (i 2 : Fin 1024))) := by
  subst e₁ e₂
  have key := land_box (t := S256x1024) v v' (Rect.unit (s := S4x256x1024) _ S1x256x1024.size h)
    (Rect.unit (s := S4x256x1024) _ S1x256x1024.size h') hr hr
    ((Shape.reshapeEquiv hr).symm (ix3 (0 : Fin 1) (i 1 : Fin 256) (i 2 : Fin 1024))) g f
  rw [Equiv.apply_symm_apply] at key
  have e1 : (Rect.unit (s := S4x256x1024) ![(s' : ℕ), 0, 0] S1x256x1024.size h').emb
      (ix3 (0 : Fin 1) (i 1 : Fin 256) (i 2 : Fin 1024)) = i := by
    funext a
    apply Fin.ext
    rw [Rect.emb_apply]
    match a with
    | ⟨0, _⟩ => show (s' : ℕ) + 1 * 0 = (i 0 : ℕ); omega
    | ⟨1, _⟩ => show 0 + 1 * (i 1 : ℕ) = (i 1 : ℕ); omega
    | ⟨2, _⟩ => show 0 + 1 * (i 2 : ℕ) = (i 2 : ℕ); omega
  have e2 : (Rect.unit (s := S4x256x1024) ![(s : ℕ), 0, 0] S1x256x1024.size h).emb
      (ix3 (0 : Fin 1) (i 1 : Fin 256) (i 2 : Fin 1024)) = ix3 s (i 1 : Fin 256) (i 2 : Fin 1024) := by
    funext a
    apply Fin.ext
    rw [Rect.emb_apply]
    match a with
    | ⟨0, _⟩ => show (s : ℕ) + 1 * 0 = (s : ℕ); omega
    | ⟨1, _⟩ => show 0 + 1 * (i 1 : ℕ) = (i 1 : ℕ); omega
    | ⟨2, _⟩ => show 0 + 1 * (i 2 : ℕ) = (i 2 : ℕ); omega
  rw [e1, e2] at key
  exact key

theorem land_slotL (v v' : View sig .tc sp S4x8x256 e) {off off' : Fin 3 → ℕ}
    (h : ∀ a, off a + S1x8x256.size a ≤ S4x8x256.size a) (h' : ∀ a, off' a + S1x8x256.size a ≤ S4x8x256.size a)
    {s s' : Fin 4} (e₁ : off = ![(s : ℕ), 0, 0]) (e₂ : off' = ![(s' : ℕ), 0, 0]) (hr : S8x256.numel = S1x8x256.numel)
    (g : v.ty.Contents Val) (f : v'.ty.Contents Val) (i : S4x8x256.Idx) (hi : (i 0 : ℕ) = s') :
    ((v'.slice (Rect.unit (s := S4x8x256) off' S1x8x256.size h')).reshape S8x256 hr).write Val f
        (((v.slice (Rect.unit (s := S4x8x256) off S1x8x256.size h)).reshape S8x256 hr).read Val g) Finset.univ (v'.emb i)
      = _root_.cast (congrArg Val v'.elt_eq.symm) (v.read Val g (ix3 s (i 1 : Fin 8) (i 2 : Fin 256))) := by
  subst e₁ e₂
  have key := land_box (t := S8x256) v v' (Rect.unit (s := S4x8x256) _ S1x8x256.size h)
    (Rect.unit (s := S4x8x256) _ S1x8x256.size h') hr hr
    ((Shape.reshapeEquiv hr).symm (ix3 (0 : Fin 1) (i 1 : Fin 8) (i 2 : Fin 256))) g f
  rw [Equiv.apply_symm_apply] at key
  have e1 : (Rect.unit (s := S4x8x256) ![(s' : ℕ), 0, 0] S1x8x256.size h').emb
      (ix3 (0 : Fin 1) (i 1 : Fin 8) (i 2 : Fin 256)) = i := by
    funext a
    apply Fin.ext
    rw [Rect.emb_apply]
    match a with
    | ⟨0, _⟩ => show (s' : ℕ) + 1 * 0 = (i 0 : ℕ); omega
    | ⟨1, _⟩ => show 0 + 1 * (i 1 : ℕ) = (i 1 : ℕ); omega
    | ⟨2, _⟩ => show 0 + 1 * (i 2 : ℕ) = (i 2 : ℕ); omega
  have e2 : (Rect.unit (s := S4x8x256) ![(s : ℕ), 0, 0] S1x8x256.size h).emb
      (ix3 (0 : Fin 1) (i 1 : Fin 8) (i 2 : Fin 256)) = ix3 s (i 1 : Fin 8) (i 2 : Fin 256) := by
    funext a
    apply Fin.ext
    rw [Rect.emb_apply]
    match a with
    | ⟨0, _⟩ => show (s : ℕ) + 1 * 0 = (s : ℕ); omega
    | ⟨1, _⟩ => show 0 + 1 * (i 1 : ℕ) = (i 1 : ℕ); omega
    | ⟨2, _⟩ => show 0 + 1 * (i 2 : ℕ) = (i 2 : ℕ); omega
  rw [e1, e2] at key
  exact key

/-- A head's copy into a slot of a landing buffer. -/
theorem land_head (v : View sig .tc sp S1x4096x32x128 e) (v' : View sig .tc sp' S2x4096x128 e) {off : Fin 4 → ℕ}
    {off' : Fin 3 → ℕ} (h : ∀ a, off a + S1x4096x1x128.size a ≤ S1x4096x32x128.size a)
    (h' : ∀ a, off' a + S1x4096x128.size a ≤ S2x4096x128.size a)
    {k : Fin 32} {s' : Fin 2} (e₁ : off = ![0, 0, (k : ℕ), 0]) (e₂ : off' = ![(s' : ℕ), 0, 0])
    (hr : S4096x128.numel = S1x4096x1x128.numel) (hr' : S4096x128.numel = S1x4096x128.numel)
    (g : v.ty.Contents Val) (f : v'.ty.Contents Val) (i : S2x4096x128.Idx) (hi : (i 0 : ℕ) = s') :
    ((v'.slice (Rect.unit (s := S2x4096x128) off' S1x4096x128.size h')).reshape S4096x128 hr').write Val f
        (((v.slice (Rect.unit (s := S1x4096x32x128) off S1x4096x1x128.size h)).reshape S4096x128 hr).read Val g) Finset.univ (v'.emb i)
      = _root_.cast (congrArg Val v'.elt_eq.symm) (v.read Val g (ix4 (0 : Fin 1) (i 1 : Fin 4096) k (i 2 : Fin 128))) := by
  subst e₁ e₂
  have key := land_box (t := S4096x128) v v' (Rect.unit (s := S1x4096x32x128) _ S1x4096x1x128.size h)
    (Rect.unit (s := S2x4096x128) _ S1x4096x128.size h') hr hr' (ix2 (i 1 : Fin 4096) (i 2 : Fin 128)) g f
  rw [show Shape.reshapeEquiv hr' (ix2 (i 1 : Fin 4096) (i 2 : Fin 128)) = _ from reshape_ix2_ix3 hr' _ _,
    show Shape.reshapeEquiv hr (ix2 (i 1 : Fin 4096) (i 2 : Fin 128)) = _ from reshape_ix2_ix4 hr _ _] at key
  have e1 : (Rect.unit (s := S2x4096x128) ![(s' : ℕ), 0, 0] S1x4096x128.size h').emb
      (ix3 (0 : Fin 1) (i 1 : Fin 4096) (i 2 : Fin 128)) = i := by
    funext a
    apply Fin.ext
    rw [Rect.emb_apply]
    match a with
    | ⟨0, _⟩ => show (s' : ℕ) + 1 * 0 = (i 0 : ℕ); omega
    | ⟨1, _⟩ => show 0 + 1 * (i 1 : ℕ) = (i 1 : ℕ); omega
    | ⟨2, _⟩ => show 0 + 1 * (i 2 : ℕ) = (i 2 : ℕ); omega
  have e2 : (Rect.unit (s := S1x4096x32x128) ![0, 0, (k : ℕ), 0] S1x4096x1x128.size h).emb
      (ix4 (0 : Fin 1) (i 1 : Fin 4096) (0 : Fin 1) (i 2 : Fin 128)) = ix4 (0 : Fin 1) (i 1 : Fin 4096) k (i 2 : Fin 128) := by
    funext a
    apply Fin.ext
    rw [Rect.emb_apply]
    match a with
    | ⟨0, _⟩ => rfl
    | ⟨1, _⟩ => show 0 + 1 * (i 1 : ℕ) = (i 1 : ℕ); omega
    | ⟨2, _⟩ => show (k : ℕ) + 1 * 0 = (k : ℕ); omega
    | ⟨3, _⟩ => show 0 + 1 * (i 2 : ℕ) = (i 2 : ℕ); omega
  rw [e1, e2] at key
  exact key

end Land

/-! ## Counters -/

/-- A device's counters on its sends to slot `t`, and on its receipts into slot `s`, of family `e`: 0 the queries, 1 the
weighted values, 2 the sums of the weights, 3 the shares of the output. -/
def sendS (e t : Fin 4) : DmaSem sig := ⟨8 + 8 * (e : ℕ) + t, by have : (40 : ℕ) = 40 := rfl; show _ < 40; omega⟩
def recvS (e s : Fin 4) : DmaSem sig := ⟨12 + 8 * (e : ℕ) + s, by show _ < 40; omega⟩

theorem sem_at4 {base : ℕ} (hb : base + S4.numel ≤ 40) {off : Fin 1 → ℕ} (h : ∀ a, off a + S1.size a ≤ S4.size a) {s : Fin 4}
    (e : off = ![(s : ℕ)]) :
    (((SemArray.consecutive (n := 40) base S4 hb).slice (Rect.unit (s := S4) off S1.size h)).squeeze S_ squeezes_S1_S_).sem
      = ⟨base + s, by have : S4.numel = 4 := by decide
                      omega⟩ := by
  subst e
  apply Fin.ext
  show base + _ = base + (s : ℕ)
  congr 1
  rw [Shape.rowMajor_val_one, Rect.emb_apply]
  show (s : ℕ) + 1 * (_ : ℕ) = s
  have h0 : ∀ x : Fin 1, (x : ℕ) = 0 := fun x => by omega
  exact (congrArg (fun n => (s : ℕ) + 1 * n) (h0 _)).trans (by omega)

theorem sem_at2 {base : ℕ} (hb : base + S2.numel ≤ 40) {off : Fin 1 → ℕ} (h : ∀ a, off a + S1.size a ≤ S2.size a) {s : Fin 2}
    (e : off = ![(s : ℕ)]) :
    (((SemArray.consecutive (n := 40) base S2 hb).slice (Rect.unit (s := S2) off S1.size h)).squeeze S_ squeezes_S1_S_).sem
      = ⟨base + s, by have : S2.numel = 2 := by decide
                      omega⟩ := by
  subst e
  apply Fin.ext
  show base + _ = base + (s : ℕ)
  congr 1
  rw [Shape.rowMajor_val_one, Rect.emb_apply]
  show (s : ℕ) + 1 * (_ : ℕ) = s
  have h0 : ∀ x : Fin 1, (x : ℕ) = 0 := fun x => by omega
  exact (congrArg (fun n => (s : ℕ) + 1 * n) (h0 _)).trans (by omega)

end Cert.KernelIdeal.Own

end
-- ==== Proof.Protocol.lean ====
module

public import proofs.«01_k».proof.Proof.Geom
public import Idealize.ShloMosaic.Lib.Pipeline.Launch
public import Idealize.ShloMosaic.Lib.Pipeline.Kit
public import Idealize.ShloMosaic.Lib.Transfers
public import Idealize.ShloMosaic.Lib.Tactic

@[expose] public section

noncomputable section

/-! # The protocol

Four devices. Device `c`'s barrier counter gets one unit from each of the three others, before any of them is copied to:
with its unit device `j` hands over the four slots of its own buffers that `c` copies into.

Four families of copies, each from every device to every other, each on a counter pair of its own that is used once:

* 0, the queries: `c` copies slot `c` of its query buffer into slot `c` of `j`'s. The three copies read one slot, each
  at a share of it;
* 1 and 2, the weighted values and the sums of the weights: `c` copies slot `j` of its buffer into slot `c` of `j`'s
  gathering buffer;
* 3, the shares of the output: as the queries.

A receipt hands the slot over holding what the sender's buffer held; a send's own counter hands back the source. -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Shares of a slot that three copies read -/

/-- The share kept (0), and the shares the copies one, two and three places around the mesh read at. -/
def qsh : Fin 4 → PosShare TreeShare
  | 0 => fullShare.left
  | 1 => fullShare.right.left
  | 2 => fullShare.right.right.left
  | 3 => fullShare.right.right.right

/-! ## Cells -/

abbrev barS : Sem sig := (SemArray.scalar (sig.barrier 0 rfl) : Sems sig S_).sem
abbrev barC (c : Dev nD) : GSem nD τ sig := ((c : Thread nD τ), .reg barS)
abbrev sendC (c : Dev nD) (e t : Fin 4) : GSem nD τ sig := ((c : Thread nD τ), .dma (sendS e t))
abbrev recvC (c : Dev nD) (e s : Fin 4) : GSem nD τ sig := ((c : Thread nD τ), .dma (recvS e s))

/-- The units a copy of a slot counts. -/
def NQ : ℕ := (slotQ (Memref.whole cc0_scratch0) ![0, 0, 0] (by decide)).view.dmaCredit
def NL : ℕ := (slotL (Memref.whole cc0_scratch6) ![0, 0, 0] (by decide)).view.dmaCredit
theorem NQ_pos : 0 < NQ := View.dmaCredit_pos _ (by decide)
theorem NL_pos : 0 < NL := View.dmaCredit_pos _ (by decide)
/-- The units of a family's copies. -/
def amt (e : Fin 4) : ℕ := if e = 2 then NL else NQ
theorem amt_pos (e : Fin 4) : 0 < amt e := by unfold amt; split; exacts [NL_pos, NQ_pos]

/-- The family and the slot of a counter. -/
def fam (n : DmaSem sig) : Fin 4 := ⟨((n : ℕ) - 8) / 8 % 4, Nat.mod_lt _ (by decide)⟩
def slt (n : DmaSem sig) : Fin 4 := ⟨(n : ℕ) % 4, Nat.mod_lt _ (by decide)⟩
def isSend (n : DmaSem sig) : Bool := (n : ℕ) / 4 % 2 == 0

theorem fam_send (e t : Fin 4) : fam (sendS e t) = e := by revert e t; decide
theorem fam_recv (e t : Fin 4) : fam (recvS e t) = e := by revert e t; decide
theorem slt_send (e t : Fin 4) : slt (sendS e t) = t := by revert e t; decide
theorem slt_recv (e t : Fin 4) : slt (recvS e t) = t := by revert e t; decide
theorem isSend_send (e t : Fin 4) : isSend (sendS e t) = true := by revert e t; decide
theorem isSend_recv (e t : Fin 4) : isSend (recvS e t) = false := by revert e t; decide

/-! ## The schedule -/

section Pay

variable (I : Ins F)

/-- Device `j`'s slots that device `c` copies into. -/
def barPay (c j : Dev nD) : sProp 𝕄 :=
  iprop((∃ f, ((j : Thread nD τ).loc cc0_scratch0) ↦[slotsQ c]{fullShare} f)
    ∗ (∃ f, ((j : Thread nD τ).loc cc0_scratch7) ↦[slotsQ c]{fullShare} f)
    ∗ (∃ f, ((j : Thread nD τ).loc cc0_scratch8) ↦[slotsL c]{fullShare} f)
    ∗ (∃ f, ((j : Thread nD τ).loc cc0_scratch9) ↦[slotsQ c]{fullShare} f))

/-- What device `c`'s send to `t` gives back. -/
def sendPay (e : Fin 4) (c t : Dev nD) : sProp 𝕄 := match e with
  | 0 => ((c : Thread nD τ).loc cc0_scratch0) ↦[slotsQ c]{qsh (t - c)} qAll I
  | 1 => ((c : Thread nD τ).loc cc0_scratch5) ↦[slotsQ t]{fullShare} opD I c
  | 2 => ((c : Thread nD τ).loc cc0_scratch6) ↦[slotsL t]{fullShare} lpD I c
  | 3 => ((c : Thread nD τ).loc cc0_scratch9) ↦[slotsQ c]{qsh (t - c)} arAll I

/-- What device `c` receives from `s`. -/
def recvPay (e : Fin 4) (c s : Dev nD) : sProp 𝕄 := match e with
  | 0 => ((c : Thread nD τ).loc cc0_scratch0) ↦[slotsQ s]{fullShare} qAll I
  | 1 => ((c : Thread nD τ).loc cc0_scratch7) ↦[slotsQ s]{fullShare} oaD I c
  | 2 => ((c : Thread nD τ).loc cc0_scratch8) ↦[slotsL s]{fullShare} laD I c
  | 3 => ((c : Thread nD τ).loc cc0_scratch9) ↦[slotsQ s]{fullShare} arAll I

instance barPay_storable (c j : Dev nD) : BI.Storable (upEmb : UEmb _ 𝕄) (barPay (F := F) c j) := by unfold barPay; infer_instance
instance sendPay_storable (e : Fin 4) (c t : Dev nD) : BI.Storable (upEmb : UEmb _ 𝕄) (sendPay I e c t) := by
  unfold sendPay; split <;> infer_instance
instance recvPay_storable (e : Fin 4) (c t : Dev nD) : BI.Storable (upEmb : UEmb _ 𝕄) (recvPay I e c t) := by
  unfold recvPay; split <;> infer_instance

/-- The parties that pay on a counter of device `p`: on the barrier the other devices, on a copy's counter one. -/
def dutyOf (p : Dev nD) : SemLoc sig → Finset (Fin 4)
  | .reg _ => Finset.univ.erase p
  | .dma n => if 8 ≤ (n : ℕ) ∧ slt n ≠ p then {0} else ∅
def amtOf : SemLoc sig → ℕ
  | .reg _ => 1
  | .dma n => amt (fam n)
def payOf (c : Dev nD) (d : Fin 4) : SemLoc sig → sProp 𝕄
  | .reg _ => barPay c d
  | .dma n => if isSend n = true then sendPay I (fam n) c (slt n) else recvPay I (fam n) c (slt n)

def Rd : Rounds.Schedule (GSem nD τ sig) (Fin 4) 𝕄 where
  duties g r := if r = 0 ∧ g.1.2 = .tc then dutyOf g.1.1 g.2 else ∅
  unitless _ := False
  amount g _ _ := amtOf g.2
  payload g _ d := payOf I g.1.1 d g.2
  amount_pos g _ _ _ := by
    show 0 < amtOf g.2
    cases g.2 with
    | reg _ => exact Nat.one_pos
    | dma n => exact amt_pos _

instance Rd_payload_storable (g : GSem nD τ sig) (r : ℕ) (d : Fin 4) :
    BI.Storable (upEmb : UEmb _ 𝕄) ((Rd I).payload g r d) := by
  show BI.Storable upEmb (payOf I g.1.1 d g.2)
  cases g.2 with
  | reg _ => unfold payOf; infer_instance
  | dma n =>
    show BI.Storable upEmb (if isSend n = true then sendPay I (fam n) g.1.1 (slt n) else recvPay I (fam n) g.1.1 (slt n))
    split
    · exact sendPay_storable I _ _ _
    · exact recvPay_storable I _ _ _

theorem duties_zero (c : Dev nD) (sm : SemLoc sig) : (Rd I).duties ((c : Thread nD τ), sm) 0 = dutyOf c sm := by
  dsimp only [Rd]; exact if_pos ⟨rfl, rfl⟩
theorem duties_bar (c : Dev nD) : (Rd I).duties (barC c) 0 = Finset.univ.erase c := duties_zero I c _
theorem duties_send {c : Dev nD} {e t : Fin 4} (h : t ≠ c) : (Rd I).duties (sendC c e t) 0 = {0} := by
  have h1 : (Rd I).duties (sendC c e t) 0 = dutyOf c (.dma (sendS e t)) := duties_zero I c _
  rw [h1]
  exact if_pos ⟨by show 8 ≤ 8 + 8 * (e : ℕ) + t; omega, by rw [slt_send]; exact h⟩
theorem duties_recv {c : Dev nD} {e s : Fin 4} (h : s ≠ c) : (Rd I).duties (recvC c e s) 0 = {0} := by
  have h1 : (Rd I).duties (recvC c e s) 0 = dutyOf c (.dma (recvS e s)) := duties_zero I c _
  rw [h1]
  exact if_pos ⟨by show 8 ≤ 12 + 8 * (e : ℕ) + s; omega, by rw [slt_recv]; exact h⟩
theorem duties_later (g : GSem nD τ sig) : ∀ r, 1 ≤ r → (Rd I).duties g r = ∅ :=
  fun r hr => by dsimp only [Rd]; exact if_neg fun h => by omega
theorem duties_own_send (c : Dev nD) (e : Fin 4) : ∀ r, 0 ≤ r → (Rd I).duties (sendC c e c) r = ∅ := by
  intro r _
  by_cases hr : r = 0
  · subst hr
    have h1 : (Rd I).duties (sendC c e c) 0 = dutyOf c (.dma (sendS e c)) := duties_zero I c _
    rw [h1]
    exact if_neg fun h => h.2 (slt_send e c)
  · exact duties_later I _ r (Nat.one_le_iff_ne_zero.mpr hr)
theorem duties_own_recv (c : Dev nD) (e : Fin 4) : ∀ r, 0 ≤ r → (Rd I).duties (recvC c e c) r = ∅ := by
  intro r _
  by_cases hr : r = 0
  · subst hr
    have h1 : (Rd I).duties (recvC c e c) 0 = dutyOf c (.dma (recvS e c)) := duties_zero I c _
    rw [h1]
    exact if_neg fun h => h.2 (slt_recv e c)
  · exact duties_later I _ r (Nat.one_le_iff_ne_zero.mpr hr)

theorem amount_bar (c d : Dev nD) : (Rd I).amount (barC c) 0 d = 1 := rfl
theorem amount_send (c : Dev nD) (e t d : Fin 4) : (Rd I).amount (sendC c e t) 0 d = amt e := by
  show amt (fam (sendS e t)) = _; rw [fam_send]
theorem amount_recv (c : Dev nD) (e t d : Fin 4) : (Rd I).amount (recvC c e t) 0 d = amt e := by
  show amt (fam (recvS e t)) = _; rw [fam_recv]

theorem expect_bar (c : Dev nD) : (Rd I).expect (barC c) 0 = 3 := by
  unfold Schedule.expect Schedule.amountOf
  rw [duties_bar, Finset.sum_congr rfl fun d _ => amount_bar I c d, Finset.sum_const, Finset.card_erase_of_mem (Finset.mem_univ c)]
  rfl
theorem expect_send {c : Dev nD} {e t : Fin 4} (h : t ≠ c) : (Rd I).expect (sendC c e t) 0 = amt e := by
  unfold Schedule.expect Schedule.amountOf; rw [duties_send I h, Finset.sum_singleton, amount_send]
theorem expect_recv {c : Dev nD} {e t : Fin 4} (h : t ≠ c) : (Rd I).expect (recvC c e t) 0 = amt e := by
  unfold Schedule.expect Schedule.amountOf; rw [duties_recv I h, Finset.sum_singleton, amount_recv]

theorem payload_bar (c d : Dev nD) : (Rd I).payload (barC c) 0 d = barPay c d := rfl
theorem payload_send (c : Dev nD) (e t d : Fin 4) : (Rd I).payload (sendC c e t) 0 d = sendPay I e c t := by
  show (if isSend (sendS e t) = true then sendPay I (fam (sendS e t)) c (slt (sendS e t)) else recvPay I (fam (sendS e t)) c (slt (sendS e t))) = _
  rw [if_pos (isSend_send e t), fam_send, slt_send]
theorem payload_recv (c : Dev nD) (e t d : Fin 4) : (Rd I).payload (recvC c e t) 0 d = recvPay I e c t := by
  show (if isSend (recvS e t) = true then sendPay I (fam (recvS e t)) c (slt (recvS e t)) else recvPay I (fam (recvS e t)) c (slt (recvS e t))) = _
  rw [if_neg (by rw [isSend_recv]; decide), fam_recv, slt_recv]

/-- The devices one, two and three places around from `c`. -/
abbrev around (c : Dev nD) (w : Fin 4) : Dev nD := (c : Fin 4) + w

theorem erase_self (c : Dev nD) : (Finset.univ.erase c : Finset (Fin 4)) = {around c 1, around c 2, around c 3} := by
  revert c; decide

theorem rest_bar (c : Dev nD) : bigSep ((Rd I).duties (barC c) 0 \ ∅) (fun d => (Rd I).payload (barC c) 0 d)
    = iprop(barPay c (around c 1) ∗ barPay c (around c 2) ∗ barPay c (around c 3)) := by
  rw [Finset.sdiff_empty, duties_bar, erase_self, bigSep_insert (by revert c; decide), bigSep_insert (by revert c; decide), bigSep_singleton]
  rfl
theorem rest_send {c : Dev nD} {e t : Fin 4} (h : t ≠ c) :
    bigSep ((Rd I).duties (sendC c e t) 0 \ ∅) (fun d => (Rd I).payload (sendC c e t) 0 d) = sendPay I e c t := by
  rw [Finset.sdiff_empty, duties_send I h, bigSep_singleton, payload_send]
theorem rest_recv {c : Dev nD} {e t : Fin 4} (h : t ≠ c) :
    bigSep ((Rd I).duties (recvC c e t) 0 \ ∅) (fun d => (Rd I).payload (recvC c e t) 0 d) = recvPay I e c t := by
  rw [Finset.sdiff_empty, duties_recv I h, bigSep_singleton, payload_recv]

end Pay

/-! ## What is owed, and the levels -/

/-- What device `c` pays to others, in the order it pays it. -/
def owedL (c : Dev nD) : List (GSem nD τ sig × ℕ) :=
  [(barC (around c 1), 1), (barC (around c 2), 1), (barC (around c 3), 1),
   (recvC (around c 1) 0 c, amt 0), (recvC (around c 2) 0 c, amt 0), (recvC (around c 3) 0 c, amt 0),
   (recvC (around c 1) 1 c, amt 1), (recvC (around c 1) 2 c, amt 2),
   (recvC (around c 2) 1 c, amt 1), (recvC (around c 2) 2 c, amt 2),
   (recvC (around c 3) 1 c, amt 1), (recvC (around c 3) 2 c, amt 2),
   (recvC (around c 1) 3 c, amt 3), (recvC (around c 2) 3 c, amt 3), (recvC (around c 3) 3 c, amt 3)]

/-- The tally of a list of debts. -/
def tal : List (GSem nD τ sig × ℕ) → CellTallies nD τ sig Unit
  | [] => 0
  | p :: l => tal l + tallyAt p.1 () p.2

/-- What is still owed after `n` payments. -/
def owed (c : Dev nD) (n : ℕ) : CellTallies nD τ sig Unit := tal ((owedL c).drop n)

def L (g : GSem nD τ sig) : Finset Unit := if g.1.2 = .tc then {()} else ∅
/-- Barrier 1, the queries' receipts 2, the gathered values' 3, the output shares' 4; all else 0. -/
def lvS : SemLoc sig → ℕ
  | .reg _ => 1
  | .dma n => if 8 ≤ (n : ℕ) ∧ isSend n = false then (match fam n with | 0 => 2 | 1 => 3 | 2 => 3 | 3 => 4) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tal_pos {l : List (GSem nD τ sig × ℕ)} {g : GSem nD τ sig} {u : Unit} (h : 0 < tal l g u) : ∃ p ∈ l, g = p.1 := by
  induction l with
  | nil => exact absurd h (Nat.lt_irrefl 0)
  | cons p l ih =>
    unfold tal at h
    rw [Pi.add_apply, Finsupp.add_apply, tallyAt_apply] at h
    by_cases hg : g = p.1 ∧ u = ()
    · exact ⟨p, List.mem_cons_self, hg.1⟩
    · rw [if_neg hg, Nat.add_zero] at h
      obtain ⟨p', hp', e⟩ := ih h
      exact ⟨p', List.mem_cons_of_mem _ hp', e⟩

/-- The levels of what is still owed after `n` payments. -/
theorem owedL_level (c : Dev nD) (n : Fin 16) (b : ℕ)
    (hb : b < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5)) :
    ∀ p ∈ (owedL c).drop n, p.1.1.2 = .tc ∧ b < lvS p.1.2 := by
  have hl : ∀ n : Fin 16, ∀ c : Dev nD, ∀ p ∈ ((owedL c).map fun p => (p.1.1.2, lvS p.1.2)).drop n, p.1 = Proc.tc ∧
      (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5) ≤ p.2 := by
    decide
  intro p hp
  have := hl n c (p.1.1.2, lvS p.1.2) (by rw [← List.map_drop]; exact List.mem_map.mpr ⟨p, hp, rfl⟩)
  exact ⟨this.1, lt_of_lt_of_le hb this.2⟩

theorem mayWait (c : Dev nD) (sm : SemLoc sig) (n : Fin 16)
    (hb : lvS sm < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5)) :
    (levAts L lv : sProp 𝕄) ⊢ MayWait (c : Thread nD τ) sm () (owed c n) := by
  refine MayOwe.of_cut (L := L) (lev := lv) (lvS sm) (fun p hp => by rw [Finset.mem_singleton.mp hp, L_tc]; exact Finset.mem_singleton_self _)
    (fun g u hg => ?_) (fun p hp => by rw [Finset.mem_singleton.mp hp]; exact Nat.le_refl _) (fun g u hg => ?_)
  · obtain ⟨p, hp, rfl⟩ := tal_pos hg
    have := (owedL_level c n _ hb p hp).1
    unfold L
    rw [if_pos this]
    exact Finset.mem_singleton_self _
  · obtain ⟨p, hp, rfl⟩ := tal_pos hg
    exact (owedL_level c n _ hb p hp).2

end Cert.KernelIdeal.Own

end
-- ==== Proof.TripWp.lean ====
module

public import proofs.«01_k».proof.Proof.Protocol

@[expose] public section

noncomputable section

/-! # What a trip does

The trip's steps, each from what it needs to what it leaves. -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

abbrev WP {α : Type} (c : Dev nD) (p : P (F := F) α) (Q : α → sProp 𝕄) : sProp 𝕄 :=
  wp frame (wpE (defs₀ (F := F)) 𝒱₀ (c : Thread nD τ) none) Set.univ p Q

/-- What a device owes, whatever it has waited for. -/
def ow (c : Dev nD) (O : CellTallies nD τ sig Unit) : sProp 𝕄 := iprop(∃ W, owes (c : Thread nD τ) O W)

/-! ## The gathering loads -/

section Loads

variable (c : Dev nD) {b : Memref sig .tc .vmem S2x4096x128 .f32} {w : BitVec 32} {hw : RowInB w}
  {S : Finset (Idx (b.view.loc (c : Thread nD τ)))} {q : PosShare TreeShare} {f : Buf (Elt F) (b.view.loc (c : Thread nD τ))}
  {kh : Head F}

theorem wp_loads {Q : PUnit → sProp 𝕄}
    (hS : ∀ r hr, b.view.setOn (Rect.unit (s := S2x4096x128) (rowOff w r) S1x64x128.size (hw r hr)).toLoadRect.set ⊆ S)
    (hf : ∀ r hr, b.view.readAt (Elt F) (Rect.unit (s := S2x4096x128) (rowOff w r) S1x64x128.size (hw r hr)).toLoadRect f = blk kh r hr)
    (n r : ℕ) (h : r + 192 * n ≤ 4224) (K : (Fin n → Vec F S1x64x128 .f32) → P (F := F) PUnit) :
    (b.view.loc (c : Thread nD τ) ↦[S]{q} f : sProp 𝕄)
      ⊢ iprop(((b.view.loc (c : Thread nD τ) ↦[S]{q} f) -∗ WP c (K fun i => blk kh (r + 192 * (i : ℕ)) (by omega)) Q)
          -∗ WP c (loads b w hw n r h K) Q) := by
  induction n generalizing r with
  | zero =>
    iintro H Hk
    have e : (fun i : Fin 0 => blk kh (r + 192 * (i : ℕ)) (by omega)) = (Fin.elim0 : Fin 0 → Vec F S1x64x128 .f32) := funext fun i => i.elim0
    rw [e]
    unfold loads
    iapply Hk
    iexact H
  | succ n ih =>
    have hr : r + 64 ≤ 4096 := by omega
    have hn : r + 192 + 192 * n ≤ 4224 := by omega
    iintro H Hk
    unfold loads
    iapply (wp_load 𝒱₀ (c : Thread nD τ) none Set.univ (m := b) (hS r hr)) $$ H
    iintro H
    rw [hf r hr]
    iapply (ih (r + 192) hn) $$ H
    iintro H
    have e : (Fin.cons (blk kh r (by omega)) fun i : Fin n => blk kh (r + 192 + 192 * (i : ℕ)) (by omega))
        = (fun i : Fin (n + 1) => (blk kh (r + 192 * (i : ℕ)) (by omega) : Vec F S1x64x128 .f32)) := by
      funext i
      refine Fin.cases ?_ (fun i => ?_) i
      · rfl
      · rw [Fin.cons_succ]
        congr 1
        rw [Fin.val_succ]
        omega
    rw [e]
    iapply Hk
    iexact H

end Loads

/-! ## Copies of heads -/

/-- The amount a head's copy moves. -/
def NS : ℕ := (slotAt (Memref.whole cc0_scratch1) 0#32 (by decide)).view.dmaCredit
theorem NS_pos : 0 < NS := View.dmaCredit_pos _ (by decide)

theorem rowOff_eq {w : BitVec 32} {s : ℕ} (e : w.toNat = s) (r : ℕ) : rowOff w r = ![s, r, 0] := by subst e; rfl
theorem kvOff_eq {w : BitVec 32} {h : ℕ} (e : w.toNat = h) : kvOff w = ![0, 0, h, 0] := by subst e; rfl

section Copies

variable (c : Dev nD) (b : Memref sig .tc .hbm S1x4096x32x128 .f32) (dst : Memref sig .tc .vmem S2x4096x128 .f32)
  (a : DmaSems sig S2) (sm : Fin 2 → DmaSem sig) (q : Fin 2 → PosShare TreeShare)
  (A : Buf (Elt F) (b.view.loc (c : Thread nD τ))) (B : Fin 32 → Buf (Elt F) (dst.view.loc (c : Thread nD τ)))

/-- Slot `s` free. -/
def idle (s : Fin 2) : sProp 𝕄 :=
  iprop((∃ f, dst.view.loc (c : Thread nD τ) ↦[dst.view.setOn (slots2 s)]{fullShare} f) ∗ semVal ((c : Thread nD τ), .dma (sm s)) 0
    ∗ (b.view.loc (c : Thread nD τ) ↦[Finset.univ]{q s} A))
/-- Slot `s` holding head `h`. -/
def full (s : Fin 2) (h : Fin 32) : sProp 𝕄 :=
  iprop((dst.view.loc (c : Thread nD τ) ↦[dst.view.setOn (slots2 s)]{fullShare} B h) ∗ semVal ((c : Thread nD τ), .dma (sm s)) 0
    ∗ (b.view.loc (c : Thread nD τ) ↦[Finset.univ]{q s} A))
/-- Head `h` on its way to slot `s`. -/
def busy (s : Fin 2) (h : Fin 32) : sProp 𝕄 :=
  iprop(Flight EC (c : Thread nD τ) (.dma (sm s)) () NS
      iprop((dst.view.loc (c : Thread nD τ) ↦[dst.view.setOn (slots2 s)]{fullShare} B h)
        ∗ (b.view.loc (c : Thread nD τ) ↦[b.view.setOn (headSet h)]{q s} A))
    ∗ (b.view.loc (c : Thread nD τ) ↦[Finset.univ \ b.view.setOn (headSet h)]{q s} A))

theorem idle_of_full {s : Fin 2} {h : Fin 32} : full c b dst sm q A B s h ⊢ idle c b dst sm q A s := by
  unfold full idle
  iintro ⟨Hd, Hz⟩
  isplitl [Hd]
  · iexists (B h)
    iexact Hd
  iexact Hz

/-- What a slot reads of head `h`. -/
def Lands : Prop := ∀ (h : Fin 32) (i : S2x4096x128.Idx),
  B h (dst.view.emb i) = _root_.cast (congrArg (Elt F) dst.view.elt_eq.symm) (b.view.read (Elt F) A (ix4 (0 : Fin 1) (i 1 : Fin 4096) h (i 2 : Fin 128)))

variable {c b dst a sm q A B}

theorem wp_fetch {Q : PUnit → sProp 𝕄} (hL : Lands c b dst A B) {w s' : BitVec 32} {h : Fin 32} {s : Fin 2} (hw : HeadInB w) (hs : SlotInB s') (hs' : SemInB s')
    (e : w.toNat = h) (es : s'.toNat = s) (esm : (semAt a s' hs').sem = sm s) {K : P (F := F) PUnit} :
    idle c b dst sm q A s ⊢ iprop((busy c b dst sm q A B s h -∗ WP c K Q) -∗ WP c (fetch b w hw dst a s' hs hs' K) Q) := by
  have hSa : (headAt b w hw).view.set = b.view.setOn (headSet h) :=
    (View.set_reshape _ _).trans ((View.set_slice b.view _).trans (congrArg (Finset.map b.view.emb) (box_head hw (kvOff_eq e))))
  have hSd : (slotAt dst s' hs).view.set = dst.view.setOn (slots2 s) :=
    (View.set_reshape _ _).trans ((View.set_slice dst.view _).trans (congrArg (Finset.map dst.view.emb) (box_slots2 hs (rowOff_eq es 0))))
  have hcg : ∀ f, ((slotAt dst s' hs).view.loc (c : Thread nD τ) ↦[dst.view.setOn (slots2 s)]{fullShare}
        ((slotAt dst s' hs).view.write (Elt F) f (ReadAs.same.apply ((headAt b w hw).view.read (Elt F) A)) Finset.univ) : sProp 𝕄)
      = (dst.view.loc (c : Thread nD τ) ↦[dst.view.setOn (slots2 s)]{fullShare} B h) := fun f => by
    refine pointsTo_congr fun i hi => ?_
    obtain ⟨i, hi', rfl⟩ := Finset.mem_map.mp hi
    refine Eq.trans ?_ (hL h i).symm
    exact land_head b.view dst.view hw hs (kvOff_eq e) (rowOff_eq es 0) _ _ A f i (Finset.mem_filter.mp hi').2
  unfold idle busy fetch
  iintro ⟨⟨%f, Hd⟩, Hz, Ha⟩ Hk
  ihave Ha := (pointsTo_split_subset (Finset.subset_univ (b.view.setOn (headSet h)))).1 $$ Ha
  icases Ha with ⟨Ha, Har⟩
  iapply (wp_dmaLocal EC 𝒱₀ (c : Thread nD τ) none (src := headAt b w hw) (dst := slotAt dst s' hs) (q := q s) (fs := A) (fd := f)
    (Sd := dst.view.setOn (slots2 s)) () NS rfl NS_pos (hSd.le)) $$ [Hd Hz Ha]
  · isplitl [Ha]
    · rw [hSa]
      iexact Ha
    isplitl [Hd]; · iexact Hd
    rw [esm]
    iexact Hz
  iintro Hf
  iapply Hk
  isplitl [Hf]
  · rw [← esm]
    iapply (Flight_mono EC (c : Thread nD τ) ?_) $$ Hf
    iintro ⟨Hd, Ha⟩
    isplitl [Hd]
    · iapply (Entails.of_eq (hcg f)) $$ Hd
    · rw [hSa]
      iexact Ha
  · iexact Har

theorem wp_await {Q : PUnit → sProp 𝕄} {w s' : BitVec 32} {h : Fin 32} {s : Fin 2} (hw : HeadInB w) (hs : SlotInB s') (hs' : SemInB s')
    (esm : (semAt a s' hs').sem = sm s) {O : CellTallies nD τ sig Unit} {K : P (F := F) PUnit} :
    iprop(busy c b dst sm q A B s h ∗ ow c O ∗ MayWait (c : Thread nD τ) (.dma (sm s)) () O)
      ⊢ iprop((iprop(full c b dst sm q A B s h ∗ ow c O) -∗ WP c K Q) -∗ WP c (await b w hw dst a s' hs hs' K) Q) := by
  unfold busy full await ow
  rw [← esm]
  iintro ⟨⟨Hf, Har⟩, ⟨%W, HO⟩, Hmw⟩ Hk
  iapply (wp_waitLocalO EC 𝒱₀ (c : Thread nD τ) none (srcw := headAt b w hw) (dstw := slotAt dst s' hs) (hsrc := (View.wordExact_bits rfl).reshape _ _) (hdst := (View.wordExact_bits rfl).reshape _ _) () (N := NS) rfl) $$ [Hf HO Hmw]
  · isplitl [Hf]; · iexact Hf
    isplitl [HO]; · iexact HO
    iexact Hmw
  iintro ⟨⟨Hd, Ha⟩, Hz, HO⟩
  iapply Hk
  isplitr [HO]
  · isplitl [Hd]; · iexact Hd
    isplitl [Hz]; · iexact Hz
    iapply (pointsTo_split_subset (Finset.subset_univ (b.view.setOn (headSet h)))).2
    isplitl [Ha]; · iexact Ha
    iexact Har
  · iexists _
    iexact HO

end Copies

end Cert.KernelIdeal.Own

end
-- ==== Proof.Gather.lean ====
module

public import proofs.«01_k».proof.Proof.TripWp

@[expose] public section

noncomputable section

/-! # The values a trip reads and leaves -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

/-! ## The words -/

/-- The slot of step `t`, and the head device `c` reads at it. -/
def slF (t : ℕ) : Fin 2 := ⟨t % 2, Nat.mod_lt _ (by decide)⟩
def gF (c : Dev nD) (d : Fin 4) : Fin 4 := c + d
def hdF (c : Dev nD) (t : ℕ) : Fin 32 := hd (gF c ⟨t / 8 % 4, Nat.mod_lt _ (by decide)⟩) ⟨t % 8, Nat.mod_lt _ (by decide)⟩
/-- The step of loop `d`'s trip `k`. -/
def stp (d : Fin 4) (k : ℕ) : ℕ := 8 * d + k

theorem gW_nat : ∀ (d : Fin 4) (c : Dev nD), (gW d c).toNat = (gF c d : ℕ) := by decide +kernel
theorem sW_nat : ∀ (d : Fin 4) (k : Fin 8), (sW d k).toNat = (slF (stp d k) : ℕ) := by decide +kernel
theorem nW_nat : ∀ (d : Fin 4) (k : Fin 8), (nW d k).toNat = (slF (stp d k + 1) : ℕ) := by decide +kernel
theorem cW_iff : ∀ (d : Fin 4) (k : Fin 8), cW d k = 1#1 ↔ stp d k + 1 < 32 := by decide +kernel
theorem headW_nat : ∀ (d : Fin 4) (c : Dev nD) (k : Fin 8), (headW d c k).toNat = (hdF c (stp d k) : ℕ) := by decide +kernel
theorem hdF_eq : ∀ (d : Fin 4) (c : Dev nD) (k : Fin 8), hdF c (stp d k) = hd (gF c d) k := by decide +kernel
theorem nextW_nat : ∀ (d : Fin 4) (c : Dev nD) (k : Fin 8), cW d k = 1#1 → (nextW d c k).toNat = (hdF c (stp d k + 1) : ℕ) := by
  decide +kernel
theorem clsW0_nat : ∀ c : Dev nD, (clsW0 c).toNat = (clsF c 0 : ℕ) := by decide +kernel
theorem clsW1_nat : ∀ c : Dev nD, (clsW c 1#32).toNat = (clsF c 1 : ℕ) := by decide +kernel
theorem clsW2_nat : ∀ c : Dev nD, (clsW c 2#32).toNat = (clsF c 2 : ℕ) := by decide +kernel
theorem colW_nat : ∀ k : Fin 8, (colW k).toNat = 128 * (k : ℕ) := by decide +kernel
theorem hW_nat : ∀ k : Fin 8, (hW k).toNat = (k : ℕ) := by decide +kernel

theorem qOff_eq (d : Fin 4) (c : Dev nD) (k : Fin 8) (r : ℕ) : qOff d c k r = ![(gF c d : ℕ), r, 128 * (k : ℕ)] := by
  unfold qOff
  rw [gW_nat, colW_nat]
theorem lOff_eq (d : Fin 4) (c : Dev nD) (k : Fin 8) : lOff d c k = ![(gF c d : ℕ), (k : ℕ), 0] := by
  unfold lOff
  rw [gW_nat, hW_nat]

/-! ## Reads -/

section Reads

variable {Val : EltTy → Type} {sp : Space} {e : EltTy}

/-- What a view reads at a box of a rank three array. -/
theorem readAt3 {S : Shape} (hS : S.rank = 3) (v : View sig .tc sp S e) (off size : Fin S.rank → ℕ) (h : ∀ a, off a + size a ≤ S.size a)
    (f : v.ty.Contents Val) (x : (Rect.unit off size h).shape.Idx) (i : S.Idx) (hi : ∀ a, (i a : ℕ) = off a + (x a : ℕ)) :
    v.readAt Val (Rect.unit off size h).toLoadRect f x = v.read Val f i := by
  rw [View.readAt_apply]
  congr 1
  funext a
  apply Fin.ext
  rw [hi a]
  show off a + 1 * (x a : ℕ) = _
  rw [Nat.one_mul]

end Reads

section Slots

variable (dst : Memref sig .tc .vmem S2x4096x128 .f32) (B : dst.view.ty.Contents (Elt F)) (kh : Head F)

/-- A slot's buffer holds a head, in every slot alike. -/
def Holds : Prop := ∀ i : S2x4096x128.Idx, dst.view.read (Elt F) B i = kh (i 1 : Fin 4096) (i 2 : Fin 128)

variable {dst B kh}

theorem read_blk (hB : Holds dst B kh) {w : BitVec 32} (r : ℕ) (hr : r + 64 ≤ 4096)
    (h : ∀ a, rowOff w r a + S1x64x128.size a ≤ S2x4096x128.size a) :
    dst.view.readAt (Elt F) (Rect.unit (s := S2x4096x128) (rowOff w r) S1x64x128.size h).toLoadRect B = blk kh r hr := by
  funext x
  have h1 : (x 1 : ℕ) < 64 := (x 1).isLt
  have h0 : (x 0 : ℕ) < 1 := (x 0).isLt
  have hw : w.toNat + 1 ≤ 2 := h 0
  rw [readAt3 rfl dst.view _ _ h B x (ix3 (⟨w.toNat, by omega⟩ : Fin 2) (⟨r + (x 1 : ℕ), by omega⟩ : Fin 4096) (x 2 : Fin 128)) ?_, hB]
  · rfl
  · intro a
    fin_cases a
    · show w.toNat = w.toNat + (x 0 : ℕ)
      omega
    · rfl
    · show (x 2 : ℕ) = 0 + (x 2 : ℕ)
      omega

theorem read_x (hB : Holds dst B kh) {w : BitVec 32}
    (h : ∀ a, rowOff w 0 a + S1x256x128.size a ≤ S2x4096x128.size a) :
    dst.view.readAt (Elt F) (Rect.unit (s := S2x4096x128) (rowOff w 0) S1x256x128.size h).toLoadRect B = xRows kh := by
  funext x
  have h1 : (x 1 : ℕ) < 256 := (x 1).isLt
  have h0 : (x 0 : ℕ) < 1 := (x 0).isLt
  have hw : w.toNat + 1 ≤ 2 := h 0
  rw [readAt3 rfl dst.view _ _ h B x (ix3 (⟨w.toNat, by omega⟩ : Fin 2) (⟨(x 1 : ℕ), by omega⟩ : Fin 4096) (x 2 : Fin 128)) ?_, hB]
  · rfl
  · intro a
    fin_cases a
    · show w.toNat = w.toNat + (x 0 : ℕ)
      omega
    · show (x 1 : ℕ) = 0 + (x 1 : ℕ)
      omega
    · show (x 2 : ℕ) = 0 + (x 2 : ℕ)
      omega

/-- What a slot's buffer reads at the rows a load takes lies in the slot. -/
theorem rows_in {w : BitVec 32} {s : Fin 2} (es : w.toNat = s) (r n : ℕ) (size : Fin 3 → ℕ) (h0 : size 0 = 1)
    (h : ∀ a, rowOff w r a + size a ≤ S2x4096x128.size a) :
    dst.view.setOn (Rect.unit (s := S2x4096x128) (rowOff w r) size h).toLoadRect.set ⊆ dst.view.setOn (slots2 s) := by
  refine Finset.map_subset_map.mpr fun i hi => ?_
  have hi : i ∈ (Rect.unit (s := S2x4096x128) (rowOff w r) size h).set := hi
  rw [Rect.mem_set_unit] at hi
  have := hi 0
  rw [h0] at this
  change w.toNat ≤ (i 0 : ℕ) ∧ (i 0 : ℕ) < w.toNat + 1 at this
  exact Finset.mem_filter.mpr ⟨Finset.mem_univ _, by omega⟩

end Slots

/-! ## The classes -/

section Classes

variable (o : Memref sig .tc .vmem S3x1408x128 .bf16)

/-- The last block of classes 1 and 2 is zero. -/
def Tail (f : o.view.ty.Contents (Elt F)) : Prop := ∀ i : S3x1408x128.Idx, (i 0 : ℕ) ≠ 0 → 1344 ≤ (i 1 : ℕ) →
  f (o.view.emb i) = _root_.cast (congrArg (Elt F) o.view.elt_eq.symm) (Scalar.ofBits .bf16 0x0000#16 : Elt F .bf16)
/-- The classes of a head. -/
def IsCls (f : o.view.ty.Contents (Elt F)) (kh : Head F) : Prop := ∀ i : S3x1408x128.Idx,
  f (o.view.emb i) = _root_.cast (congrArg (Elt F) o.view.elt_eq.symm) (clsA kh i)

variable {o}

theorem cls21_congr (kh : Head F) {r r' : ℕ} (e : r = r') (hr : r + 192 * 21 ≤ 4224) (hr' : r' + 192 * 21 ≤ 4224) :
    cls21 kh r hr = cls21 kh r' hr' := by
  subst e
  rfl

theorem IsCls.tail {f : o.view.ty.Contents (Elt F)} {kh : Head F} (h : IsCls o f kh) : Tail o f := by
  intro i h0 h1
  rw [h i]
  unfold clsA
  rw [if_neg h0, dif_neg (by omega)]

/-- The three stores. -/
theorem isCls_stores {f : o.view.ty.Contents (Elt F)} (hf : Tail o f) (kh : Head F) {h0 h1 h2} :
    IsCls o ((o.access (Rect.unit (s := S3x1408x128) ![2, 0, 0] S1x1344x128.size h2)).write (Elt F)
      ((o.access (Rect.unit (s := S3x1408x128) ![1, 0, 0] S1x1344x128.size h1)).write (Elt F)
        ((o.access (Rect.unit (s := S3x1408x128) ![0, 0, 0] S1x1408x128.size h0)).write (Elt F) f (cls22 kh) Finset.univ)
        (cls21 kh 64 (by decide)) Finset.univ)
      (cls21 kh 128 (by decide)) Finset.univ) kh := by
  intro i
  have b0 : (i 0 : ℕ) < 3 := (i 0).isLt
  have b1 : (i 1 : ℕ) < 1408 := (i 1).isLt
  have b2 : (i 2 : ℕ) < 128 := (i 2).isLt
  unfold clsA
  rcases (by omega : (i 0 : ℕ) = 0 ∨ (i 0 : ℕ) = 1 ∨ (i 0 : ℕ) = 2) with e | e | e
  · rw [if_pos e]
    refine (write_out (v := o.view) ![2, 0, 0] S1x1344x128.size h2 _ _ i ⟨0, fun hh => ?_⟩).trans ?_
    · have : 2 ≤ (i 0 : ℕ) := hh.1
      omega
    refine (write_out (v := o.view) ![1, 0, 0] S1x1344x128.size h1 _ _ i ⟨0, fun hh => ?_⟩).trans ?_
    · have : 1 ≤ (i 0 : ℕ) := hh.1
      omega
    refine write_in (v := o.view) ![0, 0, 0] S1x1408x128.size h0 _ _ (ix3 (0 : Fin 1) (i 1 : Fin 1408) (i 2 : Fin 128)) i ?_
    intro a
    fin_cases a
    · exact e
    · show (i 1 : ℕ) = 0 + (i 1 : ℕ)
      omega
    · show (i 2 : ℕ) = 0 + (i 2 : ℕ)
      omega
  · rw [if_neg (by omega)]
    refine (write_out (v := o.view) ![2, 0, 0] S1x1344x128.size h2 _ _ i ⟨0, fun hh => ?_⟩).trans ?_
    · have : 2 ≤ (i 0 : ℕ) := hh.1
      omega
    by_cases hl : (i 1 : ℕ) < 1344
    · rw [dif_pos hl]
      refine (write_in (v := o.view) ![1, 0, 0] S1x1344x128.size h1 _ _ (ix3 (0 : Fin 1) (⟨(i 1 : ℕ), hl⟩ : Fin 1344) (i 2 : Fin 128)) i ?_).trans ?_
      · intro a
        fin_cases a
        · exact e
        · show (i 1 : ℕ) = 0 + (i 1 : ℕ)
          omega
        · show (i 2 : ℕ) = 0 + (i 2 : ℕ)
          omega
      · exact congrArg _ (congrFun (cls21_congr kh (by omega) _ _) _)
    · rw [dif_neg hl]
      refine (write_out (v := o.view) ![1, 0, 0] S1x1344x128.size h1 _ _ i ⟨1, fun hh => ?_⟩).trans ?_
      · have : (i 1 : ℕ) < 0 + 1344 := hh.2
        omega
      refine (write_out (v := o.view) ![0, 0, 0] S1x1408x128.size h0 _ _ i ⟨0, fun hh => ?_⟩).trans ?_
      · have : (i 0 : ℕ) < 0 + 1 := hh.2
        omega
      exact hf i (by omega) (by omega)
  · rw [if_neg (by omega)]
    by_cases hl : (i 1 : ℕ) < 1344
    · rw [dif_pos hl]
      refine (write_in (v := o.view) ![2, 0, 0] S1x1344x128.size h2 _ _ (ix3 (0 : Fin 1) (⟨(i 1 : ℕ), hl⟩ : Fin 1344) (i 2 : Fin 128)) i ?_).trans ?_
      · intro a
        fin_cases a
        · exact e
        · show (i 1 : ℕ) = 0 + (i 1 : ℕ)
          omega
        · show (i 2 : ℕ) = 0 + (i 2 : ℕ)
          omega
      · exact congrArg _ (congrFun (cls21_congr kh (by omega) _ _) _)
    · rw [dif_neg hl]
      refine (write_out (v := o.view) ![2, 0, 0] S1x1344x128.size h2 _ _ i ⟨1, fun hh => ?_⟩).trans ?_
      · have : (i 1 : ℕ) < 0 + 1344 := hh.2
        omega
      refine (write_out (v := o.view) ![1, 0, 0] S1x1344x128.size h1 _ _ i ⟨1, fun hh => ?_⟩).trans ?_
      · have : (i 1 : ℕ) < 0 + 1344 := hh.2
        omega
      refine (write_out (v := o.view) ![0, 0, 0] S1x1408x128.size h0 _ _ i ⟨0, fun hh => ?_⟩).trans ?_
      · have : (i 0 : ℕ) < 0 + 1 := hh.2
        omega
      exact hf i (by omega) (by omega)

theorem read_cls {f : o.view.ty.Contents (Elt F)} {kh : Head F} (hf : IsCls o f kh) {w : BitVec 32} {c : Fin 3} (e : w.toNat = c)
    (h : ∀ a, rowOff w 0 a + S1x1408x128.size a ≤ S3x1408x128.size a) :
    o.view.readAt (Elt F) (Rect.unit (s := S3x1408x128) (rowOff w 0) S1x1408x128.size h).toLoadRect f = clsRow (clsA kh) c := by
  funext x
  have h0 : (x 0 : ℕ) < 1 := (x 0).isLt
  rw [readAt3 rfl o.view _ _ h f x (ix3 c (x 1 : Fin 1408) (x 2 : Fin 128)) ?_, View.read_apply, hf]
  · rw [cast_cast, cast_eq]
    rfl
  · intro a
    fin_cases a
    · show (c : ℕ) = w.toNat + (x 0 : ℕ)
      omega
    · show (x 1 : ℕ) = 0 + (x 1 : ℕ)
      omega
    · show (x 2 : ℕ) = 0 + (x 2 : ℕ)
      omega

end Classes

/-! ## The queries -/

theorem read_q (f : Vec F S4x256x1024 .bf16) (d : Fin 4) (c : Dev nD) (k : Fin 8) (n r : ℕ) (hr : r + n ≤ 256)
    (h : ∀ a, qOff d c k r a + (⟨3, ![1, n, 128]⟩ : Shape).size a ≤ S4x256x1024.size a) :
    (Memref.whole cc0_scratch0 : Memref sig .tc .vmem S4x256x1024 .bf16).view.readAt (Elt F)
      (Rect.unit (s := S4x256x1024) (qOff d c k r) (⟨3, ![1, n, 128]⟩ : Shape).size h).toLoadRect f = qRows f (gF c d) k n r hr := by
  funext x
  have h0 : (x 0 : ℕ) < 1 := (x 0).isLt
  have h1 : (x 1 : ℕ) < n := (x 1).isLt
  have h2 : (x 2 : ℕ) < 128 := (x 2).isLt
  refine readAt3 rfl (Memref.whole cc0_scratch0 : Memref sig .tc .vmem S4x256x1024 .bf16).view _ _ h f x
    (ix3 (gF c d) (⟨r + (x 1 : ℕ), by omega⟩ : Fin 256) (⟨128 * k + (x 2 : ℕ), by omega⟩ : Fin 1024)) ?_
  intro a
  refine Eq.trans ?_ (congrArg (· + (x a : ℕ)) (congrFun (qOff_eq d c k r) a).symm)
  fin_cases a
  · show (gF c d : ℕ) = (gF c d : ℕ) + (x 0 : ℕ)
    omega
  · rfl
  · rfl

/-! ## The results -/

section Results

variable (q : Vec F S4x256x1024 .bf16) (K V : Vec F S1x4096x32x128 .f32) (c : Dev nD) (d : Fin 4) (k : Fin 8)

/-- A block of the results stored. -/
abbrev put (off : Fin 3 → ℕ) (h : ∀ a, off a + S1x64x128.size a ≤ S4x256x1024.size a) (v : FVec F S1x64x128 .bf16)
    (f : Vec F S4x256x1024 .bf16) : Vec F S4x256x1024 .bf16 :=
  ((Memref.whole cc0_scratch5 : Memref sig .tc .vmem S4x256x1024 .bf16).access (Rect.unit (s := S4x256x1024) off S1x64x128.size h)).write
    (Elt F) f v Finset.univ
/-- The sums of a head's weights stored. -/
abbrev putL (off : Fin 3 → ℕ) (h : ∀ a, off a + S1x1x256.size a ≤ S4x8x256.size a) (v : FVec F S1x1x256 .f32)
    (f : Vec F S4x8x256 .f32) : Vec F S4x8x256 .f32 :=
  ((Memref.whole cc0_scratch6 : Memref sig .tc .vmem S4x8x256 .f32).access (Rect.unit (s := S4x8x256) off S1x1x256.size h)).write
    (Elt F) f v Finset.univ

theorem put_out {off : Fin 3 → ℕ} {r : ℕ} (e : off = ![(gF c d : ℕ), r, 128 * (k : ℕ)])
    (h : ∀ a, off a + S1x64x128.size a ≤ S4x256x1024.size a) (v : FVec F S1x64x128 .bf16)
    (f : Vec F S4x256x1024 .bf16) (i : S4x256x1024.Idx)
    (hi : (i 1 : ℕ) < r ∨ r + 64 ≤ (i 1 : ℕ) ∨ (i 2 : ℕ) < 128 * k) : put off h v f i = f i := by
  subst e
  refine write_out (v := (Memref.whole cc0_scratch5 : Memref sig .tc .vmem S4x256x1024 .bf16).view) _ _ h f v i ?_
  rcases hi with hi | hi | hi
  · exact ⟨1, fun hh => absurd (show r ≤ (i 1 : ℕ) from hh.1) (by omega)⟩
  · exact ⟨1, fun hh => absurd (show (i 1 : ℕ) < r + 64 from hh.2) (by omega)⟩
  · exact ⟨2, fun hh => absurd (show 128 * (k : ℕ) ≤ (i 2 : ℕ) from hh.1) (by omega)⟩

theorem put_in {off : Fin 3 → ℕ} {r : ℕ} (e : off = ![(gF c d : ℕ), r, 128 * (k : ℕ)])
    (h : ∀ a, off a + S1x64x128.size a ≤ S4x256x1024.size a) (v : FVec F S1x64x128 .bf16)
    (f : Vec F S4x256x1024 .bf16) (i : S4x256x1024.Idx) (h0 : (i 0 : ℕ) = gF c d) (x1 : Fin 64) (h1 : (i 1 : ℕ) = r + x1)
    (x2 : Fin 128) (h2 : (i 2 : ℕ) = 128 * k + x2) : put off h v f i = v (ix3 (0 : Fin 1) x1 x2) := by
  subst e
  refine write_in (v := (Memref.whole cc0_scratch5 : Memref sig .tc .vmem S4x256x1024 .bf16).view) _ _ h f v (ix3 (0 : Fin 1) x1 x2) i ?_
  intro a
  fin_cases a
  · exact h0
  · exact h1
  · exact h2

/-- After a trip's stores the results hold through its head. -/
theorem results {h0 h1 h2 h3} {f : Vec F S4x256x1024 .bf16}
    (hf : ∀ i : S4x256x1024.Idx, (i 0 : ℕ) = gF c d → (i 2 : ℕ) < 128 * k → f i = opM q K V c i)
    (i : S4x256x1024.Idx) (hi : (i 0 : ℕ) = gF c d) (hk : (i 2 : ℕ) < 128 * ((k : ℕ) + 1)) :
    put (qOff d c k 192) h3 (out3 c t22M t21M (gotD q K V c (gF c d) k))
      (put (qOff d c k 128) h2 (out2 c t22M t21M (xbM c) (gotD q K V c (gF c d) k))
        (put (qOff d c k 64) h1 (out1 c t22M t21M (xbM c) (gotD q K V c (gF c d) k))
          (put (qOff d c k 0) h0 (out0 c t22M t21M (gotD q K V c (gF c d) k)) f))) i = opM q K V c i := by
  have b1 : (i 1 : ℕ) < 256 := (i 1).isLt
  by_cases hlt : (i 2 : ℕ) < 128 * k
  · rw [put_out c d k (qOff_eq d c k 192) _ _ _ i (by omega), put_out c d k (qOff_eq d c k 128) _ _ _ i (by omega),
      put_out c d k (qOff_eq d c k 64) _ _ _ i (by omega), put_out c d k (qOff_eq d c k 0) _ _ _ i (by omega), hf i hi hlt]
  · have e0 : (i 0 : Fin 4) = gF c d := Fin.ext hi
    have e2 : (⟨(i 2 : ℕ) / 128, by have : (i 2 : ℕ) < 1024 := (i 2).isLt; omega⟩ : Fin 8) = k := Fin.ext (by show (i 2 : ℕ) / 128 = k; omega)
    have em : opM q K V c i = outB c (gotD q K V c (gF c d) k) ((i 1 : ℕ) / 64)
        (ix3 (0 : Fin 1) (⟨(i 1 : ℕ) % 64, Nat.mod_lt _ (by decide)⟩ : Fin 64) (⟨(i 2 : ℕ) % 128, Nat.mod_lt _ (by decide)⟩ : Fin 128)) := by
      unfold opM
      rw [e0, e2]
    rw [em]
    have m1 := fun r (hr : (i 1 : ℕ) = r + (i 1 : ℕ) % 64) h (v : FVec F S1x64x128 .bf16) (f : Vec F S4x256x1024 .bf16) => put_in c d k (qOff_eq d c k r) h v f i hi
      (⟨(i 1 : ℕ) % 64, Nat.mod_lt _ (by decide)⟩ : Fin 64) hr (⟨(i 2 : ℕ) % 128, Nat.mod_lt _ (by decide)⟩ : Fin 128)
      (by show (i 2 : ℕ) = 128 * k + (i 2 : ℕ) % 128; omega)
    rcases (by omega : (i 1 : ℕ) / 64 = 0 ∨ (i 1 : ℕ) / 64 = 1 ∨ (i 1 : ℕ) / 64 = 2 ∨ (i 1 : ℕ) / 64 = 3) with e | e | e | e
    · rw [put_out c d k (qOff_eq d c k 192) _ _ _ i (by omega), put_out c d k (qOff_eq d c k 128) _ _ _ i (by omega),
        put_out c d k (qOff_eq d c k 64) _ _ _ i (by omega), m1 0 (by omega), e]
      rfl
    · rw [put_out c d k (qOff_eq d c k 192) _ _ _ i (by omega), put_out c d k (qOff_eq d c k 128) _ _ _ i (by omega), m1 64 (by omega), e]
      rfl
    · rw [put_out c d k (qOff_eq d c k 192) _ _ _ i (by omega), m1 128 (by omega), e]
      rfl
    · rw [m1 192 (by omega), e]
      rfl

theorem resultsL {h} {f : Vec F S4x8x256 .f32}
    (hf : ∀ i : S4x8x256.Idx, (i 0 : ℕ) = gF c d → (i 1 : ℕ) < k → f i = lpM q K V c i)
    (i : S4x8x256.Idx) (hi : (i 0 : ℕ) = gF c d) (hk : (i 1 : ℕ) < (k : ℕ) + 1) :
    putL (lOff d c k) h (outL c t22M t21M (xbM c) (gotD q K V c (gF c d) k)) f i = lpM q K V c i := by
  have e0 : (i 0 : Fin 4) = gF c d := Fin.ext hi
  by_cases hlt : (i 1 : ℕ) < k
  · refine (write_out (v := (Memref.whole cc0_scratch6 : Memref sig .tc .vmem S4x8x256 .f32).view) _ _ h f _ i ⟨1, fun hh => ?_⟩).trans (hf i hi hlt)
    have : lOff d c k 1 ≤ (i 1 : ℕ) := hh.1
    rw [lOff_eq] at this
    exact absurd (show (k : ℕ) ≤ (i 1 : ℕ) from this) (by omega)
  · have e1 : (i 1 : Fin 8) = k := Fin.ext (by omega)
    have em : lpM q K V c i = outL c t22M t21M (xbM c) (gotD q K V c (gF c d) k) (ix3 (0 : Fin 1) (0 : Fin 1) (i 2 : Fin 256)) := by
      unfold lpM
      rw [e0, e1]
    rw [em]
    refine write_in (v := (Memref.whole cc0_scratch6 : Memref sig .tc .vmem S4x8x256 .f32).view) _ _ h f _
      (ix3 (0 : Fin 1) (0 : Fin 1) (i 2 : Fin 256)) i ?_
    intro a
    refine Eq.trans ?_ (congrArg (· + _) (congrFun (lOff_eq d c k) a).symm)
    fin_cases a
    · exact hi
    · show (i 1 : ℕ) = k + 0
      omega
    · show (i 2 : ℕ) = 0 + (i 2 : ℕ)
      omega

end Results

end Cert.KernelIdeal.Own

end
-- ==== Proof.TripEq.lean ====
module

public import proofs.«01_k».proof.Proof.Trip

@[expose] public section

noncomputable section

/-! # Each loop's printed trip is the trip -/

namespace Cert.KernelIdeal.Own

open Idealize.ShloMosaic Idealize.ShloMosaic.TcCoe Idealize.SL.Sem
open Cert.KernelIdeal.Gen

variable {F : FTy → Type} [FloatOps F] [Named F]

variable (arg0 : Memref sig .tc .vmem S1x256x1024 .f32) (harg0 : arg0.IsWhole) (arg1 : Memref sig .tc .vmem S1024x1024 .f32) (harg1 : arg1.IsWhole) (arg2 : Memref sig .tc .hbm S1x4096x32x128 .f32) (harg2 : arg2.IsWhole) (arg3 : Memref sig .tc .hbm S1x4096x32x128 .f32) (harg3 : arg3.IsWhole) (arg4 : Memref sig .tc .vmem S1024x1024 .f32) (harg4 : arg4.IsWhole) (arg5 : Memref sig .tc .vmem S1x256x1024 .f32) (harg5 : arg5.IsWhole) (arg6 : Memref sig .tc .vmem S4x256x1024 .bf16) (harg6 : arg6.IsWhole) (arg7 : Memref sig .tc .vmem S2x4096x128 .f32) (harg7 : arg7.IsWhole) (arg8 : Memref sig .tc .vmem S2x4096x128 .f32) (harg8 : arg8.IsWhole) (arg9 : Memref sig .tc .vmem S3x1408x128 .bf16) (harg9 : arg9.IsWhole) (arg10 : Memref sig .tc .vmem S3x1408x128 .bf16) (harg10 : arg10.IsWhole) (arg11 : Memref sig .tc .vmem S4x256x1024 .bf16) (harg11 : arg11.IsWhole) (arg12 : Memref sig .tc .vmem S4x8x256 .f32) (harg12 : arg12.IsWhole) (arg13 : Memref sig .tc .vmem S4x256x1024 .bf16) (harg13 : arg13.IsWhole) (arg14 : Memref sig .tc .vmem S4x8x256 .f32) (harg14 : arg14.IsWhole) (arg15 : Memref sig .tc .vmem S4x256x1024 .bf16) (harg15 : arg15.IsWhole) (arg16 : DmaSems sig S2) (arg17 : DmaSems sig S2) (arg18 : DmaSems sig S4) (arg19 : DmaSems sig S4) (arg20 : DmaSems sig S4) (arg21 : DmaSems sig S4) (arg22 : DmaSems sig S4) (arg23 : DmaSems sig S4) (arg24 : DmaSems sig S4) (arg25 : DmaSems sig S4)
  (d0 : Dev nD) (t22 t21 : FVec F S1x1408 .f32) (xb : FVec F S128x256 .f32)

set_option maxRecDepth 65536 in
set_option maxHeartbeats 0 in
theorem trip0 (v120 : BitVec 1) (v134 : IVec S128x256 1) (k : Fin 8) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25  d0 (pW d0) t22 t21 v120 v134 (gW 0 d0) k ()
      = trip arg2 arg3 arg6 arg7 arg8 arg9 harg9 arg10 harg10 arg11 harg11 arg12 arg16 arg17 d0 t22 t21 (k0_pay517 v120 v134) 0 k (inB 0 d0 k) := by
  unfold k0_t1_body
  rw [k0_part1_eq_skeleton]
  unfold k0_part1_skel
  unfold trip fetches
  by_cases hc : k0_cond1 k = 1#1
  · have hc' : cW 0 k = 1#1 := hc
    rw [dif_pos hc, dif_pos hc']
    rfl
  · have hc' : ¬ cW 0 k = 1#1 := hc
    rw [dif_neg hc, dif_neg hc']
    rfl

set_option maxRecDepth 65536 in
set_option maxHeartbeats 0 in
theorem trip1 (k : Fin 8) :
    k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25  d0 (pW d0) t22 t21 xb (gW 1 d0) k ()
      = trip arg2 arg3 arg6 arg7 arg8 arg9 harg9 arg10 harg10 arg11 harg11 arg12 arg16 arg17 d0 t22 t21 xb 1 k (inB 1 d0 k) := by
  unfold k0_t2_body
  rw [k0_part16_eq_skeleton]
  unfold k0_part16_skel
  unfold trip fetches
  by_cases hc : k0_cond2 k = 1#1
  · have hc' : cW 1 k = 1#1 := hc
    rw [dif_pos hc, dif_pos hc']
    rfl
  · have hc' : ¬ cW 1 k = 1#1 := hc
    rw [dif_neg hc, dif_neg hc']
    rfl

set_option maxRecDepth 65536 in
set_option maxHeartbeats 0 in
theorem trip2 (c : BitVec 32) (k : Fin 8) :
    k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25  d0 (pW d0) t22 t21 xb (gW 2 d0) c k ()
      = trip arg2 arg3 arg6 arg7 arg8 arg9 harg9 arg10 harg10 arg11 harg11 arg12 arg16 arg17 d0 t22 t21 xb 2 k (inB 2 d0 k) := by
  unfold k0_t3_body
  rw [k0_part31_eq_skeleton]
  unfold k0_part31_skel
  unfold trip fetches
  by_cases hc : k0_cond3 k = 1#1
  · have hc' : cW 2 k = 1#1 := hc
    rw [dif_pos hc, dif_pos hc']
    rfl
  · have hc' : ¬ cW 2 k = 1#1 := hc
    rw [dif_neg hc, dif_neg hc']
    rfl

set_option maxRecDepth 65536 in
set_option maxHeartbeats 0 in
theorem trip3 (c c' : BitVec 32) (k : Fin 8) :
    k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25  d0 (pW d0) t22 t21 xb (gW 3 d0) c c' k ()
      = trip arg2 arg3 arg6 arg7 arg8 arg9 harg9 arg10 harg10 arg11 harg11 arg12 arg16 arg17 d0 t22 t21 xb 3 k (inB 3 d0 k) := by
  unfold k0_t4_body
  rw [k0_part46_eq_skeleton]
  unfold k0_part46_skel
  unfold trip fetches
  by_cases hc : k0_cond4 k = 1#1
  · have hc' : cW 3 k = 1#1 := hc
    rw [dif_pos hc, dif_pos hc']
    rfl
  · have hc' : ¬ cW 3 k = 1#1 := hc
    rw [dif_neg hc, dif_neg hc']
    rfl

end Cert.KernelIdeal.Own

end
-- ==== Proof.TripRun.lean ====
module

public import proofs.«01_k».proof.Proof.Gather
public import proofs.«01_k».proof.Proof.TripEq

@[expose] public section

noncomputable section

/-! # A trip, run -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

/-! ## Gathering -/

section Gathering

variable (c : Dev nD) {dst : Memref sig .tc .vmem S2x4096x128 .f32} {o : Memref sig .tc .vmem S3x1408x128 .bf16}
  {B : Buf (Elt F) (dst.view.loc (c : Thread nD τ))} {kh : Head F} {f : Buf (Elt F) (o.view.loc (c : Thread nD τ))}

theorem wp_gather22 {Q : PUnit → sProp 𝕄} (hB : Holds dst B kh) {w : BitVec 32} {s : Fin 2} (es : w.toNat = s) (hw : RowInB w) (ho : o.IsWhole)
    {K : P (F := F) PUnit} :
    iprop((dst.view.loc (c : Thread nD τ) ↦[dst.view.setOn (slots2 s)]{fullShare} B) ∗ (o.view.loc (c : Thread nD τ) ↦[Finset.univ]{fullShare} f))
      ⊢ iprop((iprop((dst.view.loc (c : Thread nD τ) ↦[dst.view.setOn (slots2 s)]{fullShare} B)
          ∗ (o.view.loc (c : Thread nD τ) ↦[Finset.univ]{fullShare}
            ((o.access (Rect.unit (s := S3x1408x128) ![0, 0, 0] S1x1408x128.size inb_S3x1408x128_S1x1408x128_0_0_0)).write (Elt F) f (cls22 kh) Finset.univ)))
          -∗ WP c K Q) -∗ WP c (gather22 dst w hw o ho K) Q) := by
  iintro ⟨Hd, Ho⟩ Hk
  unfold gather22
  iapply (wp_loads c (fun r hr => rows_in (dst := dst) es r 64 S1x64x128.size rfl (hw r hr)) (fun r hr => read_blk hB r hr (hw r hr)) 22 0 _) $$ Hd
  iintro Hd
  iapply (wp_load 𝒱₀ (c : Thread nD τ) none Set.univ (m := o) (Finset.subset_univ _)) $$ Ho
  iintro Ho
  iapply (wp_store 𝒱₀ (c : Thread nD τ) none Set.univ (m := o) (r := Rect.unit (s := S3x1408x128) ![0, 0, 0] S1x1408x128.size inb_S3x1408x128_S1x1408x128_0_0_0) (Mk := Finset.univ) (Finset.subset_univ _)) $$ Ho
  iintro Ho
  iapply Hk
  isplitl [Hd]; · iexact Hd
  iexact Ho

theorem wp_gather21 {Q : PUnit → sProp 𝕄} (hB : Holds dst B kh) {w : BitVec 32} {s : Fin 2} (es : w.toNat = s) (hw : RowInB w)
    (r : ℕ) (hr : r + 192 * 21 ≤ 4224) (ho : o.IsWhole) (n : ℕ)
    (hn : ∀ a, (![n, 0, 0] : Fin 3 → ℕ) a + S1x1344x128.size a ≤ S3x1408x128.size a)
    (hp : (Rect.unit (s := S3x1408x128) ![n, 0, 0] S1x1344x128.size hn).PackedRows (EltTy.packing .bf16))
    {K : P (F := F) PUnit} :
    iprop((dst.view.loc (c : Thread nD τ) ↦[dst.view.setOn (slots2 s)]{fullShare} B) ∗ (o.view.loc (c : Thread nD τ) ↦[Finset.univ]{fullShare} f))
      ⊢ iprop((iprop((dst.view.loc (c : Thread nD τ) ↦[dst.view.setOn (slots2 s)]{fullShare} B)
          ∗ (o.view.loc (c : Thread nD τ) ↦[Finset.univ]{fullShare}
            ((o.access (Rect.unit (s := S3x1408x128) ![n, 0, 0] S1x1344x128.size hn)).write (Elt F) f (cls21 kh r hr) Finset.univ)))
          -∗ WP c K Q) -∗ WP c (gather21 dst w hw r hr o ho n hn hp K) Q) := by
  iintro ⟨Hd, Ho⟩ Hk
  unfold gather21
  iapply (wp_loads c (fun r hr => rows_in (dst := dst) es r 64 S1x64x128.size rfl (hw r hr)) (fun r hr => read_blk hB r hr (hw r hr)) 21 r hr) $$ Hd
  iintro Hd
  iapply (wp_load 𝒱₀ (c : Thread nD τ) none Set.univ (m := o) (Finset.subset_univ _)) $$ Ho
  iintro Ho
  iapply (wp_store 𝒱₀ (c : Thread nD τ) none Set.univ (m := o) (r := Rect.unit (s := S3x1408x128) ![n, 0, 0] S1x1344x128.size hn) (Mk := Finset.univ) (Finset.subset_univ _)) $$ Ho
  iintro Ho
  iapply Hk
  isplitl [Hd]; · iexact Hd
  iexact Ho

end Gathering

/-! ## The arrays of a trip -/

abbrev bK : Memref sig .tc .hbm S1x4096x32x128 .f32 := Memref.whole main_arg2
abbrev bV : Memref sig .tc .hbm S1x4096x32x128 .f32 := Memref.whole main_arg3
abbrev dK : Memref sig .tc .vmem S2x4096x128 .f32 := Memref.whole cc0_scratch1
abbrev dV : Memref sig .tc .vmem S2x4096x128 .f32 := Memref.whole cc0_scratch2
abbrev oK : Memref sig .tc .vmem S3x1408x128 .bf16 := Memref.whole cc0_scratch3
abbrev oV : Memref sig .tc .vmem S3x1408x128 .bf16 := Memref.whole cc0_scratch4
abbrev mQ : Memref sig .tc .vmem S4x256x1024 .bf16 := Memref.whole cc0_scratch0
abbrev mO : Memref sig .tc .vmem S4x256x1024 .bf16 := Memref.whole cc0_scratch5
abbrev mL : Memref sig .tc .vmem S4x8x256 .f32 := Memref.whole cc0_scratch6

def smK (s : Fin 2) : DmaSem sig := ⟨4 + s, by show _ < 40; omega⟩
def smV (s : Fin 2) : DmaSem sig := ⟨6 + s, by show _ < 40; omega⟩
/-- The two slots' shares of an array that both read. -/
def hsh : Fin 2 → PosShare TreeShare
  | 0 => PosShare.left fullShare
  | 1 => PosShare.right fullShare

/-- A slot's buffer holding head `h`. -/
def hbuf (A : Vec F S1x4096x32x128 .f32) (h : Fin 32) : Vec F S2x4096x128 .f32 := fun i => A (ix4 (0 : Fin 1) (i 1 : Fin 4096) h (i 2 : Fin 128))

theorem landsK (c : Dev nD) (A : Vec F S1x4096x32x128 .f32) : Lands c bK dK A (hbuf A) := fun h i => rfl
theorem landsV (c : Dev nD) (A : Vec F S1x4096x32x128 .f32) : Lands c bV dV A (hbuf A) := fun h i => rfl
theorem holdsK (A : Vec F S1x4096x32x128 .f32) (h : Fin 32) : Holds dK (hbuf A h) (headOf A h) := fun i => rfl
theorem holdsV (A : Vec F S1x4096x32x128 .f32) (h : Fin 32) : Holds dV (hbuf A h) (headOf A h) := fun i => rfl

theorem semK_at {w : BitVec 32} {s : Fin 2} (e : w.toNat = s) (h : SemInB w) : (semAt cc0_scratch10 w h).sem = smK s :=
  sem_at2 (base := 4) (by decide) h (by rw [e])
theorem semV_at {w : BitVec 32} {s : Fin 2} (e : w.toNat = s) (h : SemInB w) : (semAt cc0_scratch11 w h).sem = smV s :=
  sem_at2 (base := 6) (by decide) h (by rw [e])

section Step

variable (I : Ins F) (c : Dev nD)

abbrev idleK (s : Fin 2) : sProp 𝕄 := idle c bK dK smK hsh (I.K c) s
abbrev idleV (s : Fin 2) : sProp 𝕄 := idle c bV dV smV hsh (I.V c) s
abbrev busyK (s : Fin 2) (h : Fin 32) : sProp 𝕄 := busy c bK dK smK hsh (I.K c) (hbuf (I.K c)) s h
abbrev busyV (s : Fin 2) (h : Fin 32) : sProp 𝕄 := busy c bV dV smV hsh (I.V c) (hbuf (I.V c)) s h
abbrev fullK (s : Fin 2) (h : Fin 32) : sProp 𝕄 := full c bK dK smK hsh (I.K c) (hbuf (I.K c)) s h
abbrev fullV (s : Fin 2) (h : Fin 32) : sProp 𝕄 := full c bV dV smV hsh (I.V c) (hbuf (I.V c)) s h

/-- Step `t`'s head on its way, if there is a step `t`. -/
def onway (t : ℕ) : sProp 𝕄 :=
  if t < 32 then iprop(busyK I c (slF t) (hdF c t) ∗ busyV I c (slF t) (hdF c t)) else iprop(idleK I c (slF t) ∗ idleV I c (slF t))

theorem slF_two (t : ℕ) : slF (t + 1 + 1) = slF t := Fin.ext (by show (t + 1 + 1) % 2 = t % 2; omega)

theorem wp_fetches {Q : PUnit → sProp 𝕄} (d : Fin 4) (k : Fin 8) (h : InB d c k) {O : CellTallies nD τ sig Unit} {K : P (F := F) PUnit}
    (hmK : ∀ s, (levAts L lv : sProp 𝕄) ⊢ MayWait (c : Thread nD τ) (.dma (smK s)) () O)
    (hmV : ∀ s, (levAts L lv : sProp 𝕄) ⊢ MayWait (c : Thread nD τ) (.dma (smV s)) () O) :
    iprop(□ levAts L lv ∗ onway I c (stp d k) ∗ (idleK I c (slF (stp d k + 1)) ∗ idleV I c (slF (stp d k + 1))) ∗ ow c O)
      ⊢ iprop((iprop((fullK I c (slF (stp d k)) (hdF c (stp d k)) ∗ fullV I c (slF (stp d k)) (hdF c (stp d k)))
          ∗ onway I c (stp d k + 1) ∗ ow c O) -∗ WP c K Q)
        -∗ WP c (fetches bK bV dK dV cc0_scratch10 cc0_scratch11 d c k h K) Q) := by
  have hlt : stp d k < 32 := by unfold stp; omega
  unfold fetches
  have key : ∀ R : sProp 𝕄, iprop(onway I c (stp d k) ∗ R ∗ ow c O ∗ □ levAts L lv)
      ⊢ iprop((iprop((fullK I c (slF (stp d k)) (hdF c (stp d k)) ∗ fullV I c (slF (stp d k)) (hdF c (stp d k))) ∗ R ∗ ow c O) -∗ WP c K Q)
        -∗ WP c (await bK (headW d c k) h.head dK cc0_scratch10 (sW d k) h.slot h.sem
          (await bV (headW d c k) h.head dV cc0_scratch11 (sW d k) h.slot h.sem K)) Q) := by
    intro R
    unfold onway
    rw [if_pos hlt]
    iintro ⟨⟨HK, HV⟩, HR, HO, #Hlev⟩ Hk
    iapply (wp_await (h := hdF c (stp d k)) h.head h.slot h.sem (semK_at (sW_nat d k) h.sem)) $$ [HK HO]
    · isplitl [HK]; · iexact HK
      isplitl [HO]; · iexact HO
      iapply (hmK _) $$ Hlev
    iintro ⟨HK, HO⟩
    iapply (wp_await (h := hdF c (stp d k)) h.head h.slot h.sem (semV_at (sW_nat d k) h.sem)) $$ [HV HO]
    · isplitl [HV]; · iexact HV
      isplitl [HO]; · iexact HO
      iapply (hmV _) $$ Hlev
    iintro ⟨HV, HO⟩
    iapply Hk
    isplitl [HK HV]
    · isplitl [HK]; · iexact HK
      iexact HV
    isplitl [HR]; · iexact HR
    iexact HO
  by_cases hc : cW d k = 1#1
  · rw [dif_pos hc]
    have hlt' : stp d k + 1 < 32 := (cW_iff d k).mp hc
    show _ ⊢ iprop((_ -∗ _) -∗ WP c (fetch bK (nextW d c k) (h.headN hc) dK cc0_scratch10 (nW d k) (h.slotN hc) (h.semN hc)
      (fetch bV (nextW d c k) (h.headN hc) dV cc0_scratch11 (nW d k) (h.slotN hc) (h.semN hc) _)) Q)
    iintro ⟨#Hlev, Hb, ⟨HiK, HiV⟩, HO⟩ Hk
    iapply (wp_fetch (landsK c (I.K c)) (h.headN hc) (h.slotN hc) (h.semN hc) (nextW_nat d c k hc) (nW_nat d k) (semK_at (nW_nat d k) (h.semN hc))) $$ HiK
    iintro HnK
    iapply (wp_fetch (landsV c (I.V c)) (h.headN hc) (h.slotN hc) (h.semN hc) (nextW_nat d c k hc) (nW_nat d k) (semV_at (nW_nat d k) (h.semN hc))) $$ HiV
    iintro HnV
    iapply (key (onway I c (stp d k + 1))) $$ [Hb HnK HnV HO]
    · isplitl [Hb]; · iexact Hb
      isplitl [HnK HnV]
      · unfold onway
        rw [if_pos hlt']
        isplitl [HnK]; · iexact HnK
        iexact HnV
      isplitl [HO]; · iexact HO
      iexact Hlev
    iexact Hk
  · rw [dif_neg hc]
    have hlt' : ¬ stp d k + 1 < 32 := fun hh => hc ((cW_iff d k).mpr hh)
    show _ ⊢ iprop((_ -∗ _) -∗ WP c (await bK (headW d c k) h.head dK cc0_scratch10 (sW d k) h.slot h.sem
          (await bV (headW d c k) h.head dV cc0_scratch11 (sW d k) h.slot h.sem K)) Q)
    iintro ⟨#Hlev, Hb, ⟨HiK, HiV⟩, HO⟩ Hk
    iapply (key (onway I c (stp d k + 1))) $$ [Hb HiK HiV HO]
    · isplitl [Hb]; · iexact Hb
      isplitl [HiK HiV]
      · unfold onway
        rw [if_neg hlt']
        isplitl [HiK]; · iexact HiK
        iexact HiV
      isplitl [HO]; · iexact HO
      iexact Hlev
    iexact Hk

/-- The gathered classes: of a head, or of none. -/
def clsOf (o : Memref sig .tc .vmem S3x1408x128 .bf16) (kh : Head F) : sProp 𝕄 :=
  iprop(∃ f, ⌜IsCls o f kh⌝ ∗ (o.view.loc (c : Thread nD τ) ↦[Finset.univ]{fullShare} f))
def clsAny (o : Memref sig .tc .vmem S3x1408x128 .bf16) : sProp 𝕄 :=
  iprop(∃ f : o.view.ty.Contents (Elt F), ⌜Tail o f⌝ ∗ (o.view.loc (c : Thread nD τ) ↦[Finset.univ]{fullShare} f))

theorem clsAny_of {o : Memref sig .tc .vmem S3x1408x128 .bf16} {kh : Head F} : clsOf c o kh ⊢ clsAny (F := F) c o := by
  unfold clsOf clsAny
  iintro ⟨%f, %hf, H⟩
  iexists f
  isplitr
  · ipureintro
    exact hf.tail
  iexact H

theorem wp_gathers {Q : PUnit → sProp 𝕄} (d : Fin 4) (k : Fin 8) (h : InB d c k) {K : P (F := F) PUnit} (g : Fin 32) :
    iprop((fullK I c (slF (stp d k)) g ∗ fullV I c (slF (stp d k)) g) ∗ clsAny c oK ∗ clsAny c oV)
      ⊢ iprop((iprop((fullK I c (slF (stp d k)) g ∗ fullV I c (slF (stp d k)) g)
          ∗ clsOf c oK (headOf (I.K c) g) ∗ clsOf c oV (headOf (I.V c) g)) -∗ WP c K Q)
        -∗ WP c (gathers dK dV oK (Memref.isWhole_whole _) oV (Memref.isWhole_whole _) d c k h K) Q) := by
  unfold clsAny gathers
  iintro ⟨⟨HK, HV⟩, ⟨%fK, %tK, HoK⟩, %fV, %tV, HoV⟩ Hk
  unfold fullK fullV full
  icases HK with ⟨HK, HzK, HaK⟩
  icases HV with ⟨HV, HzV, HaV⟩
  iapply (wp_gather22 c (holdsK (I.K c) g) (sW_nat d k) (fun _ => h.row) (Memref.isWhole_whole _)) $$ [HK HoK]
  · isplitl [HK]; · iexact HK
    iexact HoK
  iintro ⟨HK, HoK⟩
  iapply (wp_gather22 c (holdsV (I.V c) g) (sW_nat d k) (fun _ => h.row) (Memref.isWhole_whole _)) $$ [HV HoV]
  · isplitl [HV]; · iexact HV
    iexact HoV
  iintro ⟨HV, HoV⟩
  iapply (wp_gather21 c (holdsK (I.K c) g) (sW_nat d k) (fun _ => h.row) 64 _ (Memref.isWhole_whole _) 1 _ _) $$ [HK HoK]
  · isplitl [HK]; · iexact HK
    iexact HoK
  iintro ⟨HK, HoK⟩
  iapply (wp_gather21 c (holdsV (I.V c) g) (sW_nat d k) (fun _ => h.row) 64 _ (Memref.isWhole_whole _) 1 _ _) $$ [HV HoV]
  · isplitl [HV]; · iexact HV
    iexact HoV
  iintro ⟨HV, HoV⟩
  iapply (wp_gather21 c (holdsK (I.K c) g) (sW_nat d k) (fun _ => h.row) 128 _ (Memref.isWhole_whole _) 2 _ _) $$ [HK HoK]
  · isplitl [HK]; · iexact HK
    iexact HoK
  iintro ⟨HK, HoK⟩
  iapply (wp_gather21 c (holdsV (I.V c) g) (sW_nat d k) (fun _ => h.row) 128 _ (Memref.isWhole_whole _) 2 _ _) $$ [HV HoV]
  · isplitl [HV]; · iexact HV
    iexact HoV
  iintro ⟨HV, HoV⟩
  iapply Hk
  isplitl [HK HzK HaK HV HzV HaV]
  · isplitl [HK HzK HaK]
    · isplitl [HK]; · iexact HK
      isplitl [HzK]; · iexact HzK
      iexact HaK
    · isplitl [HV]; · iexact HV
      isplitl [HzV]; · iexact HzV
      iexact HaV
  unfold clsOf
  isplitl [HoK]
  · iexists _
    isplitr
    rotate_left
    · iexact HoK
    · ipureintro
      exact isCls_stores tK _
  · iexists _
    isplitr
    rotate_left
    · iexact HoV
    · ipureintro
      exact isCls_stores tV _

/-- The queries of block `g`, at a share. -/
def qPts (sh : PosShare TreeShare) (g : Fin 4) : sProp 𝕄 :=
  mQ.view.loc (c : Thread nD τ) ↦[slotsQ g]{sh} (qAll I)
/-- The results of block `g`, through its first `k` heads. -/
def oPts (g : Fin 4) (k : ℕ) : sProp 𝕄 :=
  iprop(∃ f : Vec F S4x256x1024 .bf16, ⌜∀ i : S4x256x1024.Idx, (i 0 : ℕ) = g → (i 2 : ℕ) < 128 * k → f i = opD I c i⌝
    ∗ (mO.view.loc (c : Thread nD τ) ↦[slotsQ g]{fullShare} f))
def lPts (g : Fin 4) (k : ℕ) : sProp 𝕄 :=
  iprop(∃ f : Vec F S4x8x256 .f32, ⌜∀ i : S4x8x256.Idx, (i 0 : ℕ) = g → (i 1 : ℕ) < k → f i = lpD I c i⌝
    ∗ (mL.view.loc (c : Thread nD τ) ↦[slotsL g]{fullShare} f))

theorem q_in (d : Fin 4) (k : Fin 8) (r n : ℕ) (size : Fin 3 → ℕ) (h0 : size 0 = 1) (h : ∀ a, qOff d c k r a + size a ≤ S4x256x1024.size a)
    {b : Memref sig .tc .vmem S4x256x1024 .bf16} :
    b.view.setOn (Rect.unit (s := S4x256x1024) (qOff d c k r) size h).set ⊆ b.view.setOn (slotsQ (gF c d)) := by
  refine Finset.map_subset_map.mpr fun i hi => ?_
  rw [Rect.mem_set_unit] at hi
  have := hi 0
  rw [h0, qOff_eq] at this
  change (gF c d : ℕ) ≤ (i 0 : ℕ) ∧ (i 0 : ℕ) < gF c d + 1 at this
  exact Finset.mem_filter.mpr ⟨Finset.mem_univ _, by omega⟩

theorem l_in (d : Fin 4) (k : Fin 8) (h : ∀ a, lOff d c k a + S1x1x256.size a ≤ S4x8x256.size a)
    {b : Memref sig .tc .vmem S4x8x256 .f32} :
    b.view.setOn (Rect.unit (s := S4x8x256) (lOff d c k) S1x1x256.size h).set ⊆ b.view.setOn (slotsL (gF c d)) := by
  refine Finset.map_subset_map.mpr fun i hi => ?_
  rw [Rect.mem_set_unit] at hi
  have := hi 0
  rw [lOff_eq] at this
  change (gF c d : ℕ) ≤ (i 0 : ℕ) ∧ (i 0 : ℕ) < gF c d + 1 at this
  exact Finset.mem_filter.mpr ⟨Finset.mem_univ _, by omega⟩

/-- A whole buffer's view keeps a set of elements as it is. -/
theorem setOn_id {r : Ref sig .tc} (S : Finset r.ty.shape.Idx) : (View.whole r : View sig .tc _ _ _).setOn S = S := by
  ext i
  exact (View.whole r : View sig .tc _ _ _).mem_setOn (x := i)

theorem wp_ldQ {Q : PUnit → sProp 𝕄} (sh : PosShare TreeShare) (d : Fin 4) (k : Fin 8) (r : ℕ) (hr : r + 64 ≤ 256)
    (h : ∀ a, qOff d c k r a + S1x64x128.size a ≤ S4x256x1024.size a) {K : Vec F S1x64x128 .bf16 → P (F := F) PUnit} :
    qPts I c sh (gF c d) ⊢ iprop((qPts I c sh (gF c d) -∗ WP c (K (qRows (qAll I) (gF c d) k 64 r hr)) Q)
      -∗ WP c (ldQ mQ (qOff d c k r) h K) Q) := by
  unfold qPts ldQ
  iintro Hq Hk
  iapply (wp_load 𝒱₀ (c : Thread nD τ) none Set.univ (m := mQ)
    ((q_in c d k r 64 S1x64x128.size rfl h (b := mQ)).trans (setOn_id (r := cc0_scratch0) (slotsQ (gF c d))).le)) $$ Hq
  iintro Hq
  rw [read_q (qAll I) d c k 64 r hr h]
  iapply Hk
  iexact Hq

theorem wp_ldC {Q : PUnit → sProp 𝕄} {o : Memref sig .tc .vmem S3x1408x128 .bf16} {kh : Head F} {w : BitVec 32} {n : Fin 3} (e : w.toNat = n)
    (h : ∀ a, rowOff w 0 a + S1x1408x128.size a ≤ S3x1408x128.size a) {K : Vec F S1x1408x128 .bf16 → P (F := F) PUnit} :
    clsOf c o kh ⊢ iprop((clsOf c o kh -∗ WP c (K (clsRow (clsA kh) n)) Q) -∗ WP c (ldC o w h K) Q) := by
  unfold clsOf ldC
  iintro ⟨%f, %hf, Hq⟩ Hk
  iapply (wp_load 𝒱₀ (c : Thread nD τ) none Set.univ (m := o) (Finset.subset_univ _)) $$ Hq
  iintro Hq
  rw [read_cls hf e h]
  iapply Hk
  iexists f
  isplitr
  · ipureintro
    exact hf
  iexact Hq

theorem wp_ldX {Q : PUnit → sProp 𝕄} {dst : Memref sig .tc .vmem S2x4096x128 .f32}
    {B : Buf (Elt F) (dst.view.loc (c : Thread nD τ))} {kh : Head F} (hB : Holds dst B kh) {w : BitVec 32} {s : Fin 2} (es : w.toNat = s)
    (h : ∀ a, rowOff w 0 a + S1x256x128.size a ≤ S2x4096x128.size a) {K : Vec F S1x256x128 .f32 → P (F := F) PUnit} :
    (dst.view.loc (c : Thread nD τ) ↦[dst.view.setOn (slots2 s)]{fullShare} B : sProp 𝕄)
      ⊢ iprop(((dst.view.loc (c : Thread nD τ) ↦[dst.view.setOn (slots2 s)]{fullShare} B) -∗ WP c (K (xRows kh)) Q) -∗ WP c (ldX dst w h K) Q) := by
  unfold ldX
  iintro Hq Hk
  iapply (wp_load 𝒱₀ (c : Thread nD τ) none Set.univ (m := dst) (rows_in (dst := dst) es 0 256 S1x256x128.size rfl h)) $$ Hq
  iintro Hq
  rw [read_x hB h]
  iapply Hk
  iexact Hq

theorem wp_got {Q : PUnit → sProp 𝕄} (sh : PosShare TreeShare) (d : Fin 4) (k : Fin 8) (h : InB d c k) {K : Got F → P (F := F) PUnit} :
    iprop((fullK I c (slF (stp d k)) (hdF c (stp d k)) ∗ fullV I c (slF (stp d k)) (hdF c (stp d k)))
        ∗ (clsOf c oK (headOf (I.K c) (hdF c (stp d k))) ∗ clsOf c oV (headOf (I.V c) (hdF c (stp d k)))) ∗ qPts I c sh (gF c d))
      ⊢ iprop((iprop((fullK I c (slF (stp d k)) (hdF c (stp d k)) ∗ fullV I c (slF (stp d k)) (hdF c (stp d k)))
        ∗ (clsOf c oK (headOf (I.K c) (hdF c (stp d k))) ∗ clsOf c oV (headOf (I.V c) (hdF c (stp d k)))) ∗ qPts I c sh (gF c d))
          -∗ WP c (K (gotD (qAll I) (I.K c) (I.V c) c (gF c d) k)) Q)
        -∗ WP c (got mQ dK dV oK oV d c k h K) Q) := by
  have eg : gotD (qAll I) (I.K c) (I.V c) c (gF c d) k
      = gotM (qAll I) (headOf (I.K c) (hdF c (stp d k))) (headOf (I.V c) (hdF c (stp d k))) c (gF c d) k := by
    rw [hdF_eq]
    rfl
  rw [eg]
  unfold got fullK fullV full
  iintro ⟨⟨⟨HK, HzK⟩, HV, HzV⟩, ⟨HcK, HcV⟩, Hq⟩ Hk
  iapply (wp_ldX c (holdsK _ _) (sW_nat d k) h.x) $$ HK
  iintro HK
  iapply (wp_ldX c (holdsV _ _) (sW_nat d k) h.x) $$ HV
  iintro HV
  iapply (wp_ldQ I c sh d k 0 (by decide) h.q0) $$ Hq
  iintro Hq
  iapply (wp_ldQ I c sh d k 192 (by decide) h.q3) $$ Hq
  iintro Hq
  iapply (wp_ldC c (clsW0_nat c) h.cls0) $$ HcK
  iintro HcK
  iapply (wp_ldC c (clsW0_nat c) h.cls0) $$ HcV
  iintro HcV
  iapply (wp_ldQ I c sh d k 64 (by decide) h.q1) $$ Hq
  iintro Hq
  iapply (wp_ldC c (clsW1_nat c) h.cls1) $$ HcK
  iintro HcK
  iapply (wp_ldC c (clsW1_nat c) h.cls1) $$ HcV
  iintro HcV
  iapply (wp_ldQ I c sh d k 128 (by decide) h.q2) $$ Hq
  iintro Hq
  iapply (wp_ldC c (clsW2_nat c) h.cls2) $$ HcK
  iintro HcK
  iapply (wp_ldC c (clsW2_nat c) h.cls2) $$ HcV
  iintro HcV
  unfold qPts
  iapply (wp_load 𝒱₀ (c : Thread nD τ) none Set.univ (m := mQ)
    ((q_in c d k 64 128 S1x128x128.size rfl h.q12 (b := mQ)).trans (setOn_id (r := cc0_scratch0) (slotsQ (gF c d))).le)) $$ Hq
  iintro Hq
  rw [read_q (qAll I) d c k 128 64 (by decide) h.q12]
  iapply Hk
  isplitl [HK HzK HV HzV]
  · isplitl [HK HzK]
    · isplitl [HK]; · iexact HK
      iexact HzK
    · isplitl [HV]; · iexact HV
      iexact HzV
  isplitl [HcK HcV]
  · isplitl [HcK]; · iexact HcK
    iexact HcV
  iexact Hq

theorem wp_stO {Q : PUnit → sProp 𝕄} (d : Fin 4) (k : Fin 8) (r : ℕ) {ho : mO.IsWhole}
    (h : ∀ a, qOff d c k r a + S1x64x128.size a ≤ S4x256x1024.size a)
    (hp : (Rect.unit (s := S4x256x1024) (qOff d c k r) S1x64x128.size h).PackedRows (EltTy.packing .bf16))
    (v : FVec F S1x64x128 .bf16) {K : P (F := F) PUnit} (f : Vec F S4x256x1024 .bf16) :
    (mO.view.loc (c : Thread nD τ) ↦[slotsQ (gF c d)]{fullShare} f : sProp 𝕄)
      ⊢ iprop(((mO.view.loc (c : Thread nD τ) ↦[slotsQ (gF c d)]{fullShare} (put (qOff d c k r) h v f)) -∗ WP c K Q)
        -∗ WP c (stO mO ho (qOff d c k r) h hp v K) Q) := by
  have hS : (mO.access (Rect.unit (s := S4x256x1024) (qOff d c k r) S1x64x128.size h)).setOn Finset.univ ⊆ slotsQ (gF c d) :=
    (View.set_slice mO.view _).le.trans ((q_in c d k r 64 S1x64x128.size rfl h (b := mO)).trans (setOn_id (r := cc0_scratch5) (slotsQ (gF c d))).le)
  unfold stO
  iintro Ho Hk
  iapply (wp_load 𝒱₀ (c : Thread nD τ) none Set.univ (m := mO)
    ((q_in c d k r 64 S1x64x128.size rfl h (b := mO)).trans (setOn_id (r := cc0_scratch5) (slotsQ (gF c d))).le)) $$ Ho
  iintro Ho
  iapply (wp_store 𝒱₀ (c : Thread nD τ) none Set.univ (m := mO) (r := Rect.unit (s := S4x256x1024) (qOff d c k r) S1x64x128.size h)
    (Mk := Finset.univ) hS) $$ Ho
  iexact Hk

/-- A trip. -/
theorem wp_trip {Q : PUnit → sProp 𝕄} (sh : PosShare TreeShare) (d : Fin 4) (k : Fin 8) (h : InB d c k) {O : CellTallies nD τ sig Unit}
    {hK : oK.IsWhole} {hV : oV.IsWhole} {hO : mO.IsWhole}
    (hmK : ∀ s, (levAts L lv : sProp 𝕄) ⊢ MayWait (c : Thread nD τ) (.dma (smK s)) () O)
    (hmV : ∀ s, (levAts L lv : sProp 𝕄) ⊢ MayWait (c : Thread nD τ) (.dma (smV s)) () O) :
    iprop(□ levAts L lv ∗ onway I c (stp d k) ∗ (idleK I c (slF (stp d k + 1)) ∗ idleV I c (slF (stp d k + 1))) ∗ ow c O
        ∗ (clsAny c oK ∗ clsAny c oV) ∗ qPts I c sh (gF c d) ∗ oPts I c (gF c d) k ∗ lPts I c (gF c d) k)
      ⊢ iprop((iprop(onway I c (stp d k + 1) ∗ (idleK I c (slF (stp d k + 1 + 1)) ∗ idleV I c (slF (stp d k + 1 + 1))) ∗ ow c O
        ∗ (clsAny c oK ∗ clsAny c oV) ∗ qPts I c sh (gF c d) ∗ oPts I c (gF c d) (k + 1) ∗ lPts I c (gF c d) (k + 1)) -∗ Q ⟨⟩)
        -∗ WP c (trip bK bV mQ dK dV oK hK oV hV mO hO mL cc0_scratch10 cc0_scratch11 c t22M t21M (xbM c) d k h) Q) := by
  unfold trip
  iintro ⟨#Hlev, Hb, Hi, HO, ⟨HcK, HcV⟩, Hq, Ho, Hl⟩ Hk
  iapply (wp_fetches I c d k h hmK hmV) $$ [Hb Hi HO]
  · isplitr; · iexact Hlev
    isplitl [Hb]; · iexact Hb
    isplitl [Hi]; · iexact Hi
    iexact HO
  iintro ⟨HF, Hb, HO⟩
  iapply (wp_gathers I c d k h (hdF c (stp d k))) $$ [HF HcK HcV]
  · isplitl [HF]; · iexact HF
    isplitl [HcK]; · iexact HcK
    iexact HcV
  iintro ⟨HF, Hc⟩
  iapply (wp_got I c sh d k h) $$ [HF Hc Hq]
  · isplitl [HF]; · iexact HF
    isplitl [Hc]; · iexact Hc
    iexact Hq
  iintro ⟨⟨HFK, HFV⟩, ⟨HcK, HcV⟩, Hq⟩
  unfold oPts lPts
  icases Ho with ⟨%f, %hf, Ho⟩
  icases Hl with ⟨%fl, %hfl, Hl⟩
  iapply (wp_stO c d k 0 h.q0 h.p0 _ f) $$ Ho
  iintro Ho
  iapply (wp_stO c d k 64 h.q1 h.p1 _ _) $$ Ho
  iintro Ho
  iapply (wp_stO c d k 128 h.q2 h.p2 _ _) $$ Ho
  iintro Ho
  iapply (wp_stO c d k 192 h.q3 h.p3 _ _) $$ Ho
  iintro Ho
  have hSl : (mL.access (Rect.unit (s := S4x8x256) (lOff d c k) S1x1x256.size h.l)).setOn Finset.univ ⊆ slotsL (gF c d) :=
    (View.set_slice mL.view _).le.trans ((l_in c d k h.l (b := mL)).trans (setOn_id (r := cc0_scratch6) (slotsL (gF c d))).le)
  iapply (wp_load 𝒱₀ (c : Thread nD τ) none Set.univ (m := mL) ((l_in c d k h.l (b := mL)).trans (setOn_id (r := cc0_scratch6) (slotsL (gF c d))).le)) $$ Hl
  iintro Hl
  iapply (wp_store 𝒱₀ (c : Thread nD τ) none Set.univ (m := mL) (r := Rect.unit (s := S4x8x256) (lOff d c k) S1x1x256.size h.l)
    (Mk := Finset.univ) hSl) $$ Hl
  iintro Hl
  rw [wp_ret]
  imodintro
  iapply Hk
  isplitl [Hb]; · iexact Hb
  isplitl [HFK HFV]
  · rw [slF_two]
    isplitl [HFK]
    · iapply (idle_of_full c bK dK smK hsh (I.K c) (hbuf (I.K c))) $$ HFK
    · iapply (idle_of_full c bV dV smV hsh (I.V c) (hbuf (I.V c))) $$ HFV
  isplitl [HO]; · iexact HO
  isplitl [HcK HcV]
  · isplitl [HcK]
    · iapply (clsAny_of c) $$ HcK
    · iapply (clsAny_of c) $$ HcV
  isplitl [Hq]; · iexact Hq
  isplitl [Ho]
  · iexists _
    isplitr
    rotate_left
    · iexact Ho
    · ipureintro
      exact fun i hi hk => results (qAll I) (I.K c) (I.V c) c d k hf i hi hk
  · iexists _
    isplitr
    rotate_left
    · iexact Hl
    · ipureintro
      exact fun i hi hk => resultsL (qAll I) (I.K c) (I.V c) c d k hfl i hi hk

end Step

end Cert.KernelIdeal.Own

end
-- ==== Proof.Ops.lean ====
module

public import proofs.«01_k».proof.Proof.TripRun
public import proofs.«01_k».proof.Proof.TripEq

@[expose] public section

noncomputable section

/-! # The steps of the body

The loops, the signals, the copies between devices and the waits for them, each from what it needs to what it leaves. -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F)

/-! ## The cells' invariants -/

/-- The counters a device's peers pay on, or it itself: the barrier's, then those of the copies. -/
def semOf (j : Fin 33) : SemLoc sig := if h : (j : ℕ) = 0 then .reg barS else .dma ⟨7 + j, by show _ < 40; omega⟩
def iS (e t : Fin 4) : Fin 33 := ⟨1 + 8 * (e : ℕ) + t, by omega⟩
def iR (e s : Fin 4) : Fin 33 := ⟨5 + 8 * (e : ℕ) + s, by omega⟩
theorem semOf_iS (e t : Fin 4) : semOf (iS e t) = .dma (sendS e t) := by
  unfold semOf
  rw [dif_neg (by show ¬ (1 + 8 * (e : ℕ) + t) = 0; omega)]
  exact congrArg SemLoc.dma (Fin.ext (by show 7 + (1 + 8 * (e : ℕ) + t) = 8 + 8 * (e : ℕ) + t; omega))
theorem semOf_iR (e t : Fin 4) : semOf (iR e t) = .dma (recvS e t) := by
  unfold semOf
  rw [dif_neg (by show ¬ (5 + 8 * (e : ℕ) + t) = 0; omega)]
  exact congrArg SemLoc.dma (Fin.ext (by show 7 + (5 + 8 * (e : ℕ) + t) = 12 + 8 * (e : ℕ) + t; omega))

abbrev kcell (p : Dev nD × Fin 33) : GSem nD τ sig := ((p.1 : Thread nD τ), semOf p.2)
theorem kcell_bar (c : Dev nD) : kcell (c, 0) = barC c := rfl
theorem kcell_send (c : Dev nD) (e t : Fin 4) : kcell (c, iS e t) = sendC c e t := by show (_, semOf _) = _; rw [semOf_iS]
theorem kcell_recv (c : Dev nD) (e t : Fin 4) : kcell (c, iR e t) = recvC c e t := by show (_, semOf _) = _; rw [semOf_iR]

/-- Every cell's invariant, and that each is at its first round. -/
def G (K : Dev nD × Fin 33 → ℕ) : sProp 𝕄 :=
  bigSep Finset.univ fun p => iprop(cellInv ER (Rd I) (K p) (kcell p) ∗ reached ER (kcell p) 0)
instance G_persistent (K : Dev nD × Fin 33 → ℕ) : Persistent (G I K) := by unfold G; infer_instance

theorem G_bar (K : Dev nD × Fin 33 → ℕ) (c : Dev nD) : G I K ⊢ iprop(cellInv ER (Rd I) (K (c, 0)) (barC c) ∗ reached ER (barC c) 0) :=
  bigSep_elim (Finset.mem_univ (c, 0))
theorem G_send (K : Dev nD × Fin 33 → ℕ) (c : Dev nD) (e t : Fin 4) :
    G I K ⊢ iprop(cellInv ER (Rd I) (K (c, iS e t)) (sendC c e t) ∗ reached ER (sendC c e t) 0) := by
  rw [← kcell_send]; exact bigSep_elim (Finset.mem_univ (c, iS e t))
theorem G_recv (K : Dev nD × Fin 33 → ℕ) (c : Dev nD) (e t : Fin 4) :
    G I K ⊢ iprop(cellInv ER (Rd I) (K (c, iR e t)) (recvC c e t) ∗ reached ER (recvC c e t) 0) := by
  rw [← kcell_recv]; exact bigSep_elim (Finset.mem_univ (c, iR e t))

variable (K : Dev nD × Fin 33 → ℕ) (c : Dev nD)

theorem around_ne {w : Fin 4} (hw : w ≠ 0) (c : Dev nD) : around c w ≠ c := by revert w c; decide

/-! ## The loops -/

/-- Before trip `k` of the loop for the block of heads `d` places around, `n` debts paid. -/
def LS (sh : PosShare TreeShare) (d : Fin 4) (n k : ℕ) : sProp 𝕄 :=
  iprop(onway I c (stp d k) ∗ (idleK I c (slF (stp d k + 1)) ∗ idleV I c (slF (stp d k + 1))) ∗ ow c (owed c n)
    ∗ (clsAny c oK ∗ clsAny c oV) ∗ qPts I c sh (gF c d) ∗ oPts I c (gF c d) k ∗ lPts I c (gF c d) k)

theorem lv_pos : ∀ n : Fin 16, 0 < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5) := by decide

theorem lv_own (s : Fin 2) : lvS (.dma (smK s)) = 0 ∧ lvS (.dma (smV s)) = 0 := by revert s; decide

theorem wp_trips (sh : PosShare TreeShare) (d : Fin 4) (n : Fin 16) {lb ub st : BitVec 32} {hok : Scf.OK lb ub st}
    (ht : Scf.trips lb ub st = 8) {body : Fin (Scf.trips lb ub st) → PUnit → P (F := F) PUnit}
    {hK : oK.IsWhole} {hV : oV.IsWhole} {hO : mO.IsWhole}
    (hb : ∀ k acc, body k acc = trip bK bV mQ dK dV oK hK oV hV mO hO mL cc0_scratch10 cc0_scratch11 c t22M t21M (xbM c) d
      (Fin.cast ht k) (inB d c (Fin.cast ht k)))
    {β : Type} {kk : PUnit → P (F := F) β} {Q : β → sProp 𝕄} :
    iprop(□ levAts L lv ∗ LS I c sh d n 0)
      ⊢ iprop((LS I c sh d n 8 -∗ WP c (kk ⟨⟩) Q) -∗ WP c (Scf.for lb ub st hok ⟨⟩ body >>= kk) Q) := by
  have h1 : ∀ s, lvS (.dma (smK s)) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5) := by
    intro s; rw [(lv_own s).1]; exact lv_pos n
  have h2 : ∀ s, lvS (.dma (smV s)) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5) := by
    intro s; rw [(lv_own s).2]; exact lv_pos n
  have hbody : ∀ (k : Fin (Scf.trips lb ub st)) (acc : PUnit), iprop(□ levAts L lv ∗ LS I c sh d n k)
      ⊢ WP c (body k acc) (fun _ => iprop(□ levAts L lv ∗ LS I c sh d n (k.val + 1))) := by
    intro k acc
    rw [hb k acc]
    unfold LS
    iintro ⟨#Hlev, Hs⟩
    iapply (wp_trip I c sh d (Fin.cast ht k) (inB d c (Fin.cast ht k)) (O := owed c n) (fun s => mayWait c _ n (h1 s)) (fun s => mayWait c _ n (h2 s))) $$ [Hs]
    · isplitr; · iexact Hlev
      iexact Hs
    iintro Hs
    isplitr; · iexact Hlev
    iexact Hs
  refine (Scf.wp_for_bind frame (wpE (defs₀ (F := F)) 𝒱₀ (c : Thread nD τ) none) Set.univ lb ub st hok ⟨⟩ body
    (fun k _ => iprop(□ levAts L lv ∗ LS I c sh d n k)) hbody (kk := kk) (Q := Q)).trans ?_
  refine wand_mono_left ?_
  iintro Hk %acc
  rw [ht]
  iintro ⟨-, Hs⟩
  iapply Hk $$ Hs

/-! ## Signals and waits -/

theorem wp_sig (w : Fin 4) (hw : w ≠ 0) {n : Dev nD} (hn : n = around c w) (m : ℕ)
    (hO : owed c m = owed c (m + 1) + tallyAt (barC (around c w)) () 1)
    {α : Type} {kk : PUnit → P (F := F) α} {Q : α → sProp 𝕄} :
    iprop(□ G I K ∗ ow c (owed c m) ∗ dutyTok ER (barC (around c w)) 0 c ∗ barPay (around c w) c)
      ⊢ iprop((ow c (owed c (m + 1)) -∗ WP c (kk ⟨⟩) Q)
        -∗ WP c (.op (.semSignal ((n, .tc) : Thread nD τ) barS (1#32 : BitVec 32).toInt) kk) Q) := by
  subst hn
  unfold ow
  iintro ⟨#HG, ⟨%W, HO⟩, Htok, Hpay⟩ Hk
  ihave Hi := (G_bar I K (around c w)) $$ HG
  icases Hi with ⟨#Hi, #Hr⟩
  iapply (Rounds.wp_signal 𝒱₀ ER (Rd I) (c : Thread nD τ) none (dst := (around c w : Thread nD τ)) (κ := K (around c w, 0)) (r := 0) (d := c) (k' := 1)
    (by rw [duties_bar]; exact Finset.mem_erase.mpr ⟨(around_ne hw c).symm, Finset.mem_univ _⟩)
    ((amount_bar I _ _).trans (by decide)) () (owed c (m + 1)) hO) $$ [HO Htok Hpay]
  · isplitr; · iexact Hi
    isplitl [HO]; · iexact HO
    isplitl [Htok]; · iexact Htok
    isplitl [Hpay]; · iapply (Entails.of_eq (payload_bar I (around c w) c).symm) $$ Hpay
    iexact Hr
  iintro HO
  iapply Hk
  iexists W
  iexact HO

theorem wp_bar {α : Type} {kk : PUnit → P (F := F) α} {Q : α → sProp 𝕄} :
    iprop(□ G I K ∗ □ levAts L lv ∗ ow c (owed c 3) ∗ cred (tallyAt (barC c) () 3) ∗ atPos ER (barC c) 0 ∅ 0)
      ⊢ iprop((iprop(ow c (owed c 3) ∗ atPos ER (barC c) (0 + 1) ∅ 0 ∗ barPay c (around c 1) ∗ barPay c (around c 2) ∗ barPay c (around c 3))
          -∗ WP c (kk ⟨⟩) Q)
        -∗ WP c (.op (.semWait barS (3#32 : BitVec 32).toInt) kk) Q) := by
  unfold ow
  iintro ⟨#HG, #Hlev, ⟨%W, HO⟩, Hc, Hat⟩ Hk
  ihave Hi := (G_bar I K c) $$ HG
  icases Hi with ⟨#Hi, #Hr⟩
  iapply (Rounds.wp_wait_rest_token 𝒱₀ ER (Rd I) (c : Thread nD τ) none (κ := K (c, 0))
      (wpE_semWait_eq 𝒱₀ (c : Thread nD τ) none Set.univ) (Set.mem_univ _) () (O := owed c 3) (W := W) (R := 0) (m := 0) (T := ∅)
      (by rw [expect_bar]; decide)) $$ [HO Hc Hat]
  · isplitr; · iexact Hi
    isplitl [Hc]; · iexact Hc
    isplitl [HO]; · iexact HO
    isplitr
    · iapply (mayWait c (.reg barS) 3 (by decide)) $$ Hlev
    iexact Hat
  iintro ⟨HO, Hat, -, Hp⟩
  ihave Hp := (Entails.of_eq (rest_bar I c)) $$ Hp
  iapply Hk
  isplitl [HO]
  · iexists _
    iexact HO
  isplitl [Hat]; · iexact Hat
  iexact Hp

/-- A wait for a receipt. -/
theorem wp_recv (e w : Fin 4) (hw : w ≠ 0) (n : Fin 16)
    (hb : lvS (.dma (recvS e (around c w))) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5))
    {sm : DmaSem sig} (hs : sm = recvS e (around c w)) {sp sp'} {s : Shape} {t : EltTy} {src : Memref sig .tc sp s t} {dst : Memref sig .tc sp' s t}
    {h1 : src.view.WordExact} {h2 : dst.view.WordExact} (ha : dst.view.dmaCredit = amt e)
    {α : Type} {kk : PUnit → P (F := F) α} {Q : α → sProp 𝕄} :
    iprop(□ G I K ∗ □ levAts L lv ∗ ow c (owed c n) ∗ cred (tallyAt (recvC c e (around c w)) () (amt e)) ∗ atPos ER (recvC c e (around c w)) 0 ∅ 0)
      ⊢ iprop((iprop(ow c (owed c n) ∗ atPos ER (recvC c e (around c w)) (0 + 1) ∅ 0 ∗ recvPay I e c (around c w))
          -∗ WP c (kk ⟨⟩) Q)
        -∗ WP c (.op (.waitDma2 sm src dst h1 h2) kk) Q) := by
  subst hs
  have hne := around_ne hw c
  unfold ow
  iintro ⟨#HG, #Hlev, ⟨%W, HO⟩, Hc, Hat⟩ Hk
  ihave Hi := (G_recv I K c e (around c w)) $$ HG
  icases Hi with ⟨#Hi, #Hr⟩
  rw [← ha]
  iapply (Rounds.wp_wait_rest_token 𝒱₀ ER (Rd I) (c : Thread nD τ) none (κ := K (c, iR e (around c w)))
      (wpE_waitDma2_eq 𝒱₀ (c : Thread nD τ) none Set.univ) (Set.mem_univ _) () (O := owed c n) (W := W) (R := 0) (m := 0) (T := ∅)
      (by rw [Nat.zero_add, expect_recv I hne]; exact ha)) $$ [HO Hc Hat]
  · isplitr; · iexact Hi
    isplitl [Hc]; · iexact Hc
    isplitl [HO]; · iexact HO
    isplitr
    · iapply (mayWait c _ n hb) $$ Hlev
    iexact Hat
  iintro ⟨HO, Hat, -, Hp⟩
  ihave Hp := (Entails.of_eq (rest_recv I hne)) $$ Hp
  iapply Hk
  isplitl [HO]
  · iexists _
    iexact HO
  isplitl [Hat]; · iexact Hat
  iexact Hp

/-- A wait for a send's own counter. -/
theorem wp_sent (e w : Fin 4) (hw : w ≠ 0) (n : Fin 16)
    {sm : DmaSem sig} (hs : sm = sendS e (around c w)) {sp sp'} {s : Shape} {t : EltTy} {src : Memref sig .tc sp s t} {dst : Memref sig .tc sp' s t}
    {h1 : src.view.WordExact} {h2 : dst.view.WordExact} (ha : dst.view.dmaCredit = amt e)
    {α : Type} {kk : PUnit → P (F := F) α} {Q : α → sProp 𝕄} :
    iprop(□ G I K ∗ □ levAts L lv ∗ ow c (owed c n) ∗ cred (tallyAt (sendC c e (around c w)) () (amt e)) ∗ atPos ER (sendC c e (around c w)) 0 ∅ 0)
      ⊢ iprop((iprop(ow c (owed c n) ∗ atPos ER (sendC c e (around c w)) (0 + 1) ∅ 0 ∗ sendPay I e c (around c w))
          -∗ WP c (kk ⟨⟩) Q)
        -∗ WP c (.op (.waitDma2 sm src dst h1 h2) kk) Q) := by
  subst hs
  have hne := around_ne hw c
  have hb : lvS (.dma (sendS e (around c w))) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5) := by
    have h0 : lvS (.dma (sendS e (around c w))) = 0 := by
      show (if 8 ≤ ((sendS e (around c w) : DmaSem sig) : ℕ) ∧ isSend (sendS e (around c w)) = false then _ else 0) = 0
      exact if_neg fun h => by rw [isSend_send] at h; exact absurd h.2 (by decide)
    rw [h0]; exact lv_pos n
  unfold ow
  iintro ⟨#HG, #Hlev, ⟨%W, HO⟩, Hc, Hat⟩ Hk
  ihave Hi := (G_send I K c e (around c w)) $$ HG
  icases Hi with ⟨#Hi, #Hr⟩
  rw [← ha]
  iapply (Rounds.wp_wait_rest_token 𝒱₀ ER (Rd I) (c : Thread nD τ) none (κ := K (c, iS e (around c w)))
      (wpE_waitDma2_eq 𝒱₀ (c : Thread nD τ) none Set.univ) (Set.mem_univ _) () (O := owed c n) (W := W) (R := 0) (m := 0) (T := ∅)
      (by rw [Nat.zero_add, expect_send I hne]; exact ha)) $$ [HO Hc Hat]
  · isplitr; · iexact Hi
    isplitl [Hc]; · iexact Hc
    isplitl [HO]; · iexact HO
    isplitr
    · iapply (mayWait c _ n hb) $$ Hlev
    iexact Hat
  iintro ⟨HO, Hat, -, Hp⟩
  ihave Hp := (Entails.of_eq (rest_send I hne)) $$ Hp
  iapply Hk
  isplitl [HO]
  · iexists _
    iexact HO
  isplitl [Hat]; · iexact Hat
  iexact Hp

/-! ## The copies -/

theorem wp_send {e w : Fin 4} (hw : w ≠ 0) {n : Dev nD} (hn : n = around c w) (m : ℕ)
    (hO : owed c m = owed c (m + 1) + tallyAt (recvC (around c w) e c) () (amt e))
    {sS sR : DmaSem sig} (hS : sS = sendS e (around c w)) (hR : sR = recvS e c)
    {sp sp'} {s : Shape} {t : EltTy} {src : Memref sig .tc sp s t} {dst : Memref sig .tc sp' s t}
    {hsc : dst.view.ref.isScScratch = false} {h1 : src.view.WordExact} {h2 : dst.view.WordExact}
    {hsem : DmaTarget.Typed sp (.dma sR) (.remote ((n, .tc) : Thread nD τ) dst (.dma sS) hsc)} (ha : dst.view.dmaCredit = amt e)
    {q : PosShare TreeShare} {fs : Buf (Elt F) (src.view.loc (c : Thread nD τ))} {D : sProp 𝕄}
    (hp : (src.view.loc (c : Thread nD τ) ↦[src.view.set]{q} fs : sProp 𝕄) = sendPay I e c (around c w))
    (hd : D ⊢ iprop(∃ fd, dst.view.loc (around c w : Thread nD τ) ↦[dst.view.set]{fullShare} fd))
    (hl : ∀ fd, (dst.view.loc (around c w : Thread nD τ) ↦[dst.view.set]{fullShare}
        (dst.view.write (Elt F) fd (src.view.read (Elt F) fs) Finset.univ) : sProp 𝕄) ⊢ recvPay I e (around c w) c)
    {α : Type} {kk : PUnit → P (F := F) α} {Q : α → sProp 𝕄} :
    iprop(□ G I K ∗ ow c (owed c m) ∗ (dutyTok ER (sendC c e (around c w)) 0 0 ∗ dutyTok ER (recvC (around c w) e c) 0 0)
        ∗ sendPay I e c (around c w) ∗ D)
      ⊢ iprop((iprop(cred (tallyAt (sendC c e (around c w)) () (amt e)) ∗ ow c (owed c (m + 1))) -∗ WP c (kk ⟨⟩) Q)
        -∗ WP c (.op (.enqueueDma src (.remote ((n, .tc) : Thread nD τ) dst (.dma sS) hsc) (.dma sR) h1 h2 hsem) kk) Q) := by
  subst hn hS hR
  have hne := around_ne hw c
  unfold ow
  rw [← hp]
  iintro ⟨#HG, ⟨%W, HO⟩, ⟨HtS, HtR⟩, Hs, HD⟩ Hk
  ihave Hi := (G_send I K c e (around c w)) $$ HG
  icases Hi with ⟨#HiS, #HrS⟩
  ihave Hi := (G_recv I K (around c w) e c) $$ HG
  icases Hi with ⟨#HiR, #HrR⟩
  ihave Hd := hd $$ HD
  icases Hd with ⟨%fd, Hd⟩
  iapply (Rounds.wp_send_pointsTo 𝒱₀ ER (Rd I) (c : Thread nD τ) none (κ₁ := K (c, iS e (around c w))) (κ₂ := K (around c w, iR e c))
    (sS := .dma (sendS e (around c w))) (sem := .dma (recvS e c)) (r₁ := 0) (r₂ := 0) (d₁ := 0) (d₂ := 0) (fd := fd) (q := q) (fs := fs)
    (by rw [duties_send I hne]; exact Finset.mem_singleton_self _) (by rw [duties_recv I hne.symm]; exact Finset.mem_singleton_self _)
    () () (amt e) ha (amount_send I c e _ 0) (amount_recv I _ e c 0) (owed c (m + 1)) hO (W := W)
    (by rw [payload_send, hp]) (by rw [payload_recv]; exact hl fd)) $$ [HO HtS HtR Hs Hd]
  · isplitr; · iexact HiS
    isplitr; · iexact HiR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W
  iexact HO

end Cert.KernelIdeal.Own

end
-- ==== Proof.Copies.lean ====
module

public import proofs.«01_k».proof.Proof.Ops

@[expose] public section

noncomputable section

/-! # The copies between devices, family by family -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

/-! ## Words -/

/-- The word of a number below four. -/
def wW (w : Fin 4) : BitVec 32 := BitVec.ofNat 32 w

theorem off1_eq : ∀ c : Dev nD, k0_off1 c = ![0, 0, (hdF c 0 : ℕ), 0] := by decide +kernel
theorem off2_eq : ∀ c : Dev nD, k0_off2 c = ![(c : ℕ), 0, 0] := by decide +kernel
theorem off85_eq : ∀ c : Dev nD, k0_off85 c = ![(c : ℕ), 0, 0] := by decide +kernel
theorem off5_eq : ∀ c : Dev nD, k0_off5 c = ![(c : ℕ), 0, 0] := by decide +kernel
theorem off166_eq : ∀ c : Dev nD, k0_off166 c = ![(c : ℕ), 0, 0] := by decide +kernel
theorem off4_eq : ∀ c : Dev nD, k0_off4 c = ![(c : ℕ)] := by decide +kernel
theorem off3_eq : ∀ (c : Dev nD) (w : Fin 4), k0_off3 c (wW w) = ![(around c w : ℕ)] := by decide +kernel
theorem off86_eq : ∀ (c : Dev nD) (w : Fin 4), k0_off86 c (wW w) = ![(around c w : ℕ), 0, 0] := by decide +kernel
theorem off167_eq : ∀ (c : Dev nD) (w : Fin 4), k0_off167 c (wW w) = ![(around c w : ℕ), 0, 0] := by decide +kernel

theorem dev1_eq : ∀ c : Dev nD, (⟨k0_dev1 c, k0_dev1_lt c⟩ : Dev nD) = around c 1 := by decide +kernel
theorem dev2_eq : ∀ c : Dev nD, (⟨k0_dev2 c, k0_dev2_lt c⟩ : Dev nD) = around c 2 := by decide +kernel
theorem dev3_eq : ∀ c : Dev nD, (⟨k0_dev3 c, k0_dev3_lt c⟩ : Dev nD) = around c 3 := by decide +kernel
theorem dev4_eq : ∀ c : Dev nD, (⟨k0_dev4 c, k0_dev4_lt c⟩ : Dev nD) = around c 1 := by decide +kernel
theorem dev5_eq : ∀ c : Dev nD, (⟨k0_dev5 c, k0_dev5_lt c⟩ : Dev nD) = around c 2 := by decide +kernel
theorem dev6_eq : ∀ c : Dev nD, (⟨k0_dev6 c, k0_dev6_lt c⟩ : Dev nD) = around c 3 := by decide +kernel
theorem dev7_eq : ∀ c : Dev nD, (⟨k0_dev7 c, k0_dev7_lt c⟩ : Dev nD) = around c 1 := by decide +kernel
theorem dev8_eq : ∀ c : Dev nD, (⟨k0_dev8 c, k0_dev8_lt c⟩ : Dev nD) = around c 1 := by decide +kernel
theorem dev9_eq : ∀ c : Dev nD, (⟨k0_dev9 c, k0_dev9_lt c⟩ : Dev nD) = around c 2 := by decide +kernel
theorem dev10_eq : ∀ c : Dev nD, (⟨k0_dev10 c, k0_dev10_lt c⟩ : Dev nD) = around c 2 := by decide +kernel
theorem dev11_eq : ∀ c : Dev nD, (⟨k0_dev11 c, k0_dev11_lt c⟩ : Dev nD) = around c 3 := by decide +kernel
theorem dev12_eq : ∀ c : Dev nD, (⟨k0_dev12 c, k0_dev12_lt c⟩ : Dev nD) = around c 3 := by decide +kernel
theorem dev13_eq : ∀ c : Dev nD, (⟨k0_dev13 c, k0_dev13_lt c⟩ : Dev nD) = around c 1 := by decide +kernel
theorem dev14_eq : ∀ c : Dev nD, (⟨k0_dev14 c, k0_dev14_lt c⟩ : Dev nD) = around c 2 := by decide +kernel
theorem dev15_eq : ∀ c : Dev nD, (⟨k0_dev15 c, k0_dev15_lt c⟩ : Dev nD) = around c 3 := by decide +kernel

/-! ## Counters -/

section Counters
variable {off : Fin 1 → ℕ} {h : ∀ a, off a + S1.size a ≤ S4.size a} {t : Fin 4} (e : off = ![(t : ℕ)])
include e
theorem send0 : ((cc0_scratch12.slice (Rect.unit (s := S4) off S1.size h)).squeeze S_ squeezes_S1_S_).sem = sendS 0 t :=
  (sem_at4 _ h e).trans (Fin.ext rfl)
theorem recv0 : ((cc0_scratch13.slice (Rect.unit (s := S4) off S1.size h)).squeeze S_ squeezes_S1_S_).sem = recvS 0 t :=
  (sem_at4 _ h e).trans (Fin.ext rfl)
theorem send1 : ((cc0_scratch14.slice (Rect.unit (s := S4) off S1.size h)).squeeze S_ squeezes_S1_S_).sem = sendS 1 t :=
  (sem_at4 _ h e).trans (Fin.ext rfl)
theorem recv1 : ((cc0_scratch15.slice (Rect.unit (s := S4) off S1.size h)).squeeze S_ squeezes_S1_S_).sem = recvS 1 t :=
  (sem_at4 _ h e).trans (Fin.ext rfl)
theorem send2 : ((cc0_scratch16.slice (Rect.unit (s := S4) off S1.size h)).squeeze S_ squeezes_S1_S_).sem = sendS 2 t :=
  (sem_at4 _ h e).trans (Fin.ext rfl)
theorem recv2 : ((cc0_scratch17.slice (Rect.unit (s := S4) off S1.size h)).squeeze S_ squeezes_S1_S_).sem = recvS 2 t :=
  (sem_at4 _ h e).trans (Fin.ext rfl)
theorem send3 : ((cc0_scratch18.slice (Rect.unit (s := S4) off S1.size h)).squeeze S_ squeezes_S1_S_).sem = sendS 3 t :=
  (sem_at4 _ h e).trans (Fin.ext rfl)
theorem recv3 : ((cc0_scratch19.slice (Rect.unit (s := S4) off S1.size h)).squeeze S_ squeezes_S1_S_).sem = recvS 3 t :=
  (sem_at4 _ h e).trans (Fin.ext rfl)
end Counters

/-! ## A copy of a slot -/

variable (I : Ins F) (K : Dev nD × Fin 33 → ℕ) (c : Dev nD)

theorem wp_slotQ {e w : Fin 4} (hw : w ≠ 0) {n : Dev nD} (hn : n = around c w) (m : ℕ)
    (hO : owed c m = owed c (m + 1) + tallyAt (recvC (around c w) e c) () (amt e))
    {sS sR : DmaSem sig} (hS : sS = sendS e (around c w)) (hR : sR = recvS e c)
    {bs bd : Memref sig .tc .vmem S4x256x1024 .bf16} {off off' : Fin 3 → ℕ}
    {h : ∀ a, off a + S1x256x1024.size a ≤ S4x256x1024.size a} {h' : ∀ a, off' a + S1x256x1024.size a ≤ S4x256x1024.size a}
    {s s' : Fin 4} (e₁ : off = ![(s : ℕ), 0, 0]) (e₂ : off' = ![(s' : ℕ), 0, 0])
    {hsc : (slotQ bd off' h').view.ref.isScScratch = false} {h1 : (slotQ bs off h).view.WordExact} {h2 : (slotQ bd off' h').view.WordExact}
    {hsem : DmaTarget.Typed .vmem (.dma sR) (.remote ((n, .tc) : Thread nD τ) (slotQ bd off' h') (.dma sS) hsc)} (ha : NQ = amt e)
    {q : PosShare TreeShare} {fs : Buf (Elt F) (bs.view.loc (c : Thread nD τ))} {g : Buf (Elt F) (bd.view.loc (around c w : Thread nD τ))}
    (hp : (bs.view.loc (c : Thread nD τ) ↦[bs.view.setOn (slotsQ s)]{q} fs : sProp 𝕄) = sendPay I e c (around c w))
    (hg : (bd.view.loc (around c w : Thread nD τ) ↦[bd.view.setOn (slotsQ s')]{fullShare} g : sProp 𝕄) = recvPay I e (around c w) c)
    (hL : ∀ i : S4x256x1024.Idx, (i 0 : ℕ) = s' → g (bd.view.emb i)
      = _root_.cast (congrArg (Elt F) bd.view.elt_eq.symm) (bs.view.read (Elt F) fs (ix3 s (i 1 : Fin 256) (i 2 : Fin 1024))))
    {α : Type} {kk : PUnit → P (F := F) α} {Q : α → sProp 𝕄} :
    iprop(□ G I K ∗ ow c (owed c m) ∗ (dutyTok ER (sendC c e (around c w)) 0 0 ∗ dutyTok ER (recvC (around c w) e c) 0 0)
        ∗ sendPay I e c (around c w) ∗ (∃ fd, bd.view.loc (around c w : Thread nD τ) ↦[bd.view.setOn (slotsQ s')]{fullShare} fd))
      ⊢ iprop((iprop(cred (tallyAt (sendC c e (around c w)) () (amt e)) ∗ ow c (owed c (m + 1))) -∗ WP c (kk ⟨⟩) Q)
        -∗ WP c (.op (.enqueueDma (slotQ bs off h) (.remote ((n, .tc) : Thread nD τ) (slotQ bd off' h') (.dma sS) hsc) (.dma sR) h1 h2 hsem) kk) Q) := by
  have k1 : (slotQ bs off h).view.set = bs.view.setOn (slotsQ s) :=
    (View.set_reshape _ _).trans ((View.set_slice bs.view _).trans (congrArg (Finset.map bs.view.emb) (box_slotsQ h e₁)))
  have k2 : (slotQ bd off' h').view.set = bd.view.setOn (slotsQ s') :=
    (View.set_reshape _ _).trans ((View.set_slice bd.view _).trans (congrArg (Finset.map bd.view.emb) (box_slotsQ h' e₂)))
  refine wp_send I K c hw hn m hO hS hR (src := slotQ bs off h) (dst := slotQ bd off' h') (q := q) (fs := fs) ((show _ = NQ from rfl).trans ha)
    ((congrArg (fun S => (bs.view.loc (c : Thread nD τ) ↦[S]{q} fs : sProp 𝕄)) k1).trans hp) ?_ ?_
  · exact Entails.of_eq (congrArg (fun S => iprop(∃ fd, bd.view.loc (around c w : Thread nD τ) ↦[S]{fullShare} fd : sProp 𝕄)) k2.symm)
  · intro fd
    refine (Entails.of_eq (congrArg (fun S => (bd.view.loc (around c w : Thread nD τ) ↦[S]{fullShare}
      ((slotQ bd off' h').view.write (Elt F) fd ((slotQ bs off h).view.read (Elt F) fs) Finset.univ) : sProp 𝕄)) k2)).trans ?_
    rw [← hg]
    refine Entails.of_eq (pointsTo_congr fun i hi => ?_)
    obtain ⟨i, hi', rfl⟩ := Finset.mem_map.mp hi
    have hi0 := (Finset.mem_filter.mp hi').2
    exact (land_slotQ bs.view bd.view h h' e₁ e₂ _ fs fd i hi0).trans (hL i hi0).symm

theorem wp_slotL {e w : Fin 4} (hw : w ≠ 0) {n : Dev nD} (hn : n = around c w) (m : ℕ)
    (hO : owed c m = owed c (m + 1) + tallyAt (recvC (around c w) e c) () (amt e))
    {sS sR : DmaSem sig} (hS : sS = sendS e (around c w)) (hR : sR = recvS e c)
    {bs bd : Memref sig .tc .vmem S4x8x256 .f32} {off off' : Fin 3 → ℕ}
    {h : ∀ a, off a + S1x8x256.size a ≤ S4x8x256.size a} {h' : ∀ a, off' a + S1x8x256.size a ≤ S4x8x256.size a}
    {s s' : Fin 4} (e₁ : off = ![(s : ℕ), 0, 0]) (e₂ : off' = ![(s' : ℕ), 0, 0])
    {hsc : (slotL bd off' h').view.ref.isScScratch = false} {h1 : (slotL bs off h).view.WordExact} {h2 : (slotL bd off' h').view.WordExact}
    {hsem : DmaTarget.Typed .vmem (.dma sR) (.remote ((n, .tc) : Thread nD τ) (slotL bd off' h') (.dma sS) hsc)} (ha : NL = amt e)
    {q : PosShare TreeShare} {fs : Buf (Elt F) (bs.view.loc (c : Thread nD τ))} {g : Buf (Elt F) (bd.view.loc (around c w : Thread nD τ))}
    (hp : (bs.view.loc (c : Thread nD τ) ↦[bs.view.setOn (slotsL s)]{q} fs : sProp 𝕄) = sendPay I e c (around c w))
    (hg : (bd.view.loc (around c w : Thread nD τ) ↦[bd.view.setOn (slotsL s')]{fullShare} g : sProp 𝕄) = recvPay I e (around c w) c)
    (hL : ∀ i : S4x8x256.Idx, (i 0 : ℕ) = s' → g (bd.view.emb i)
      = _root_.cast (congrArg (Elt F) bd.view.elt_eq.symm) (bs.view.read (Elt F) fs (ix3 s (i 1 : Fin 8) (i 2 : Fin 256))))
    {α : Type} {kk : PUnit → P (F := F) α} {Q : α → sProp 𝕄} :
    iprop(□ G I K ∗ ow c (owed c m) ∗ (dutyTok ER (sendC c e (around c w)) 0 0 ∗ dutyTok ER (recvC (around c w) e c) 0 0)
        ∗ sendPay I e c (around c w) ∗ (∃ fd, bd.view.loc (around c w : Thread nD τ) ↦[bd.view.setOn (slotsL s')]{fullShare} fd))
      ⊢ iprop((iprop(cred (tallyAt (sendC c e (around c w)) () (amt e)) ∗ ow c (owed c (m + 1))) -∗ WP c (kk ⟨⟩) Q)
        -∗ WP c (.op (.enqueueDma (slotL bs off h) (.remote ((n, .tc) : Thread nD τ) (slotL bd off' h') (.dma sS) hsc) (.dma sR) h1 h2 hsem) kk) Q) := by
  have k1 : (slotL bs off h).view.set = bs.view.setOn (slotsL s) :=
    (View.set_reshape _ _).trans ((View.set_slice bs.view _).trans (congrArg (Finset.map bs.view.emb) (box_slotsL h e₁)))
  have k2 : (slotL bd off' h').view.set = bd.view.setOn (slotsL s') :=
    (View.set_reshape _ _).trans ((View.set_slice bd.view _).trans (congrArg (Finset.map bd.view.emb) (box_slotsL h' e₂)))
  refine wp_send I K c hw hn m hO hS hR (src := slotL bs off h) (dst := slotL bd off' h') (q := q) (fs := fs) ((show _ = NL from rfl).trans ha)
    ((congrArg (fun S => (bs.view.loc (c : Thread nD τ) ↦[S]{q} fs : sProp 𝕄)) k1).trans hp) ?_ ?_
  · exact Entails.of_eq (congrArg (fun S => iprop(∃ fd, bd.view.loc (around c w : Thread nD τ) ↦[S]{fullShare} fd : sProp 𝕄)) k2.symm)
  · intro fd
    refine (Entails.of_eq (congrArg (fun S => (bd.view.loc (around c w : Thread nD τ) ↦[S]{fullShare}
      ((slotL bd off' h').view.write (Elt F) fd ((slotL bs off h).view.read (Elt F) fs) Finset.univ) : sProp 𝕄)) k2)).trans ?_
    rw [← hg]
    refine Entails.of_eq (pointsTo_congr fun i hi => ?_)
    obtain ⟨i, hi', rfl⟩ := Finset.mem_map.mp hi
    have hi0 := (Finset.mem_filter.mp hi').2
    exact (land_slotL bs.view bd.view h h' e₁ e₂ _ fs fd i hi0).trans (hL i hi0).symm

abbrev mA : Memref sig .tc .vmem S4x256x1024 .bf16 := Memref.whole cc0_scratch7
abbrev mB : Memref sig .tc .vmem S4x8x256 .f32 := Memref.whole cc0_scratch8
abbrev mR : Memref sig .tc .vmem S4x256x1024 .bf16 := Memref.whole cc0_scratch9

/-- What `c` needs to start copy `e` to the device `w` places around, besides the source and the landing slot. -/
def toks (e w : Fin 4) : sProp 𝕄 := iprop(dutyTok ER (sendC c e (around c w)) 0 0 ∗ dutyTok ER (recvC (around c w) e c) 0 0)
/-- The landing slot of copy `e`. -/
def room (e w : Fin 4) : sProp 𝕄 := match e with
  | 0 => iprop(∃ f, ((around c w : Thread nD τ).loc cc0_scratch0) ↦[slotsQ c]{fullShare} f)
  | 1 => iprop(∃ f, ((around c w : Thread nD τ).loc cc0_scratch7) ↦[slotsQ c]{fullShare} f)
  | 2 => iprop(∃ f, ((around c w : Thread nD τ).loc cc0_scratch8) ↦[slotsL c]{fullShare} f)
  | 3 => iprop(∃ f, ((around c w : Thread nD τ).loc cc0_scratch9) ↦[slotsQ c]{fullShare} f)
/-- What a started copy leaves: the right to wait for it. -/
def sent (e w : Fin 4) : sProp 𝕄 := cred (tallyAt (sendC c e (around c w)) () (amt e))

section Families
variable {w : Fin 4} (hw : w ≠ 0) {n : Dev nD} (hn : n = around c w) (m : ℕ)
    {oS oR : Fin 1 → ℕ} {hoS : ∀ a, oS a + S1.size a ≤ S4.size a} {hoR : ∀ a, oR a + S1.size a ≤ S4.size a}
    (eS : oS = ![(around c w : ℕ)]) (eR : oR = ![(c : ℕ)]) {off off' : Fin 3 → ℕ} (e₂ : off' = ![(c : ℕ), 0, 0])

include hw hn eS eR e₂

theorem wp_send0 (hO : owed c m = owed c (m + 1) + tallyAt (recvC (around c w) 0 c) () (amt 0)) (e₁ : off = ![(c : ℕ), 0, 0])
    {h : ∀ a, off a + S1x256x1024.size a ≤ S4x256x1024.size a} {h' : ∀ a, off' a + S1x256x1024.size a ≤ S4x256x1024.size a}
    {hsc} {h1} {h2} {hsem} {α : Type} {kk : PUnit → P (F := F) α} {Q : α → sProp 𝕄} :
    iprop(□ G I K ∗ ow c (owed c m) ∗ toks c 0 w ∗ sendPay I 0 c (around c w) ∗ room c 0 w)
      ⊢ iprop((iprop(sent c 0 w ∗ ow c (owed c (m + 1))) -∗ WP c (kk ⟨⟩) Q)
        -∗ WP c (.op (.enqueueDma (slotQ mQ off h) (.remote ((n, .tc) : Thread nD τ) (slotQ mQ off' h')
          (.dma ((cc0_scratch12.slice (Rect.unit (s := S4) oS S1.size hoS)).squeeze S_ squeezes_S1_S_).sem) hsc)
          (.dma ((cc0_scratch13.slice (Rect.unit (s := S4) oR S1.size hoR)).squeeze S_ squeezes_S1_S_).sem) h1 h2 hsem) kk) Q) := by
  refine BIBase.Entails.trans ?_ (wp_slotQ I K c hw hn m hO (send0 eS) (recv0 eR) e₁ e₂ (bs := mQ) (bd := mQ) rfl (q := qsh (around c w - c)) (fs := qAll I) (g := qAll I)
    (congrArg (fun S => (mQ.view.loc (c : Thread nD τ) ↦[S]{_} _ : sProp 𝕄)) (setOn_id (r := cc0_scratch0) _))
    (congrArg (fun S => (mQ.view.loc (around c w : Thread nD τ) ↦[S]{_} _ : sProp 𝕄)) (setOn_id (r := cc0_scratch0) _)) ?_)
  · exact Entails.of_eq (congrArg (fun S => iprop(□ G I K ∗ ow c (owed c m) ∗ toks c 0 w ∗ sendPay I 0 c (around c w)
      ∗ (∃ fd, mQ.view.loc (around c w : Thread nD τ) ↦[S]{fullShare} fd) : sProp 𝕄)) (setOn_id (r := cc0_scratch0) (slotsQ c)).symm)
  · intro i hi
    exact congrArg (qAll I) ((eq_ix3 i).trans (congrArg (fun a => ix3 a (i 1 : Fin 256) (i 2 : Fin 1024)) (Fin.ext hi)))

theorem wp_send1 (hO : owed c m = owed c (m + 1) + tallyAt (recvC (around c w) 1 c) () (amt 1)) (e₁ : off = ![(around c w : ℕ), 0, 0])
    {h : ∀ a, off a + S1x256x1024.size a ≤ S4x256x1024.size a} {h' : ∀ a, off' a + S1x256x1024.size a ≤ S4x256x1024.size a}
    {hsc} {h1} {h2} {hsem} {α : Type} {kk : PUnit → P (F := F) α} {Q : α → sProp 𝕄} :
    iprop(□ G I K ∗ ow c (owed c m) ∗ toks c 1 w ∗ sendPay I 1 c (around c w) ∗ room c 1 w)
      ⊢ iprop((iprop(sent c 1 w ∗ ow c (owed c (m + 1))) -∗ WP c (kk ⟨⟩) Q)
        -∗ WP c (.op (.enqueueDma (slotQ mO off h) (.remote ((n, .tc) : Thread nD τ) (slotQ mA off' h')
          (.dma ((cc0_scratch14.slice (Rect.unit (s := S4) oS S1.size hoS)).squeeze S_ squeezes_S1_S_).sem) hsc)
          (.dma ((cc0_scratch15.slice (Rect.unit (s := S4) oR S1.size hoR)).squeeze S_ squeezes_S1_S_).sem) h1 h2 hsem) kk) Q) := by
  refine BIBase.Entails.trans ?_ (wp_slotQ I K c hw hn m hO (send1 eS) (recv1 eR) e₁ e₂ (bs := mO) (bd := mA) rfl (q := fullShare) (fs := opD I c) (g := oaD I (around c w))
    (congrArg (fun S => (mO.view.loc (c : Thread nD τ) ↦[S]{_} _ : sProp 𝕄)) (setOn_id (r := cc0_scratch5) _))
    (congrArg (fun S => (mA.view.loc (around c w : Thread nD τ) ↦[S]{_} _ : sProp 𝕄)) (setOn_id (r := cc0_scratch7) _)) ?_)
  · exact Entails.of_eq (congrArg (fun S => iprop(□ G I K ∗ ow c (owed c m) ∗ toks c 1 w ∗ sendPay I 1 c (around c w)
      ∗ (∃ fd, mA.view.loc (around c w : Thread nD τ) ↦[S]{fullShare} fd) : sProp 𝕄)) (setOn_id (r := cc0_scratch7) (slotsQ c)).symm)
  · intro i hi
    exact congrArg (fun d => opD I d (ix3 (around c w : Fin 4) (i 1 : Fin 256) (i 2 : Fin 1024))) (show (i 0 : Fin 4) = c from Fin.ext hi)

theorem wp_send2 (hO : owed c m = owed c (m + 1) + tallyAt (recvC (around c w) 2 c) () (amt 2)) (e₁ : off = ![(around c w : ℕ), 0, 0])
    {h : ∀ a, off a + S1x8x256.size a ≤ S4x8x256.size a} {h' : ∀ a, off' a + S1x8x256.size a ≤ S4x8x256.size a}
    {hsc} {h1} {h2} {hsem} {α : Type} {kk : PUnit → P (F := F) α} {Q : α → sProp 𝕄} :
    iprop(□ G I K ∗ ow c (owed c m) ∗ toks c 2 w ∗ sendPay I 2 c (around c w) ∗ room c 2 w)
      ⊢ iprop((iprop(sent c 2 w ∗ ow c (owed c (m + 1))) -∗ WP c (kk ⟨⟩) Q)
        -∗ WP c (.op (.enqueueDma (slotL mL off h) (.remote ((n, .tc) : Thread nD τ) (slotL mB off' h')
          (.dma ((cc0_scratch16.slice (Rect.unit (s := S4) oS S1.size hoS)).squeeze S_ squeezes_S1_S_).sem) hsc)
          (.dma ((cc0_scratch17.slice (Rect.unit (s := S4) oR S1.size hoR)).squeeze S_ squeezes_S1_S_).sem) h1 h2 hsem) kk) Q) := by
  refine BIBase.Entails.trans ?_ (wp_slotL I K c hw hn m hO (send2 eS) (recv2 eR) e₁ e₂ (bs := mL) (bd := mB) rfl (q := fullShare) (fs := lpD I c) (g := laD I (around c w))
    (congrArg (fun S => (mL.view.loc (c : Thread nD τ) ↦[S]{_} _ : sProp 𝕄)) (setOn_id (r := cc0_scratch6) _))
    (congrArg (fun S => (mB.view.loc (around c w : Thread nD τ) ↦[S]{_} _ : sProp 𝕄)) (setOn_id (r := cc0_scratch8) _)) ?_)
  · exact Entails.of_eq (congrArg (fun S => iprop(□ G I K ∗ ow c (owed c m) ∗ toks c 2 w ∗ sendPay I 2 c (around c w)
      ∗ (∃ fd, mB.view.loc (around c w : Thread nD τ) ↦[S]{fullShare} fd) : sProp 𝕄)) (setOn_id (r := cc0_scratch8) (slotsL c)).symm)
  · intro i hi
    exact congrArg (fun d => lpD I d (ix3 (around c w : Fin 4) (i 1 : Fin 8) (i 2 : Fin 256))) (show (i 0 : Fin 4) = c from Fin.ext hi)

theorem wp_send3 (hO : owed c m = owed c (m + 1) + tallyAt (recvC (around c w) 3 c) () (amt 3)) (e₁ : off = ![(c : ℕ), 0, 0])
    {h : ∀ a, off a + S1x256x1024.size a ≤ S4x256x1024.size a} {h' : ∀ a, off' a + S1x256x1024.size a ≤ S4x256x1024.size a}
    {hsc} {h1} {h2} {hsem} {α : Type} {kk : PUnit → P (F := F) α} {Q : α → sProp 𝕄} :
    iprop(□ G I K ∗ ow c (owed c m) ∗ toks c 3 w ∗ sendPay I 3 c (around c w) ∗ room c 3 w)
      ⊢ iprop((iprop(sent c 3 w ∗ ow c (owed c (m + 1))) -∗ WP c (kk ⟨⟩) Q)
        -∗ WP c (.op (.enqueueDma (slotQ mR off h) (.remote ((n, .tc) : Thread nD τ) (slotQ mR off' h')
          (.dma ((cc0_scratch18.slice (Rect.unit (s := S4) oS S1.size hoS)).squeeze S_ squeezes_S1_S_).sem) hsc)
          (.dma ((cc0_scratch19.slice (Rect.unit (s := S4) oR S1.size hoR)).squeeze S_ squeezes_S1_S_).sem) h1 h2 hsem) kk) Q) := by
  refine BIBase.Entails.trans ?_ (wp_slotQ I K c hw hn m hO (send3 eS) (recv3 eR) e₁ e₂ (bs := mR) (bd := mR) rfl (q := qsh (around c w - c)) (fs := arAll I) (g := arAll I)
    (congrArg (fun S => (mR.view.loc (c : Thread nD τ) ↦[S]{_} _ : sProp 𝕄)) (setOn_id (r := cc0_scratch9) _))
    (congrArg (fun S => (mR.view.loc (around c w : Thread nD τ) ↦[S]{_} _ : sProp 𝕄)) (setOn_id (r := cc0_scratch9) _)) ?_)
  · exact Entails.of_eq (congrArg (fun S => iprop(□ G I K ∗ ow c (owed c m) ∗ toks c 3 w ∗ sendPay I 3 c (around c w)
      ∗ (∃ fd, mR.view.loc (around c w : Thread nD τ) ↦[S]{fullShare} fd) : sProp 𝕄)) (setOn_id (r := cc0_scratch9) (slotsQ c)).symm)
  · intro i hi
    exact congrArg (arAll I) ((eq_ix3 i).trans (congrArg (fun a => ix3 a (i 1 : Fin 256) (i 2 : Fin 1024)) (Fin.ext hi)))
end Families

end Cert.KernelIdeal.Own

end
-- ==== Proof.Slots.lean ====
module

public import proofs.«01_k».proof.Proof.Copies

@[expose] public section

noncomputable section

/-! # Slots written whole, and waits by family -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

/-! ## A slot read -/

/-- What a device reads of a slot. -/
def slotRow (f : Vec F S4x256x1024 .bf16) (s : Fin 4) : Vec F S1x256x1024 .bf16 := fun x => f (ix3 s (x 1 : Fin 256) (x 2 : Fin 1024))
def slotRowL (f : Vec F S4x8x256 .f32) (s : Fin 4) : Vec F S1x8x256 .f32 := fun x => f (ix3 s (x 1 : Fin 8) (x 2 : Fin 256))

theorem boxQ {v : Memref sig .tc .vmem S4x256x1024 .bf16} {off : Fin 3 → ℕ} (h : ∀ a, off a + S1x256x1024.size a ≤ S4x256x1024.size a) {s : Fin 4}
    (e : off = ![(s : ℕ), 0, 0]) :
    (v.access (Rect.unit (s := S4x256x1024) off S1x256x1024.size h)).setOn Finset.univ = v.view.setOn (slotsQ s) :=
  (View.set_slice v.view _).trans (congrArg (Finset.map v.view.emb) (box_slotsQ h e))
theorem boxL {v : Memref sig .tc .vmem S4x8x256 .f32} {off : Fin 3 → ℕ} (h : ∀ a, off a + S1x8x256.size a ≤ S4x8x256.size a) {s : Fin 4}
    (e : off = ![(s : ℕ), 0, 0]) :
    (v.access (Rect.unit (s := S4x8x256) off S1x8x256.size h)).setOn Finset.univ = v.view.setOn (slotsL s) :=
  (View.set_slice v.view _).trans (congrArg (Finset.map v.view.emb) (box_slotsL h e))

/-- A slot loaded and then stored whole. -/
theorem wp_putQ {b : Memref sig .tc .vmem S4x256x1024 .bf16} {off : Fin 3 → ℕ} {h : ∀ a, off a + S1x256x1024.size a ≤ S4x256x1024.size a} {s : Fin 4}
    (e : off = ![(s : ℕ), 0, 0]) {S : Finset (Idx (b.view.loc (c : Thread nD τ)))} (hS : b.view.setOn (slotsQ s) = S)
    (v : Vec F S1x256x1024 .bf16) (g : Buf (Elt F) (b.view.loc (c : Thread nD τ)))
    (hv : ∀ i : S4x256x1024.Idx, (i 0 : ℕ) = s → g (b.view.emb i)
      = _root_.cast (congrArg (Elt F) b.view.elt_eq.symm) (v (ix3 (0 : Fin 1) (i 1 : Fin 256) (i 2 : Fin 1024))))
    {hl} {hx} {hm} {α : Type} {kk : PUnit → P (F := F) α} {Q : α → sProp 𝕄} :
    iprop(∃ f, b.view.loc (c : Thread nD τ) ↦[S]{fullShare} f)
      ⊢ iprop(((b.view.loc (c : Thread nD τ) ↦[S]{fullShare} g) -∗ WP c (kk ⟨⟩) Q)
        -∗ WP c (.op (.load b (Rect.unit (s := S4x256x1024) off S1x256x1024.size h).toLoadRect hl) fun _ =>
          .op (.store b (Rect.unit (s := S4x256x1024) off S1x256x1024.size h) v Finset.univ hx hm) kk) Q) := by
  subst hS
  have hcg : ∀ f, ((b.access (Rect.unit (s := S4x256x1024) off S1x256x1024.size h)).loc (c : Thread nD τ) ↦[b.view.setOn (slotsQ s)]{fullShare}
        (b.access (Rect.unit (s := S4x256x1024) off S1x256x1024.size h)).write (Elt F) f v Finset.univ : sProp 𝕄)
      = (b.view.loc (c : Thread nD τ) ↦[b.view.setOn (slotsQ s)]{fullShare} g) := fun f => by
    refine pointsTo_congr fun i hi => ?_
    obtain ⟨i, hi', rfl⟩ := Finset.mem_map.mp hi
    have h0 := (Finset.mem_filter.mp hi').2
    refine (write_in (v := b.view) off S1x256x1024.size h f v (ix3 (0 : Fin 1) (i 1 : Fin 256) (i 2 : Fin 1024)) i ?_).trans (hv i h0).symm
    subst e
    intro a
    fin_cases a
    · exact h0
    · exact (Nat.zero_add _).symm
    · exact (Nat.zero_add _).symm
  iintro ⟨%f, Hf⟩ Hk
  iapply (wp_load 𝒱₀ (c : Thread nD τ) none Set.univ (m := b) (r := (Rect.unit (s := S4x256x1024) off S1x256x1024.size h).toLoadRect)
    (show b.view.setOn (Rect.unit (s := S4x256x1024) off S1x256x1024.size h).toLoadRect.set = b.view.setOn (slotsQ s) from
      congrArg (Finset.map b.view.emb) (box_slotsQ h e)).le) $$ Hf
  iintro Hf
  iapply (wp_store 𝒱₀ (c : Thread nD τ) none Set.univ (m := b) (r := Rect.unit (s := S4x256x1024) off S1x256x1024.size h) (Mk := Finset.univ)
    (boxQ h e).le) $$ Hf
  iintro Hf
  iapply Hk
  iapply (Entails.of_eq (hcg f)) $$ Hf

theorem wp_putL {b : Memref sig .tc .vmem S4x8x256 .f32} {off : Fin 3 → ℕ} {h : ∀ a, off a + S1x8x256.size a ≤ S4x8x256.size a} {s : Fin 4}
    (e : off = ![(s : ℕ), 0, 0]) {S : Finset (Idx (b.view.loc (c : Thread nD τ)))} (hS : b.view.setOn (slotsL s) = S)
    (v : Vec F S1x8x256 .f32) (g : Buf (Elt F) (b.view.loc (c : Thread nD τ)))
    (hv : ∀ i : S4x8x256.Idx, (i 0 : ℕ) = s → g (b.view.emb i)
      = _root_.cast (congrArg (Elt F) b.view.elt_eq.symm) (v (ix3 (0 : Fin 1) (i 1 : Fin 8) (i 2 : Fin 256))))
    {hl} {hx} {hm} {α : Type} {kk : PUnit → P (F := F) α} {Q : α → sProp 𝕄} :
    iprop(∃ f, b.view.loc (c : Thread nD τ) ↦[S]{fullShare} f)
      ⊢ iprop(((b.view.loc (c : Thread nD τ) ↦[S]{fullShare} g) -∗ WP c (kk ⟨⟩) Q)
        -∗ WP c (.op (.load b (Rect.unit (s := S4x8x256) off S1x8x256.size h).toLoadRect hl) fun _ =>
          .op (.store b (Rect.unit (s := S4x8x256) off S1x8x256.size h) v Finset.univ hx hm) kk) Q) := by
  subst hS
  have hcg : ∀ f, ((b.access (Rect.unit (s := S4x8x256) off S1x8x256.size h)).loc (c : Thread nD τ) ↦[b.view.setOn (slotsL s)]{fullShare}
        (b.access (Rect.unit (s := S4x8x256) off S1x8x256.size h)).write (Elt F) f v Finset.univ : sProp 𝕄)
      = (b.view.loc (c : Thread nD τ) ↦[b.view.setOn (slotsL s)]{fullShare} g) := fun f => by
    refine pointsTo_congr fun i hi => ?_
    obtain ⟨i, hi', rfl⟩ := Finset.mem_map.mp hi
    have h0 := (Finset.mem_filter.mp hi').2
    refine (write_in (v := b.view) off S1x8x256.size h f v (ix3 (0 : Fin 1) (i 1 : Fin 8) (i 2 : Fin 256)) i ?_).trans (hv i h0).symm
    subst e
    intro a
    fin_cases a
    · exact h0
    · exact (Nat.zero_add _).symm
    · exact (Nat.zero_add _).symm
  iintro ⟨%f, Hf⟩ Hk
  iapply (wp_load 𝒱₀ (c : Thread nD τ) none Set.univ (m := b) (r := (Rect.unit (s := S4x8x256) off S1x8x256.size h).toLoadRect)
    (show b.view.setOn (Rect.unit (s := S4x8x256) off S1x8x256.size h).toLoadRect.set = b.view.setOn (slotsL s) from
      congrArg (Finset.map b.view.emb) (box_slotsL h e)).le) $$ Hf
  iintro Hf
  iapply (wp_store 𝒱₀ (c : Thread nD τ) none Set.univ (m := b) (r := Rect.unit (s := S4x8x256) off S1x8x256.size h) (Mk := Finset.univ)
    (boxL h e).le) $$ Hf
  iintro Hf
  iapply Hk
  iapply (Entails.of_eq (hcg f)) $$ Hf

/-- A slot of a whole buffer as it is read. -/
theorem read_slotQ (f : Vec F S4x256x1024 .bf16) {b : Memref sig .tc .vmem S4x256x1024 .bf16} {off : Fin 3 → ℕ} (h : ∀ a, off a + S1x256x1024.size a ≤ S4x256x1024.size a) {s : Fin 4}
    (e : off = ![(s : ℕ), 0, 0]) :
    mO.view.readAt (Elt F) (Rect.unit (s := S4x256x1024) off S1x256x1024.size h).toLoadRect f = slotRow f s := by
  subst e
  funext x
  show f _ = f _
  refine congrArg f (funext fun a => Fin.ext ?_)
  have h0 : (x 0 : ℕ) < 1 := (x 0).isLt
  fin_cases a
  · show (s : ℕ) + 1 * (x 0 : ℕ) = s
    omega
  · show 0 + 1 * (x 1 : ℕ) = x 1
    omega
  · show 0 + 1 * (x 2 : ℕ) = x 2
    omega
theorem read_slotL (f : Vec F S4x8x256 .f32) {off : Fin 3 → ℕ} (h : ∀ a, off a + S1x8x256.size a ≤ S4x8x256.size a) {s : Fin 4}
    (e : off = ![(s : ℕ), 0, 0]) :
    mL.view.readAt (Elt F) (Rect.unit (s := S4x8x256) off S1x8x256.size h).toLoadRect f = slotRowL f s := by
  subst e
  funext x
  show f _ = f _
  refine congrArg f (funext fun a => Fin.ext ?_)
  have h0 : (x 0 : ℕ) < 1 := (x 0).isLt
  fin_cases a
  · show (s : ℕ) + 1 * (x 0 : ℕ) = s
    omega
  · show 0 + 1 * (x 1 : ℕ) = x 1
    omega
  · show 0 + 1 * (x 2 : ℕ) = x 2
    omega

/-! ## Waits -/

/-- What `c` needs to wait for the receipt of copy `e` from the device `w` places around, and what is left. -/
def due (e w : Fin 4) : sProp 𝕄 := iprop(cred (tallyAt (recvC c e (around c w)) () (amt e)) ∗ atPos ER (recvC c e (around c w)) 0 ∅ 0)
def hadR (e w : Fin 4) : sProp 𝕄 := atPos ER (recvC c e (around c w)) (0 + 1) ∅ 0
/-- Where `c` stands on its own counter of copy `e` to the device `w` places around, before and after. -/
def mark (e w : Fin 4) : sProp 𝕄 := atPos ER (sendC c e (around c w)) 0 ∅ 0
def hadS (e w : Fin 4) : sProp 𝕄 := atPos ER (sendC c e (around c w)) (0 + 1) ∅ 0

theorem lv_recv (e t : Fin 4) : lvS (.dma (recvS e t)) = (match e with | 0 => 2 | 1 => 3 | 2 => 3 | 3 => 4) := by revert e t; decide

section Waits
variable {w : Fin 4} (hw : w ≠ 0) (n : Fin 16)
include hw

theorem wp_got' (e : Fin 4) {sm : DmaSem sig} (hs : sm = recvS e (around c w))
    (hb : (match e with | 0 => 2 | 1 => 3 | 2 => 3 | 3 => 4) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5))
    {α : Type} {kk : PUnit → P (F := F) α} {Q : α → sProp 𝕄} {sp sp'} {s : Shape} {t : EltTy} {src : Memref sig .tc sp s t} {dst : Memref sig .tc sp' s t}
    {h1 : src.view.WordExact} {h2 : dst.view.WordExact} (ha : dst.view.dmaCredit = amt e) :
    iprop(□ G I K ∗ □ levAts L lv ∗ ow c (owed c n) ∗ due c e w)
      ⊢ iprop((iprop(ow c (owed c n) ∗ hadR c e w ∗ recvPay I e c (around c w)) -∗ WP c (kk ⟨⟩) Q)
        -∗ WP c (.op (.waitDma2 sm src dst h1 h2) kk) Q) := by
  unfold due hadR
  exact wp_recv I K c e w hw n (by rw [lv_recv]; exact hb) hs ha

theorem wp_sent' (e : Fin 4) {sm : DmaSem sig} (hs : sm = sendS e (around c w))
    {α : Type} {kk : PUnit → P (F := F) α} {Q : α → sProp 𝕄} {sp sp'} {s : Shape} {t : EltTy} {src : Memref sig .tc sp s t} {dst : Memref sig .tc sp' s t}
    {h1 : src.view.WordExact} {h2 : dst.view.WordExact} (ha : dst.view.dmaCredit = amt e) :
    iprop(□ G I K ∗ □ levAts L lv ∗ ow c (owed c n) ∗ sent c e w ∗ mark c e w)
      ⊢ iprop((iprop(ow c (owed c n) ∗ hadS c e w ∗ sendPay I e c (around c w)) -∗ WP c (kk ⟨⟩) Q)
        -∗ WP c (.op (.waitDma2 sm src dst h1 h2) kk) Q) := by
  unfold sent mark hadS
  exact wp_sent I K c e w hw n hs ha
end Waits

end Cert.KernelIdeal.Own

end
-- ==== Proof.PartsA.lean ====
module

public import proofs.«01_k».proof.Proof.Slots

@[expose] public section

noncomputable section

/-! # The body's parts: the start, the queries and their copies -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

abbrev mX : Memref sig .tc .vmem S1x256x1024 .f32 := Memref.whole cc0_stg0_0
abbrev mWq : Memref sig .tc .vmem S1024x1024 .f32 := Memref.whole cc0_stg1_0
abbrev mWo : Memref sig .tc .vmem S1024x1024 .f32 := Memref.whole cc0_stg2_0
abbrev mOut : Memref sig .tc .vmem S1x256x1024 .f32 := Memref.whole cc0_stg3_0

/-! ## The zero blocks -/

theorem box_tail (o : Memref sig .tc .vmem S3x1408x128 .bf16) {v : FVec F S2x64x128 .bf16} (hv : ∀ x, v x = (Scalar.ofBits .bf16 0x0000#16 : Elt F .bf16))
    (h : ∀ a, (![1, 1344, 0] : Fin 3 → ℕ) a + S2x64x128.size a ≤ S3x1408x128.size a) (f : o.view.ty.Contents (Elt F)) :
    Tail o ((o.access (Rect.unit (s := S3x1408x128) ![1, 1344, 0] S2x64x128.size h)).write (Elt F) f v Finset.univ) := by
  intro i h0 h1
  have b0 : (i 0 : ℕ) < 3 := (i 0).isLt
  have b1 : (i 1 : ℕ) < 1408 := (i 1).isLt
  refine (write_in (v := o.view) ![1, 1344, 0] S2x64x128.size h f v
    (ix3 (⟨(i 0 : ℕ) - 1, by omega⟩ : Fin 2) (⟨(i 1 : ℕ) - 1344, by omega⟩ : Fin 64) (i 2 : Fin 128)) i ?_).trans
    (congrArg (_root_.cast (congrArg (Elt F) o.view.elt_eq.symm)) (hv _))
  intro a
  fin_cases a
  · show (i 0 : ℕ) = 1 + ((i 0 : ℕ) - 1)
    omega
  · show (i 1 : ℕ) = 1344 + ((i 1 : ℕ) - 1344)
    omega
  · exact (Nat.zero_add _).symm

theorem wp_zero (o : Memref sig .tc .vmem S3x1408x128 .bf16) {v : FVec F S2x64x128 .bf16} (hv : ∀ x, v x = (Scalar.ofBits .bf16 0x0000#16 : Elt F .bf16))
    {h : ∀ a, (![1, 1344, 0] : Fin 3 → ℕ) a + S2x64x128.size a ≤ S3x1408x128.size a}
    {hl} {hx} {hm} {α : Type} {kk : PUnit → P (F := F) α} {Q : α → sProp 𝕄} :
    iprop(∃ f : o.view.ty.Contents (Elt F), o.view.loc (c : Thread nD τ) ↦[Finset.univ]{fullShare} f)
      ⊢ iprop((clsAny c o -∗ WP c (kk ⟨⟩) Q)
        -∗ WP c (.op (.load o (Rect.unit (s := S3x1408x128) ![1, 1344, 0] S2x64x128.size h).toLoadRect hl) fun _ =>
          .op (.store o (Rect.unit (s := S3x1408x128) ![1, 1344, 0] S2x64x128.size h) v Finset.univ hx hm) kk) Q) := by
  iintro ⟨%f, Hf⟩ Hk
  iapply (wp_load 𝒱₀ (c : Thread nD τ) none Set.univ (m := o) (Finset.subset_univ _)) $$ Hf
  iintro Hf
  iapply (wp_store 𝒱₀ (c : Thread nD τ) none Set.univ (m := o) (r := Rect.unit (s := S3x1408x128) ![1, 1344, 0] S2x64x128.size h) (Mk := Finset.univ)
    (Finset.subset_univ _)) $$ Hf
  iintro Hf
  iapply Hk
  unfold clsAny
  iexists _
  isplitr
  · ipureintro; exact box_tail o hv h f
  iexact Hf

theorem wp_done {α : Type} {a : α} {Q : α → sProp 𝕄} : Q a ⊢ WP c (.ret a) Q := by
  show _ ⊢ wp _ _ _ _ _
  rw [wp_ret]
  iintro H
  imodintro
  iexact H

/-! ## The barrier -/

/-- What `c` pays to the device `w` places around with. -/
def fee (w : Fin 4) : sProp 𝕄 := iprop(dutyTok ER (barC (around c w)) 0 c ∗ barPay (around c w) c)

theorem wp_part61 {Q : (Σ' (d0 : Dev nD), BitVec 32) → sProp 𝕄} :
    iprop(□ G I K ∗ □ levAts L lv ∗ ow c (owed c 0) ∗ (fee c 1 ∗ fee c 2 ∗ fee c 3) ∗ (cred (tallyAt (barC c) () 3) ∗ atPos ER (barC c) 0 ∅ 0)
        ∗ (∃ f : oK.view.ty.Contents (Elt F), oK.view.loc (c : Thread nD τ) ↦[Finset.univ]{fullShare} f)
        ∗ (∃ f : oV.view.ty.Contents (Elt F), oV.view.loc (c : Thread nD τ) ↦[Finset.univ]{fullShare} f))
      ⊢ iprop((iprop(ow c (owed c 3) ∗ atPos ER (barC c) (0 + 1) ∅ 0 ∗ (barPay c (around c 1) ∗ barPay c (around c 2) ∗ barPay c (around c 3))
          ∗ clsAny c oK ∗ clsAny c oV) -∗ Q ⟨c, pW c⟩)
        -∗ WP c (k0_part61 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19) Q) := by
  rw [k0_part61_eq_skeleton]
  unfold k0_part61_skel
  simp only [semSignalWord, semWaitWord, Prog.lift, Prog.bind_op, Prog.bind_ret, Prog.pure_eq_ret, wp_deviceId]
  simp only [dev1_eq c, dev2_eq c, dev3_eq c, show Scalar.remsi (Scalar.divsi c.word 1#32) 4#32 = pW c from rfl]
  unfold fee
  iintro ⟨#HG, #Hlev, HO, ⟨⟨Ht1, Hp1⟩, ⟨Ht2, Hp2⟩, ⟨Ht3, Hp3⟩⟩, ⟨Hc, Hat⟩, HK, HV⟩ Hk
  iapply (wp_sig I K c 1 (by decide) rfl 0 rfl) $$ [HO Ht1 Hp1]
  · isplitr; · iexact HG
    isplitl [HO]; · iexact HO
    isplitl [Ht1]; · iexact Ht1
    iexact Hp1
  iintro HO
  iapply (wp_sig I K c 2 (by decide) rfl 1 rfl) $$ [HO Ht2 Hp2]
  · isplitr; · iexact HG
    isplitl [HO]; · iexact HO
    isplitl [Ht2]; · iexact Ht2
    iexact Hp2
  iintro HO
  iapply (wp_sig I K c 3 (by decide) rfl 2 rfl) $$ [HO Ht3 Hp3]
  · isplitr; · iexact HG
    isplitl [HO]; · iexact HO
    isplitl [Ht3]; · iexact Ht3
    iexact Hp3
  iintro HO
  iapply (wp_bar I K c) $$ [HO Hc Hat]
  · isplitr; · iexact HG
    isplitr; · iexact Hlev
    isplitl [HO]; · iexact HO
    isplitl [Hc]; · iexact Hc
    iexact Hat
  iintro ⟨HO, Hat, Hb⟩
  iapply (wp_zero c oK (fun x => rfl)) $$ HK
  iintro HK
  iapply (wp_zero c oV (fun x => rfl)) $$ HV
  iintro HV
  iapply wp_done
  iapply Hk
  isplitl [HO]; · iexact HO
  isplitl [Hat]; · iexact Hat
  isplitl [Hb]; · iexact Hb
  isplitl [HK]; · iexact HK
  iexact HV

/-! ## The first head's copies begun, and the queries -/

theorem headF_nat : ∀ c : Dev nD, (Scalar.muli (pW c) 8#32).toNat = (hdF c 0 : ℕ) := by decide +kernel

theorem wp_fetchK {h1 : ∀ a, k0_off1 c a + S1x4096x1x128.size a ≤ S1x4096x32x128.size a}
    {h2 : ∀ a, (![0, 0, 0] : Fin 3 → ℕ) a + S1x4096x128.size a ≤ S2x4096x128.size a} {h3 : ∀ a, (![0] : Fin 1 → ℕ) a + S1.size a ≤ S2.size a}
    {e1} {e2} {e3} {kk : PUnit → P (F := F) PUnit} {Q : PUnit → sProp 𝕄} :
    idleK I c (slF 0) ⊢ iprop((busyK I c (slF 0) (hdF c 0) -∗ WP c (kk ⟨⟩) Q)
      -∗ WP c (.op (.enqueueDma ((bK.slice (Rect.unit (s := S1x4096x32x128) (k0_off1 c) S1x4096x1x128.size h1) (fun _ => rfl)).squeeze S4096x128 squeezes_S1x4096x1x128_S4096x128)
        (.here ((dK.slice (Rect.unit (s := S2x4096x128) ![0, 0, 0] S1x4096x128.size h2) (fun _ => rfl)).squeeze S4096x128 squeezes_S1x4096x128_S4096x128))
        (.dma ((cc0_scratch10.slice (Rect.unit (s := S2) ![0] S1.size h3)).squeeze S_ squeezes_S1_S_).sem) e1 e2 e3) kk) Q) :=
  wp_fetch (a := cc0_scratch10) (landsK c (I.K c)) (w := Scalar.muli (pW c) 8#32) (s' := 0#32) (h := hdF c 0) (s := slF 0) h1 h2 h3
    (headF_nat c) rfl (semK_at (w := 0#32) (s := slF 0) rfl h3)

theorem wp_fetchV {h1 : ∀ a, k0_off1 c a + S1x4096x1x128.size a ≤ S1x4096x32x128.size a}
    {h2 : ∀ a, (![0, 0, 0] : Fin 3 → ℕ) a + S1x4096x128.size a ≤ S2x4096x128.size a} {h3 : ∀ a, (![0] : Fin 1 → ℕ) a + S1.size a ≤ S2.size a}
    {e1} {e2} {e3} {kk : PUnit → P (F := F) PUnit} {Q : PUnit → sProp 𝕄} :
    idleV I c (slF 0) ⊢ iprop((busyV I c (slF 0) (hdF c 0) -∗ WP c (kk ⟨⟩) Q)
      -∗ WP c (.op (.enqueueDma ((bV.slice (Rect.unit (s := S1x4096x32x128) (k0_off1 c) S1x4096x1x128.size h1) (fun _ => rfl)).squeeze S4096x128 squeezes_S1x4096x1x128_S4096x128)
        (.here ((dV.slice (Rect.unit (s := S2x4096x128) ![0, 0, 0] S1x4096x128.size h2) (fun _ => rfl)).squeeze S4096x128 squeezes_S1x4096x128_S4096x128))
        (.dma ((cc0_scratch11.slice (Rect.unit (s := S2) ![0] S1.size h3)).squeeze S_ squeezes_S1_S_).sem) e1 e2 e3) kk) Q) :=
  wp_fetch (a := cc0_scratch11) (landsV c (I.V c)) (w := Scalar.muli (pW c) 8#32) (s' := 0#32) (h := hdF c 0) (s := slF 0) h1 h2 h3
    (headF_nat c) rfl (semV_at (w := 0#32) (s := slF 0) rfl h3)

theorem zero3 : (![0, 0, 0] : Fin 3 → ℕ) = 0 := by decide
theorem zero2 : (![0, 0] : Fin 2 → ℕ) = 0 := by decide

theorem wp_part62 (v2 : BitVec 32) {Q : PUnit → sProp 𝕄} :
    iprop((idleK I c (slF 0) ∗ idleV I c (slF 0)) ∗ (((c : Thread nD τ).loc cc0_stg0_0) ↦{fullShare} I.x c) ∗ (((c : Thread nD τ).loc cc0_stg1_0) ↦{fullShare} I.wq c)
        ∗ (∃ f, (((c : Thread nD τ).loc cc0_scratch0) ↦[slotsQ c]{fullShare} f)))
      ⊢ iprop((iprop(onway I c (stp 0 0) ∗ (((c : Thread nD τ).loc cc0_stg0_0) ↦{fullShare} I.x c) ∗ (((c : Thread nD τ).loc cc0_stg1_0) ↦{fullShare} I.wq c)
          ∗ (((c : Thread nD τ).loc cc0_scratch0) ↦[slotsQ c]{fullShare} qAll I)) -∗ Q ⟨⟩)
        -∗ WP c (k0_part62 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2) Q) := by
  rw [k0_part62_eq_skeleton]
  unfold k0_part62_skel
  simp only [semSignalWord, semWaitWord, Prog.lift, Prog.bind_op, Prog.bind_ret, Prog.pure_eq_ret, wp_deviceId]
  have hv : ∀ i : S4x256x1024.Idx, (i 0 : ℕ) = c → qAll I (mQ.view.emb i) = _root_.cast (congrArg (Elt F) mQ.view.elt_eq.symm)
      ((k0_pay512 (mX.view.readAt (Elt F) (Rect.unit (s := S1x256x1024) ![0, 0, 0] S1x256x1024.size inb_S1x256x1024_S1x256x1024_0_0_0).toLoadRect (I.x c))
        (mWq.view.readAt (Elt F) (Rect.unit (s := S1024x1024) ![0, 0] S1024x1024.size inb_S1024x1024_S1024x1024_0_0).toLoadRect (I.wq c)))
        (ix3 (0 : Fin 1) (i 1 : Fin 256) (i 2 : Fin 1024))) := by
    intro i hi
    refine Eq.trans ?_ (congrArg (fun a => k0_pay512 a _ (ix3 (0 : Fin 1) (i 1 : Fin 256) (i 2 : Fin 1024))) (Memref.readAt_unit_zero (Elt F) cc0_stg0_0 zero3 _ (I.x c)).symm)
    refine Eq.trans ?_ (congrArg (fun a => k0_pay512 _ a (ix3 (0 : Fin 1) (i 1 : Fin 256) (i 2 : Fin 1024))) (Memref.readAt_unit_zero (Elt F) cc0_stg1_0 zero2 _ (I.wq c)).symm)
    rw [← show i 0 = c from Fin.ext hi]
    rfl
  iintro ⟨⟨HiK, HiV⟩, Hx, Hw, Hq⟩ Hk
  iapply (wp_fetchK I c) $$ HiK
  iintro HK
  iapply (wp_fetchV I c) $$ HiV
  iintro HV
  iapply (wp_load 𝒱₀ (c : Thread nD τ) none Set.univ (m := mX) (Finset.subset_univ _)) $$ Hx
  iintro Hx
  iapply (wp_load 𝒱₀ (c : Thread nD τ) none Set.univ (m := mWq) (Finset.subset_univ _)) $$ Hw
  iintro Hw
  iapply (wp_putQ c (b := mQ) (s := c) (off2_eq c) (setOn_id (r := cc0_scratch0) (slotsQ c)) _ (qAll I) hv) $$ Hq
  iintro Hq
  iapply wp_done
  iapply Hk
  isplitl [HK HV]
  · unfold onway
    rw [if_pos (by decide)]
    isplitl [HK]; · iexact HK
    iexact HV
  isplitl [Hx]; · iexact Hx
  isplitl [Hw]; · iexact Hw
  iexact Hq

/-! ## The query copies -/

theorem pointsTo_four (ℓ : Loc nD τ sig) (S : Finset (Idx ℓ)) (f : Buf (Elt F) ℓ) :
    (ℓ ↦[S]{fullShare} f : sProp 𝕄) ⊣⊢ iprop((ℓ ↦[S]{qsh 0} f) ∗ (ℓ ↦[S]{qsh 1} f) ∗ (ℓ ↦[S]{qsh 2} f) ∗ (ℓ ↦[S]{qsh 3} f)) :=
  ⟨BIBase.Entails.trans (pointsTo_share (PosShare.mem_left_op_right fullShare)).1 (sep_mono_right (BIBase.Entails.trans (pointsTo_share (PosShare.mem_left_op_right _)).1
      (sep_mono_right (pointsTo_share (PosShare.mem_left_op_right _)).1))),
    BIBase.Entails.trans (sep_mono_right (BIBase.Entails.trans (sep_mono_right (pointsTo_share (PosShare.mem_left_op_right _)).2)
      (pointsTo_share (PosShare.mem_left_op_right _)).2)) (pointsTo_share (PosShare.mem_left_op_right fullShare)).2⟩

theorem around_sub : ∀ c w : Fin 4, around c w - c = w := by decide

theorem send0_eq (w : Fin 4) : sendPay I 0 c (around c w) = (((c : Thread nD τ).loc cc0_scratch0) ↦[slotsQ c]{qsh w} qAll I) := by
  show (((c : Thread nD τ).loc cc0_scratch0) ↦[slotsQ c]{qsh (around c w - c)} qAll I : sProp 𝕄) = _
  rw [around_sub]
theorem send3_eq (w : Fin 4) : sendPay I 3 c (around c w) = (((c : Thread nD τ).loc cc0_scratch9) ↦[slotsQ c]{qsh w} arAll I) := by
  show (((c : Thread nD τ).loc cc0_scratch9) ↦[slotsQ c]{qsh (around c w - c)} arAll I : sProp 𝕄) = _
  rw [around_sub]

theorem wp_part63 (v2 : BitVec 32) {Q : (Σ' (v87 : IVec S1x1408 32) (v88 : FVec F S1x1408 .f32), IVec S1x1408 32) → sProp 𝕄} :
    iprop(□ G I K ∗ ow c (owed c 3) ∗ (toks c 0 1 ∗ toks c 0 2 ∗ toks c 0 3) ∗ (room c 0 1 ∗ room c 0 2 ∗ room c 0 3)
        ∗ (((c : Thread nD τ).loc cc0_scratch0) ↦[slotsQ c]{fullShare} qAll I))
      ⊢ iprop((iprop(ow c (owed c 6) ∗ (sent c 0 1 ∗ sent c 0 2 ∗ sent c 0 3) ∗ (((c : Thread nD τ).loc cc0_scratch0) ↦[slotsQ c]{qsh 0} qAll I))
          -∗ Q ⟨iota .tc S1x1408 32 [1] iota_S1x1408_d1_w32, k0_pay513 (F := F), k0_pay514⟩)
        -∗ WP c (k0_part63 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2) Q) := by
  rw [k0_part63_eq_skeleton]
  unfold k0_part63_skel
  simp only [semSignalWord, semWaitWord, Prog.lift, Prog.bind_op, Prog.bind_ret, Prog.pure_eq_ret, wp_deviceId]
  iintro ⟨#HG, HO, ⟨Ht1, Ht2, Ht3⟩, ⟨Hr1, Hr2, Hr3⟩, Hq⟩ Hk
  ihave Hq := (pointsTo_four ((c : Thread nD τ).loc cc0_scratch0) (slotsQ c) (qAll I)).1 $$ Hq
  icases Hq with ⟨Hq0, Hq1, Hq2, Hq3⟩
  ihave Hq1 := (Entails.of_eq (send0_eq I c 1).symm) $$ Hq1
  ihave Hq2 := (Entails.of_eq (send0_eq I c 2).symm) $$ Hq2
  ihave Hq3 := (Entails.of_eq (send0_eq I c 3).symm) $$ Hq3
  iapply (wp_send0 I K c (w := 1) (by decide) (dev4_eq c) 3 (off3_eq c 1) (off4_eq c) (off5_eq c) rfl (off5_eq c)) $$ [HO Ht1 Hr1 Hq1]
  · isplitr; · iexact HG
    isplitl [HO]; · iexact HO
    isplitl [Ht1]; · iexact Ht1
    isplitl [Hq1]; · iexact Hq1
    iexact Hr1
  iintro ⟨Hs1, HO⟩
  iapply (wp_send0 I K c (w := 2) (by decide) (dev5_eq c) 4 (off3_eq c 2) (off4_eq c) (off5_eq c) rfl (off5_eq c)) $$ [HO Ht2 Hr2 Hq2]
  · isplitr; · iexact HG
    isplitl [HO]; · iexact HO
    isplitl [Ht2]; · iexact Ht2
    isplitl [Hq2]; · iexact Hq2
    iexact Hr2
  iintro ⟨Hs2, HO⟩
  iapply (wp_send0 I K c (w := 3) (by decide) (dev6_eq c) 5 (off3_eq c 3) (off4_eq c) (off5_eq c) rfl (off5_eq c)) $$ [HO Ht3 Hr3 Hq3]
  · isplitr; · iexact HG
    isplitl [HO]; · iexact HO
    isplitl [Ht3]; · iexact Ht3
    isplitl [Hq3]; · iexact Hq3
    iexact Hr3
  iintro ⟨Hs3, HO⟩
  iapply wp_done
  iapply Hk
  isplitl [HO]; · iexact HO
  isplitr [Hq0]
  · isplitl [Hs1]; · iexact Hs1
    isplitl [Hs2]; · iexact Hs2
    iexact Hs3
  iexact Hq0

theorem wp_part64 (v2 : BitVec 32) (v87 v89 : IVec S1x1408 32) {Q : (Σ' (v93 : FVec F S1x1408 .f32) (v120 : BitVec 1), IVec S128x256 1) → sProp 𝕄} :
    Q ⟨k0_pay515 (F := F) v87 v89, Scalar.cmpi .eq v2 0#32, k0_pay516⟩ ⊢ WP c (k0_part64 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 v2 v87 v89) Q := by
  rw [k0_part64_eq_skeleton]
  unfold k0_part64_skel
  simp only [semSignalWord, semWaitWord, Prog.lift, Prog.bind_op, Prog.bind_ret, Prog.pure_eq_ret, wp_deviceId]
  exact wp_done c

end Cert.KernelIdeal.Own

end
-- ==== Proof.PartsB.lean ====
module

public import proofs.«01_k».proof.Proof.PartsA
public import Idealize.ShloMosaic.Lib.Pipeline.Value

@[expose] public section

noncomputable section

/-! # The body's parts: the four blocks of queries and what goes out after each -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

/-! ## One block -/

/-- The copies of keys and values at step `t`, and the blocks they are gathered into. -/
def moving (t : ℕ) : sProp 𝕄 :=
  iprop(onway I c t ∗ (idleK I c (slF (t + 1)) ∗ idleV I c (slF (t + 1))) ∗ (clsAny c oK ∗ clsAny c oV))
/-- Room for block `g`'s results, and the results. -/
def fresh (g : Fin 4) : sProp 𝕄 :=
  iprop((∃ f, (((c : Thread nD τ).loc cc0_scratch5) ↦[slotsQ g]{fullShare} f)) ∗ (∃ f, (((c : Thread nD τ).loc cc0_scratch6) ↦[slotsL g]{fullShare} f)))
def done (g : Fin 4) : sProp 𝕄 :=
  iprop((((c : Thread nD τ).loc cc0_scratch5) ↦[slotsQ g]{fullShare} opD I c) ∗ (((c : Thread nD τ).loc cc0_scratch6) ↦[slotsL g]{fullShare} lpD I c))

theorem fresh_start (g : Fin 4) : fresh (F := F) c g ⊢ iprop(oPts I c g 0 ∗ lPts I c g 0) := by
  unfold fresh oPts lPts
  iintro ⟨⟨%f, Ho⟩, ⟨%f', Hl⟩⟩
  isplitl [Ho]
  · iexists f
    isplitr; · ipureintro; exact fun i _ h => absurd h (by omega)
    iexact Ho
  · iexists f'
    isplitr; · ipureintro; exact fun i _ h => absurd h (by omega)
    iexact Hl

theorem done_of (g : Fin 4) : iprop(oPts I c g 8 ∗ lPts I c g 8) ⊢ done I c g := by
  unfold done oPts lPts
  iintro ⟨⟨%f, %hf, Ho⟩, ⟨%f', %hf', Hl⟩⟩
  isplitl [Ho]
  · have e : (mO.view.loc (c : Thread nD τ) ↦[slotsQ g]{fullShare} f : sProp 𝕄) = (((c : Thread nD τ).loc cc0_scratch5) ↦[slotsQ g]{fullShare} opD I c) :=
      pointsTo_congr fun (i : S4x256x1024.Idx) hi => hf i (Finset.mem_filter.mp hi).2 (show (i 2 : ℕ) < 128 * 8 from (i 2).isLt)
    iapply (Entails.of_eq e) $$ Ho
  · have e : (mL.view.loc (c : Thread nD τ) ↦[slotsL g]{fullShare} f' : sProp 𝕄) = (((c : Thread nD τ).loc cc0_scratch6) ↦[slotsL g]{fullShare} lpD I c) :=
      pointsTo_congr fun (i : S4x8x256.Idx) hi => hf' i (Finset.mem_filter.mp hi).2 (i 1).isLt
    iapply (Entails.of_eq e) $$ Hl

section Block
variable (sh : PosShare TreeShare) (d : Fin 4) {g : Fin 4} (hg : gF c d = g) {t t' : ℕ} (e : stp d 0 = t) (e' : stp d 8 = t') (n : Fin 16) {lb ub st : BitVec 32} {hok : Scf.OK lb ub st}
    (ht : Scf.trips lb ub st = 8) {body : Fin (Scf.trips lb ub st) → PUnit → P (F := F) PUnit}
    {hK : oK.IsWhole} {hV : oV.IsWhole} {hO : mO.IsWhole}
    (hb : ∀ k acc, body k acc = trip bK bV mQ dK dV oK hK oV hV mO hO mL cc0_scratch10 cc0_scratch11 c t22M t21M (xbM c) d
      (Fin.cast ht k) (inB d c (Fin.cast ht k)))
include hb hg e e'

theorem wp_block' {β : Type} {kk : PUnit → P (F := F) β} {Q : β → sProp 𝕄} :
    iprop(□ levAts L lv ∗ moving I c t ∗ ow c (owed c n) ∗ qPts I c sh (g) ∗ fresh c (g))
      ⊢ iprop((iprop(moving I c t' ∗ ow c (owed c n) ∗ qPts I c sh (g) ∗ done I c (g)) -∗ WP c (kk ⟨⟩) Q)
        -∗ WP c (Scf.for lb ub st hok ⟨⟩ body >>= kk) Q) := by
  subst hg e e'
  unfold moving
  iintro ⟨#Hlev, ⟨Hw, Hi, Hc⟩, HO, Hq, Hf⟩ Hk
  ihave Hf := (fresh_start I c _) $$ Hf
  icases Hf with ⟨Ho, Hl⟩
  iapply (wp_trips I c sh d n ht hb) $$ [Hw Hi Hc HO Hq Ho Hl]
  · isplitr; · iexact Hlev
    unfold LS
    isplitl [Hw]; · iexact Hw
    isplitl [Hi]; · iexact Hi
    isplitl [HO]; · iexact HO
    isplitl [Hc]; · iexact Hc
    isplitl [Hq]; · iexact Hq
    isplitl [Ho]; · iexact Ho
    iexact Hl
  unfold LS
  iintro ⟨Hw, Hi, HO, Hc, Hq, Ho, Hl⟩
  iapply Hk
  isplitl [Hw Hi Hc]
  · isplitl [Hw]; · iexact Hw
    isplitl [Hi]; · iexact Hi
    iexact Hc
  isplitl [HO]; · iexact HO
  isplitl [Hq]; · iexact Hq
  iapply (done_of I c _)
  isplitl [Ho]; · iexact Ho
  iexact Hl
theorem wp_block {β : Type} {kk : PUnit → P (F := F) β} {Q : β → sProp 𝕄} :
    iprop(□ levAts L lv ∗ moving I c t ∗ ow c (owed c n) ∗ (((c : Thread nD τ).loc cc0_scratch0) ↦[slotsQ g]{sh} qAll I) ∗ fresh c (g))
      ⊢ iprop((iprop(moving I c t' ∗ ow c (owed c n) ∗ (((c : Thread nD τ).loc cc0_scratch0) ↦[slotsQ g]{sh} qAll I) ∗ done I c (g)) -∗ WP c (kk ⟨⟩) Q)
        -∗ WP c (Scf.for lb ub st hok ⟨⟩ body >>= kk) Q) :=
  wp_block' I c sh d hg e e' n ht hb
end Block

theorem credQ (b : Memref sig .tc .vmem S4x256x1024 .bf16) (off : Fin 3 → ℕ) (h : ∀ a, off a + S1x256x1024.size a ≤ S4x256x1024.size a) :
    (slotQ b off h).view.dmaCredit = NQ := rfl
theorem credL (b : Memref sig .tc .vmem S4x8x256 .f32) (off : Fin 3 → ℕ) (h : ∀ a, off a + S1x8x256.size a ≤ S4x8x256.size a) :
    (slotL b off h).view.dmaCredit = NL := rfl

/-! ## A device's own block -/

theorem gF_zero : ∀ c : Dev nD, gF c 0 = c := by decide

theorem own_oa : ∀ i : S4x256x1024.Idx, (i 0 : ℕ) = c → oaD I c (mA.view.emb i) = _root_.cast (congrArg (Elt F) mA.view.elt_eq.symm)
    ((k0_pay521 (slotRow (opD I c) c)) (ix3 (0 : Fin 1) (i 1 : Fin 256) (i 2 : Fin 1024))) := by
  intro i hi
  refine Eq.trans ?_ (congrFun (shapeCast_shapeCast (slotRow (opD I c) c) shapeCasts_S1x256x1024_S256x1024 shapeCasts_S256x1024_S1x256x1024).symm _)
  show opD I (i 0) (ix3 (c : Fin 4) (i 1 : Fin 256) (i 2 : Fin 1024)) = _
  rw [show i 0 = c from Fin.ext hi]
  rfl
theorem own_la : ∀ i : S4x8x256.Idx, (i 0 : ℕ) = c → laD I c (mB.view.emb i) = _root_.cast (congrArg (Elt F) mB.view.elt_eq.symm)
    ((k0_pay522 (slotRowL (lpD I c) c)) (ix3 (0 : Fin 1) (i 1 : Fin 8) (i 2 : Fin 256))) := by
  intro i hi
  refine Eq.trans ?_ (congrFun (shapeCast_shapeCast (slotRowL (lpD I c) c) shapeCasts_S1x8x256_S8x256 shapeCasts_S8x256_S1x8x256).symm _)
  show lpD I (i 0) (ix3 (c : Fin 4) (i 1 : Fin 8) (i 2 : Fin 256)) = _
  rw [show i 0 = c from Fin.ext hi]
  rfl

/-- Reading a slot of the results. -/
theorem wp_readO {off : Fin 3 → ℕ} {h : ∀ a, off a + S1x256x1024.size a ≤ S4x256x1024.size a} {s : Fin 4} (e : off = ![(s : ℕ), 0, 0]) (f : Vec F S4x256x1024 .bf16)
    {hl} {α : Type} {kk : Vec F S1x256x1024 .bf16 → P (F := F) α} {Q : α → sProp 𝕄} :
    (((c : Thread nD τ).loc cc0_scratch5) ↦[slotsQ s]{fullShare} f)
      ⊢ iprop(((((c : Thread nD τ).loc cc0_scratch5) ↦[slotsQ s]{fullShare} f) -∗ WP c (kk (slotRow f s)) Q)
        -∗ WP c (.op (.load mO (Rect.unit (s := S4x256x1024) off S1x256x1024.size h).toLoadRect hl) kk) Q) := by
  rw [← read_slotQ f (b := mO) h e]
  exact wp_load 𝒱₀ (c : Thread nD τ) none Set.univ (m := mO) (r := (Rect.unit (s := S4x256x1024) off S1x256x1024.size h).toLoadRect)
    ((congrArg (Finset.map mO.view.emb) (box_slotsQ h e)).trans (setOn_id (r := cc0_scratch5) (slotsQ s))).le
theorem wp_readL {off : Fin 3 → ℕ} {h : ∀ a, off a + S1x8x256.size a ≤ S4x8x256.size a} {s : Fin 4} (e : off = ![(s : ℕ), 0, 0]) (f : Vec F S4x8x256 .f32)
    {hl} {α : Type} {kk : Vec F S1x8x256 .f32 → P (F := F) α} {Q : α → sProp 𝕄} :
    (((c : Thread nD τ).loc cc0_scratch6) ↦[slotsL s]{fullShare} f)
      ⊢ iprop(((((c : Thread nD τ).loc cc0_scratch6) ↦[slotsL s]{fullShare} f) -∗ WP c (kk (slotRowL f s)) Q)
        -∗ WP c (.op (.load mL (Rect.unit (s := S4x8x256) off S1x8x256.size h).toLoadRect hl) kk) Q) := by
  rw [← read_slotL f h e]
  exact wp_load 𝒱₀ (c : Thread nD τ) none Set.univ (m := mL) (r := (Rect.unit (s := S4x8x256) off S1x8x256.size h).toLoadRect)
    ((congrArg (Finset.map mL.view.emb) (box_slotsL h e)).trans (setOn_id (r := cc0_scratch6) (slotsL s))).le

theorem wp_part65 {Q : (Σ' (v139 : FVec F S128x256 .f32), BitVec 32) → sProp 𝕄} :
    iprop(□ G I K ∗ □ levAts L lv ∗ moving I c 0 ∗ ow c (owed c 6) ∗ (((c : Thread nD τ).loc cc0_scratch0) ↦[slotsQ c]{qsh 0} qAll I) ∗ fresh c c
        ∗ (∃ f, (((c : Thread nD τ).loc cc0_scratch7) ↦[slotsQ c]{fullShare} f)) ∗ (∃ f, (((c : Thread nD τ).loc cc0_scratch8) ↦[slotsL c]{fullShare} f))
        ∗ due c 0 1)
      ⊢ iprop((iprop(moving I c 8 ∗ ow c (owed c 6) ∗ (((c : Thread nD τ).loc cc0_scratch0) ↦[slotsQ c]{qsh 0} qAll I) ∗ done I c c
          ∗ (((c : Thread nD τ).loc cc0_scratch7) ↦[slotsQ c]{fullShare} oaD I c) ∗ (((c : Thread nD τ).loc cc0_scratch8) ↦[slotsL c]{fullShare} laD I c)
          ∗ hadR c 0 1 ∗ recvPay I 0 c (around c 1)) -∗ Q ⟨xbM c, gW 1 c⟩)
        -∗ WP c (k0_part65 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (Scalar.cmpi .eq (pW c) 0#32) k0_pay516) Q) := by
  rw [k0_part65_eq_skeleton]
  unfold k0_part65_skel
  simp only [semSignalWord, semWaitWord, Prog.lift, Prog.bind_op, Prog.bind_ret, Prog.pure_eq_ret, wp_deviceId]
  simp only [show Scalar.remsi (Scalar.addi (pW c) 1#32) 4#32 = gW 1 c from rfl, show k0_pay517 (F := F) (Scalar.cmpi .eq (pW c) 0#32) k0_pay516 = xbM c from rfl]
  iintro ⟨#HG, #Hlev, Hm, HO, Hq, Hf, HA, HB, Hd⟩ Hk
  iapply (wp_block I c (qsh 0) 0 (gF_zero c) (t := 0) (t' := 8) rfl rfl 6 (hok := k0_t1_ok) (by decide)
    (body := k0_t1_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (Scalar.cmpi .eq (pW c) 0#32) k0_pay516 (Scalar.remsi (Scalar.addi (pW c) 0#32) 4#32))
    (fun k _ => trip0 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c t22M t21M (Scalar.cmpi .eq (pW c) 0#32) k0_pay516 k)) $$ [Hm HO Hq Hf]
  · isplitr; · iexact Hlev
    isplitl [Hm]; · iexact Hm
    isplitl [HO]; · iexact HO
    isplitl [Hq]; · iexact Hq
    iexact Hf
  iintro ⟨Hm, HO, Hq, Hdn⟩
  unfold done
  icases Hdn with ⟨Ho, Hl⟩
  iapply (wp_readO c (s := c) (off2_eq c) (opD I c)) $$ Ho
  iintro Ho
  iapply (wp_putQ c (b := mA) (s := c) (off2_eq c) (setOn_id (r := cc0_scratch7) (slotsQ c)) _ (oaD I c) (own_oa I c)) $$ HA
  iintro HA
  iapply (wp_readL c (s := c) (off85_eq c) (lpD I c)) $$ Hl
  iintro Hl
  iapply (wp_putL c (b := mB) (s := c) (off85_eq c) (setOn_id (r := cc0_scratch8) (slotsL c)) _ (laD I c) (own_la I c)) $$ HB
  iintro HB
  iapply (wp_got' I K c (w := 1) (by decide) 6 0 (recv0 (off3_eq c 1)) (by decide) (credQ mQ _ _)) $$ [HO Hd]
  · isplitr; · iexact HG
    isplitr; · iexact Hlev
    isplitl [HO]; · iexact HO
    iexact Hd
  iintro ⟨HO, Hd, Hr⟩
  iapply wp_done
  iapply Hk $$ [Hm HO Hq Ho Hl HA HB Hd Hr]
  isplitl [Hm]; · iexact Hm
  isplitl [HO]; · iexact HO
  isplitl [Hq]; · iexact Hq
  isplitl [Ho Hl]
  · isplitl [Ho]; · iexact Ho
    iexact Hl
  isplitl [HA]; · iexact HA
  isplitl [HB]; · iexact HB
  isplitl [Hd]; · iexact Hd
  iexact Hr

/-! ## A block for another device, and its results sent there -/

section Round
variable {w : Fin 4} (hw : w ≠ 0) (t t' : ℕ) (e : stp w 0 = t) (e' : stp w 8 = t') (n : Fin 16) (n2 : ℕ) (hn2 : n2 = n + 2)
    {lb ub st : BitVec 32} {hok : Scf.OK lb ub st}
    (ht : Scf.trips lb ub st = 8) {body : Fin (Scf.trips lb ub st) → PUnit → P (F := F) PUnit}
    {hK : oK.IsWhole} {hV : oV.IsWhole} {hO : mO.IsWhole}
    (hb : ∀ k acc, body k acc = trip bK bV mQ dK dV oK hK oV hV mO hO mL cc0_scratch10 cc0_scratch11 c t22M t21M (xbM c) w
      (Fin.cast ht k) (inB w c (Fin.cast ht k)))
    {p p' : Dev nD} (hp : p = around c w) (hp' : p' = around c w)
    (hd : owed c n = owed c (n + 1) + tallyAt (recvC (around c w) 1 c) () (amt 1))
    (hd' : owed c (n + 1) = owed c (n + 1 + 1) + tallyAt (recvC (around c w) 2 c) () (amt 2))
    {oS oR oS' oR' : Fin 1 → ℕ} {hoS : ∀ a, oS a + S1.size a ≤ S4.size a} {hoR : ∀ a, oR a + S1.size a ≤ S4.size a}
    {hoS' : ∀ a, oS' a + S1.size a ≤ S4.size a} {hoR' : ∀ a, oR' a + S1.size a ≤ S4.size a}
    (eS : oS = ![(around c w : ℕ)]) (eR : oR = ![(c : ℕ)]) (eS' : oS' = ![(around c w : ℕ)]) (eR' : oR' = ![(c : ℕ)])
    {f1 f2 f3 f4 : Fin 3 → ℕ} (e1 : f1 = ![(around c w : ℕ), 0, 0]) (e2 : f2 = ![(c : ℕ), 0, 0])
    (e3 : f3 = ![(around c w : ℕ), 0, 0]) (e4 : f4 = ![(c : ℕ), 0, 0])
    {h1 : ∀ a, f1 a + S1x256x1024.size a ≤ S4x256x1024.size a} {h2 : ∀ a, f2 a + S1x256x1024.size a ≤ S4x256x1024.size a}
    {h3 : ∀ a, f3 a + S1x8x256.size a ≤ S4x8x256.size a} {h4 : ∀ a, f4 a + S1x8x256.size a ≤ S4x8x256.size a}
include hw hb e e' hn2 hp hp' hd hd' eS eR eS' eR' e1 e2 e3 e4

theorem wp_round {hsc hsc'} {k1 k1'} {k2 k2'} {k3 k3'} {β : Type} {kk : PUnit → P (F := F) β} {Q : β → sProp 𝕄} :
    iprop(□ G I K ∗ □ levAts L lv ∗ moving I c t ∗ ow c (owed c n) ∗ recvPay I 0 c (around c w) ∗ fresh c (around c w)
        ∗ (toks c 1 w ∗ toks c 2 w) ∗ (room c 1 w ∗ room c 2 w))
      ⊢ iprop((iprop(moving I c t' ∗ ow c (owed c n2) ∗ recvPay I 0 c (around c w) ∗ (sent c 1 w ∗ sent c 2 w)) -∗ WP c (kk ⟨⟩) Q)
        -∗ WP c (Scf.for lb ub st hok ⟨⟩ body >>= fun _ =>
          .op (.enqueueDma (slotQ mO f1 h1) (.remote ((p, .tc) : Thread nD τ) (slotQ mA f2 h2)
            (.dma ((cc0_scratch14.slice (Rect.unit (s := S4) oS S1.size hoS)).squeeze S_ squeezes_S1_S_).sem) hsc)
            (.dma ((cc0_scratch15.slice (Rect.unit (s := S4) oR S1.size hoR)).squeeze S_ squeezes_S1_S_).sem) k1 k2 k3) fun _ =>
          .op (.enqueueDma (slotL mL f3 h3) (.remote ((p', .tc) : Thread nD τ) (slotL mB f4 h4)
            (.dma ((cc0_scratch16.slice (Rect.unit (s := S4) oS' S1.size hoS')).squeeze S_ squeezes_S1_S_).sem) hsc')
            (.dma ((cc0_scratch17.slice (Rect.unit (s := S4) oR' S1.size hoR')).squeeze S_ squeezes_S1_S_).sem) k1' k2' k3') kk) Q) := by
  subst hn2
  have q0 : recvPay I 0 c (around c w) = (((c : Thread nD τ).loc cc0_scratch0) ↦[slotsQ (around c w)]{fullShare} qAll I) := rfl
  have q1 : sendPay I 1 c (around c w) = (((c : Thread nD τ).loc cc0_scratch5) ↦[slotsQ (around c w)]{fullShare} opD I c) := rfl
  have q2 : sendPay I 2 c (around c w) = (((c : Thread nD τ).loc cc0_scratch6) ↦[slotsL (around c w)]{fullShare} lpD I c) := rfl
  rw [q0]
  iintro ⟨#HG, #Hlev, Hm, HO, Hq, Hf, ⟨Ht1, Ht2⟩, ⟨Hr1, Hr2⟩⟩ Hk
  iapply (wp_block I c fullShare w (g := around c w) rfl e e' n ht hb) $$ [Hm HO Hq Hf]
  · isplitr; · iexact Hlev
    isplitl [Hm]; · iexact Hm
    isplitl [HO]; · iexact HO
    isplitl [Hq]; · iexact Hq
    iexact Hf
  iintro ⟨Hm, HO, Hq, Hdn⟩
  unfold done
  icases Hdn with ⟨Ho, Hl⟩
  iapply (wp_send1 I K c hw hp n eS eR e2 hd e1) $$ [HO Ht1 Ho Hr1]
  · isplitr; · iexact HG
    isplitl [HO]; · iexact HO
    isplitl [Ht1]; · iexact Ht1
    isplitl [Ho]; · iapply (Entails.of_eq q1.symm) $$ Ho
    iexact Hr1
  iintro ⟨Hs1, HO⟩
  iapply (wp_send2 I K c hw hp' (n + 1) eS' eR' e4 hd' e3) $$ [HO Ht2 Hl Hr2]
  · isplitr; · iexact HG
    isplitl [HO]; · iexact HO
    isplitl [Ht2]; · iexact Ht2
    isplitl [Hl]; · iapply (Entails.of_eq q2.symm) $$ Hl
    iexact Hr2
  iintro ⟨Hs2, HO⟩
  iapply Hk
  isplitl [Hm]; · iexact Hm
  isplitl [HO]; · iexact HO
  isplitl [Hq]; · iexact Hq
  isplitl [Hs1]; · iexact Hs1
  iexact Hs2
end Round

/-- What a block for the device `w` places around needs, and what is left. -/
def roundPre (w : Fin 4) : sProp 𝕄 :=
  iprop(recvPay I 0 c (around c w) ∗ fresh c (around c w) ∗ (toks c 1 w ∗ toks c 2 w) ∗ (room c 1 w ∗ room c 2 w))
def roundPost (w : Fin 4) : sProp 𝕄 := iprop(recvPay I 0 c (around c w) ∗ (sent c 1 w ∗ sent c 2 w))

theorem wp_part66 {Q : (Σ' (v189 : BitVec 32), BitVec 32) → sProp 𝕄} :
    iprop(□ G I K ∗ □ levAts L lv ∗ moving I c 8 ∗ ow c (owed c 6) ∗ roundPre I c 1 ∗ due c 0 2)
      ⊢ iprop((iprop(moving I c 16 ∗ ow c (owed c 8) ∗ roundPost I c 1 ∗ hadR c 0 2 ∗ recvPay I 0 c (around c 2)) -∗ Q ⟨gW 2 c, 0#32⟩)
        -∗ WP c (k0_part66 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 1 c)) Q) := by
  rw [k0_part66_eq_skeleton]
  unfold k0_part66_skel
  simp only [semSignalWord, semWaitWord, Prog.lift, Prog.bind_op, Prog.bind_ret, Prog.pure_eq_ret, wp_deviceId]
  simp only [show Scalar.remsi (Scalar.addi (pW c) 2#32) 4#32 = gW 2 c from rfl]
  unfold roundPre roundPost
  iintro ⟨#HG, #Hlev, Hm, HO, ⟨Hq, Hf, Ht, Hr⟩, Hd⟩ Hk
  iapply (wp_round I K c (w := 1) (by decide) 8 16 rfl rfl 6 8 rfl (hok := k0_t2_ok) (by decide)
    (body := k0_t2_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 1 c))
    (fun k _ => trip1 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c t22M t21M (xbM c) k) (dev7_eq c) (dev8_eq c) rfl rfl
    (off3_eq c 1) (off4_eq c) (off3_eq c 1) (off4_eq c) (off86_eq c 1) (off5_eq c) (off167_eq c 1) (off166_eq c)) $$ [Hm HO Hq Hf Ht Hr]
  · isplitr; · iexact HG
    isplitr; · iexact Hlev
    isplitl [Hm]; · iexact Hm
    isplitl [HO]; · iexact HO
    isplitl [Hq]; · iexact Hq
    isplitl [Hf]; · iexact Hf
    isplitl [Ht]; · iexact Ht
    iexact Hr
  iintro ⟨Hm, HO, Hq, Hs⟩
  iapply (wp_got' I K c (w := 2) (by decide) 8 0 (recv0 (off3_eq c 2)) (by decide) (credQ mQ _ _)) $$ [HO Hd]
  · isplitr; · iexact HG
    isplitr; · iexact Hlev
    isplitl [HO]; · iexact HO
    iexact Hd
  iintro ⟨HO, Hd, Hg⟩
  iapply wp_done
  iapply Hk
  isplitl [Hm]; · iexact Hm
  isplitl [HO]; · iexact HO
  isplitl [Hq Hs]
  · isplitl [Hq]; · iexact Hq
    iexact Hs
  isplitl [Hd]; · iexact Hd
  iexact Hg

theorem wp_part67 {Q : (Σ' (v220 : BitVec 32) (c0_i32_151 : BitVec 32), BitVec 32) → sProp 𝕄} :
    iprop(□ G I K ∗ □ levAts L lv ∗ moving I c 16 ∗ ow c (owed c 8) ∗ roundPre I c 2 ∗ due c 0 3)
      ⊢ iprop((iprop(moving I c 24 ∗ ow c (owed c 10) ∗ roundPost I c 2 ∗ hadR c 0 3 ∗ recvPay I 0 c (around c 3)) -∗ Q ⟨gW 3 c, 0#32, 8#32⟩)
        -∗ WP c (k0_part67 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 2 c) 0#32) Q) := by
  rw [k0_part67_eq_skeleton]
  unfold k0_part67_skel
  simp only [semSignalWord, semWaitWord, Prog.lift, Prog.bind_op, Prog.bind_ret, Prog.pure_eq_ret, wp_deviceId]
  simp only [show Scalar.remsi (Scalar.addi (pW c) 3#32) 4#32 = gW 3 c from rfl]
  unfold roundPre roundPost
  iintro ⟨#HG, #Hlev, Hm, HO, ⟨Hq, Hf, Ht, Hr⟩, Hd⟩ Hk
  iapply (wp_round I K c (w := 2) (by decide) 16 24 rfl rfl 8 10 rfl (hok := k0_t3_ok) (by decide)
    (body := k0_t3_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 2 c) 0#32)
    (fun k _ => trip2 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c t22M t21M (xbM c) 0#32 k) (dev9_eq c) (dev10_eq c) rfl rfl
    (off3_eq c 2) (off4_eq c) (off3_eq c 2) (off4_eq c) (off86_eq c 2) (off5_eq c) (off167_eq c 2) (off166_eq c)) $$ [Hm HO Hq Hf Ht Hr]
  · isplitr; · iexact HG
    isplitr; · iexact Hlev
    isplitl [Hm]; · iexact Hm
    isplitl [HO]; · iexact HO
    isplitl [Hq]; · iexact Hq
    isplitl [Hf]; · iexact Hf
    isplitl [Ht]; · iexact Ht
    iexact Hr
  iintro ⟨Hm, HO, Hq, Hs⟩
  iapply (wp_got' I K c (w := 3) (by decide) 10 0 (recv0 (off3_eq c 3)) (by decide) (credQ mQ _ _)) $$ [HO Hd]
  · isplitr; · iexact HG
    isplitr; · iexact Hlev
    isplitl [HO]; · iexact HO
    iexact Hd
  iintro ⟨HO, Hd, Hg⟩
  iapply wp_done
  iapply Hk
  isplitl [Hm]; · iexact Hm
  isplitl [HO]; · iexact HO
  isplitl [Hq Hs]
  · isplitl [Hq]; · iexact Hq
    iexact Hs
  isplitl [Hd]; · iexact Hd
  iexact Hg

theorem wp_part68 {Q : (Σ' (v260 : BitVec 32), BitVec 32) → sProp 𝕄} :
    iprop(□ G I K ∗ □ levAts L lv ∗ moving I c 24 ∗ ow c (owed c 10) ∗ roundPre I c 3 ∗ due c 1 1)
      ⊢ iprop((iprop(moving I c 32 ∗ ow c (owed c 12) ∗ roundPost I c 3 ∗ hadR c 1 1 ∗ recvPay I 1 c (around c 1)) -∗ Q ⟨Scalar.addi (pW c) 2#32, 4#32⟩)
        -∗ WP c (k0_part68 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 3 c) 0#32 8#32) Q) := by
  rw [k0_part68_eq_skeleton]
  unfold k0_part68_skel
  simp only [semSignalWord, semWaitWord, Prog.lift, Prog.bind_op, Prog.bind_ret, Prog.pure_eq_ret, wp_deviceId]
  unfold roundPre roundPost
  iintro ⟨#HG, #Hlev, Hm, HO, ⟨Hq, Hf, Ht, Hr⟩, Hd⟩ Hk
  iapply (wp_round I K c (w := 3) (by decide) 24 32 rfl rfl 10 12 rfl (hok := k0_t4_ok) (by decide)
    (body := k0_t4_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) t22M t21M (xbM c) (gW 3 c) 0#32 8#32)
    (fun k _ => trip3 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c t22M t21M (xbM c) 0#32 8#32 k) (dev11_eq c) (dev12_eq c) rfl rfl
    (off3_eq c 3) (off4_eq c) (off3_eq c 3) (off4_eq c) (off86_eq c 3) (off5_eq c) (off167_eq c 3) (off166_eq c)) $$ [Hm HO Hq Hf Ht Hr]
  · isplitr; · iexact HG
    isplitr; · iexact Hlev
    isplitl [Hm]; · iexact Hm
    isplitl [HO]; · iexact HO
    isplitl [Hq]; · iexact Hq
    isplitl [Hf]; · iexact Hf
    isplitl [Ht]; · iexact Ht
    iexact Hr
  iintro ⟨Hm, HO, Hq, Hs⟩
  iapply (wp_got' I K c (w := 1) (by decide) 12 1 (recv1 (off3_eq c 1)) (by decide) (credQ mA _ _)) $$ [HO Hd]
  · isplitr; · iexact HG
    isplitr; · iexact Hlev
    isplitl [HO]; · iexact HO
    iexact Hd
  iintro ⟨HO, Hd, Hg⟩
  iapply wp_done
  iapply Hk
  isplitl [Hm]; · iexact Hm
  isplitl [HO]; · iexact HO
  isplitl [Hq Hs]
  · isplitl [Hq]; · iexact Hq
    iexact Hs
  isplitl [Hd]; · iexact Hd
  iexact Hg

end Cert.KernelIdeal.Own

end
-- ==== Proof.PartsC.lean ====
module

public import proofs.«01_k».proof.Proof.PartsB

@[expose] public section

noncomputable section

/-! # The body's parts: gathering the results, the output projection and its exchange -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

/-! ## Waits -/

/-- What has arrived, what is out, and what has come back. -/
def came (e w : Fin 4) : sProp 𝕄 := iprop(hadR c e w ∗ recvPay I e c (around c w))
def out (e w : Fin 4) : sProp 𝕄 := iprop(sent (F := F) c e w ∗ mark c e w)
def back (e w : Fin 4) : sProp 𝕄 := iprop(hadS c e w ∗ sendPay I e c (around c w))

section Waits
variable {w : Fin 4} (hw : w ≠ 0) (n : Fin 16)
include hw

theorem wp_R (e : Fin 4) {sm : DmaSem sig} (hs : sm = recvS e (around c w))
    (hb : (match e with | 0 => 2 | 1 => 3 | 2 => 3 | 3 => 4) < (match (n : ℕ) with | 0 => 1 | 1 => 1 | 2 => 1 | 3 => 2 | 4 => 2 | 5 => 2 | 6 => 3 | 7 => 3 | 8 => 3 | 9 => 3 | 10 => 3 | 11 => 3 | 12 => 4 | 13 => 4 | 14 => 4 | _ => 5))
    {α : Type} {kk : PUnit → P (F := F) α} {Q : α → sProp 𝕄} {sp sp'} {s : Shape} {t : EltTy} {src : Memref sig .tc sp s t} {dst : Memref sig .tc sp' s t}
    {h1 : src.view.WordExact} {h2 : dst.view.WordExact} (ha : dst.view.dmaCredit = amt e) :
    iprop(□ G I K ∗ □ levAts L lv ∗ ow c (owed c n) ∗ due c e w)
      ⊢ iprop((iprop(ow c (owed c n) ∗ came I c e w) -∗ WP c (kk ⟨⟩) Q) -∗ WP c (.op (.waitDma2 sm src dst h1 h2) kk) Q) := by
  iintro ⟨#HG, #Hlev, HO, Hd⟩ Hk
  iapply (wp_got' I K c hw n e hs hb ha) $$ [HO Hd]
  · isplitr; · iexact HG
    isplitr; · iexact Hlev
    isplitl [HO]; · iexact HO
    iexact Hd
  unfold came
  iexact Hk

theorem wp_S (e : Fin 4) {sm : DmaSem sig} (hs : sm = sendS e (around c w))
    {α : Type} {kk : PUnit → P (F := F) α} {Q : α → sProp 𝕄} {sp sp'} {s : Shape} {t : EltTy} {src : Memref sig .tc sp s t} {dst : Memref sig .tc sp' s t}
    {h1 : src.view.WordExact} {h2 : dst.view.WordExact} (ha : dst.view.dmaCredit = amt e) :
    iprop(□ G I K ∗ □ levAts L lv ∗ ow c (owed c n) ∗ out c e w)
      ⊢ iprop((iprop(ow c (owed c n) ∗ back I c e w) -∗ WP c (kk ⟨⟩) Q) -∗ WP c (.op (.waitDma2 sm src dst h1 h2) kk) Q) := by
  unfold out
  iintro ⟨#HG, #Hlev, HO, Hd, Hm⟩ Hk
  iapply (wp_sent' I K c hw n e hs ha) $$ [HO Hd Hm]
  · isplitr; · iexact HG
    isplitr; · iexact Hlev
    isplitl [HO]; · iexact HO
    isplitl [Hd]; · iexact Hd
    iexact Hm
  unfold back
  iexact Hk
end Waits

/-! ## Reading what was gathered -/

theorem read_col (f : Vec F S4x256x1024 .bf16) (j : Fin 8) {off : Fin 3 → ℕ} (h : ∀ a, off a + S4x256x128.size a ≤ S4x256x1024.size a)
    (e : off = ![0, 0, 128 * (j : ℕ)]) :
    mA.view.readAt (Elt F) (Rect.unit (s := S4x256x1024) off S4x256x128.size h).toLoadRect f = oaCol f j := by
  subst e
  funext x
  show f _ = f _
  refine congrArg f (funext fun a => Fin.ext ?_)
  fin_cases a
  · show 0 + 1 * (x 0 : ℕ) = x 0
    omega
  · show 0 + 1 * (x 1 : ℕ) = x 1
    omega
  · show 128 * (j : ℕ) + 1 * (x 2 : ℕ) = 128 * j + x 2
    omega

theorem wp_col (j : Fin 8) (f : Vec F S4x256x1024 .bf16) {off : Fin 3 → ℕ} {h : ∀ a, off a + S4x256x128.size a ≤ S4x256x1024.size a} (e : off = ![0, 0, 128 * (j : ℕ)])
    {hl} {α : Type} {kk : Vec F S4x256x128 .bf16 → P (F := F) α} {Q : α → sProp 𝕄} :
    (((c : Thread nD τ).loc cc0_scratch7) ↦{fullShare} f)
      ⊢ iprop(((((c : Thread nD τ).loc cc0_scratch7) ↦{fullShare} f) -∗ WP c (kk (oaCol f j)) Q)
        -∗ WP c (.op (.load mA (Rect.unit (s := S4x256x1024) off S4x256x128.size h).toLoadRect hl) kk) Q) := by
  rw [← read_col f j h e]
  exact wp_load 𝒱₀ (c : Thread nD τ) none Set.univ (m := mA) (r := (Rect.unit (s := S4x256x1024) off S4x256x128.size h).toLoadRect) (Finset.subset_univ _)

theorem wp_read {s : Shape} {e : EltTy} (m : Memref sig .tc .vmem s e) {r : LoadRect s} {hl : m.view.LoadsAt r} (f : Buf (Elt F) (m.view.loc (c : Thread nD τ)))
    {x : r.shape.Idx → Elt F e} (hx : m.view.readAt (Elt F) r f = x) {α : Type} {kk : (r.shape.Idx → Elt F e) → P (F := F) α} {Q : α → sProp 𝕄} :
    (m.view.loc (c : Thread nD τ) ↦{fullShare} f)
      ⊢ iprop(((m.view.loc (c : Thread nD τ) ↦{fullShare} f) -∗ WP c (kk x) Q) -∗ WP c (.op (.load m r hl) kk) Q) := by
  subst hx
  exact wp_load 𝒱₀ (c : Thread nD τ) none Set.univ (Finset.subset_univ _)

theorem wp_part69 (v260 v261 : BitVec 32) {Q : BitVec 32 → sProp 𝕄} :
    iprop(□ G I K ∗ □ levAts L lv ∗ ow c (owed c 12) ∗ due c 1 2 ∗ due c 1 3 ∗ due c 2 1)
      ⊢ iprop((iprop(ow c (owed c 12) ∗ came I c 1 2 ∗ came I c 1 3 ∗ came I c 2 1) -∗ Q (Scalar.muli (Scalar.remsi (Scalar.addi (pW c) 2#32) 4#32) 1#32))
        -∗ WP c (k0_part69 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c (pW c) v260 v261) Q) := by
  rw [k0_part69_eq_skeleton]
  unfold k0_part69_skel
  simp only [semSignalWord, semWaitWord, Prog.lift, Prog.bind_op, Prog.bind_ret, Prog.pure_eq_ret, wp_deviceId]
  iintro ⟨#HG, #Hlev, HO, HR12, HR13, HR21⟩ Hk
  iapply (wp_R I K c (w := 2) (by decide) 12 1 (recv1 (off3_eq c 2)) (by decide) (credQ mA _ _)) $$ [HO HR12]
  · isplitr; · iexact HG
    isplitr; · iexact Hlev
    isplitl [HO]; · iexact HO
    iexact HR12
  iintro ⟨HO, HR12⟩
  iapply (wp_R I K c (w := 3) (by decide) 12 1 (recv1 (off3_eq c 3)) (by decide) (credQ mA _ _)) $$ [HO HR13]
  · isplitr; · iexact HG
    isplitr; · iexact Hlev
    isplitl [HO]; · iexact HO
    iexact HR13
  iintro ⟨HO, HR13⟩
  iapply (wp_R I K c (w := 1) (by decide) 12 2 (recv2 (off3_eq c 1)) (by decide) (credL mB _ _)) $$ [HO HR21]
  · isplitr; · iexact HG
    isplitr; · iexact Hlev
    isplitl [HO]; · iexact HO
    iexact HR21
  iintro ⟨HO, HR21⟩
  iapply wp_done
  iapply Hk
  isplitl [HO]; · iexact HO
  isplitl [HR12]; · iexact HR12
  isplitl [HR13]; · iexact HR13
  iexact HR21

theorem wp_part70 (v2 v292 : BitVec 32) {Q : PUnit → sProp 𝕄} :
    iprop(□ G I K ∗ □ levAts L lv ∗ ow c (owed c 12) ∗ due c 2 2 ∗ due c 2 3 ∗ out c 1 1 ∗ out c 2 1)
      ⊢ iprop((iprop(ow c (owed c 12) ∗ came I c 2 2 ∗ came I c 2 3 ∗ back I c 1 1 ∗ back I c 2 1) -∗ Q ⟨⟩)
        -∗ WP c (k0_part70 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2 v292) Q) := by
  rw [k0_part70_eq_skeleton]
  unfold k0_part70_skel
  simp only [semSignalWord, semWaitWord, Prog.lift, Prog.bind_op, Prog.bind_ret, Prog.pure_eq_ret, wp_deviceId]
  iintro ⟨#HG, #Hlev, HO, HR22, HR23, HS11, HS21⟩ Hk
  iapply (wp_R I K c (w := 2) (by decide) 12 2 (recv2 (off3_eq c 2)) (by decide) (credL mB _ _)) $$ [HO HR22]
  · isplitr; · iexact HG
    isplitr; · iexact Hlev
    isplitl [HO]; · iexact HO
    iexact HR22
  iintro ⟨HO, HR22⟩
  iapply (wp_R I K c (w := 3) (by decide) 12 2 (recv2 (off3_eq c 3)) (by decide) (credL mB _ _)) $$ [HO HR23]
  · isplitr; · iexact HG
    isplitr; · iexact Hlev
    isplitl [HO]; · iexact HO
    iexact HR23
  iintro ⟨HO, HR23⟩
  iapply (wp_S I K c (w := 1) (by decide) 12 1 (send1 (off3_eq c 1)) (credQ mO _ _)) $$ [HO HS11]
  · isplitr; · iexact HG
    isplitr; · iexact Hlev
    isplitl [HO]; · iexact HO
    iexact HS11
  iintro ⟨HO, HS11⟩
  iapply (wp_S I K c (w := 1) (by decide) 12 2 (send2 (off3_eq c 1)) (credL mL _ _)) $$ [HO HS21]
  · isplitr; · iexact HG
    isplitr; · iexact Hlev
    isplitl [HO]; · iexact HO
    iexact HS21
  iintro ⟨HO, HS21⟩
  iapply wp_done
  iapply Hk
  isplitl [HO]; · iexact HO
  isplitl [HR22]; · iexact HR22
  isplitl [HR23]; · iexact HR23
  isplitl [HS11]; · iexact HS11
  iexact HS21

theorem wp_part71 {Q : PUnit → sProp 𝕄} :
    iprop(□ G I K ∗ □ levAts L lv ∗ ow c (owed c 12) ∗ out c 1 2 ∗ out c 2 2 ∗ out c 1 3 ∗ out c 2 3 ∗ out c 0 1)
      ⊢ iprop((iprop(ow c (owed c 12) ∗ back I c 1 2 ∗ back I c 2 2 ∗ back I c 1 3 ∗ back I c 2 3 ∗ back I c 0 1) -∗ Q ⟨⟩)
        -∗ WP c (k0_part71 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c) Q) := by
  rw [k0_part71_eq_skeleton]
  unfold k0_part71_skel
  simp only [semSignalWord, semWaitWord, Prog.lift, Prog.bind_op, Prog.bind_ret, Prog.pure_eq_ret, wp_deviceId]
  iintro ⟨#HG, #Hlev, HO, HS12, HS22, HS13, HS23, HS01⟩ Hk
  iapply (wp_S I K c (w := 2) (by decide) 12 1 (send1 (off3_eq c 2)) (credQ mO _ _)) $$ [HO HS12]
  · isplitr; · iexact HG
    isplitr; · iexact Hlev
    isplitl [HO]; · iexact HO
    iexact HS12
  iintro ⟨HO, HS12⟩
  iapply (wp_S I K c (w := 2) (by decide) 12 2 (send2 (off3_eq c 2)) (credL mL _ _)) $$ [HO HS22]
  · isplitr; · iexact HG
    isplitr; · iexact Hlev
    isplitl [HO]; · iexact HO
    iexact HS22
  iintro ⟨HO, HS22⟩
  iapply (wp_S I K c (w := 3) (by decide) 12 1 (send1 (off3_eq c 3)) (credQ mO _ _)) $$ [HO HS13]
  · isplitr; · iexact HG
    isplitr; · iexact Hlev
    isplitl [HO]; · iexact HO
    iexact HS13
  iintro ⟨HO, HS13⟩
  iapply (wp_S I K c (w := 3) (by decide) 12 2 (send2 (off3_eq c 3)) (credL mL _ _)) $$ [HO HS23]
  · isplitr; · iexact HG
    isplitr; · iexact Hlev
    isplitl [HO]; · iexact HO
    iexact HS23
  iintro ⟨HO, HS23⟩
  iapply (wp_S I K c (w := 1) (by decide) 12 0 (send0 (off3_eq c 1)) (credQ mQ _ _)) $$ [HO HS01]
  · isplitr; · iexact HG
    isplitr; · iexact Hlev
    isplitl [HO]; · iexact HO
    iexact HS01
  iintro ⟨HO, HS01⟩
  iapply wp_done
  iapply Hk
  isplitl [HO]; · iexact HO
  isplitl [HS12]; · iexact HS12
  isplitl [HS22]; · iexact HS22
  isplitl [HS13]; · iexact HS13
  isplitl [HS23]; · iexact HS23
  iexact HS01

theorem wp_part72 {Q : (Σ' (v365 : FVec F S8x256 .f32) (v374 : FVec F S256x128 .bf16) (v383 : FVec F S256x128 .bf16) (v386 : FVec F S256x128 .f32), FVec F S1x256 .f32) → sProp 𝕄} :
    iprop(□ G I K ∗ □ levAts L lv ∗ ow c (owed c 12) ∗ out c 0 2 ∗ out c 0 3 ∗ (((c : Thread nD τ).loc cc0_scratch7) ↦{fullShare} oaD I c) ∗ (((c : Thread nD τ).loc cc0_scratch8) ↦{fullShare} laD I c))
      ⊢ iprop((iprop(ow c (owed c 12) ∗ back I c 0 2 ∗ back I c 0 3 ∗ (((c : Thread nD τ).loc cc0_scratch7) ↦{fullShare} oaD I c) ∗ (((c : Thread nD τ).loc cc0_scratch8) ↦{fullShare} laD I c))
          -∗ Q ⟨k0_pay532 (laD I c), k0_pay533 (laD I c) (oaCol (oaD I c) 0), k0_pay534 (laD I c) (oaCol (oaD I c) 1), k0_pay535 (oaCol (oaD I c) 2), k0_pay536 (laD I c)⟩)
        -∗ WP c (k0_part72 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c) Q) := by
  rw [k0_part72_eq_skeleton]
  unfold k0_part72_skel
  simp only [semSignalWord, semWaitWord, Prog.lift, Prog.bind_op, Prog.bind_ret, Prog.pure_eq_ret, wp_deviceId]
  iintro ⟨#HG, #Hlev, HO, HS02, HS03, HA, HB⟩ Hk
  iapply (wp_S I K c (w := 2) (by decide) 12 0 (send0 (off3_eq c 2)) (credQ mQ _ _)) $$ [HO HS02]
  · isplitr; · iexact HG
    isplitr; · iexact Hlev
    isplitl [HO]; · iexact HO
    iexact HS02
  iintro ⟨HO, HS02⟩
  iapply (wp_S I K c (w := 3) (by decide) 12 0 (send0 (off3_eq c 3)) (credQ mQ _ _)) $$ [HO HS03]
  · isplitr; · iexact HG
    isplitr; · iexact Hlev
    isplitl [HO]; · iexact HO
    iexact HS03
  iintro ⟨HO, HS03⟩
  iapply (wp_read c mB (laD I c) (Memref.readAt_unit_zero (Elt F) cc0_scratch8 zero3 _ _)) $$ HB
  iintro HB
  iapply (wp_col c 0 (oaD I c) rfl) $$ HA
  iintro HA
  iapply (wp_col c 1 (oaD I c) rfl) $$ HA
  iintro HA
  iapply (wp_col c 2 (oaD I c) rfl) $$ HA
  iintro HA
  iapply wp_done
  iapply Hk
  isplitl [HO]; · iexact HO
  isplitl [HS02]; · iexact HS02
  isplitl [HS03]; · iexact HS03
  isplitl [HA]; · iexact HA
  iexact HB

theorem wp_part73 (v365 : FVec F S8x256 .f32) (v386 : FVec F S256x128 .f32) (v387 : FVec F S1x256 .f32) {Q : (Σ' (v392 : FVec F S256x128 .bf16) (v401 : FVec F S256x128 .bf16) (v410 : FVec F S256x128 .bf16) (v419 : FVec F S256x128 .bf16), FVec F S256x128 .bf16) → sProp 𝕄} :
    (((c : Thread nD τ).loc cc0_scratch7) ↦{fullShare} oaD I c) ⊢ iprop(((((c : Thread nD τ).loc cc0_scratch7) ↦{fullShare} oaD I c) -∗ Q ⟨k0_pay537 v386 v387, k0_pay538 v365 (oaCol (oaD I c) 3), k0_pay539 v365 (oaCol (oaD I c) 4), k0_pay540 v365 (oaCol (oaD I c) 5), k0_pay541 v365 (oaCol (oaD I c) 6)⟩)
        -∗ WP c (k0_part73 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 v365 v386 v387) Q) := by
  rw [k0_part73_eq_skeleton]
  unfold k0_part73_skel
  simp only [semSignalWord, semWaitWord, Prog.lift, Prog.bind_op, Prog.bind_ret, Prog.pure_eq_ret, wp_deviceId]
  iintro HA Hk
  iapply (wp_col c 3 (oaD I c) rfl) $$ HA
  iintro HA
  iapply (wp_col c 4 (oaD I c) rfl) $$ HA
  iintro HA
  iapply (wp_col c 5 (oaD I c) rfl) $$ HA
  iintro HA
  iapply (wp_col c 6 (oaD I c) rfl) $$ HA
  iintro HA
  iapply wp_done
  iapply Hk
  iexact HA

theorem own_ar : ∀ i : S4x256x1024.Idx, (i 0 : ℕ) = c → arAll I (mR.view.emb i) = _root_.cast (congrArg (Elt F) mR.view.elt_eq.symm)
    ((arM (oaD I c) (laD I c) (I.wo c)) (ix3 (0 : Fin 1) (i 1 : Fin 256) (i 2 : Fin 1024))) := by
  intro i hi
  show arM (oaD I (i 0)) (laD I (i 0)) (I.wo (i 0)) (ix3 (0 : Fin 1) (i 1 : Fin 256) (i 2 : Fin 1024)) = _
  rw [show i 0 = c from Fin.ext hi]
  rfl

theorem wp_part74 (v2 : BitVec 32) {Q : PUnit → sProp 𝕄} :
    iprop(□ G I K ∗ □ levAts L lv ∗ ow c (owed c 12) ∗ (((c : Thread nD τ).loc cc0_scratch7) ↦{fullShare} oaD I c) ∗ (((c : Thread nD τ).loc cc0_stg2_0) ↦{fullShare} I.wo c) ∗ (∃ f, (((c : Thread nD τ).loc cc0_scratch9) ↦[slotsQ c]{fullShare} f)) ∗ toks c 3 1 ∗ room c 3 1)
      ⊢ iprop((iprop(ow c (owed c 13) ∗ (((c : Thread nD τ).loc cc0_scratch7) ↦{fullShare} oaD I c) ∗ (((c : Thread nD τ).loc cc0_stg2_0) ↦{fullShare} I.wo c) ∗ sent c 3 1 ∗ (((c : Thread nD τ).loc cc0_scratch9) ↦[slotsQ c]{qsh 0} arAll I) ∗ (((c : Thread nD τ).loc cc0_scratch9) ↦[slotsQ c]{qsh 2} arAll I) ∗ (((c : Thread nD τ).loc cc0_scratch9) ↦[slotsQ c]{qsh 3} arAll I)) -∗ Q ⟨⟩)
        -∗ WP c (k0_part74 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2 (k0_pay532 (laD I c)) (k0_pay533 (laD I c) (oaCol (oaD I c) 0)) (k0_pay534 (laD I c) (oaCol (oaD I c) 1))
          (k0_pay537 (k0_pay535 (oaCol (oaD I c) 2)) (k0_pay536 (laD I c))) (k0_pay538 (k0_pay532 (laD I c)) (oaCol (oaD I c) 3)) (k0_pay539 (k0_pay532 (laD I c)) (oaCol (oaD I c) 4))
          (k0_pay540 (k0_pay532 (laD I c)) (oaCol (oaD I c) 5)) (k0_pay541 (k0_pay532 (laD I c)) (oaCol (oaD I c) 6))) Q) := by
  rw [k0_part74_eq_skeleton]
  unfold k0_part74_skel
  simp only [semSignalWord, semWaitWord, Prog.lift, Prog.bind_op, Prog.bind_ret, Prog.pure_eq_ret, wp_deviceId]
  iintro ⟨#HG, #Hlev, HO, HA, HW, HR, Ht1, Hr1⟩ Hk
  iapply (wp_col c 7 (oaD I c) rfl) $$ HA
  iintro HA
  iapply (wp_read c mWo (I.wo c) (Memref.readAt_unit_zero (Elt F) cc0_stg2_0 zero2 _ _)) $$ HW
  iintro HW
  iapply (wp_putQ c (b := mR) (s := c) (off2_eq c) (setOn_id (r := cc0_scratch9) (slotsQ c)) _ (arAll I) (own_ar I c)) $$ HR
  iintro Hq
  ihave Hq := (pointsTo_four ((c : Thread nD τ).loc cc0_scratch9) (slotsQ c) (arAll I)).1 $$ Hq
  icases Hq with ⟨Hq0, Hq1, Hq2, Hq3⟩
  iapply (wp_send3 I K c (w := 1) (by decide) (dev13_eq c) 12 (off3_eq c 1) (off4_eq c) (off5_eq c) rfl (off5_eq c)) $$ [HO Ht1 Hr1 Hq1]
  · isplitr; · iexact HG
    isplitl [HO]; · iexact HO
    isplitl [Ht1]; · iexact Ht1
    isplitl [Hq1]; · iapply (Entails.of_eq (send3_eq I c 1).symm) $$ Hq1
    iexact Hr1
  iintro ⟨Hs1, HO⟩
  iapply wp_done
  iapply Hk
  isplitl [HO]; · iexact HO
  isplitl [HA]; · iexact HA
  isplitl [HW]; · iexact HW
  isplitl [Hs1]; · iexact Hs1
  isplitl [Hq0]; · iexact Hq0
  isplitl [Hq2]; · iexact Hq2
  iexact Hq3

theorem wp_part75 (v2 : BitVec 32) {Q : PUnit → sProp 𝕄} :
    iprop(□ G I K ∗ □ levAts L lv ∗ ow c (owed c 13) ∗ (((c : Thread nD τ).loc cc0_scratch9) ↦[slotsQ c]{qsh 2} arAll I) ∗ (((c : Thread nD τ).loc cc0_scratch9) ↦[slotsQ c]{qsh 3} arAll I) ∗ (toks c 3 2 ∗ toks c 3 3) ∗ (room c 3 2 ∗ room c 3 3) ∗ due c 3 1)
      ⊢ iprop((iprop(ow c (owed c 15) ∗ sent c 3 2 ∗ sent c 3 3 ∗ came I c 3 1) -∗ Q ⟨⟩)
        -∗ WP c (k0_part75 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2) Q) := by
  rw [k0_part75_eq_skeleton]
  unfold k0_part75_skel
  simp only [semSignalWord, semWaitWord, Prog.lift, Prog.bind_op, Prog.bind_ret, Prog.pure_eq_ret, wp_deviceId]
  iintro ⟨#HG, #Hlev, HO, Hq2, Hq3, ⟨Ht2, Ht3⟩, ⟨Hr2, Hr3⟩, HR31⟩ Hk
  iapply (wp_send3 I K c (w := 2) (by decide) (dev14_eq c) 13 (off3_eq c 2) (off4_eq c) (off5_eq c) rfl (off5_eq c)) $$ [HO Ht2 Hr2 Hq2]
  · isplitr; · iexact HG
    isplitl [HO]; · iexact HO
    isplitl [Ht2]; · iexact Ht2
    isplitl [Hq2]; · iapply (Entails.of_eq (send3_eq I c 2).symm) $$ Hq2
    iexact Hr2
  iintro ⟨Hs2, HO⟩
  iapply (wp_send3 I K c (w := 3) (by decide) (dev15_eq c) 14 (off3_eq c 3) (off4_eq c) (off5_eq c) rfl (off5_eq c)) $$ [HO Ht3 Hr3 Hq3]
  · isplitr; · iexact HG
    isplitl [HO]; · iexact HO
    isplitl [Ht3]; · iexact Ht3
    isplitl [Hq3]; · iapply (Entails.of_eq (send3_eq I c 3).symm) $$ Hq3
    iexact Hr3
  iintro ⟨Hs3, HO⟩
  iapply (wp_R I K c (w := 1) (by decide) 15 3 (recv3 (off3_eq c 1)) (by decide) (credQ mR _ _)) $$ [HO HR31]
  · isplitr; · iexact HG
    isplitr; · iexact Hlev
    isplitl [HO]; · iexact HO
    iexact HR31
  iintro ⟨HO, HR31⟩
  iapply wp_done
  iapply Hk
  isplitl [HO]; · iexact HO
  isplitl [Hs2]; · iexact Hs2
  isplitl [Hs3]; · iexact Hs3
  iexact HR31

theorem wp_part76 (v2 : BitVec 32) {Q : PUnit → sProp 𝕄} :
    iprop(□ G I K ∗ □ levAts L lv ∗ ow c (owed c 15) ∗ due c 3 2 ∗ due c 3 3 ∗ out c 3 1 ∗ out c 3 2)
      ⊢ iprop((iprop(ow c (owed c 15) ∗ came I c 3 2 ∗ came I c 3 3 ∗ back I c 3 1 ∗ back I c 3 2) -∗ Q ⟨⟩)
        -∗ WP c (k0_part76 mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19 c v2) Q) := by
  rw [k0_part76_eq_skeleton]
  unfold k0_part76_skel
  simp only [semSignalWord, semWaitWord, Prog.lift, Prog.bind_op, Prog.bind_ret, Prog.pure_eq_ret, wp_deviceId]
  iintro ⟨#HG, #Hlev, HO, HR32, HR33, HS31, HS32⟩ Hk
  iapply (wp_R I K c (w := 2) (by decide) 15 3 (recv3 (off3_eq c 2)) (by decide) (credQ mR _ _)) $$ [HO HR32]
  · isplitr; · iexact HG
    isplitr; · iexact Hlev
    isplitl [HO]; · iexact HO
    iexact HR32
  iintro ⟨HO, HR32⟩
  iapply (wp_R I K c (w := 3) (by decide) 15 3 (recv3 (off3_eq c 3)) (by decide) (credQ mR _ _)) $$ [HO HR33]
  · isplitr; · iexact HG
    isplitr; · iexact Hlev
    isplitl [HO]; · iexact HO
    iexact HR33
  iintro ⟨HO, HR33⟩
  iapply (wp_S I K c (w := 1) (by decide) 15 3 (send3 (off3_eq c 1)) (credQ mR _ _)) $$ [HO HS31]
  · isplitr; · iexact HG
    isplitr; · iexact Hlev
    isplitl [HO]; · iexact HO
    iexact HS31
  iintro ⟨HO, HS31⟩
  iapply (wp_S I K c (w := 2) (by decide) 15 3 (send3 (off3_eq c 2)) (credQ mR _ _)) $$ [HO HS32]
  · isplitr; · iexact HG
    isplitr; · iexact Hlev
    isplitl [HO]; · iexact HO
    iexact HS32
  iintro ⟨HO, HS32⟩
  iapply wp_done
  iapply Hk
  isplitl [HO]; · iexact HO
  isplitl [HR32]; · iexact HR32
  isplitl [HR33]; · iexact HR33
  isplitl [HS31]; · iexact HS31
  iexact HS32

end Cert.KernelIdeal.Own

end
-- ==== Proof.Body.lean ====
module

public import proofs.«01_k».proof.Proof.PartsC

@[expose] public section

noncomputable section

/-! # The body, from what a device starts with to what it ends with -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

/-! ## Whole buffers and their slots -/

theorem cut4 {ℓ : Loc nD τ sig} (S : Fin 4 → Finset (Idx ℓ)) (hd : ∀ t t', t ≠ t' → Disjoint (S t) (S t')) (hu : Finset.univ.biUnion S = Finset.univ)
    (f : Buf (Elt F) ℓ) : (ℓ ↦{fullShare} f : sProp 𝕄)
      = iprop((ℓ ↦[S c]{fullShare} f) ∗ (ℓ ↦[S (around c 1)]{fullShare} f) ∗ (ℓ ↦[S (around c 2)]{fullShare} f) ∗ (ℓ ↦[S (around c 3)]{fullShare} f)) := by
  have h := pointsTo_biUnion (Ix := Unit) (Name := ℕ) (U := UU) (Lvl := ℕ) (q := fullShare) (f := f) Finset.univ S fun t _ t' _ => hd t t'
  rw [hu, bigSep_univ_eq_bigSepL [(c : Fin 4), around c 1, around c 2, around c 3] (by revert c; decide) (by revert c; decide)] at h
  exact h

theorem apart {A : Type} [Fintype A] (p : A → ℕ) (t t' : Fin 4) (h : t ≠ t') :
    Disjoint (Finset.univ.filter fun i => p i = t) (Finset.univ.filter fun i => p i = t') := by
  rw [Finset.disjoint_filter]
  intro i _ h1 h2
  exact h (Fin.ext (h1.symm.trans h2))
theorem allQ : Finset.univ.biUnion slotsQ = Finset.univ := by
  ext i
  simp only [Finset.mem_biUnion, Finset.mem_univ, true_and, iff_true]
  exact ⟨i 0, by unfold slotsQ; rw [Finset.mem_filter]; exact ⟨Finset.mem_univ _, rfl⟩⟩
theorem allL : Finset.univ.biUnion slotsL = Finset.univ := by
  ext i
  simp only [Finset.mem_biUnion, Finset.mem_univ, true_and, iff_true]
  exact ⟨i 0, by unfold slotsL; rw [Finset.mem_filter]; exact ⟨Finset.mem_univ _, rfl⟩⟩

theorem cutB0 (f : Buf (Elt F) ((c : Thread nD τ).loc cc0_scratch0)) : ((((c : Thread nD τ).loc cc0_scratch0) ↦{fullShare} f) : sProp 𝕄)
    = iprop((((c : Thread nD τ).loc cc0_scratch0) ↦[slotsQ c]{fullShare} f) ∗ (((c : Thread nD τ).loc cc0_scratch0) ↦[slotsQ (around c 1)]{fullShare} f) ∗ (((c : Thread nD τ).loc cc0_scratch0) ↦[slotsQ (around c 2)]{fullShare} f) ∗ (((c : Thread nD τ).loc cc0_scratch0) ↦[slotsQ (around c 3)]{fullShare} f)) :=
  cut4 (ℓ := (c : Thread nD τ).loc cc0_scratch0) c slotsQ (fun t t' h => apart (fun i : S4x256x1024.Idx => (i 0 : ℕ)) t t' h) allQ f
theorem cutB5 (f : Buf (Elt F) ((c : Thread nD τ).loc cc0_scratch5)) : ((((c : Thread nD τ).loc cc0_scratch5) ↦{fullShare} f) : sProp 𝕄)
    = iprop((((c : Thread nD τ).loc cc0_scratch5) ↦[slotsQ c]{fullShare} f) ∗ (((c : Thread nD τ).loc cc0_scratch5) ↦[slotsQ (around c 1)]{fullShare} f) ∗ (((c : Thread nD τ).loc cc0_scratch5) ↦[slotsQ (around c 2)]{fullShare} f) ∗ (((c : Thread nD τ).loc cc0_scratch5) ↦[slotsQ (around c 3)]{fullShare} f)) :=
  cut4 (ℓ := (c : Thread nD τ).loc cc0_scratch5) c slotsQ (fun t t' h => apart (fun i : S4x256x1024.Idx => (i 0 : ℕ)) t t' h) allQ f
theorem cutB7 (f : Buf (Elt F) ((c : Thread nD τ).loc cc0_scratch7)) : ((((c : Thread nD τ).loc cc0_scratch7) ↦{fullShare} f) : sProp 𝕄)
    = iprop((((c : Thread nD τ).loc cc0_scratch7) ↦[slotsQ c]{fullShare} f) ∗ (((c : Thread nD τ).loc cc0_scratch7) ↦[slotsQ (around c 1)]{fullShare} f) ∗ (((c : Thread nD τ).loc cc0_scratch7) ↦[slotsQ (around c 2)]{fullShare} f) ∗ (((c : Thread nD τ).loc cc0_scratch7) ↦[slotsQ (around c 3)]{fullShare} f)) :=
  cut4 (ℓ := (c : Thread nD τ).loc cc0_scratch7) c slotsQ (fun t t' h => apart (fun i : S4x256x1024.Idx => (i 0 : ℕ)) t t' h) allQ f
theorem cutB9 (f : Buf (Elt F) ((c : Thread nD τ).loc cc0_scratch9)) : ((((c : Thread nD τ).loc cc0_scratch9) ↦{fullShare} f) : sProp 𝕄)
    = iprop((((c : Thread nD τ).loc cc0_scratch9) ↦[slotsQ c]{fullShare} f) ∗ (((c : Thread nD τ).loc cc0_scratch9) ↦[slotsQ (around c 1)]{fullShare} f) ∗ (((c : Thread nD τ).loc cc0_scratch9) ↦[slotsQ (around c 2)]{fullShare} f) ∗ (((c : Thread nD τ).loc cc0_scratch9) ↦[slotsQ (around c 3)]{fullShare} f)) :=
  cut4 (ℓ := (c : Thread nD τ).loc cc0_scratch9) c slotsQ (fun t t' h => apart (fun i : S4x256x1024.Idx => (i 0 : ℕ)) t t' h) allQ f
theorem cutB6 (f : Buf (Elt F) ((c : Thread nD τ).loc cc0_scratch6)) : ((((c : Thread nD τ).loc cc0_scratch6) ↦{fullShare} f) : sProp 𝕄)
    = iprop((((c : Thread nD τ).loc cc0_scratch6) ↦[slotsL c]{fullShare} f) ∗ (((c : Thread nD τ).loc cc0_scratch6) ↦[slotsL (around c 1)]{fullShare} f) ∗ (((c : Thread nD τ).loc cc0_scratch6) ↦[slotsL (around c 2)]{fullShare} f) ∗ (((c : Thread nD τ).loc cc0_scratch6) ↦[slotsL (around c 3)]{fullShare} f)) :=
  cut4 (ℓ := (c : Thread nD τ).loc cc0_scratch6) c slotsL (fun t t' h => apart (fun i : S4x8x256.Idx => (i 0 : ℕ)) t t' h) allL f
theorem cutB8 (f : Buf (Elt F) ((c : Thread nD τ).loc cc0_scratch8)) : ((((c : Thread nD τ).loc cc0_scratch8) ↦{fullShare} f) : sProp 𝕄)
    = iprop((((c : Thread nD τ).loc cc0_scratch8) ↦[slotsL c]{fullShare} f) ∗ (((c : Thread nD τ).loc cc0_scratch8) ↦[slotsL (around c 1)]{fullShare} f) ∗ (((c : Thread nD τ).loc cc0_scratch8) ↦[slotsL (around c 2)]{fullShare} f) ∗ (((c : Thread nD τ).loc cc0_scratch8) ↦[slotsL (around c 3)]{fullShare} f)) :=
  cut4 (ℓ := (c : Thread nD τ).loc cc0_scratch8) c slotsL (fun t t' h => apart (fun i : S4x8x256.Idx => (i 0 : ℕ)) t t' h) allL f

/-- One, two and three places around. -/
def three (Φ : Fin 4 → sProp 𝕄) : sProp 𝕄 := iprop(Φ 1 ∗ Φ 2 ∗ Φ 3)

/-- Buffer `b`, whatever it holds. -/
def any (b : Ref sig .tc) : sProp 𝕄 := iprop(∃ f : Buf (Elt F) ((c : Thread nD τ).loc b), ((c : Thread nD τ).loc b) ↦{fullShare} f)

theorem to_fresh : iprop(any (F := F) c cc0_scratch5 ∗ any (F := F) c cc0_scratch6) ⊢ iprop(fresh (F := F) c c ∗ three fun w => fresh (F := F) c (around c w)) := by
  unfold any fresh three
  iintro ⟨⟨%f, H⟩, ⟨%g, J⟩⟩
  ihave H' := (Entails.of_eq (cutB5 c f)) $$ H
  ihave J' := (Entails.of_eq (cutB6 c g)) $$ J
  icases H' with ⟨H0, H1, H2, H3⟩
  icases J' with ⟨J0, J1, J2, J3⟩
  isplitl [H0 J0]
  · isplitl [H0]
    · iexists f; iexact H0
    iexists g; iexact J0
  isplitl [H1 J1]
  · isplitl [H1]
    · iexists f; iexact H1
    iexists g; iexact J1
  isplitl [H2 J2]
  · isplitl [H2]
    · iexists f; iexact H2
    iexists g; iexact J2
  isplitl [H3]
  · iexists f; iexact H3
  iexists g; iexact J3

theorem to_pay : iprop(any (F := F) c cc0_scratch0 ∗ any (F := F) c cc0_scratch7 ∗ any (F := F) c cc0_scratch8 ∗ any (F := F) c cc0_scratch9)
    ⊢ iprop(barPay (F := F) c c ∗ three fun w => barPay (F := F) (around c w) c) := by
  unfold any three barPay
  iintro ⟨⟨%f, H⟩, ⟨%g, J⟩, ⟨%f', H'⟩, ⟨%g', J'⟩⟩
  ihave H := (Entails.of_eq (cutB0 c f)) $$ H
  ihave J := (Entails.of_eq (cutB7 c g)) $$ J
  ihave H' := (Entails.of_eq (cutB8 c f')) $$ H'
  ihave J' := (Entails.of_eq (cutB9 c g')) $$ J'
  icases H with ⟨H0, H1, H2, H3⟩
  icases J with ⟨J0, J1, J2, J3⟩
  icases H' with ⟨M0, M1, M2, M3⟩
  icases J' with ⟨N0, N1, N2, N3⟩
  isplitl [H0 J0 M0 N0]
  · isplitl [H0]
    · iexists f; iexact H0
    isplitl [J0]
    · iexists g; iexact J0
    isplitl [M0]
    · iexists f'; iexact M0
    iexists g'; iexact N0
  isplitl [H1 J1 M1 N1]
  · isplitl [H1]
    · iexists f; iexact H1
    isplitl [J1]
    · iexists g; iexact J1
    isplitl [M1]
    · iexists f'; iexact M1
    iexists g'; iexact N1
  isplitl [H2 J2 M2 N2]
  · isplitl [H2]
    · iexists f; iexact H2
    isplitl [J2]
    · iexists g; iexact J2
    isplitl [M2]
    · iexists f'; iexact M2
    iexists g'; iexact N2
  isplitl [H3]
  · iexists f; iexact H3
  isplitl [J3]
  · iexists g; iexact J3
  isplitl [M3]
  · iexists f'; iexact M3
  iexists g'; iexact N3

theorem rooms (w : Fin 4) : barPay (F := F) c (around c w) = iprop(room (F := F) c 0 w ∗ room (F := F) c 1 w ∗ room (F := F) c 2 w ∗ room (F := F) c 3 w) := rfl

theorem whole7 : iprop((((c : Thread nD τ).loc cc0_scratch7) ↦[slotsQ c]{fullShare} oaD I c) ∗ recvPay I 1 c (around c 1) ∗ recvPay I 1 c (around c 2) ∗ recvPay I 1 c (around c 3))
    ⊢ (((c : Thread nD τ).loc cc0_scratch7) ↦{fullShare} oaD I c) := Entails.of_eq (cutB7 c (oaD I c)).symm
theorem whole8 : iprop((((c : Thread nD τ).loc cc0_scratch8) ↦[slotsL c]{fullShare} laD I c) ∗ recvPay I 2 c (around c 1) ∗ recvPay I 2 c (around c 2) ∗ recvPay I 2 c (around c 3))
    ⊢ (((c : Thread nD τ).loc cc0_scratch8) ↦{fullShare} laD I c) := Entails.of_eq (cutB8 c (laD I c)).symm
theorem whole56 : iprop(done I c c ∗ (sendPay I 1 c (around c 1) ∗ sendPay I 1 c (around c 2) ∗ sendPay I 1 c (around c 3))
      ∗ (sendPay I 2 c (around c 1) ∗ sendPay I 2 c (around c 2) ∗ sendPay I 2 c (around c 3)))
    ⊢ iprop(any (F := F) c cc0_scratch5 ∗ any (F := F) c cc0_scratch6) := by
  unfold done any
  iintro ⟨⟨H, J⟩, Hs, Js⟩
  isplitl [H Hs]
  · iexists opD I c
    iapply (show iprop((((c : Thread nD τ).loc cc0_scratch5) ↦[slotsQ c]{fullShare} opD I c) ∗ (sendPay I 1 c (around c 1) ∗ sendPay I 1 c (around c 2) ∗ sendPay I 1 c (around c 3))) ⊢ _ from Entails.of_eq (cutB5 c (opD I c)).symm)
    isplitl [H]
    · iexact H
    iexact Hs
  iexists lpD I c
  iapply (show iprop((((c : Thread nD τ).loc cc0_scratch6) ↦[slotsL c]{fullShare} lpD I c) ∗ (sendPay I 2 c (around c 1) ∗ sendPay I 2 c (around c 2) ∗ sendPay I 2 c (around c 3))) ⊢ _ from Entails.of_eq (cutB6 c (lpD I c)).symm)
  isplitl [J]
  · iexact J
  iexact Js
theorem whole0 : iprop((((c : Thread nD τ).loc cc0_scratch0) ↦[slotsQ c]{qsh 0} qAll I) ∗ (sendPay I 0 c (around c 1) ∗ sendPay I 0 c (around c 2) ∗ sendPay I 0 c (around c 3))
      ∗ (recvPay I 0 c (around c 1) ∗ recvPay I 0 c (around c 2) ∗ recvPay I 0 c (around c 3)))
    ⊢ (((c : Thread nD τ).loc cc0_scratch0) ↦{fullShare} qAll I) := by
  rw [send0_eq I c 1, send0_eq I c 2, send0_eq I c 3, cutB0 c (qAll I)]
  iintro ⟨H, Hs, Hr⟩
  isplitl [H Hs]
  · iapply (pointsTo_four (F := F) ((c : Thread nD τ).loc cc0_scratch0) (slotsQ c) (qAll I)).2
    isplitl [H]
    · iexact H
    iexact Hs
  iexact Hr
theorem whole9 : iprop((((c : Thread nD τ).loc cc0_scratch9) ↦[slotsQ c]{qsh 0} arAll I) ∗ (sendPay I 3 c (around c 1) ∗ sendPay I 3 c (around c 2) ∗ sendPay I 3 c (around c 3))
      ∗ (recvPay I 3 c (around c 1) ∗ recvPay I 3 c (around c 2) ∗ recvPay I 3 c (around c 3)))
    ⊢ (((c : Thread nD τ).loc cc0_scratch9) ↦{fullShare} arAll I) := by
  rw [send3_eq I c 1, send3_eq I c 2, send3_eq I c 3, cutB9 c (arAll I)]
  iintro ⟨H, Hs, Hr⟩
  isplitl [H Hs]
  · iapply (pointsTo_four (F := F) ((c : Thread nD τ).loc cc0_scratch9) (slotsQ c) (arAll I)).2
    isplitl [H]
    · iexact H
    iexact Hs
  iexact Hr

/-! ## What a device starts with and ends with -/

/-- The credit of its receipts and barrier, where it stands on its counters, and what it pays with. -/
def start : sProp 𝕄 :=
  iprop((cred (tallyAt (barC c) () 3) ∗ atPos ER (barC c) 0 ∅ 0) ∗ (three fun w => dutyTok ER (barC (around c w)) 0 c)
    ∗ (three (toks c 0) ∗ three (toks c 1) ∗ three (toks c 2) ∗ three (toks c 3))
    ∗ (three (due c 0) ∗ three (due c 1) ∗ three (due c 2) ∗ three (due c 3))
    ∗ (three (mark c 0) ∗ three (mark c 1) ∗ three (mark c 2) ∗ three (mark c 3)))
/-- Where it stands on its counters at the end. -/
def finish : sProp 𝕄 :=
  iprop(atPos ER (barC c) (0 + 1) ∅ 0
    ∗ (three (hadR c 0) ∗ three (hadR c 1) ∗ three (hadR c 2) ∗ three (hadR c 3))
    ∗ (three (hadS c 0) ∗ three (hadS c 1) ∗ three (hadS c 2) ∗ three (hadS c 3)))
/-- The buffers whose slots are copied, and those of the classes. -/
def bufs : sProp 𝕄 :=
  iprop((any (F := F) c cc0_scratch0 ∗ any (F := F) c cc0_scratch7 ∗ any (F := F) c cc0_scratch8 ∗ any (F := F) c cc0_scratch9)
    ∗ (any (F := F) c cc0_scratch5 ∗ any (F := F) c cc0_scratch6) ∗ (any (F := F) c cc0_scratch3 ∗ any (F := F) c cc0_scratch4))
/-- The landing buffers, their counters and the arrays the heads come from. -/
def lands : sProp 𝕄 := iprop((idleK I c (slF 0) ∗ idleV I c (slF 0)) ∗ (idleK I c (slF 1) ∗ idleV I c (slF 1)))
/-- The operands. -/
def operands : sProp 𝕄 :=
  iprop((((c : Thread nD τ).loc cc0_stg0_0) ↦{fullShare} I.x c) ∗ (((c : Thread nD τ).loc cc0_stg1_0) ↦{fullShare} I.wq c)
    ∗ (((c : Thread nD τ).loc cc0_stg2_0) ↦{fullShare} I.wo c))

theorem moving_in : iprop(onway I c (stp 0 0) ∗ (idleK I c (slF 1) ∗ idleV I c (slF 1)) ∗ (clsAny c oK ∗ clsAny c oV)) ⊢ moving I c 0 :=
  Entails.of_eq rfl
theorem onway_end : onway I c 32 = iprop(idleK I c (slF 32) ∗ idleV I c (slF 32)) := by
  unfold onway
  rw [if_neg (by decide)]
theorem moving_out : moving I c 32 ⊢ iprop(lands I c ∗ (clsAny c oK ∗ clsAny c oV)) := by
  unfold moving lands
  rw [onway_end]
  simp only [show slF 32 = slF 0 from rfl, show slF (32 + 1) = slF 1 from rfl]
  iintro ⟨H, J, M⟩
  isplitl [H J]
  · isplitl [H]
    · iexact H
    iexact J
  iexact M
theorem cls_out : iprop(clsAny c oK ∗ clsAny c oV) ⊢ iprop(any (F := F) c cc0_scratch3 ∗ any (F := F) c cc0_scratch4) := by
  unfold clsAny any
  iintro ⟨⟨%f, -, H⟩, ⟨%g, -, J⟩⟩
  isplitl [H]
  · iexists f; iexact H
  iexists g; iexact J

theorem wp_seq {α β : Type} (p : P (F := F) α) (k : α → P (F := F) β) (Q : β → sProp 𝕄) :
    WP c p (fun a => WP c (k a) Q) ⊢ WP c (p >>= k) Q := Entails.of_eq (wp_bind _ _ _ p k Q).symm

theorem out_eq (f w : (cc0_stg3_0 : Ref sig .tc).ty.Contents (Elt F)) :
    (mOut.access (Rect.unit (s := S1x256x1024) ![0, 0, 0] S1x256x1024.size inb_S1x256x1024_S1x256x1024_0_0_0) : View sig .tc _ _ _).write (Elt F) f w Finset.univ = w :=
  Memref.write_access_unit_zero_univ (Elt F) cc0_stg3_0 zero3 _ f w

set_option maxHeartbeats 4000000 in
/-- The whole body: it ends owing nothing, with the result in the output's buffer and every other buffer back. -/
theorem wp_body {Q : PUnit → sProp 𝕄} :
    iprop(□ G I K ∗ □ levAts L lv ∗ ow c (owed c 0) ∗ start (F := F) c ∗ bufs (F := F) c ∗ lands I c ∗ operands I c ∗ any (F := F) c cc0_stg3_0)
      ⊢ iprop((iprop(ow c (owed c 15) ∗ finish (F := F) c ∗ bufs (F := F) c ∗ lands I c ∗ operands I c ∗ (((c : Thread nD τ).loc cc0_stg3_0) ↦{fullShare} resM I)) -∗ Q ⟨⟩)
        -∗ WP c (cc0_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19) Q) := by
  simp only [cc0_body_eq_skeleton]
  unfold cc0_body_skel
  unfold start bufs lands operands three
  iintro ⟨#HG, #Hlev, HO, ⟨⟨HcB, HaB⟩, ⟨B1, B2, B3⟩, ⟨⟨T01, T02, T03⟩, ⟨T11, T12, T13⟩, ⟨T21, T22, T23⟩, ⟨T31, T32, T33⟩⟩, ⟨⟨D01, D02, D03⟩, ⟨D11, D12, D13⟩, ⟨D21, D22, D23⟩, ⟨D31, D32, D33⟩⟩, ⟨⟨M01, M02, M03⟩, ⟨M11, M12, M13⟩, ⟨M21, M22, M23⟩, ⟨M31, M32, M33⟩⟩⟩, ⟨HP, HF, ⟨b3, b4⟩⟩, ⟨I0, I1⟩, ⟨HX, HW, HWo⟩, Hout⟩ Hk
  ihave HP := (to_pay (F := F) c) $$ HP
  ihave HF := (to_fresh (F := F) c) $$ HF
  unfold three any
  icases Hout with ⟨%fo, Hout⟩
  icases HP with ⟨HP0, P1, P2, P3⟩
  icases HF with ⟨F0, F1, F2, F3⟩
  ihave HP0 := (Entails.of_eq (show barPay (F := F) c c = iprop((∃ f, ((c : Thread nD τ).loc cc0_scratch0) ↦[slotsQ c]{fullShare} f) ∗ (∃ f, ((c : Thread nD τ).loc cc0_scratch7) ↦[slotsQ c]{fullShare} f) ∗ (∃ f, ((c : Thread nD τ).loc cc0_scratch8) ↦[slotsL c]{fullShare} f) ∗ (∃ f, ((c : Thread nD τ).loc cc0_scratch9) ↦[slotsQ c]{fullShare} f)) from rfl)) $$ HP0
  icases HP0 with ⟨O0, O7, O8, O9⟩
  ihave E1 : fee (F := F) c 1 $$ [B1 P1]
  · unfold fee
    isplitl [B1]
    · iexact B1
    iexact P1
  ihave E2 : fee (F := F) c 2 $$ [B2 P2]
  · unfold fee
    isplitl [B2]
    · iexact B2
    iexact P2
  ihave E3 : fee (F := F) c 3 $$ [B3 P3]
  · unfold fee
    isplitl [B3]
    · iexact B3
    iexact P3
  iapply wp_seq
  iapply (wp_part61 I K c) $$ [HO E1 E2 E3 HcB HaB b3 b4]
  · isplitr
    · iexact HG
    isplitr
    · iexact Hlev
    isplitl [HO]
    · iexact HO
    isplitl [E1 E2 E3]
    · isplitl [E1]
      · iexact E1
      isplitl [E2]
      · iexact E2
      iexact E3
    isplitl [HcB HaB]
    · isplitl [HcB]
      · iexact HcB
      iexact HaB
    isplitl [b3]
    · iexact b3
    iexact b4
  iintro ⟨HO, HaB, ⟨R1, R2, R3⟩, C3, C4⟩
  ihave R1 := (Entails.of_eq (rooms (F := F) c 1)) $$ R1
  icases R1 with ⟨R01, R11, R21, R31⟩
  ihave R2 := (Entails.of_eq (rooms (F := F) c 2)) $$ R2
  icases R2 with ⟨R02, R12, R22, R32⟩
  ihave R3 := (Entails.of_eq (rooms (F := F) c 3)) $$ R3
  icases R3 with ⟨R03, R13, R23, R33⟩
  iapply wp_seq
  iapply (wp_part62 I c _) $$ [I0 HX HW O0]
  · isplitl [I0]
    · iexact I0
    isplitl [HX]
    · iexact HX
    isplitl [HW]
    · iexact HW
    iexact O0
  iintro ⟨I0, HX, HW, O0⟩
  iapply wp_seq
  iapply (wp_part63 I K c _) $$ [HO T01 T02 T03 R01 R02 R03 O0]
  · isplitr
    · iexact HG
    isplitl [HO]
    · iexact HO
    isplitl [T01 T02 T03]
    · isplitl [T01]
      · iexact T01
      isplitl [T02]
      · iexact T02
      iexact T03
    isplitl [R01 R02 R03]
    · isplitl [R01]
      · iexact R01
      isplitl [R02]
      · iexact R02
      iexact R03
    iexact O0
  iintro ⟨HO, ⟨S01, S02, S03⟩, O0⟩
  iapply wp_seq
  iapply (wp_part64 c _ _ _)
  ihave HM := (moving_in I c) $$ [I0 I1 C3 C4]
  · isplitl [I0]
    · iexact I0
    isplitl [I1]
    · iexact I1
    isplitl [C3]
    · iexact C3
    iexact C4
  iapply wp_seq
  iapply (wp_part65 I K c) $$ [HM HO O0 F0 O7 O8 D01]
  · isplitr
    · iexact HG
    isplitr
    · iexact Hlev
    isplitl [HM]
    · iexact HM
    isplitl [HO]
    · iexact HO
    isplitl [O0]
    · iexact O0
    isplitl [F0]
    · iexact F0
    isplitl [O7]
    · iexact O7
    isplitl [O8]
    · iexact O8
    iexact D01
  iintro ⟨HM, HO, O0, HD, O7, O8, J01, Q1⟩
  ihave HR : roundPre I c 1 $$ [Q1 F1 T11 T21 R11 R21]
  · unfold roundPre
    isplitl [Q1]
    · iexact Q1
    isplitl [F1]
    · iexact F1
    isplitl [T11 T21]
    · isplitl [T11]
      · iexact T11
      iexact T21
    isplitl [R11]
    · iexact R11
    iexact R21
  iapply wp_seq
  iapply (wp_part66 I K c) $$ [HM HO HR D02]
  · isplitr
    · iexact HG
    isplitr
    · iexact Hlev
    isplitl [HM]
    · iexact HM
    isplitl [HO]
    · iexact HO
    isplitl [HR]
    · iexact HR
    iexact D02
  iintro ⟨HM, HO, HR, J02, Q2⟩
  unfold roundPost
  icases HR with ⟨Q1, S11, S21⟩
  ihave HR : roundPre I c 2 $$ [Q2 F2 T12 T22 R12 R22]
  · unfold roundPre
    isplitl [Q2]
    · iexact Q2
    isplitl [F2]
    · iexact F2
    isplitl [T12 T22]
    · isplitl [T12]
      · iexact T12
      iexact T22
    isplitl [R12]
    · iexact R12
    iexact R22
  iapply wp_seq
  iapply (wp_part67 I K c) $$ [HM HO HR D03]
  · isplitr
    · iexact HG
    isplitr
    · iexact Hlev
    isplitl [HM]
    · iexact HM
    isplitl [HO]
    · iexact HO
    isplitl [HR]
    · iexact HR
    iexact D03
  iintro ⟨HM, HO, HR, J03, Q3⟩
  unfold roundPost
  icases HR with ⟨Q2, S12, S22⟩
  ihave HR : roundPre I c 3 $$ [Q3 F3 T13 T23 R13 R23]
  · unfold roundPre
    isplitl [Q3]
    · iexact Q3
    isplitl [F3]
    · iexact F3
    isplitl [T13 T23]
    · isplitl [T13]
      · iexact T13
      iexact T23
    isplitl [R13]
    · iexact R13
    iexact R23
  iapply wp_seq
  iapply (wp_part68 I K c) $$ [HM HO HR D11]
  · isplitr
    · iexact HG
    isplitr
    · iexact Hlev
    isplitl [HM]
    · iexact HM
    isplitl [HO]
    · iexact HO
    isplitl [HR]
    · iexact HR
    iexact D11
  iintro ⟨HM, HO, HR, J11, A1⟩
  unfold roundPost
  icases HR with ⟨Q3, S13, S23⟩
  ihave HM := (moving_out I c) $$ HM
  icases HM with ⟨HL, HC⟩
  unfold lands
  iapply wp_seq
  iapply (wp_part69 I K c _ _) $$ [HO D12 D13 D21]
  · isplitr
    · iexact HG
    isplitr
    · iexact Hlev
    isplitl [HO]
    · iexact HO
    isplitl [D12]
    · iexact D12
    isplitl [D13]
    · iexact D13
    iexact D21
  iintro ⟨HO, V12, V13, V21⟩
  ihave U11 : out (F := F) c 1 1 $$ [S11 M11]
  · unfold out
    isplitl [S11]
    · iexact S11
    iexact M11
  ihave U21 : out (F := F) c 2 1 $$ [S21 M21]
  · unfold out
    isplitl [S21]
    · iexact S21
    iexact M21
  iapply wp_seq
  iapply (wp_part70 I K c _ _) $$ [HO D22 D23 U11 U21]
  · isplitr
    · iexact HG
    isplitr
    · iexact Hlev
    isplitl [HO]
    · iexact HO
    isplitl [D22]
    · iexact D22
    isplitl [D23]
    · iexact D23
    isplitl [U11]
    · iexact U11
    iexact U21
  iintro ⟨HO, V22, V23, W11, W21⟩
  ihave U12 : out (F := F) c 1 2 $$ [S12 M12]
  · unfold out
    isplitl [S12]
    · iexact S12
    iexact M12
  ihave U22 : out (F := F) c 2 2 $$ [S22 M22]
  · unfold out
    isplitl [S22]
    · iexact S22
    iexact M22
  ihave U13 : out (F := F) c 1 3 $$ [S13 M13]
  · unfold out
    isplitl [S13]
    · iexact S13
    iexact M13
  ihave U23 : out (F := F) c 2 3 $$ [S23 M23]
  · unfold out
    isplitl [S23]
    · iexact S23
    iexact M23
  ihave U01 : out (F := F) c 0 1 $$ [S01 M01]
  · unfold out
    isplitl [S01]
    · iexact S01
    iexact M01
  iapply wp_seq
  iapply (wp_part71 I K c) $$ [HO U12 U22 U13 U23 U01]
  · isplitr
    · iexact HG
    isplitr
    · iexact Hlev
    isplitl [HO]
    · iexact HO
    isplitl [U12]
    · iexact U12
    isplitl [U22]
    · iexact U22
    isplitl [U13]
    · iexact U13
    isplitl [U23]
    · iexact U23
    iexact U01
  iintro ⟨HO, W12, W22, W13, W23, W01⟩
  ihave U02 : out (F := F) c 0 2 $$ [S02 M02]
  · unfold out
    isplitl [S02]
    · iexact S02
    iexact M02
  ihave U03 : out (F := F) c 0 3 $$ [S03 M03]
  · unfold out
    isplitl [S03]
    · iexact S03
    iexact M03
  unfold came
  icases V12 with ⟨J12, A2⟩
  icases V13 with ⟨J13, A3⟩
  icases V21 with ⟨J21, L1⟩
  icases V22 with ⟨J22, L2⟩
  icases V23 with ⟨J23, L3⟩
  ihave O7 := (whole7 I c) $$ [O7 A1 A2 A3]
  · isplitl [O7]
    · iexact O7
    isplitl [A1]
    · iexact A1
    isplitl [A2]
    · iexact A2
    iexact A3
  ihave O8 := (whole8 I c) $$ [O8 L1 L2 L3]
  · isplitl [O8]
    · iexact O8
    isplitl [L1]
    · iexact L1
    isplitl [L2]
    · iexact L2
    iexact L3
  iapply wp_seq
  iapply (wp_part72 I K c) $$ [HO U02 U03 O7 O8]
  · isplitr
    · iexact HG
    isplitr
    · iexact Hlev
    isplitl [HO]
    · iexact HO
    isplitl [U02]
    · iexact U02
    isplitl [U03]
    · iexact U03
    isplitl [O7]
    · iexact O7
    iexact O8
  iintro ⟨HO, W02, W03, O7, O8⟩
  iapply wp_seq
  iapply (wp_part73 I c _ _ _) $$ O7
  iintro O7
  iapply wp_seq
  iapply (wp_part74 I K c _) $$ [HO O7 HWo O9 T31 R31]
  · isplitr
    · iexact HG
    isplitr
    · iexact Hlev
    isplitl [HO]
    · iexact HO
    isplitl [O7]
    · iexact O7
    isplitl [HWo]
    · iexact HWo
    isplitl [O9]
    · iexact O9
    isplitl [T31]
    · iexact T31
    iexact R31
  iintro ⟨HO, O7, HWo, S31, N0, N2, N3⟩
  iapply wp_seq
  iapply (wp_part75 I K c _) $$ [HO N2 N3 T32 T33 R32 R33 D31]
  · isplitr
    · iexact HG
    isplitr
    · iexact Hlev
    isplitl [HO]
    · iexact HO
    isplitl [N2]
    · iexact N2
    isplitl [N3]
    · iexact N3
    isplitl [T32 T33]
    · isplitl [T32]
      · iexact T32
      iexact T33
    isplitl [R32 R33]
    · isplitl [R32]
      · iexact R32
      iexact R33
    iexact D31
  iintro ⟨HO, S32, S33, V31⟩
  ihave U31 : out (F := F) c 3 1 $$ [S31 M31]
  · unfold out
    isplitl [S31]
    · iexact S31
    iexact M31
  ihave U32 : out (F := F) c 3 2 $$ [S32 M32]
  · unfold out
    isplitl [S32]
    · iexact S32
    iexact M32
  iapply wp_seq
  iapply (wp_part76 I K c _) $$ [HO D32 D33 U31 U32]
  · isplitr
    · iexact HG
    isplitr
    · iexact Hlev
    isplitl [HO]
    · iexact HO
    isplitl [D32]
    · iexact D32
    isplitl [D33]
    · iexact D33
    isplitl [U31]
    · iexact U31
    iexact U32
  iintro ⟨HO, V32, V33, W31, W32⟩
  ihave U33 : out (F := F) c 3 3 $$ [S33 M33]
  · unfold out
    isplitl [S33]
    · iexact S33
    iexact M33
  simp only [Prog.lift, Prog.bind_op, Prog.bind_ret, Prog.pure_eq_ret]
  iapply (wp_S I K c (w := 3) (by decide) 15 3 (send3 (off3_eq c 3)) (credQ mR _ _)) $$ [HO U33]
  · isplitr
    · iexact HG
    isplitr
    · iexact Hlev
    isplitl [HO]
    · iexact HO
    iexact U33
  iintro ⟨HO, W33⟩
  unfold back came
  icases W01 with ⟨G01, Y01⟩
  icases W02 with ⟨G02, Y02⟩
  icases W03 with ⟨G03, Y03⟩
  icases W11 with ⟨G11, Y11⟩
  icases W12 with ⟨G12, Y12⟩
  icases W13 with ⟨G13, Y13⟩
  icases W21 with ⟨G21, Y21⟩
  icases W22 with ⟨G22, Y22⟩
  icases W23 with ⟨G23, Y23⟩
  icases W31 with ⟨G31, Y31⟩
  icases W32 with ⟨G32, Y32⟩
  icases W33 with ⟨G33, Y33⟩
  icases V31 with ⟨J31, Z1⟩
  icases V32 with ⟨J32, Z2⟩
  icases V33 with ⟨J33, Z3⟩
  ihave N0 := (whole9 I c) $$ [N0 Y31 Y32 Y33 Z1 Z2 Z3]
  · isplitl [N0]
    · iexact N0
    isplitl [Y31 Y32 Y33]
    · isplitl [Y31]
      · iexact Y31
      isplitl [Y32]
      · iexact Y32
      iexact Y33
    isplitl [Z1]
    · iexact Z1
    isplitl [Z2]
    · iexact Z2
    iexact Z3
  ihave O0 := (whole0 I c) $$ [O0 Y01 Y02 Y03 Q1 Q2 Q3]
  · isplitl [O0]
    · iexact O0
    isplitl [Y01 Y02 Y03]
    · isplitl [Y01]
      · iexact Y01
      isplitl [Y02]
      · iexact Y02
      iexact Y03
    isplitl [Q1]
    · iexact Q1
    isplitl [Q2]
    · iexact Q2
    iexact Q3
  ihave HD := (whole56 I c) $$ [HD Y11 Y12 Y13 Y21 Y22 Y23]
  · isplitl [HD]
    · iexact HD
    isplitl [Y11 Y12 Y13]
    · isplitl [Y11]
      · iexact Y11
      isplitl [Y12]
      · iexact Y12
      iexact Y13
    isplitl [Y21]
    · iexact Y21
    isplitl [Y22]
    · iexact Y22
    iexact Y23
  ihave HC := (cls_out c) $$ [HC]
  · iexact HC
  iapply (wp_read c mR (arAll I) (Memref.readAt_unit_zero (Elt F) cc0_scratch9 zero3 _ _)) $$ N0
  iintro N0
  iapply (wp_load 𝒱₀ (c : Thread nD τ) none Set.univ (m := mOut) (Finset.subset_univ _)) $$ Hout
  iintro Hout
  iapply (wp_store 𝒱₀ (c : Thread nD τ) none Set.univ (m := mOut) (r := Rect.unit (s := S1x256x1024) ![0, 0, 0] S1x256x1024.size inb_S1x256x1024_S1x256x1024_0_0_0)
    (Mk := Finset.univ) (Finset.subset_univ _)) $$ Hout
  iintro Hout
  rw [out_eq]
  iapply wp_done c
  iapply Hk
  unfold finish three
  isplitl [HO]
  · iexact HO
  isplitl [HaB J01 J02 J03 J11 J12 J13 J21 J22 J23 J31 J32 J33 G01 G02 G03 G11 G12 G13 G21 G22 G23 G31 G32 G33]
  · isplitl [HaB]
    · iexact HaB
    isplitl [J01 J02 J03 J11 J12 J13 J21 J22 J23 J31 J32 J33]
    · isplitl [J01 J02 J03]
      · isplitl [J01]
        · iexact J01
        isplitl [J02]
        · iexact J02
        iexact J03
      isplitl [J11 J12 J13]
      · isplitl [J11]
        · iexact J11
        isplitl [J12]
        · iexact J12
        iexact J13
      isplitl [J21 J22 J23]
      · isplitl [J21]
        · iexact J21
        isplitl [J22]
        · iexact J22
        iexact J23
      isplitl [J31]
      · iexact J31
      isplitl [J32]
      · iexact J32
      iexact J33
    isplitl [G01 G02 G03]
    · isplitl [G01]
      · iexact G01
      isplitl [G02]
      · iexact G02
      iexact G03
    isplitl [G11 G12 G13]
    · isplitl [G11]
      · iexact G11
      isplitl [G12]
      · iexact G12
      iexact G13
    isplitl [G21 G22 G23]
    · isplitl [G21]
      · iexact G21
      isplitl [G22]
      · iexact G22
      iexact G23
    isplitl [G31]
    · iexact G31
    isplitl [G32]
    · iexact G32
    iexact G33
  isplitl [O0 O7 O8 N0 HD HC]
  · isplitl [O0 O7 O8 N0]
    · isplitl [O0]
      · iexists _; iexact O0
      isplitl [O7]
      · iexists _; iexact O7
      isplitl [O8]
      · iexists _; iexact O8
      iexists _; iexact N0
    isplitl [HD]
    · iexact HD
    iexact HC
  isplitl [HL]
  · iexact HL
  isplitl [HX HW HWo]
  · isplitl [HX]
    · iexact HX
    isplitl [HW]
    · iexact HW
    iexact HWo
  iexact Hout

end Cert.KernelIdeal.Own

end
-- ==== Proof.Deal.lean ====
module

public import proofs.«01_k».proof.Proof.Body

@[expose] public section

noncomputable section

/-! # What the launch deals out -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (K : Dev nD × Fin 33 → ℕ) (c : Dev nD)

/-! ## Conjunctions over the mesh -/

theorem big_mono {J : Type} [DecidableEq J] {S : Finset J} {Φ Ψ : J → sProp 𝕄} (h : ∀ i ∈ S, Φ i ⊢ Ψ i) : bigSep S Φ ⊢ bigSep S Ψ := bigSep_mono h

theorem around_zero : around c 0 = c := by revert c; decide

theorem bigSep_around (Φ : Fin 4 → sProp 𝕄) : bigSep Finset.univ Φ = iprop(Φ c ∗ three fun w => Φ (around c w)) :=
  bigSep_univ_eq_bigSepL [(c : Fin 4), around c 1, around c 2, around c 3] (by revert c; decide) (by revert c; decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem three_of (Φ : Fin 4 → sProp 𝕄) : bigSep Finset.univ Φ ⊢ three Φ := by
  rw [bigSep_four]
  unfold three
  iintro ⟨-, H⟩
  iexact H

/-- From the sender and how far around, to the receiver and the sender. -/
def turn : Dev nD × Fin 4 ≃ Dev nD × Fin 4 where
  toFun p := (around p.1 p.2, p.1)
  invFun q := (q.2, (q.1 : Fin 4) - q.2)
  left_inv := by decide
  right_inv := by decide

theorem bigSep_turn (Φ : Dev nD → Fin 4 → sProp 𝕄) : (bigSep Finset.univ fun c : Dev nD => bigSep Finset.univ fun s : Fin 4 => Φ c s)
    = bigSep Finset.univ fun c : Dev nD => bigSep Finset.univ fun w : Fin 4 => Φ (around c w) c := by
  rw [← bigSep_univ_prod (fun p : Dev nD × Fin 4 => Φ p.1 p.2), bigSep_univ_equiv turn,
    bigSep_univ_prod (fun p : Dev nD × Fin 4 => Φ (turn p).1 (turn p).2)]
  rfl

/-- A device's counters that the schedule is about. -/
def e33 : (Fin 1 ⊕ (Fin 4 × Fin 4)) ⊕ (Fin 4 × Fin 4) ≃ Fin 33 :=
  Equiv.ofBijective (Sum.elim (Sum.elim (fun _ => 0) fun p => iS p.1 p.2) fun p => iR p.1 p.2) (by decide +kernel)

theorem split33 (Φ : Fin 33 → sProp 𝕄) : bigSep Finset.univ Φ = iprop((Φ 0 ∗ bigSep Finset.univ fun e : Fin 4 => bigSep Finset.univ fun t : Fin 4 => Φ (iS e t))
    ∗ bigSep Finset.univ fun e : Fin 4 => bigSep Finset.univ fun t : Fin 4 => Φ (iR e t)) := by
  rw [bigSep_univ_equiv e33, bigSep_univ_sum, bigSep_univ_sum, bigSep_univ_prod, bigSep_univ_prod, show (Finset.univ : Finset (Fin 1)) = {0} from rfl, bigSep_singleton]
  rfl

/-- The kernel's own counters: those of the loads of heads, and those of the copies between devices. -/
def osem (j : Fin 36) : SemLoc sig := .dma ⟨4 + j, by show _ < 40; omega⟩

def o4 (i : Fin 4) : Fin 36 := ⟨i, by omega⟩
def oS (e t : Fin 4) : Fin 36 := ⟨4 + 8 * (e : ℕ) + t, by omega⟩
def oR (e s : Fin 4) : Fin 36 := ⟨8 + 8 * (e : ℕ) + s, by omega⟩
def e36 : (Fin 4 ⊕ (Fin 4 × Fin 4)) ⊕ (Fin 4 × Fin 4) ≃ Fin 36 :=
  Equiv.ofBijective (Sum.elim (Sum.elim o4 fun p => oS p.1 p.2) fun p => oR p.1 p.2) (by decide +kernel)

theorem split36 (Φ : Fin 36 → sProp 𝕄) : bigSep Finset.univ Φ = iprop(((Φ (o4 0) ∗ Φ (o4 1) ∗ Φ (o4 2) ∗ Φ (o4 3))
      ∗ bigSep Finset.univ fun e : Fin 4 => bigSep Finset.univ fun t : Fin 4 => Φ (oS e t))
    ∗ bigSep Finset.univ fun e : Fin 4 => bigSep Finset.univ fun t : Fin 4 => Φ (oR e t)) := by
  rw [bigSep_univ_equiv e36, bigSep_univ_sum, bigSep_univ_sum, bigSep_univ_prod, bigSep_univ_prod, bigSep_four]
  rfl

theorem osem_S (e t : Fin 4) : osem (oS e t) = .dma (sendS e t) :=
  congrArg SemLoc.dma (Fin.ext (by show 4 + (4 + 8 * (e : ℕ) + t) = 8 + 8 * (e : ℕ) + t; omega))
theorem osem_R (e t : Fin 4) : osem (oR e t) = .dma (recvS e t) :=
  congrArg SemLoc.dma (Fin.ext (by show 4 + (8 + 8 * (e : ℕ) + t) = 12 + 8 * (e : ℕ) + t; omega))

/-! ## The counters -/

/-- The counters of the loads of heads. -/
def locals : sProp 𝕄 := iprop(semVal ((c : Thread nD τ), .dma (smK 0)) 0 ∗ semVal ((c : Thread nD τ), .dma (smK 1)) 0
    ∗ semVal ((c : Thread nD τ), .dma (smV 0)) 0 ∗ semVal ((c : Thread nD τ), .dma (smV 1)) 0)
/-- The counters of the copies. -/
def sends : sProp 𝕄 := bigSep Finset.univ fun e : Fin 4 => bigSep Finset.univ fun t : Fin 4 => semVal (sendC c e t) 0
def recvs : sProp 𝕄 := bigSep Finset.univ fun e : Fin 4 => bigSep Finset.univ fun t : Fin 4 => semVal (recvC c e t) 0

theorem ownSems_eq : (Pipeline.ownSems0 (Ix := Unit) (Name := ℕ) (U := UU) (Lvl := ℕ) (Val := Elt F) (τ := τ) osem c : sProp 𝕄)
    = iprop((locals c ∗ sends c) ∗ recvs c) := by
  unfold Pipeline.ownSems0
  rw [split36]
  simp only [osem_S, osem_R]
  rfl
theorem unscopedSems_eq : (unscopedSems0 c : sProp 𝕄) = semVal (barC c) 0 := by
  unfold unscopedSems0; rw [bigSep_eq_bigSepL_of_eq [SemLoc.reg barS] (by decide) (by decide)]; rfl
theorem cells_eq : (bigSep Finset.univ fun j : Fin 33 => (semVal (kcell (c, j)) 0 : sProp 𝕄)) = iprop((semVal (barC c) 0 ∗ sends c) ∗ recvs c) := by
  rw [split33]
  simp only [kcell_send, kcell_recv]
  rfl

/-! ## The ghost state -/

theorem semOf_injective : Function.Injective semOf := by decide +kernel
theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : semOf k = semOf k' := congrArg Prod.snd h
  rw [semOf_injective h2]
def theCells : Finset (GSem nD τ sig) := Finset.univ.map ⟨kcell, kcell_injective⟩

def tokOf (p : (Dev nD × Fin 33) × Fin 4) : GSem nD τ sig × ℕ × Fin 4 := (kcell p.1, 0, p.2)
theorem tokOf_injective : Function.Injective tokOf := by
  rintro ⟨p, d⟩ ⟨p', d'⟩ h
  have h1 : p = p' := kcell_injective (congrArg Prod.fst h)
  have h2 : d = d' := congrArg (fun x : GSem nD τ sig × ℕ × Fin 4 => x.2.2) h
  rw [h1, h2]
def theToks : Finset (GSem nD τ sig × ℕ × Fin 4) := Finset.univ.map ⟨tokOf, tokOf_injective⟩

def u₀ : UU :=
  (initOf (Pipeline.cells cfgs cellOf_inj) (Pipeline.launchToks cfgs cellOf_inj), (initOf theCells theToks, (1 : Counters)))

/-- The tokens of device `c`'s counters, one a counter and party. -/
def minted : sProp 𝕄 := bigSep Finset.univ fun j : Fin 33 => bigSep Finset.univ fun d : Fin 4 => dutyTok ER (kcell (c, j)) 0 d
/-- Where `c` stands, on each of its counters. -/
def stands : sProp 𝕄 := bigSep Finset.univ fun j : Fin 33 => atPos ER (kcell (c, j)) 0 ∅ 0

/-- What the launch deals device `c`. -/
def dealt : sProp 𝕄 :=
  iprop((bigSep Finset.univ fun j : Fin 33 => roundState ER (Rd I) (kcell (c, j)) 0)
    ∗ (stands c ∗ bigSep Finset.univ fun j : Fin 33 => reached ER (kcell (c, j)) 0) ∗ minted c)

/-- The tokens device `c` pays with. -/
def pays : sProp 𝕄 := iprop((bigSep Finset.univ fun w : Fin 4 => dutyTok ER (barC (around c w)) 0 c)
    ∗ bigSep Finset.univ fun e : Fin 4 => bigSep Finset.univ fun w : Fin 4 => toks c e w)

/-- What device `c` has when its body starts. -/
def held : sProp 𝕄 := iprop(∃ K, G I K ∗ (stands c ∗ pays c) ∗ locals c)

theorem fund : BI.own (ER (initOf theCells theToks)) ⊢ (|==> bigSep Finset.univ (dealt I) : sProp 𝕄) := by
  have hX (Φ : GSem nD τ sig → sProp 𝕄) : bigSep theCells Φ = bigSep Finset.univ fun c : Dev nD => bigSep Finset.univ fun k : Fin 33 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => minted c := by
    unfold theToks minted; rw [bigSep_map, bigSep_univ_prod, bigSep_univ_prod]
    rfl
  iintro HX
  imod (Rounds.fund ER (Rd I) theCells theToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt stands; simp only [bigSep_sep']
  isplitl [Hst']; · iexact Hst'
  isplitl [Hat' Hr']
  · isplitl [Hat'] <;> iassumption
  iexact Htok'

theorem alloc : iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun j : Fin 33 => iprop(∃ κ : ℕ, cellInv ER (Rd I) κ (kcell (c, j))))
          ∗ (bigSep Finset.univ fun j : Fin 33 => reached ER (kcell (c, j)) 0) ∗ (stands c ∗ locals c) ∗ minted c) := by
  rw [ownSems_eq, unscopedSems_eq]
  unfold dealt
  iintro ⟨⟨⟨Hl, Hs⟩, Hr⟩, Hb, Hst, ⟨Hat, Hre⟩, Htok⟩
  ihave Hv := (Entails.of_eq (cells_eq (F := F) c).symm) $$ [Hs Hr Hb]
  · isplitl [Hb Hs]
    · isplitl [Hb]
      · iexact Hb
      iexact Hs
    iexact Hr
  imod (show iprop((bigSep Finset.univ fun j : Fin 33 => semVal (kcell (c, j)) 0) ∗ bigSep Finset.univ fun j : Fin 33 => roundState ER (Rd I) (kcell (c, j)) 0)
      ⊢ (|={Set.univ}=> bigSep Finset.univ fun j => iprop(∃ κ : ℕ, cellInv ER (Rd I) κ (kcell (c, j))) : sProp 𝕄) from by
        rw [← bigSep_sep']
        exact (bigSep_mono fun j _ => BIBase.Entails.trans (Rounds.body_intro ER (Rd I) (kcell (c, j))) inv_alloc).trans (bigSep_fupd _ _)) $$ [Hv Hst] with Hinv
  · isplitl [Hv] <;> iassumption
  imodintro
  isplitl [Hinv]; · iexact Hinv
  isplitl [Hre]; · iexact Hre
  isplitl [Hat Hl]
  · isplitl [Hat] <;> iassumption
  iexact Htok

/-- A device's tokens that are of use to anyone. -/
def useful : sProp 𝕄 := iprop(((bigSep Finset.univ fun d : Fin 4 => dutyTok ER (barC c) 0 d)
    ∗ bigSep Finset.univ fun e : Fin 4 => bigSep Finset.univ fun t : Fin 4 => dutyTok ER (sendC c e t) 0 0)
    ∗ bigSep Finset.univ fun e : Fin 4 => bigSep Finset.univ fun s : Fin 4 => dutyTok ER (recvC c e s) 0 0)

theorem minted_useful : minted (F := F) c ⊢ useful c := by
  unfold minted useful
  rw [split33]
  simp only [kcell_send, kcell_recv, kcell_bar]
  exact BIClass.sep_mono (BIClass.sep_mono .rfl (bigSep_mono fun e _ => bigSep_mono fun t _ => bigSep_elim (Finset.mem_univ 0)))
    (bigSep_mono fun e _ => bigSep_mono fun t _ => bigSep_elim (Finset.mem_univ 0))

theorem swap_e (Φ : Dev nD → Fin 4 → sProp 𝕄) : (bigSep Finset.univ fun c : Dev nD => bigSep Finset.univ fun e : Fin 4 => Φ c e)
    = bigSep Finset.univ fun e : Fin 4 => bigSep Finset.univ fun c : Dev nD => Φ c e := by
  rw [← bigSep_univ_prod (fun p : Dev nD × Fin 4 => Φ p.1 p.2), bigSep_univ_equiv (Equiv.prodComm (Fin 4) (Dev nD)),
    bigSep_univ_prod (fun p : Fin 4 × Dev nD => Φ ((Equiv.prodComm (Fin 4) (Dev nD)) p).1 ((Equiv.prodComm (Fin 4) (Dev nD)) p).2)]
  rfl

/-- Every token goes to the device that pays with it. -/
theorem hand_round : (bigSep Finset.univ fun c : Dev nD => (useful c : sProp 𝕄)) ⊢ bigSep Finset.univ fun c : Dev nD => pays c := by
  have hs (c : Dev nD) (e : Fin 4) : (bigSep Finset.univ fun t : Fin 4 => (dutyTok ER (sendC c e t) 0 0 : sProp 𝕄))
      = bigSep Finset.univ fun w : Fin 4 => dutyTok ER (sendC c e (around c w)) 0 0 :=
    bigSep_univ_equiv (Equiv.addLeft (c : Fin 4)) fun t : Fin 4 => (dutyTok ER (sendC c e t) 0 0 : sProp 𝕄)
  have hr : (bigSep Finset.univ fun c : Dev nD => bigSep Finset.univ fun e : Fin 4 => bigSep Finset.univ fun s : Fin 4 => (dutyTok ER (recvC c e s) 0 0 : sProp 𝕄))
      = bigSep Finset.univ fun c : Dev nD => bigSep Finset.univ fun e : Fin 4 => bigSep Finset.univ fun w : Fin 4 => dutyTok ER (recvC (around c w) e c) 0 0 := by
    rw [swap_e fun c e => bigSep Finset.univ fun s : Fin 4 => (dutyTok ER (recvC c e s) 0 0 : sProp 𝕄),
      swap_e fun c e => bigSep Finset.univ fun w : Fin 4 => (dutyTok ER (recvC (around c w) e c) 0 0 : sProp 𝕄)]
    exact bigSep_congr fun e _ => bigSep_turn fun c s => (dutyTok ER (recvC c e s) 0 0 : sProp 𝕄)
  unfold useful pays toks
  simp only [bigSep_sep', hs]
  rw [hr, bigSep_turn fun c d => (dutyTok ER (barC c) 0 d : sProp 𝕄)]
  iintro ⟨⟨H1, H2⟩, H3⟩
  isplitl [H1]; · iexact H1
  isplitl [H2]; · iexact H2
  iexact H3

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem regroup :
    (bigSep Finset.univ fun c : Dev nD => iprop((bigSep Finset.univ fun j : Fin 33 => iprop(∃ κ : ℕ, cellInv ER (Rd I) κ (kcell (c, j))))
          ∗ (bigSep Finset.univ fun j : Fin 33 => reached ER (kcell (c, j)) 0) ∗ (stands c ∗ locals c) ∗ minted c) : sProp 𝕄)
      ⊢ bigSep Finset.univ (held I) := by
  rw [bigSep_sep', bigSep_sep', bigSep_sep', ← bigSep_univ_prod (fun p : Dev nD × Fin 33 => iprop(∃ κ : ℕ, cellInv ER (Rd I) κ (kcell p))),
    ← bigSep_univ_prod (fun p : Dev nD × Fin 33 => (reached ER (kcell p) 0 : sProp 𝕄))]
  iintro ⟨HI, #HR, Hsl, Htok⟩
  ihave HK := (BI.bigSep_exists_pi Finset.univ (fun (p : Dev nD × Fin 33) (κ : ℕ) => (cellInv ER (Rd I) κ (kcell p) : sProp 𝕄))) $$ HI
  icases HK with ⟨%K, #HI⟩
  ihave Htok := (big_mono fun c _ => minted_useful (F := F) c) $$ Htok
  ihave Htok := (hand_round (F := F)) $$ Htok
  iapply (show iprop(G I K ∗ bigSep Finset.univ fun c : Dev nD => iprop((stands c ∗ locals c) ∗ pays c)) ⊢ bigSep Finset.univ (held I) from with_persistent (R := G I K) (Φ := fun c => iprop((stands c ∗ locals c) ∗ pays c)) fun c _ => by
    unfold held
    iintro ⟨#HG, ⟨Hs, Hl⟩, Hp⟩
    iexists K
    isplitr; · iexact HG
    isplitl [Hs Hp]
    · isplitl [Hs] <;> iassumption
    iexact Hl)
  isplitr
  · unfold G
    rw [bigSep_sep']
    isplitl
    · iexact HI
    iexact HR
  iapply (Entails.of_eq (bigSep_sep' Finset.univ (fun c : Dev nD => iprop(stands (F := F) c ∗ locals c)) pays).symm)
  isplitl [Hsl]
  · iexact Hsl
  iexact Htok

theorem glob : (bigSep Finset.univ fun c => iprop(Pipeline.ownSems0 (Ix := Unit) (Name := ℕ) (U := UU) (Lvl := ℕ) (Val := Elt F) (τ := τ) osem c
      ∗ unscopedSems0 c ∗ dealt I c) : sProp 𝕄) ⊢ |={Set.univ}=> bigSep Finset.univ (held I) :=
  BIBase.Entails.trans (BIBase.Entails.trans (bigSep_mono fun c _ => alloc I c) (bigSep_fupd _ _)) (BI.fupd_mono (regroup I))

/-! ## The credit -/

/-- What device `c` pays to others: the counter, and the family of the copy, none for the barrier. -/
def owedI : List (GSem nD τ sig × Option (Fin 4)) :=
  [(barC (around c 1), none), (barC (around c 2), none), (barC (around c 3), none),
   (recvC (around c 1) 0 c, some 0), (recvC (around c 2) 0 c, some 0), (recvC (around c 3) 0 c, some 0),
   (recvC (around c 1) 1 c, some 1), (recvC (around c 1) 2 c, some 2),
   (recvC (around c 2) 1 c, some 1), (recvC (around c 2) 2 c, some 2),
   (recvC (around c 3) 1 c, some 1), (recvC (around c 3) 2 c, some 2),
   (recvC (around c 1) 3 c, some 3), (recvC (around c 2) 3 c, some 3), (recvC (around c 3) 3 c, some 3)]
def unitsOf (o : Option (Fin 4)) : ℕ := o.elim 1 amt
theorem owedL_eq : owedL c = (owedI c).map fun p => (p.1, unitsOf p.2) := rfl

theorem tal_at (l : List (GSem nD τ sig × Option (Fin 4))) (g : GSem nD τ sig) :
    tal (l.map fun p => (p.1, unitsOf p.2)) g () = (((l.filter fun p => p.1 = g).map Prod.snd).map unitsOf).sum := by
  induction l with
  | nil => rfl
  | cons p l ih =>
    show (tal (l.map fun p => (p.1, unitsOf p.2)) + tallyAt p.1 () (unitsOf p.2)) g () = _
    rw [Pi.add_apply, Finsupp.add_apply, ih, tallyAt_apply]
    by_cases h : p.1 = g
    · rw [if_pos ⟨h.symm, rfl⟩, List.filter_cons_of_pos (by simpa using h), List.map_cons, List.map_cons, List.sum_cons, Nat.add_comm]
    · rw [if_neg (fun h' => h h'.1.symm), List.filter_cons_of_neg (by simpa using h), Nat.add_zero]

theorem pays_bar : ∀ d c : Dev nD, ((owedI d).filter fun p => p.1 = barC c).map Prod.snd = if d = c then [] else [none] := by decide +kernel
theorem pays_recv : ∀ (d c : Dev nD) (e s : Fin 4), s ≠ c →
    ((owedI d).filter fun p => p.1 = recvC c e s).map Prod.snd = if d = s then [some e] else [] := by decide +kernel

theorem owed_bar (d : Dev nD) : owed d 0 (barC c) () = if d = c then 0 else 1 := by
  show tal (owedL d) (barC c) () = _
  rw [owedL_eq, tal_at, pays_bar]
  split <;> rfl
theorem owed_recv (d : Dev nD) {e s : Fin 4} (h : s ≠ c) : owed d 0 (recvC c e s) () = if d = s then amt e else 0 := by
  show tal (owedL d) (recvC c e s) () = _
  rw [owedL_eq, tal_at, pays_recv d c e s h]
  split <;> rfl

abbrev O₀ (c : Dev nD) : CellTallies nD τ sig Unit := owed c 0

theorem launch_bar : tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c
  decide
theorem launch_recv {e s : Fin 4} (h : s ≠ c) :
    tallyOn (recvC c e s) (launchCredit (Pipeline.owing O₀) 0 (recvC c e s)) = (tallyAt (recvC c e s) () (amt e) : CellTallies nD τ sig Unit) := by
  unfold tallyAt; refine congrArg _ (Finsupp.ext fun u => ?_); cases u
  rw [Pipeline.launchCredit_owing, Finsupp.single_eq_same, Finset.sum_congr rfl fun d _ => owed_recv c d h,
    Finset.sum_ite_eq' Finset.univ s fun _ => amt e, if_pos (Finset.mem_univ _)]

theorem three_mono {Φ Ψ : Fin 4 → sProp 𝕄} (h : ∀ w, w ≠ 0 → Φ w ⊢ Ψ w) : three Φ ⊢ three Ψ :=
  BIClass.sep_mono (h 1 (by decide)) (BIClass.sep_mono (h 2 (by decide)) (h 3 (by decide)))

theorem creds : (Pipeline.launchCred O₀ c : sProp 𝕄) ⊢ iprop(cred (tallyAt (barC c) () 3)
    ∗ bigSep Finset.univ fun e : Fin 4 => three fun w => cred (tallyAt (recvC c e (around c w)) () (amt e))) := by
  unfold Pipeline.launchCred
  refine BIBase.Entails.trans (bigSep_subset (Finset.subset_univ (Finset.univ.map ⟨semOf, semOf_injective⟩))) ?_
  rw [bigSep_map, split33]
  refine BIClass.sep_mono (BIBase.Entails.trans sep_elim_left (Entails.of_eq (congrArg cred (launch_bar c)))) (bigSep_mono fun e _ => ?_)
  rw [bigSep_around c]
  refine BIBase.Entails.trans sep_elim_right (three_mono fun w hw => Entails.of_eq ?_)
  show cred (tallyOn ((c : Thread nD τ), semOf (iR e (around c w))) (launchCredit (Pipeline.owing O₀) 0 ((c : Thread nD τ), semOf (iR e (around c w))))) = _
  rw [semOf_iR]
  exact congrArg cred (launch_recv c (around_ne hw c))

/-! ## Into the body and out of it -/

/-- Where `c` stands on the counters of copies to itself, of which there are none. -/
def idles : sProp 𝕄 := iprop((bigSep Finset.univ fun e : Fin 4 => atPos ER (sendC c e c) 0 ∅ 0) ∗ bigSep Finset.univ fun e : Fin 4 => atPos ER (recvC c e c) 0 ∅ 0)

theorem stands_eq : stands (F := F) c = iprop((atPos ER (barC c) 0 ∅ 0 ∗ bigSep Finset.univ fun e : Fin 4 => iprop(atPos ER (sendC c e c) 0 ∅ 0 ∗ three (mark c e)))
    ∗ bigSep Finset.univ fun e : Fin 4 => iprop(atPos ER (recvC c e c) 0 ∅ 0 ∗ three fun w => atPos ER (recvC c e (around c w)) 0 ∅ 0)) := by
  unfold stands
  rw [split33]
  simp only [kcell_send, kcell_recv, kcell_bar, bigSep_around c]
  rfl

theorem three_sep (Φ Ψ : Fin 4 → sProp 𝕄) : iprop(three Φ ∗ three Ψ) ⊢ three fun w => iprop(Φ w ∗ Ψ w) := by
  unfold three
  iintro ⟨⟨H1, H2, H3⟩, J1, J2, J3⟩
  isplitl [H1 J1]
  · isplitl [H1] <;> iassumption
  isplitl [H2 J2]
  · isplitl [H2] <;> iassumption
  isplitl [H3] <;> iassumption

theorem go_in : iprop((stands (F := F) c ∗ pays c) ∗ cred (tallyAt (barC c) () 3)
      ∗ bigSep Finset.univ fun e : Fin 4 => three fun w => cred (tallyAt (recvC c e (around c w)) () (amt e)))
    ⊢ iprop(start c ∗ idles c) := by
  rw [stands_eq]
  unfold pays idles start
  simp only [bigSep_sep']
  iintro ⟨⟨⟨⟨Hb, Hs, Hm⟩, Hr, Hd⟩, Ht, Htk⟩, Hc, Hcr⟩
  isplitr [Hs Hr]
  · isplitl [Hb Hc]
    · isplitl [Hc] <;> iassumption
    isplitl [Ht]
    · iapply (three_of fun w => dutyTok ER (barC (around c w)) 0 c); iexact Ht
    isplitl [Htk]
    · iapply (Entails.of_eq (bigSep_four fun e => three (toks c e)))
      iapply (big_mono fun e _ => three_of (toks c e))
      iexact Htk
    isplitl [Hd Hcr]
    · iapply (Entails.of_eq (bigSep_four fun e => three (due c e)))
      iapply (big_mono (S := Finset.univ) fun e _ => three_sep (fun w => cred (tallyAt (recvC c e (around c w)) () (amt e))) fun w => atPos ER (recvC c e (around c w)) 0 ∅ 0)
      rw [bigSep_sep']
      isplitl [Hcr] <;> iassumption
    iapply (Entails.of_eq (bigSep_four fun e => three (mark c e)))
    iexact Hm
  isplitl [Hs] <;> iassumption

theorem close_send (e : Fin 4) : iprop(G I K ∗ atPos ER (sendC c e c) 0 ∅ 0 ∗ three (hadS c e))
    ⊢ |={Set.univ}=> (bigSep Finset.univ fun t : Fin 4 => semVal (sendC c e t) 0 : sProp 𝕄) := by
  rw [bigSep_around c]
  have h (w : Fin 4) : iprop(G I K ∗ hadS c e w) ⊢ (|={Set.univ}=> semVal (sendC c e (around c w)) 0 : sProp 𝕄) := by
    unfold hadS
    refine BIBase.Entails.trans (sep_mono_left (BIBase.Entails.trans (G_send I K c e (around c w)) sep_elim_left)) ?_
    exact Rounds.cell_close ER (Rd I) (Set.mem_univ (K (c, iS e (around c w)))) (fun h => h) (R := 0 + 1) (duties_later I _)
  have h0 : iprop(G I K ∗ atPos ER (sendC c e c) 0 ∅ 0) ⊢ (|={Set.univ}=> semVal (sendC c e c) 0 : sProp 𝕄) := by
    refine BIBase.Entails.trans (sep_mono_left (BIBase.Entails.trans (G_send I K c e c) sep_elim_left)) ?_
    exact Rounds.cell_close ER (Rd I) (Set.mem_univ (K (c, iS e c))) (fun h => h) (R := 0) (duties_own_send I c e)
  unfold three
  iintro ⟨#HG, H0, H1, H2, H3⟩
  imod h0 $$ [H0] with H0
  · isplitr; · iexact HG
    iexact H0
  imod (h 1) $$ [H1] with H1
  · isplitr; · iexact HG
    iexact H1
  imod (h 2) $$ [H2] with H2
  · isplitr; · iexact HG
    iexact H2
  imod (h 3) $$ [H3] with H3
  · isplitr; · iexact HG
    iexact H3
  imodintro
  isplitl [H0]; · iexact H0
  isplitl [H1]; · iexact H1
  isplitl [H2]; · iexact H2
  iexact H3

theorem close_recv (e : Fin 4) : iprop(G I K ∗ atPos ER (recvC c e c) 0 ∅ 0 ∗ three (hadR c e))
    ⊢ |={Set.univ}=> (bigSep Finset.univ fun t : Fin 4 => semVal (recvC c e t) 0 : sProp 𝕄) := by
  rw [bigSep_around c]
  have h (w : Fin 4) : iprop(G I K ∗ hadR c e w) ⊢ (|={Set.univ}=> semVal (recvC c e (around c w)) 0 : sProp 𝕄) := by
    unfold hadR
    refine BIBase.Entails.trans (sep_mono_left (BIBase.Entails.trans (G_recv I K c e (around c w)) sep_elim_left)) ?_
    exact Rounds.cell_close ER (Rd I) (Set.mem_univ (K (c, iR e (around c w)))) (fun h => h) (R := 0 + 1) (duties_later I _)
  have h0 : iprop(G I K ∗ atPos ER (recvC c e c) 0 ∅ 0) ⊢ (|={Set.univ}=> semVal (recvC c e c) 0 : sProp 𝕄) := by
    refine BIBase.Entails.trans (sep_mono_left (BIBase.Entails.trans (G_recv I K c e c) sep_elim_left)) ?_
    exact Rounds.cell_close ER (Rd I) (Set.mem_univ (K (c, iR e c))) (fun h => h) (R := 0) (duties_own_recv I c e)
  unfold three
  iintro ⟨#HG, H0, H1, H2, H3⟩
  imod h0 $$ [H0] with H0
  · isplitr; · iexact HG
    iexact H0
  imod (h 1) $$ [H1] with H1
  · isplitr; · iexact HG
    iexact H1
  imod (h 2) $$ [H2] with H2
  · isplitr; · iexact HG
    iexact H2
  imod (h 3) $$ [H3] with H3
  · isplitr; · iexact HG
    iexact H3
  imodintro
  isplitl [H0]; · iexact H0
  isplitl [H1]; · iexact H1
  isplitl [H2]; · iexact H2
  iexact H3

/-- The counters at zero again. -/
theorem go_out : iprop(G I K ∗ idles (F := F) c ∗ finish c) ⊢ |={Set.univ}=> iprop(semVal (barC c) 0 ∗ sends (F := F) c ∗ recvs c) := by
  have hb : iprop(G I K ∗ atPos ER (barC c) (0 + 1) ∅ 0) ⊢ (|={Set.univ}=> semVal (barC c) 0 : sProp 𝕄) := by
    refine BIBase.Entails.trans (sep_mono_left (BIBase.Entails.trans (G_bar I K c) sep_elim_left)) ?_
    exact Rounds.cell_close ER (Rd I) (Set.mem_univ (K (c, 0))) (fun h => h) (R := 0 + 1) (duties_later I _)
  have hS : iprop(G I K ∗ bigSep Finset.univ fun e : Fin 4 => iprop(atPos ER (sendC c e c) 0 ∅ 0 ∗ three (hadS c e))) ⊢ (|={Set.univ}=> sends c : sProp 𝕄) :=
    BIBase.Entails.trans (with_persistent fun e _ => close_send I K c e) (bigSep_fupd _ _)
  have hR : iprop(G I K ∗ bigSep Finset.univ fun e : Fin 4 => iprop(atPos ER (recvC c e c) 0 ∅ 0 ∗ three (hadR c e))) ⊢ (|={Set.univ}=> recvs c : sProp 𝕄) :=
    BIBase.Entails.trans (with_persistent fun e _ => close_recv I K c e) (bigSep_fupd _ _)
  rw [bigSep_sep'] at hS hR
  unfold idles finish
  iintro ⟨#HG, ⟨Hs, Hr⟩, Hb, HR, HS⟩
  imod hb $$ [Hb] with Hb
  · isplitr; · iexact HG
    iexact Hb
  imod hS $$ [Hs HS] with HS
  · isplitr; · iexact HG
    isplitl [Hs]; · iexact Hs
    iapply (Entails.of_eq (bigSep_four fun e => three (hadS c e)).symm)
    iexact HS
  imod hR $$ [Hr HR] with HR
  · isplitr; · iexact HG
    isplitl [Hr]; · iexact Hr
    iapply (Entails.of_eq (bigSep_four fun e => three (hadR c e)).symm)
    iexact HR
  imodintro
  isplitl [Hb]; · iexact Hb
  isplitl [HS] <;> iassumption

end Cert.KernelIdeal.Own

end
-- ==== Proof.Launch.lean ====
module

public import proofs.«01_k».proof.Proof.Deal
public import proofs.«01_k».proof.Proof.Gen.KernelIdeal.Frame
public import Idealize.ShloMosaic.Lib.VecWindow
public import Idealize.ShloMosaic.Lib.Pipeline.Value
public import Idealize.ShloMosaic.Lib.Pipeline.CollectiveSegs
public import Idealize.ShloMosaic.Lib.Quiescent

@[expose] public section

noncomputable section

/-! # The launch -/

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [Named F]

local notation "𝕄" => MT nD τ sig Unit (Elt F) ℕ UU ℕ

variable (I : Ins F) (c : Dev nD)

/-! ## The landing buffers at the two ends of the body -/

theorem slots2_disj : Disjoint (slots2 0) (slots2 1) := by
  rw [Finset.disjoint_left]
  intro i h h'
  have h1 : (i 0 : ℕ) = 0 := (Finset.mem_filter.mp h).2
  have h2 : (i 0 : ℕ) = 1 := (Finset.mem_filter.mp h').2
  omega
theorem slots2_union : slots2 0 ∪ slots2 1 = Finset.univ := by
  ext i
  have h : (i 0 : ℕ) < 2 := (i 0).2
  simp only [Finset.mem_union, slots2, Finset.mem_filter, Finset.mem_univ, true_and, iff_true]
  show (i 0 : ℕ) = 0 ∨ (i 0 : ℕ) = 1
  omega

theorem room_in (r : Ref sig .tc) (S T : Finset r.ty.shape.Idx) (hd : Disjoint S T) (hu : S ∪ T = Finset.univ) :
    any (F := F) c r ⊢ iprop((∃ f, (Memref.whole r).view.loc (c : Thread nD τ) ↦[(Memref.whole r).view.setOn S]{fullShare} f)
      ∗ (∃ f, (Memref.whole r).view.loc (c : Thread nD τ) ↦[(Memref.whole r).view.setOn T]{fullShare} f)) := by
  rw [show (Memref.whole r).view.setOn S = S from setOn_id S, show (Memref.whole r).view.setOn T = T from setOn_id T]
  unfold any
  iintro ⟨%f, H⟩
  ihave H' := (Entails.of_eq (congrArg (fun U : Finset r.ty.shape.Idx => (((c : Thread nD τ).loc r) ↦[U]{fullShare} f : sProp 𝕄)) hu.symm)) $$ H
  icases (pointsTo_union hd).1 $$ H' with ⟨H1, H2⟩
  isplitl [H1]
  · iexists f; iexact H1
  · iexists f; iexact H2
theorem room_out (r : Ref sig .tc) (S T : Finset r.ty.shape.Idx) (hd : Disjoint S T) (hu : S ∪ T = Finset.univ) :
    iprop((∃ f, (Memref.whole r).view.loc (c : Thread nD τ) ↦[(Memref.whole r).view.setOn S]{fullShare} f)
      ∗ (∃ f, (Memref.whole r).view.loc (c : Thread nD τ) ↦[(Memref.whole r).view.setOn T]{fullShare} f)) ⊢ any (F := F) c r := by
  rw [show (Memref.whole r).view.setOn S = S from setOn_id S, show (Memref.whole r).view.setOn T = T from setOn_id T]
  unfold any
  iintro ⟨⟨%f, H1⟩, ⟨%g, H2⟩⟩
  ihave H := (pointsTo_join (ℓ := (c : Thread nD τ).loc r) hd) $$ [H1 H2]
  · isplitl [H1] <;> iassumption
  ihave H' := (Entails.of_eq (congrArg (fun U : Finset r.ty.shape.Idx => (((c : Thread nD τ).loc r) ↦[U]{fullShare} T.piecewise g f : sProp 𝕄)) hu)) $$ H
  iexists _
  iexact H'

theorem halves {ℓ : Loc nD τ sig} (f : Buf (Elt F) ℓ) : (ℓ ↦{fullShare} f : sProp 𝕄) ⊣⊢ iprop((ℓ ↦{hsh 0} f) ∗ (ℓ ↦{hsh 1} f)) :=
  pointsTo_share (PosShare.mem_left_op_right fullShare)

/-- The arrays of keys and of values, at their contents. -/
def kv : sProp 𝕄 := iprop((((c : Thread nD τ).loc main_arg2) ↦{fullShare} I.K c) ∗ (((c : Thread nD τ).loc main_arg3) ↦{fullShare} I.V c))

theorem lands_in : iprop((any (F := F) c cc0_scratch1 ∗ any (F := F) c cc0_scratch2) ∗ locals c ∗ kv I c) ⊢ lands I c := by
  have h1 := room_in (F := F) c cc0_scratch1 (slots2 0) (slots2 1) slots2_disj slots2_union
  have h2 := room_in (F := F) c cc0_scratch2 (slots2 0) (slots2 1) slots2_disj slots2_union
  have e0 : slF 0 = (0 : Fin 2) := rfl
  have e1 : slF 1 = (1 : Fin 2) := rfl
  unfold lands kv locals idleK idleV idle
  rw [e0, e1]
  iintro ⟨⟨H1, H2⟩, ⟨L1, L2, L3, L4⟩, HK, HV⟩
  icases h1 $$ H1 with ⟨A0, A1⟩
  icases h2 $$ H2 with ⟨B0, B1⟩
  icases (halves (I.K c)).1 $$ HK with ⟨K0, K1⟩
  icases (halves (I.V c)).1 $$ HV with ⟨V0, V1⟩
  isplitl [A0 B0 L1 L3 K0 V0]
  · isplitl [A0 L1 K0]
    · isplitl [A0]; · iexact A0
      isplitl [L1]; · iexact L1
      iexact K0
    isplitl [B0]; · iexact B0
    isplitl [L3]; · iexact L3
    iexact V0
  isplitl [A1 L2 K1]
  · isplitl [A1]; · iexact A1
    isplitl [L2]; · iexact L2
    iexact K1
  isplitl [B1]; · iexact B1
  isplitl [L4]; · iexact L4
  iexact V1

theorem lands_out : lands I c ⊢ iprop((any (F := F) c cc0_scratch1 ∗ any (F := F) c cc0_scratch2) ∗ locals c ∗ kv I c) := by
  have h1 := room_out (F := F) c cc0_scratch1 (slots2 0) (slots2 1) slots2_disj slots2_union
  have h2 := room_out (F := F) c cc0_scratch2 (slots2 0) (slots2 1) slots2_disj slots2_union
  have e0 : slF 0 = (0 : Fin 2) := rfl
  have e1 : slF 1 = (1 : Fin 2) := rfl
  unfold lands kv locals idleK idleV idle
  rw [e0, e1]
  iintro ⟨⟨⟨A0, L1, K0⟩, ⟨B0, L3, V0⟩⟩, ⟨A1, L2, K1⟩, ⟨B1, L4, V1⟩⟩
  isplitl [A0 A1 B0 B1]
  · isplitl [A0 A1]
    · iapply h1
      isplitl [A0]; · iexact A0
      iexact A1
    iapply h2
    isplitl [B0]; · iexact B0
    iexact B1
  isplitl [L1 L2 L3 L4]
  · isplitl [L1]; · iexact L1
    isplitl [L2]; · iexact L2
    isplitl [L3]; · iexact L3
    iexact L4
  isplitl [K0 K1]
  · iapply (halves (I.K c)).2
    isplitl [K0]; · iexact K0
    iexact K1
  iapply (halves (I.V c)).2
  isplitl [V0]; · iexact V0
  iexact V1

/-! ## The pipeline's data -/

variable (m : (ℓ : Loc nD τ sig) → Buf (Elt F) ℓ) (ρ : Dev nD → PrngReg)

/-- The operands, as the memory has them at the start. -/
def ins : Ins F where
  x c := m ((c : Thread nD τ).loc main_arg0)
  wq c := m ((c : Thread nD τ).loc main_arg1)
  K c := m ((c : Thread nD τ).loc main_arg2)
  V c := m ((c : Thread nD τ).loc main_arg3)
  wo c := m ((c : Thread nD τ).loc main_arg4)

/-- What the region asks for once, and each window's array. -/
def start₀ : sProp 𝕄 :=
  iprop((held (ins m) c ∗ cred (tallyAt (barC c) () 3)
      ∗ bigSep Finset.univ fun e : Fin 4 => three fun w => cred (tallyAt (recvC c e (around c w)) () (amt e)))
    ∗ levAts L lv ∗ kv (ins m) c)
/-- The buffers of the region. -/
def scratch : sProp 𝕄 := iprop(bufs (F := F) c ∗ any (F := F) c cc0_scratch1 ∗ any (F := F) c cc0_scratch2)
def Φ₀ : sProp 𝕄 := iprop(start₀ c m ∗ scratch (F := F) c)
def Φ₁ : sProp 𝕄 := iprop(scratch (F := F) c ∗ (semVal (barC c) 0 ∗ (locals (F := F) c ∗ sends (F := F) c) ∗ recvs (F := F) c) ∗ kv (ins m) c)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => (ins m).x c
    | ⟨1, _⟩ => (ins m).wq c
    | ⟨2, _⟩ => (ins m).wo c
    | ⟨3, _⟩ => resM (ins m)
  Φ t := match t with
    | ⟨0, _⟩ => Φ₀ c m
    | ⟨_ + 1, _⟩ => Φ₁ c m
  q _ := fullShare
  owed t := match t with
    | ⟨0, _⟩ => owed c 0
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_win0 : iblk m c 0 t0_0 = (ins m).x c := by
  funext i
  exact congrArg (m ((c : Thread nD τ).loc main_arg0)) (Rect.emb_unit_full (s := S1x256x1024) _ i)
theorem whole_win1 : iblk m c 1 t0_0 = (ins m).wq c := by
  funext i
  exact congrArg (m ((c : Thread nD τ).loc main_arg1)) (Rect.emb_unit_full (s := S1024x1024) _ i)
theorem whole_win2 : iblk m c 2 t0_0 = (ins m).wo c := by
  funext i
  exact congrArg (m ((c : Thread nD τ).loc main_arg4)) (Rect.emb_unit_full (s := S1024x1024) _ i)
theorem fetch_0 : (cfg0.win (0 : Fin 4)).fetch t0_0 = true := rfl
theorem fetch_1 : (cfg0.win (1 : Fin 4)).fetch t0_0 = true := rfl
theorem fetch_2 : (cfg0.win (2 : Fin 4)).fetch t0_0 = true := rfl

theorem ownSemFacts : Pipeline.OwnSemFacts cfg0.spec osem := by decide +kernel
theorem share_eq (w : Fin cfg0.W) : (dats m ρ 0 c).share w = fullShare := by unfold Dat.share; split <;> rfl
theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (by revert w s; decide)
    · exact mayWait c _ 15 (by revert w s; decide)

/-! ## The body's obligation -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ c m ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost : sProp 𝕄 :=
  iprop(Φ₁ c m ∗ (dats m ρ 0 c).owesAt () t0_0.succ ∗ stg c cc0_stg0_0 ((ins m).x c) ∗ stg c cc0_stg1_0 ((ins m).wq c)
    ∗ stg c cc0_stg2_0 ((ins m).wo c) ∗ stg c cc0_stg3_0 (resM (ins m)))

theorem before_0 (d) : (dats m ρ 0 c).before (0 : Fin 4) t0_0 d = (ins m).x c := by
  unfold Dat.before; rw [if_pos fetch_0]; exact whole_win0 c m
theorem before_1 (d) : (dats m ρ 0 c).before (1 : Fin 4) t0_0 d = (ins m).wq c := by
  unfold Dat.before; rw [if_pos fetch_1]; exact whole_win1 c m
theorem before_2 (d) : (dats m ρ 0 c).before (2 : Fin 4) t0_0 d = (ins m).wo c := by
  unfold Dat.before; rw [if_pos fetch_2]; exact whole_win2 c m

theorem sound_body : bodyPre c m ρ ⊢ WP c (cc0_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19) (fun _ => bodyPost c m ρ) := by
  have hout (K) : iprop(G (ins m) K ∗ idles (F := F) c ∗ finish c) ⊢ |={Set.univ}=> iprop(semVal (barC c) 0 ∗ sends (F := F) c ∗ recvs c) := go_out (ins m) K c
  refine BIBase.Entails.trans ?_ (wp_fupd _ _ _ _ _)
  unfold bodyPre Φ₀ start₀ held scratch Dat.owesAt Pipeline.owesWithin
  iintro ⟨⟨⟨⟨⟨%K, #HG, Hsp, Hl⟩, Hc⟩, #Hlev, Hkv⟩, ⟨Hbufs, Hd⟩⟩, ⟨%W, %hW, HO⟩, ⟨%d0, %g0, %h0, Hx⟩, ⟨%d1, %g1, %h1, Hwq⟩, ⟨%d2, %g2, %h2, Hwo⟩, ⟨%d3, %g3, %h3, Hout⟩⟩
  rw [before_0] at h0
  rw [before_1] at h1
  rw [before_2] at h2
  subst h0 h1 h2
  ihave Hst := (go_in (F := F) c) $$ [Hsp Hc]
  · isplitl [Hsp] <;> iassumption
  icases Hst with ⟨Hst, Hid⟩
  ihave Hlands := (lands_in (ins m) c) $$ [Hd Hl Hkv]
  · isplitl [Hd]; · iexact Hd
    isplitl [Hl] <;> iassumption
  iapply (wp_body (ins m) K c) $$ [HO Hst Hbufs Hlands Hx Hwq Hwo Hout]
  · isplitr; · iexact HG
    isplitr; · iexact Hlev
    isplitl [HO]
    · unfold ow; iexists W; iexact HO
    isplitl [Hst]; · iexact Hst
    isplitl [Hbufs]; · iexact Hbufs
    isplitl [Hlands]; · iexact Hlands
    isplitl [Hx Hwq Hwo]
    · unfold operands
      isplitl [Hx]; · iexact Hx
      isplitl [Hwq] <;> iassumption
    unfold any; iexists g3; iexact Hout
  unfold ow operands
  iintro ⟨⟨%W', HO⟩, Hfin, Hbufs, Hlands, ⟨Hx, Hwq, Hwo⟩, Hout⟩
  imod (hout K) $$ [Hid Hfin] with Hz
  · isplitr; · iexact HG
    isplitl [Hid] <;> iassumption
  icases Hz with ⟨Hb, Hs, Hr⟩
  icases (lands_out (ins m) c) $$ Hlands with ⟨Hd, Hl, Hkv⟩
  imodintro
  unfold bodyPost Φ₁ scratch Dat.owesAt Pipeline.owesWithin
  isplitl [Hbufs Hd Hb Hs Hr Hl Hkv]
  · isplitl [Hbufs Hd]
    · isplitl [Hbufs] <;> iassumption
    isplitl [Hb Hs Hr Hl]
    · isplitl [Hb]; · iexact Hb
      isplitl [Hs Hl]
      · isplitl [Hl] <;> iassumption
      iexact Hr
    iexact Hkv
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

theorem body_obligation : BodyObligation (dats (F := F) m ρ 0 c) (defs₀ (F := F)) 𝒱₀ () Set.univ := fun t => by
  rw [fin_N0 t]
  rw [bigSep_W0, bigSep_W0]
  simp only [owns_whole_eq]
  show bodyPre c m ρ ⊢ WP c (cc0_body mX (Memref.isWhole_whole _) mWq (Memref.isWhole_whole _) bK (Memref.isWhole_whole _) bV (Memref.isWhole_whole _) mWo (Memref.isWhole_whole _) mOut (Memref.isWhole_whole _) mQ (Memref.isWhole_whole _) dK (Memref.isWhole_whole _) dV (Memref.isWhole_whole _) oK (Memref.isWhole_whole _) oV (Memref.isWhole_whole _) mO (Memref.isWhole_whole _) mL (Memref.isWhole_whole _) mA (Memref.isWhole_whole _) mB (Memref.isWhole_whole _) mR (Memref.isWhole_whole _) cc0_scratch10 cc0_scratch11 cc0_scratch12 cc0_scratch13 cc0_scratch14 cc0_scratch15 cc0_scratch16 cc0_scratch17 cc0_scratch18 cc0_scratch19) (fun _ => bodyPost c m ρ)
  exact sound_body c m ρ

/-! ## The launch's own conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ held (ins m) c)
      ⊢ |={Set.univ}=> iprop(start₀ c m ∗ emp) := by
  rw [Pipeline.unscopedRestP_none, unscopedRest0_eq]
  unfold start₀ kv
  iintro ⟨Hkv, Hlev, Hcr, -, HG⟩
  ihave Hc := (creds (F := F) c) $$ Hcr
  imodintro
  isplitl
  · isplitl [HG Hc]
    · isplitl [HG] <;> iassumption
    isplitl [Hlev]; · iexact Hlev
    iexact Hkv
  · iempintro

theorem scratch_eq : (Pipeline.scopedRest cfg0.spec c : sProp 𝕄) ⊣⊢ scratch c := by
  rw [scopedRest0_eq]
  unfold scratch bufs any
  constructor
  · iintro ⟨H0, H1, H2, H3, H4, H5, H6, H7, H8, H9⟩
    isplitl [H0 H3 H4 H5 H6 H7 H8 H9]
    · isplitl [H0 H7 H8 H9]
      · isplitl [H0]; · iexact H0
        isplitl [H7]; · iexact H7
        isplitl [H8]; · iexact H8
        iexact H9
      isplitl [H5 H6]
      · isplitl [H5]; · iexact H5
        iexact H6
      isplitl [H3]; · iexact H3
      iexact H4
    isplitl [H1]; · iexact H1
    iexact H2
  · iintro ⟨⟨⟨H0, H7, H8, H9⟩, ⟨H5, H6⟩, H3, H4⟩, H1, H2⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem phi0_intro :
    iprop(start₀ c m ∗ Pipeline.prefHeld Pipeline.Prefetch.none c (fun _ => fullShare.right) (fun k => k.elim0) ∗ Pipeline.scopedRest cfg0.spec c)
      ⊢ (dats m ρ 0 c).Φ 0 := by
  show _ ⊢ Φ₀ c m
  unfold Φ₀
  iintro ⟨Hs, -, Hr⟩
  isplitl [Hs]; · iexact Hs
  iapply (scratch_eq (F := F) c).1
  iexact Hr

/-- What is left for the host: the barrier's counter and the arrays of keys and of values. -/
def left : sProp 𝕄 := iprop(unscopedSems0 c ∗ kv (ins m) c)

theorem phi1_exit : (dats m ρ 0 c).Φ (Fin.last cfg0.N) ⊢ iprop(left c m ∗ Pipeline.ownSems0 osem c ∗ Pipeline.scopedRest cfg0.spec c) := by
  show Φ₁ c m ⊢ _
  rw [ownSems_eq]
  unfold Φ₁ left
  rw [unscopedSems_eq]
  iintro ⟨Hs, ⟨Hb, Hl, Hr⟩, Hkv⟩
  isplitl [Hb Hkv]
  · isplitl [Hb] <;> iassumption
  isplitl [Hl Hr]
  · isplitl [Hl] <;> iassumption
  iapply (scratch_eq (F := F) c).2
  iexact Hs

theorem left_read (s' : Phys nD τ sig (Elt F)) : iprop(left c m ∗ emp ∗ SI s')
    ⊢ (|={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2)
        ∧ s'.mem.mem ((c : Thread nD τ).loc main_arg3) = m ((c : Thread nD τ).loc main_arg3)⌝ ∗ SI s') : sProp 𝕄) := by
  have h (b : Ref sig .tc) : iprop((((c : Thread nD τ).loc b) ↦{fullShare} m ((c : Thread nD τ).loc b)) ∗ SI s')
      ⊢ (iprop(⌜s'.mem.mem ((c : Thread nD τ).loc b) = m ((c : Thread nD τ).loc b)⌝ ∗ SI s') : sProp 𝕄) := by
    iintro ⟨H, HS⟩
    ihave %e := (SI_pointsTo_agree (st := s')) $$ [H HS]
    · isplitl [HS] <;> iassumption
    isplitr
    · ipureintro; exact funext fun i => e i (Finset.mem_univ _)
    iexact HS
  unfold left kv
  iintro ⟨⟨Hu, HK, HV⟩, -, HS⟩
  icases (h main_arg2) $$ [HK HS] with ⟨%e2, HS⟩
  · isplitl [HK]; · iexact HK
    iexact HS
  icases (h main_arg3) $$ [HV HS] with ⟨%e3, HS⟩
  · isplitl [HV]; · iexact HV
    iexact HS
  imod (Pipeline.unscopedSems0_read (X := unscopedSems0 c) (c := c) fupd_intro s') $$ [Hu HS] with ⟨%es, HS⟩
  · isplitl [Hu] <;> iassumption
  imodintro
  isplitr
  · ipureintro; exact ⟨es, e2, e3⟩
  iexact HS

theorem ownU_pair (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

theorem out_whole : (dats m ρ 0 c).arrAt (3 : Fin 4) cfg0.N = resM (ins m) :=
  (dats m ρ 0 c).arrAt_eq_of_cover (3 : Fin 4) (resM (ins m))
    (fun t _ => by
      rw [fin_N0 t]
      funext i
      exact congrArg (resM (ins m)) (Rect.emb_unit_full (s := S1x256x1024) _ i).symm)
    (fun i => ⟨t0_0, rfl, Finset.mem_map.mpr ⟨i, Finset.mem_univ _, Rect.emb_unit_full (s := S1x256x1024) _ i⟩⟩)

/-- Every device ends with its result array holding `resM`, its arguments as they were, every counter at zero. -/
theorem run_main : θ_run defs (onTc (τ := τ) (main (F := F))) (s₀ m ρ) (fun r =>
    (∀ c : Dev nD, r.2.mem ((c : Thread nD τ).loc main_v1) = resM (ins m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation c m ρ) (hne := block_pos0) (harr := arr_whole0) (hstage := stage_whole0) (hshare := fun c => share_eq c m ρ)
    (hdistinct := winFacts0.arr_inj)
    (O₀ := O₀) (howed₀ := fun _ => rfl) (howedN := fun _ => rfl)
    (L := L) (lv := lv) (hL := L_of_ne) (hwaits := fun c => waits c m ρ)
    (G := dealt (ins m)) (G' := held (ins m)) (u₀ := u₀)
    (hu₀ := by
      unfold u₀
      iintro Hu
      ihave H := (ownU_pair (F := F) _ _) $$ Hu
      icases H with ⟨HP, HX⟩
      imod (fund (ins m)) $$ HX with HG
      imodintro
      isplitl [HP] <;> iassumption)
    (hglob := glob (ins m))
    (hA := fun _ _ => rfl) (hpf := fun _ k => k.elim0)
    (X := fun c => start₀ c m) (Y := fun c => left c m) (Z := fun _ => iprop(emp))
    (hX := fun c => start_intro c m ρ) (hin := fun c => phi0_intro c m ρ) (hout := fun c => phi1_exit c m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => left_read c m s')
    (hQ := fun _ h hs => ⟨fun c => ⟨((h c).1 3).trans (out_whole c m ρ),
      ((h c).1 0).trans ((dats m ρ 0 c).arrAt_in (0 : Fin 4) rfl _), ((h c).1 1).trans ((dats m ρ 0 c).arrAt_in (1 : Fin 4) rfl _),
      (h c).2.2.2.1, (h c).2.2.2.2, ((h c).1 2).trans ((dats m ρ 0 c).arrAt_in (2 : Fin 4) rfl _)⟩, sem_eq_zero hs fun c => (h c).2.2.1⟩)

end Cert.KernelIdeal.Own

end
-- ==== Proof.Twin.lean ====
module

public import proofs.«01_k».proof.Proof.Launch
public import proofs.«01_k».proof.Proof.Gen.Kernel

@[expose] public section

noncomputable section

/-! # The kernel as printed: the same program with the mask read as its own bits -/

namespace Cert.Kernel.Own

open Idealize.ShloMosaic Idealize.SL.Sem
open Idealize.ShloMosaic.TcCoe

variable {F : FTy → Type} [FloatOps F]

abbrev bitsNamed : Named F := ⟨fun _ _ φ b => Scalar.ofBits φ b⟩

theorem cfg_eq : Cert.Kernel.cfgs = Cert.KernelIdeal.cfgs := rfl
theorem defs₀_eq : @Cert.Kernel.defs₀ F _ _ = @Cert.KernelIdeal.defs₀ F _ bitsNamed _ := by
  funext p l a
  cases p
  · match l, a with
    | 0, (t, s) => rfl
  · rfl
  · rfl

theorem defs_eq : @Cert.Kernel.defs F _ _ = @Cert.KernelIdeal.defs F _ bitsNamed _ :=
  congrArg (Pipeline.defs (Cert.Kernel.pcfgs (F := F))) defs₀_eq

variable (m : (ℓ : Loc Cert.Kernel.nD Cert.Kernel.τ Cert.Kernel.sig) → Buf (Elt F) ℓ) (ρ : Dev Cert.Kernel.nD → PrngReg)

/-- The printed kernel runs, its arguments end as they were and its counters at zero: with the mask read as its own bits it is the other printing. -/
theorem run_main : θ_run (Cert.Kernel.defs (F := F)) (onTc (τ := Cert.Kernel.τ) (Cert.Kernel.main (F := F))) ⟨m, fun _ => 0, ρ⟩ (fun r =>
    (∀ c : Dev Cert.Kernel.nD, r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2)
      ∧ r.2.mem ((c : Thread Cert.Kernel.nD Cert.Kernel.τ).loc Cert.Kernel.main_arg3) = m ((c : Thread Cert.Kernel.nD Cert.Kernel.τ).loc Cert.Kernel.main_arg3)
      ∧ r.2.mem ((c : Thread Cert.Kernel.nD Cert.Kernel.τ).loc Cert.Kernel.main_arg4) = m ((c : Thread Cert.Kernel.nD Cert.Kernel.τ).loc Cert.Kernel.main_arg4)) ∧ r.2.sem = fun _ => 0) := by
  rw [defs_eq]
  exact (θ_run (@Cert.KernelIdeal.defs F _ bitsNamed _) _ _).mono (fun r h => ⟨fun c => (h.1 c).2, h.2⟩) (@Cert.KernelIdeal.Own.run_main F _ bitsNamed m ρ)

end Cert.Kernel.Own

end
-- ==== Proof.RefMask.lean ====
module

public import proofs.«01_k».proof.Proof.Gen.ReferenceIdeal.Run
public import Idealize.ShloMosaic.PureOps.Ideal
public import Idealize.ShloMosaic.Lib.Pointwise
public import Idealize.ShloMosaic.Lib.Routing.OpsOrder
public import Idealize.ShloMosaic.Lib.Routing.Words

@[expose] public section

noncomputable section

/-! # The reference's mask

Queries and keys by their blocks of sixty-four; a query block sees its own key block, key block 0, and the key blocks
whose number added to its own divides by three. -/

namespace Cert.ReferenceIdeal.Own

open Cert.ReferenceIdeal Cert.ReferenceIdeal.Gen Idealize.ShloMosaic Idealize.ShloMosaic.TcCoe

/-- The block of each query, and of each key. -/
def qBlk : IVec S256 32 := Routing.pyDiv bcast_S_S256 (iotaInDim S256 32 0) (id (constantI S_ 32 64#32))
def kBlk : IVec S16384 32 := Routing.pyDiv bcast_S_S16384 (iotaInDim S16384 32 0) (id (constantI S_ 32 64#32))

/-- The query's block and the key's, for every pair. -/
def qPair : IVec S256x16384 32 :=
  broadcastInDim S256x16384 ![0, 1] bcast_S256x1_S256x16384_0_1 (broadcastInDim S256x1 ![0] bcast_S256_S256x1_0 qBlk)
def kRow : IVec S1x16384 32 := broadcastInDim S1x16384 ![1] bcast_S16384_S1x16384_1 kBlk
def kPair : IVec S256x16384 32 := broadcastInDim S256x16384 ![0, 1] bcast_S1x16384_S256x16384_0_1 kRow

/-- The remainder by three of the blocks' sum. -/
def modPair : IVec S256x16384 32 := Routing.pyRem bcast_S_S256x16384 (addi qPair kPair) (id (constantI S_ 32 3#32))

/-- The mask. -/
def maskR : IVec S256x16384 1 :=
  ori (ori (cmpi .eq qPair kPair)
      (broadcastInDim S256x16384 ![0, 1] bcast_S1x16384_S256x16384_0_1
        (cmpi .eq kRow (broadcastInDim S1x16384 ![] bcast_S_S1x16384 (constantI S_ 32 0#32)))))
    (cmpi .eq modPair (broadcastInDim S256x16384 ![] bcast_S_S256x16384 (constantI S_ 32 0#32)))

theorem qBlk_apply (i : Fin 256) : qBlk (ix1 i) = BitVec.ofNat 32 ((i : ℕ) / 64) :=
  Routing.pyDiv_ap bcast_S_S256 _ _ (ix1 i) rfl rfl (by have := i.isLt; omega) (by decide) (by decide)

theorem kBlk_apply (j : Fin 16384) : kBlk (ix1 j) = BitVec.ofNat 32 ((j : ℕ) / 64) :=
  Routing.pyDiv_ap bcast_S_S16384 _ _ (ix1 j) rfl rfl (by have := j.isLt; omega) (by decide) (by decide)

theorem qPair_apply (i : Fin 256) (j : Fin 16384) : qPair (ix2 i j) = BitVec.ofNat 32 ((i : ℕ) / 64) := by
  rw [← qBlk_apply]
  unfold qPair
  pointwise

theorem kRow_apply (j : Fin 16384) : kRow (ix2 (0 : Fin 1) j) = BitVec.ofNat 32 ((j : ℕ) / 64) := by
  rw [← kBlk_apply]
  unfold kRow
  pointwise

theorem kPair_apply (i : Fin 256) (j : Fin 16384) : kPair (ix2 i j) = BitVec.ofNat 32 ((j : ℕ) / 64) := by
  rw [← kRow_apply]
  unfold kPair
  pointwise

theorem modPair_apply (i : Fin 256) (j : Fin 16384) :
    modPair (ix2 i j) = BitVec.ofNat 32 (((i : ℕ) / 64 + (j : ℕ) / 64) % 3) := by
  have hi := i.isLt
  have hj := j.isLt
  refine Routing.pyRem_ap bcast_S_S256x16384 _ _ (ix2 i j) ?_ rfl (by omega) (by decide) (by decide)
  show qPair (ix2 i j) + kPair (ix2 i j) = _
  rw [qPair_apply, kPair_apply, BitVec.ofNat_add]

/-- The mask, as a proposition. -/
def SeeR (b n : ℕ) : Prop := b = n ∨ n = 0 ∨ (b + n) % 3 = 0

instance (b n : ℕ) : Decidable (SeeR b n) := by unfold SeeR; infer_instance

theorem or_bits (p q r : Prop) [Decidable p] [Decidable q] [Decidable r] :
    IntOp.ori (IntOp.ori (BitVec.ofBool (decide p)) (BitVec.ofBool (decide q))) (BitVec.ofBool (decide r))
      = if p ∨ q ∨ r then 1#1 else 0#1 := by
  by_cases hp : p <;> by_cases hq : q <;> by_cases hr : r <;>
    simp only [hp, hq, hr, decide_true, decide_false, if_true, if_false, true_or, or_true, or_self] <;> rfl

theorem maskR_apply (i : Fin 256) (j : Fin 16384) :
    maskR (ix2 i j) = if SeeR ((i : ℕ) / 64) ((j : ℕ) / 64) then 1#1 else 0#1 := by
  have hi := i.isLt
  have hj := j.isLt
  unfold maskR
  pointwise
  rw [qPair_apply, kPair_apply, kRow_apply, modPair_apply, show (0#32 : BitVec 32) = BitVec.ofNat 32 0 from rfl,
    WordCmp.cmpi_eq_ofNat (by omega) (by omega), WordCmp.cmpi_eq_ofNat (by omega) (by decide), WordCmp.cmpi_eq_ofNat (by omega) (by decide)]
  refine (or_bits _ _ _).trans (if_congr Iff.rfl rfl rfl)

end Cert.ReferenceIdeal.Own

end
-- ==== Proof.Sums.lean ====
module

public import Idealize.ShloMosaic.PureOps.Ideal.Laws

@[expose] public section

noncomputable section

/-! # Sums over the extended reals

A weighted mean whose weights are exponentials does not change when every exponent is lowered by the largest one;
and a few ways of cutting a sum into blocks. -/

namespace Cert.KernelIdeal.Own

open Idealize.ShloMosaic

/-! ## Blocks -/

/-- A sum over `m` blocks of `n`. -/
theorem sum_blocks {M : Type*} [AddCommMonoid M] (m n N : ℕ) (hN : N = m * n) (f : ℕ → M) :
    ∑ z : Fin N, f z = ∑ c : Fin m, ∑ y : Fin n, f (n * c + y) := by
  subst hN
  rw [← Fintype.sum_prod_type' (fun (c : Fin m) (y : Fin n) => f (n * c + y)), ← finProdFinEquiv.sum_comp]
  refine Finset.sum_congr rfl fun x _ => ?_
  simp only [finProdFinEquiv_apply_val]
  congr 1
  omega

/-- The row that row `u` of class `c` is. -/
def rowOf (c u : ℕ) : ℕ := 64 * c + 192 * (u / 64) + u % 64

/-- The sum over a class's rows is the sum over the rows whose block is of that class. -/
theorem sum_class {M : Type*} [AddCommMonoid M] (f : ℕ → M) (hf : ∀ n, 4096 ≤ n → f n = 0) (c : ℕ) (hc : c < 3) :
    ∑ u : Fin 1408, f (rowOf c u) = ∑ a : Fin 4096, if (a : ℕ) / 64 % 3 = c then f a else 0 := by
  rw [Fin.sum_univ_eq_sum_range (fun u => f (rowOf c u)) 1408,
    Fin.sum_univ_eq_sum_range (fun a => if a / 64 % 3 = c then f a else 0) 4096]
  have h : ∑ a ∈ Finset.range 4096, (if a / 64 % 3 = c then f a else 0)
      = ∑ a ∈ Finset.range 4224, (if a / 64 % 3 = c then f a else 0) :=
    Finset.sum_subset (Finset.range_subset_range.2 (by decide)) fun a _ ha => by
      rw [hf a (by simpa using ha), ite_self]
  rw [h, ← Finset.sum_filter]
  refine Finset.sum_nbij' (fun u => rowOf c u) (fun a => 64 * (a / 192) + a % 64) ?_ ?_ ?_ ?_ (fun _ _ => rfl)
  all_goals
    intro u hu
    simp only [rowOf, Finset.mem_filter, Finset.mem_range] at hu ⊢
    omega

/-- A sum over the first rows is one over all, of what vanishes beyond. -/
theorem sum_first {M : Type*} [AddCommMonoid M] (f : ℕ → M) (n N : ℕ) (hn : n ≤ N) (hf : ∀ a, n ≤ a → f a = 0) :
    ∑ a : Fin n, f a = ∑ a : Fin N, f a := by
  rw [Fin.sum_univ_eq_sum_range f n, Fin.sum_univ_eq_sum_range f N]
  exact Finset.sum_subset (Finset.range_subset_range.2 hn) fun a _ ha => hf a (by simpa using ha)

/-! ## A real factor -/

theorem sum_mul_real {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem coe_sum' {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Scaling the left factors scales the sum of products, when all are real. -/
theorem sum_scale {ι : Type*} (s : Finset ι) (x y : ι → EReal) (c : ℝ) (hx : ∀ d, x d ≠ ⊤ ∧ x d ≠ ⊥) (hy : ∀ d, y d ≠ ⊤ ∧ y d ≠ ⊥) :
    ∑ d ∈ s, x d * (c : EReal) * y d = (∑ d ∈ s, x d * y d) * (c : EReal) := by
  have ex : ∀ d, x d = ((x d).toReal : EReal) := fun d => (EReal.coe_toReal (hx d).1 (hx d).2).symm
  have ey : ∀ d, y d = ((y d).toReal : EReal) := fun d => (EReal.coe_toReal (hy d).1 (hy d).2).symm
  rw [Finset.sum_congr rfl fun d _ => show x d * (c : EReal) * y d = (((x d).toReal * (y d).toReal * c : ℝ) : EReal) by
      rw [EReal.coe_mul, EReal.coe_mul, ← ex, ← ey]; ac_rfl,
    Finset.sum_congr rfl fun d _ => show x d * y d = (((x d).toReal * (y d).toReal : ℝ) : EReal) by
      rw [EReal.coe_mul, ← ex, ← ey], ← coe_sum', ← coe_sum', ← EReal.coe_mul, Finset.sum_mul]

theorem sum_real {ι : Type*} (s : Finset ι) (x : ι → EReal) (hx : ∀ d, x d ≠ ⊤ ∧ x d ≠ ⊥) :
    (∑ d ∈ s, x d) ≠ ⊤ ∧ (∑ d ∈ s, x d) ≠ ⊥ := by
  rw [Finset.sum_congr rfl fun d _ => (EReal.coe_toReal (hx d).1 (hx d).2).symm, ← coe_sum']
  exact ⟨EReal.coe_ne_top _, EReal.coe_ne_bot _⟩

theorem mul_real {x y : EReal} (hx : x ≠ ⊤ ∧ x ≠ ⊥) (hy : y ≠ ⊤ ∧ y ≠ ⊥) : x * y ≠ ⊤ ∧ x * y ≠ ⊥ := by
  rw [← EReal.coe_toReal hx.1 hx.2, ← EReal.coe_toReal hy.1 hy.2, ← EReal.coe_mul]
  exact ⟨EReal.coe_ne_top _, EReal.coe_ne_bot _⟩

/-! ## Weights -/

theorem div_real (x : EReal) {d : ℝ} (hd : 0 < d) : Ideal.div x (d : EReal) = x * ((d⁻¹ : ℝ) : EReal) := by
  have : (d : EReal) ≠ 0 := by exact_mod_cast hd.ne'
  rw [Ideal.div, if_neg this, EReal.coe_inv]

theorem exp_real {s : EReal} (hs : s ≠ ⊤) : ∃ a : ℝ, 0 ≤ a ∧ Ideal.exp s = (a : EReal) ∧ (s ≠ ⊥ → 0 < a) := by
  induction s with
  | bot => exact ⟨0, le_rfl, rfl, fun h => (h rfl).elim⟩
  | top => exact (hs rfl).elim
  | coe r => exact ⟨Real.exp r, (Real.exp_pos r).le, rfl, fun _ => Real.exp_pos r⟩

theorem exp_sub_real {s : EReal} (hs : s ≠ ⊤) (μ : ℝ) : Ideal.exp (s - (μ : EReal)) = Ideal.exp s * ((Real.exp (-μ) : ℝ) : EReal) := by
  induction s with
  | bot => rw [EReal.bot_sub, Ideal.exp_bot, zero_mul]
  | top => exact (hs rfl).elim
  | coe r => rw [← EReal.coe_sub, Ideal.exp_coe, Ideal.exp_coe, ← EReal.coe_mul, ← Real.exp_add, sub_eq_add_neg]

/-- The weighted mean with every exponent lowered by the largest is the weighted mean. -/
theorem mean_shift {N : ℕ} (s V : Fin N → EReal) (hs : ∀ j, s j ≠ ⊤) (h0 : ∃ j, s j ≠ ⊥) (M : EReal)
    (hM : M = Finset.univ.fold max ⊥ s) :
    ∑ j, V j * Ideal.div (Ideal.exp (s j - M)) (∑ k, Ideal.exp (s k - M))
      = Ideal.div (∑ j, Ideal.exp (s j) * V j) (∑ j, Ideal.exp (s j)) := by
  obtain ⟨j0, hj0⟩ := h0
  have hsup : M = Finset.univ.sup s := hM
  have hbot : M ≠ ⊥ := fun h => hj0 (le_bot_iff.1 (h ▸ hsup ▸ Finset.le_sup (Finset.mem_univ j0)))
  have htop : M ≠ ⊤ := by
    obtain ⟨j, _, hj⟩ := Finset.exists_mem_eq_sup Finset.univ ⟨j0, Finset.mem_univ j0⟩ s
    rw [hsup, hj]
    exact hs j
  obtain ⟨μ, rfl⟩ : ∃ μ : ℝ, M = (μ : EReal) := ⟨M.toReal, (EReal.coe_toReal htop hbot).symm⟩
  choose a ha0 ha hapos using fun j => exp_real (hs j)
  have hD : 0 < ∑ j, a j := Finset.sum_pos' (fun j _ => ha0 j) ⟨j0, Finset.mem_univ _, hapos j0 hj0⟩
  have hr := Real.exp_pos (-μ)
  have e1 : ∀ j, Ideal.exp (s j - (μ : EReal)) = ((a j * Real.exp (-μ) : ℝ) : EReal) := fun j => by
    rw [exp_sub_real (hs j), ha, EReal.coe_mul]
  have e2 : ∑ k, Ideal.exp (s k - (μ : EReal)) = (((∑ k, a k) * Real.exp (-μ) : ℝ) : EReal) := by
    rw [Finset.sum_mul, coe_sum']
    exact Finset.sum_congr rfl fun k _ => e1 k
  have e3 : ∑ k, Ideal.exp (s k) = ((∑ k, a k : ℝ) : EReal) := by
    rw [coe_sum']
    exact Finset.sum_congr rfl fun k _ => ha k
  rw [e2, e3, div_real _ hD, sum_mul_real _ _ _ (inv_nonneg.2 hD.le)]
  refine Finset.sum_congr rfl fun j _ => ?_
  rw [e1, div_real _ (mul_pos hD hr), ← EReal.coe_mul, ha, mul_comm (a j : EReal) (V j), mul_assoc (V j), ← EReal.coe_mul]
  congr 2
  field_simp

end Cert.KernelIdeal.Own

end
-- ==== Proof.RefVal.lean ====
module

public import proofs.«01_k».proof.Proof.RefMask
public import proofs.«01_k».proof.Proof.Sums

@[expose] public section

noncomputable section

/-! # The reference's result, entry by entry -/

namespace Cert.ReferenceIdeal.Own

open Cert.ReferenceIdeal Cert.ReferenceIdeal.Gen Idealize.ShloMosaic Idealize.ShloMosaic.TcCoe

variable (x : FVec Ideal S1x256x1024 .f32) (wq : FVec Ideal S1024x4096 .f32) (K V : FVec Ideal S1x16384x32x128 .f32)
  (wo : FVec Ideal S4096x1024 .f32)

/-- The scores before the mask. -/
def scR : FVec Ideal S1x32x256x16384 .f32 :=
  mulf (Host.dotGeneral dot_S1x256x32x128_S1x16384x32x128_S1x32x256x16384_3_3_1_1_02_02 none
      (shapeCast _ (Host.dotGeneral dot_S1x256x1024_S1024x4096_S1x256x4096_2_0_01_1_n_n none x wq) shapeCasts_S1x256x4096_S1x256x32x128) K)
    (broadcastInDim S1x32x256x16384 ![] bcast_S_S1x32x256x16384 (constant S_ .f32 0x3DB504F3#32))

/-- The scores, minus infinity where the mask hides the key. -/
def msR (M : IVec S256x16384 1) (s : FVec Ideal S1x32x256x16384 .f32) : FVec Ideal S1x32x256x16384 .f32 :=
  select (broadcastInDim S1x32x256x16384 ![0, 1, 2, 3] bcast_S1x1x256x16384_S1x32x256x16384_0_1_2_3
      (broadcastInDim S1x1x256x16384 ![2, 3] bcast_S256x16384_S1x1x256x16384_2_3 M))
    s (broadcastInDim S1x32x256x16384 ![] bcast_S_S1x32x256x16384 (id (constant S_ .f32 0xFF800000#32)))

/-- The largest score of each row. -/
def mxR (s : FVec Ideal S1x32x256x16384 .f32) : FVec Ideal S1x32x256 .f32 :=
  Host.reduce FloatOps.maximumf s (constant S_ .f32 0xFF800000#32) reducesTo_S1x32x256x16384_S1x32x256_d3 h_S_

/-- The exponentials. -/
def exR (s : FVec Ideal S1x32x256x16384 .f32) : FVec Ideal S1x32x256x16384 .f32 :=
  Host.exp (subf s (broadcastInDim S1x32x256x16384 ![0, 1, 2, 3] bcast_S1x32x256x1_S1x32x256x16384_0_1_2_3
    (broadcastInDim S1x32x256x1 ![0, 1, 2] bcast_S1x32x256_S1x32x256x1_0_1_2 (mxR s))))

/-- Whether a query sees any key. -/
def anyR (M : IVec S256x16384 1) : IVec S256 1 :=
  Host.reduce IntOp.ori M (constantI S_ 1 0#1) reducesTo_S256x16384_S256_d1 h_S_
def keepR (M : IVec S256x16384 1) : IVec S1x1x256x1 1 := broadcastInDim S1x1x256x1 ![2] bcast_S256_S1x1x256x1_2 (anyR M)

/-- The rows' sums. -/
def smR (M : IVec S256x16384 1) (e : FVec Ideal S1x32x256x16384 .f32) : FVec Ideal S1x32x256x1 .f32 :=
  select (broadcastInDim S1x32x256x1 ![0, 1, 2, 3] bcast_S1x1x256x1_S1x32x256x1_0_1_2_3 (keepR M))
    (broadcastInDim S1x32x256x1 ![0, 1, 2] bcast_S1x32x256_S1x32x256x1_0_1_2
      (Host.reduceAdd e (constant S_ .f32 0x00000000#32) reducesTo_S1x32x256x16384_S1x32x256_d3 h_S_))
    (broadcastInDim S1x32x256x1 ![] bcast_S_S1x32x256x1 (id (constant S_ .f32 0x3F800000#32)))

/-- The weights. -/
def wtR (M : IVec S256x16384 1) (e : FVec Ideal S1x32x256x16384 .f32) : FVec Ideal S1x32x256x16384 .f32 :=
  select (broadcastInDim S1x32x256x16384 ![0, 1, 2, 3] bcast_S1x1x256x1_S1x32x256x16384_0_1_2_3 (keepR M))
    (Host.divf e (broadcastInDim S1x32x256x16384 ![0, 1, 2, 3] bcast_S1x32x256x1_S1x32x256x16384_0_1_2_3 (smR M e)))
    (broadcastInDim S1x32x256x16384 ![] bcast_S_S1x32x256x16384 (id (constant S_ .f32 0x00000000#32)))

/-- The weighted means of the values, through the output projection. -/
def outR (w : FVec Ideal S1x32x256x16384 .f32) : FVec Ideal S1x256x1024 .f32 :=
  Host.dotGeneral dot_S1x256x4096_S4096x1024_S1x256x1024_2_0_01_1_n_n none
    (shapeCast _ (transpose S1x256x32x128 [0, 3, 1, 2]
      (Host.dotGeneral dot_S1x16384x32x128_S1x32x256x16384_S1x32x128x256_1_3_3_2_02_01 none V w)
      transposes_S1x32x128x256_S1x256x32x128_0_3_1_2) shapeCasts_S1x256x32x128_S1x256x4096) wo

/-- The reference's result, stage by stage. -/
theorem res_stages (m : (ℓ : Loc nD τ sig) → Buf (Elt Ideal) ℓ) (c : Dev nD) :
    Value.res_main_v44 m c = outR (m ((c.tc : Thread nD τ).loc main_arg3)) (m ((c.tc : Thread nD τ).loc main_arg4))
      (wtR maskR (exR (msR maskR (scR (m ((c.tc : Thread nD τ).loc main_arg0)) (m ((c.tc : Thread nD τ).loc main_arg1))
        (m ((c.tc : Thread nD τ).loc main_arg2)))))) := rfl

theorem outR_apply (w : FVec Ideal S1x32x256x16384 .f32) (i : Fin 256) (n : Fin 1024) :
    outR V wo w (ix3 (0 : Fin 1) i n) = ∑ z : Fin 4096, (∑ j : Fin 16384,
      V (ix4 (0 : Fin 1) j (⟨(z : ℕ) / 128, by omega⟩ : Fin 32) (⟨(z : ℕ) % 128, Nat.mod_lt _ (by decide)⟩ : Fin 128))
        * w (ix4 (0 : Fin 1) (⟨(z : ℕ) / 128, by omega⟩ : Fin 32) i j)) * wo (ix2 z n) := by
  unfold outR
  pointwise

theorem anyR_apply (i : Fin 256) : anyR maskR (ix1 i) = 1#1 := by
  unfold anyR
  pointwise
  refine (Routing.fold_ori _ _).2 ⟨0, Finset.mem_univ _, ?_⟩
  rw [maskR_apply]
  exact if_pos (Or.inr (Or.inl rfl))

theorem exR_apply (s : FVec Ideal S1x32x256x16384 .f32) (h : Fin 32) (i : Fin 256) (j : Fin 16384) :
    exR s (ix4 (0 : Fin 1) h i j) = Ideal.exp (s (ix4 (0 : Fin 1) h i j)
      - Finset.univ.fold max (⊥ : EReal) (fun k : Fin 16384 => s (ix4 (0 : Fin 1) h i k))) := by
  unfold exR mxR
  pointwise
  rfl

theorem msR_apply (M : IVec S256x16384 1) (s : FVec Ideal S1x32x256x16384 .f32) (h : Fin 32) (i : Fin 256) (j : Fin 16384) :
    msR M s (ix4 (0 : Fin 1) h i j) = Scalar.select (M (ix2 i j)) (s (ix4 (0 : Fin 1) h i j)) (⊥ : EReal) := by
  unfold msR
  pointwise
  rfl

theorem scR_apply (h : Fin 32) (i : Fin 256) (j : Fin 16384) :
    scR x wq K (ix4 (0 : Fin 1) h i j) = (∑ d : Fin 128,
      (∑ y : Fin 1024, x (ix3 (0 : Fin 1) i y) * wq (ix2 y (⟨(h : ℕ) * 128 + d, by omega⟩ : Fin 4096))) * K (ix4 (0 : Fin 1) j h d))
        * Ideal.ofBits .f32 0x3DB504F3#32 := by
  unfold scR
  pointwise

theorem keepR_apply (M : IVec S256x16384 1) (i : Fin 256) :
    keepR M (ix4 (0 : Fin 1) (0 : Fin 1) i (0 : Fin 1)) = anyR M (ix1 i) := by
  unfold keepR
  pointwise

theorem smR_apply (M : IVec S256x16384 1) (e : FVec Ideal S1x32x256x16384 .f32) (h : Fin 32) (i : Fin 256) :
    smR M e (ix4 (0 : Fin 1) h i (0 : Fin 1)) = Scalar.select (keepR M (ix4 (0 : Fin 1) (0 : Fin 1) i (0 : Fin 1)))
      (∑ j : Fin 16384, e (ix4 (0 : Fin 1) h i j)) (id (constant (F := Ideal) S_ .f32 0x3F800000#32) ix0) := by
  unfold smR
  pointwise

theorem pick_apply (k : IVec S1x1x256x1 1) (e : FVec Ideal S1x32x256x16384 .f32) (b : FVec Ideal S1x32x256x1 .f32) (z : FVec Ideal S_ .f32)
    (h : Fin 32) (i : Fin 256) (j : Fin 16384) :
    select (broadcastInDim S1x32x256x16384 ![0, 1, 2, 3] bcast_S1x1x256x1_S1x32x256x16384_0_1_2_3 k)
      (Host.divf e (broadcastInDim S1x32x256x16384 ![0, 1, 2, 3] bcast_S1x32x256x1_S1x32x256x16384_0_1_2_3 b))
      (broadcastInDim S1x32x256x16384 ![] bcast_S_S1x32x256x16384 z) (ix4 (0 : Fin 1) h i j)
      = Scalar.select (k (ix4 (0 : Fin 1) (0 : Fin 1) i (0 : Fin 1)))
      (Ideal.div (e (ix4 (0 : Fin 1) h i j)) (b (ix4 (0 : Fin 1) h i (0 : Fin 1)))) (z ix0) := by
  pointwise

theorem select_one {α : Type} (a b : α) : Scalar.select 1#1 a b = a := rfl

/-- Every query sees a key, so the weights are the exponentials over their row's sum. -/
theorem wtR_apply (e : FVec Ideal S1x32x256x16384 .f32) (h : Fin 32) (i : Fin 256) (j : Fin 16384) :
    wtR maskR e (ix4 (0 : Fin 1) h i j) = Ideal.div (e (ix4 (0 : Fin 1) h i j)) (∑ k : Fin 16384, e (ix4 (0 : Fin 1) h i k)) := by
  unfold wtR
  rw [pick_apply, keepR_apply, anyR_apply, smR_apply, keepR_apply, anyR_apply, select_one, select_one]

end Cert.ReferenceIdeal.Own

end
-- ==== Proof.Classes.lean ====
module

public import proofs.«01_k».proof.Proof.Model
public import proofs.«01_k».proof.Proof.Sums
public import Idealize.ShloMosaic.PureOps.Ideal
public import Idealize.ShloMosaic.Lib.Pointwise

@[expose] public section

noncomputable section

/-! # The gathered classes, row by row -/

namespace Cert.KernelIdeal.Own

open Idealize.ShloMosaic Idealize.ShloMosaic.TcCoe
open Cert.KernelIdeal.Gen

/-! ## The gathered classes -/

/-- A head's row, and zero beyond its end. -/
def rowX (kh : Head Ideal) (a : ℕ) (d : Fin 128) : EReal := if h : a < 4096 then kh ⟨a, h⟩ d else 0

theorem rowX_eq (kh : Head Ideal) {a b : ℕ} (hb : b < 4096) (d : Fin 128) (h : a = b) : kh ⟨b, hb⟩ d = rowX kh a d := by
  subst h
  rw [rowX, dif_pos hb]

/-- A block's row is the head's. -/
theorem piece_apply (kh : Head Ideal) (r : ℕ) (hr : r + 64 ≤ 4096) (t : Fin 64) (d : Fin 128) :
    k0_pay2 (blk kh r hr) (ix2 t d) = rowX kh (r + t) d := by
  have h : k0_pay2 (blk kh r hr) (ix2 t d) = blk kh r hr (ix3 (0 : Fin 1) t d) := by pointwise [k0_pay2]
  rw [h]
  exact rowX_eq kh _ d rfl

theorem cast22 (X : FVec Ideal S1408x128 .f32) (u : Fin 1408) (d : Fin 128) :
    (shapeCast S1x1408x128 (truncf .bf16 X bitsLt_bf16_f32) shapeCasts_S1408x128_S1x1408x128 : FVec Ideal S1x1408x128 .bf16)
      (ix3 (0 : Fin 1) u d) = X (ix2 u d) := by
  pointwise

theorem cast21 (X : FVec Ideal S1344x128 .f32) (u : Fin 1344) (d : Fin 128) :
    (shapeCast S1x1344x128 (truncf .bf16 X bitsLt_bf16_f32) shapeCasts_S1344x128_S1x1344x128 : FVec Ideal S1x1344x128 .bf16)
      (ix3 (0 : Fin 1) u d) = X (ix2 u d) := by
  pointwise

theorem cls22_apply (kh : Head Ideal) (u : Fin 1408) (d : Fin 128) : cls22 kh (ix3 (0 : Fin 1) u d) = rowX kh (rowOf 0 u) d := by
  have hu := u.isLt
  refine (cast22 (concatenate S1408x128 0
    (List.ofFn fun n : Fin 22 => ⟨S64x128, k0_pay2 (blk kh (0 + 192 * (n : ℕ)) (by omega))⟩)
    concatenates_S64x128_S64x128_S64x128_S64x128_S64x128_S64x128_S64x128_S64x128_S64x128_S64x128_S64x128_S64x128_S64x128_S64x128_S64x128_S64x128_S64x128_S64x128_S64x128_S64x128_S64x128_S64x128_S1408x128_d0) u d).trans ?_
  refine (concatenate_ofFn_apply (t := S1408x128) (s₁ := S64x128) 0 (fun n : Fin 22 => k0_pay2 (blk kh (0 + 192 * (n : ℕ)) (by omega))) _ rfl 64 rfl (ix2 u d)
    ⟨(u : ℕ) / 64, by omega⟩ rfl (ix2 (⟨(u : ℕ) % 64, by omega⟩ : Fin 64) d) rfl ?_).trans ?_
  · intro b hb
    match b with
    | 0 => exact absurd rfl hb
    | 1 => rfl
  · refine (piece_apply kh _ _ _ _).trans (congrArg (rowX kh · d) ?_)
    simp only [rowOf]

theorem cls21_apply (kh : Head Ideal) (r : ℕ) (hr : r + 192 * 21 ≤ 4224) (u : Fin 1344) (d : Fin 128) :
    cls21 kh r hr (ix3 (0 : Fin 1) u d) = rowX kh (r + 192 * (u / 64) + u % 64) d := by
  have hu := u.isLt
  refine (cast21 (concatenate S1344x128 0
    (List.ofFn fun n : Fin 21 => ⟨S64x128, k0_pay2 (blk kh (r + 192 * (n : ℕ)) (by omega))⟩)
    concatenates_S64x128_S64x128_S64x128_S64x128_S64x128_S64x128_S64x128_S64x128_S64x128_S64x128_S64x128_S64x128_S64x128_S64x128_S64x128_S64x128_S64x128_S64x128_S64x128_S64x128_S64x128_S1344x128_d0) u d).trans ?_
  refine (concatenate_ofFn_apply (t := S1344x128) (s₁ := S64x128) 0 (fun n : Fin 21 => k0_pay2 (blk kh (r + 192 * (n : ℕ)) (by omega))) _ rfl 64 rfl (ix2 u d)
    ⟨(u : ℕ) / 64, by omega⟩ rfl (ix2 (⟨(u : ℕ) % 64, by omega⟩ : Fin 64) d) rfl ?_).trans ?_
  · intro b hb
    match b with
    | 0 => exact absurd rfl hb
    | 1 => rfl
  · exact piece_apply kh _ _ _ _

theorem clsA_apply (kh : Head Ideal) (c : Fin 3) (u : Fin 1408) (d : Fin 128) :
    clsA kh (ix3 c u d) = rowX kh (rowOf c u) d := by
  have e0 : ((ix3 c u d : S3x1408x128.Idx) 0 : ℕ) = c := rfl
  have e1 : ((ix3 c u d : S3x1408x128.Idx) 1 : ℕ) = u := rfl
  have hu := u.isLt
  have hc := c.isLt
  unfold clsA
  split
  · rename_i h
    rw [e0] at h
    rw [h]
    exact cls22_apply kh u d
  · rename_i h
    rw [e0] at h
    split
    · rename_i h1
      exact cls21_apply kh _ _ _ d
    · rename_i h1
      rw [e1] at h1
      rw [rowX, dif_neg (by unfold rowOf; omega)]
      exact Ideal.ofBits_zero .bf16

end Cert.KernelIdeal.Own

end
-- ==== Proof.Masks.lean ====
module

public import proofs.«01_k».proof.Proof.Model
public import proofs.«01_k».proof.Proof.Sums
public import Idealize.ShloMosaic.PureOps.Ideal
public import Idealize.ShloMosaic.Lib.Pointwise

@[expose] public section

noncomputable section

/-! # The masks and the biases -/

namespace Cert.KernelIdeal.Own

open Idealize.ShloMosaic Idealize.ShloMosaic.TcCoe
open Cert.KernelIdeal.Gen

/-! ## The masks -/

/-- Whether query block `b` sees block `n` of the keys of the device at place `p`. -/
def See (p b n : ℕ) : Prop := b = 64 * p + n ∨ 64 * p + n = 0 ∨ (b + (64 * p + n)) % 3 = 0

instance (p b n : ℕ) : Decidable (See p b n) := by unfold See; infer_instance

theorem see_class (p : Fin 4) (b : ℕ) (hb : b = 0 ∨ b = 3) (n : ℕ) (hn : n < 64) : See p b n ↔ n % 3 = (clsF p b : ℕ) := by
  have hp := p.isLt
  simp only [See, clsF]
  omega

/-- The blocks that query blocks 1 and 2 see outside their class. -/
def SeeX (p b n : ℕ) : Prop := p = 0 ∧ (n = 0 ∨ n = b)

instance (p b n : ℕ) : Decidable (SeeX p b n) := by unfold SeeX; infer_instance

theorem see_more (p : Fin 4) (b : ℕ) (hb : b = 1 ∨ b = 2) (n : ℕ) (hn : n < 64) :
    (See p b n ↔ n % 3 = (clsF p b : ℕ) ∨ SeeX p b n) ∧ ¬ (n % 3 = (clsF p b : ℕ) ∧ SeeX p b n) := by
  have hp := p.isLt
  simp only [See, SeeX, clsF]
  omega

/-! ## The biases -/

theorem mask_bot : (Named.named κ "mask" 0xCE6E6B28#32 : Ideal .f32) = ⊥ := rfl

set_option maxHeartbeats 0 in
theorem lt_word (u : Fin 1408) : IntOp.cmpi CmpIPredicate.slt (BitVec.ofNat 32 ↑u) 1344#32 = if (u : ℕ) < 1344 then 1#1 else 0#1 := by
  revert u
  decide +kernel

theorem bias_apply (w : BitVec 32) (c : Fin 3) (hw : w = BitVec.ofNat 32 c) (u : Fin 1408) :
    (Scalar.select (Scalar.cmpi CmpIPredicate.eq w 0#32) (t22M (F := Ideal) (ix2 (0 : Fin 1) u)) (t21M (F := Ideal) (ix2 (0 : Fin 1) u)) : EReal)
      = if rowOf c u < 4096 then 0 else ⊥ := by
  have hu := u.isLt
  subst hw
  have h22 : t22M (F := Ideal) (ix2 (0 : Fin 1) u) = (0 : EReal) := by pointwise [t22M, k0_pay513]
  have h21 : t21M (F := Ideal) (ix2 (0 : Fin 1) u) = (if (u : ℕ) < 1344 then (0 : EReal) else ⊥) := by
    pointwise [t21M, k0_pay515, k0_pay514]
    rw [lt_word, mask_bot]
    split <;> rfl
  rw [h22, h21]
  match c with
  | 0 => exact (if_pos (by unfold rowOf; simp only [Fin.val_zero]; omega)).symm
  | 1 =>
    refine (show _ = _ from rfl : _ = (if (u : ℕ) < 1344 then (0 : EReal) else ⊥)).trans (if_congr ?_ rfl rfl)
    simp only [rowOf, Fin.val_one]; omega
  | 2 =>
    refine (show _ = _ from rfl : _ = (if (u : ℕ) < 1344 then (0 : EReal) else ⊥)).trans (if_congr ?_ rfl rfl)
    simp only [rowOf, Fin.val_two]; omega

theorem cls_word0 (d0 : Dev nD) : Scalar.remsi (Scalar.subi (3#32) (Scalar.remsi (pW d0) 3#32)) 3#32 = BitVec.ofNat 32 (clsF d0 0) := by
  revert d0; decide
theorem cls_word3 (d0 : Dev nD) : Scalar.remsi (Scalar.subi (3#32) (Scalar.remsi (pW d0) 3#32)) 3#32 = BitVec.ofNat 32 (clsF d0 3) := by
  revert d0; decide
theorem cls_word1 (d0 : Dev nD) : Scalar.remsi (Scalar.subi (3#32) (Scalar.remsi (Scalar.addi (1#32) (pW d0)) 3#32)) 3#32 = BitVec.ofNat 32 (clsF d0 1) := by
  revert d0; decide
theorem cls_word2 (d0 : Dev nD) : clsW d0 2#32 = BitVec.ofNat 32 (clsF d0 2) := by
  revert d0; decide

set_option maxHeartbeats 0 in
theorem xb_word (r : Fin 128) (a : Fin 256) :
    k0_pay516 (ix2 r a) = if (a : ℕ) / 64 = 0 ∨ (a : ℕ) / 64 = 1 + (r : ℕ) / 64 then 1#1 else 0#1 := by
  pointwise [k0_pay516]
  revert r a
  decide +kernel

theorem xb_apply (d0 : Dev nD) (r : Fin 128) (a : Fin 256) :
    xbM (F := Ideal) d0 (ix2 r a) = (if SeeX d0 (1 + (r : ℕ) / 64) ((a : ℕ) / 64) then (0 : EReal) else ⊥) := by
  have h : Scalar.cmpi .eq (pW d0) 0#32 = if (d0 : ℕ) = 0 then 1#1 else 0#1 := by revert d0; decide
  unfold xbM
  pointwise [k0_pay517]
  rw [xb_word, h, mask_bot]
  unfold SeeX
  by_cases h0 : (d0 : ℕ) = 0 <;> by_cases h1 : (a : ℕ) / 64 = 0 ∨ (a : ℕ) / 64 = 1 + (r : ℕ) / 64 <;> simp only [h0, h1, if_true, if_false, true_and, false_and] <;> rfl

end Cert.KernelIdeal.Own

end
-- ==== Proof.HeadVal.lean ====
module

public import proofs.«01_k».proof.Proof.Classes
public import proofs.«01_k».proof.Proof.Masks

@[expose] public section

noncomputable section

/-! # What one head's trip computes, over the extended reals

Row `i` of a device's queries meets the rows of the device's keys whose block the mask lets it see; the weighted values
and the sum of the weights are sums over those rows. -/

namespace Cert.KernelIdeal.Own

open Idealize.ShloMosaic Idealize.ShloMosaic.TcCoe
open Cert.KernelIdeal.Gen

/-- The weight of key row `n` for a query, and none beyond the head's end. -/
def ew (q : Fin 128 → EReal) (kh : Head Ideal) (n : ℕ) : EReal :=
  if n < 4096 then Ideal.exp (∑ d : Fin 128, q d * rowX kh n d) else 0

theorem ew_beyond (q : Fin 128 → EReal) (kh : Head Ideal) (n : ℕ) (hn : 4096 ≤ n) : ew q kh n = 0 := if_neg (by omega)

theorem exp_bot : (Ideal.exp ⊥ : EReal) = 0 := rfl

/-- A row of a class, with its bias. -/
theorem cls_weight (q : Fin 128 → EReal) (kh : Head Ideal) (w : BitVec 32) (c : Fin 3) (hw : w = BitVec.ofNat 32 c) (u : Fin 1408) :
    (Ideal.exp ((∑ d : Fin 128, q d * clsRow (clsA kh) c (ix3 (0 : Fin 1) u d)) +
      Scalar.select (Scalar.cmpi CmpIPredicate.eq w 0#32) (t22M (F := Ideal) (ix2 (0 : Fin 1) u)) (t21M (F := Ideal) (ix2 (0 : Fin 1) u)))
      : EReal) = ew q kh (rowOf c u) := by
  have h : ∀ d, clsRow (clsA kh) c (ix3 (0 : Fin 1) u d) = rowX kh (rowOf c u) d := fun d => clsA_apply kh c u d
  rw [bias_apply w c hw u, ew]
  simp only [h]
  split
  · rw [add_zero]
  · rw [EReal.add_bot, exp_bot]

theorem cls_sum (q : Fin 128 → EReal) (kh vh : Head Ideal) (w : BitVec 32) (c : Fin 3) (hw : w = BitVec.ofNat 32 c) (e : Fin 128) :
    (∑ u : Fin 1408, Ideal.exp ((∑ d : Fin 128, q d * clsRow (clsA kh) c (ix3 (0 : Fin 1) u d)) +
      Scalar.select (Scalar.cmpi CmpIPredicate.eq w 0#32) (t22M (F := Ideal) (ix2 (0 : Fin 1) u)) (t21M (F := Ideal) (ix2 (0 : Fin 1) u)))
      * clsRow (clsA vh) c (ix3 (0 : Fin 1) u e) : EReal)
      = ∑ a : Fin 4096, if (a : ℕ) / 64 % 3 = c then ew q kh a * rowX vh a e else 0 := by
  rw [← sum_class (fun n => ew q kh n * rowX vh n e) (fun n hn => by rw [ew_beyond q kh n hn, zero_mul]) c c.isLt]
  refine Finset.sum_congr rfl fun u _ => ?_
  rw [cls_weight q kh w c hw u]
  exact congrArg _ (clsA_apply vh c u e)

theorem cls_total (q : Fin 128 → EReal) (kh : Head Ideal) (w : BitVec 32) (c : Fin 3) (hw : w = BitVec.ofNat 32 c) :
    (∑ u : Fin 1408, Ideal.exp ((∑ d : Fin 128, q d * clsRow (clsA kh) c (ix3 (0 : Fin 1) u d)) +
      Scalar.select (Scalar.cmpi CmpIPredicate.eq w 0#32) (t22M (F := Ideal) (ix2 (0 : Fin 1) u)) (t21M (F := Ideal) (ix2 (0 : Fin 1) u)))
      : EReal)
      = ∑ a : Fin 4096, if (a : ℕ) / 64 % 3 = c then ew q kh a else 0 := by
  rw [← sum_class (fun n => ew q kh n) (ew_beyond q kh) c c.isLt]
  exact Finset.sum_congr rfl fun u _ => cls_weight q kh w c hw u

/-- A row of the first four blocks, with its bias. -/
theorem more_weight (d0 : Dev nD) (q : Fin 128 → EReal) (kh : Head Ideal) (r : Fin 128) (x : Fin 256) :
    (Ideal.exp ((∑ d : Fin 128, q d * xRows kh (ix3 (0 : Fin 1) x d)) + xbM (F := Ideal) d0 (ix2 r x)) : EReal)
      = if SeeX d0 (1 + (r : ℕ) / 64) ((x : ℕ) / 64) then ew q kh x else 0 := by
  have hx := x.isLt
  have h : ∀ d, xRows kh (ix3 (0 : Fin 1) x d) = rowX kh x d := fun d => rowX_eq kh _ d rfl
  have hew : ew q kh x = Ideal.exp (∑ d : Fin 128, q d * rowX kh x d) := if_pos (by omega)
  rw [xb_apply, hew]
  simp only [h]
  split
  · rw [add_zero]
  · rw [EReal.add_bot, exp_bot]

theorem more_sum (d0 : Dev nD) (q : Fin 128 → EReal) (kh vh : Head Ideal) (r : Fin 128) (e : Fin 128) :
    (∑ x : Fin 256, Ideal.exp ((∑ d : Fin 128, q d * xRows kh (ix3 (0 : Fin 1) x d)) + xbM (F := Ideal) d0 (ix2 r x))
      * xRows vh (ix3 (0 : Fin 1) x e) : EReal)
      = ∑ a : Fin 4096, if SeeX d0 (1 + (r : ℕ) / 64) ((a : ℕ) / 64) then ew q kh a * rowX vh a e else 0 := by
  have hr := r.isLt
  refine Eq.trans ?_ (sum_first (fun n => if SeeX d0 (1 + (r : ℕ) / 64) (n / 64) then ew q kh n * rowX vh n e else 0) 256 4096 (by decide)
    (fun n hn => if_neg (by simp only [SeeX]; omega)))
  refine Finset.sum_congr rfl fun x _ => ?_
  rw [more_weight, show xRows vh (ix3 (0 : Fin 1) x e) = rowX vh x e from rowX_eq vh _ e rfl]
  split
  · rfl
  · rw [zero_mul]

theorem more_total (d0 : Dev nD) (q : Fin 128 → EReal) (kh : Head Ideal) (r : Fin 128) :
    (∑ x : Fin 256, Ideal.exp ((∑ d : Fin 128, q d * xRows kh (ix3 (0 : Fin 1) x d)) + xbM (F := Ideal) d0 (ix2 r x)) : EReal)
      = ∑ a : Fin 4096, if SeeX d0 (1 + (r : ℕ) / 64) ((a : ℕ) / 64) then ew q kh a else 0 := by
  have hr := r.isLt
  refine Eq.trans ?_ (sum_first (fun n => if SeeX d0 (1 + (r : ℕ) / 64) (n / 64) then ew q kh n else 0) 256 4096 (by decide)
    (fun n hn => if_neg (by simp only [SeeX]; omega)))
  exact Finset.sum_congr rfl fun x _ => more_weight d0 q kh r x

/-- The weight that the mask leaves to key row `a` for a query of block `b`. -/
def wt (p b : ℕ) (q : Fin 128 → EReal) (kh : Head Ideal) (a : ℕ) : EReal := if See p b (a / 64) then ew q kh a else 0

theorem sum_own (p : Fin 4) (b : ℕ) (hb : b = 0 ∨ b = 3) (f : ℕ → EReal) :
    (∑ a : Fin 4096, if (a : ℕ) / 64 % 3 = (clsF p b : ℕ) then f a else 0) = ∑ a : Fin 4096, if See p b ((a : ℕ) / 64) then f a else 0 :=
  Finset.sum_congr rfl fun a _ => if_congr (see_class p b hb _ (by have := a.isLt; omega)).symm rfl rfl

theorem sum_more (p : Fin 4) (b : ℕ) (hb : b = 1 ∨ b = 2) (f : ℕ → EReal) :
    (∑ a : Fin 4096, if (a : ℕ) / 64 % 3 = (clsF p b : ℕ) then f a else 0) + (∑ a : Fin 4096, if SeeX p b ((a : ℕ) / 64) then f a else 0)
      = ∑ a : Fin 4096, if See p b ((a : ℕ) / 64) then f a else 0 := by
  rw [← Finset.sum_add_distrib]
  refine Finset.sum_congr rfl fun a _ => ?_
  have h := see_more p b hb ((a : ℕ) / 64) (by have := a.isLt; omega)
  by_cases h1 : (a : ℕ) / 64 % 3 = (clsF p b : ℕ)
  · rw [if_pos h1, if_neg (fun h2 => h.2 ⟨h1, h2⟩), if_pos (h.1.2 (Or.inl h1)), add_zero]
  · by_cases h2 : SeeX p b ((a : ℕ) / 64)
    · rw [if_neg h1, if_pos h2, if_pos (h.1.2 (Or.inr h2)), zero_add]
    · rw [if_neg h1, if_neg h2, if_neg (fun h3 => (h.1.1 h3).elim h1 h2), zero_add]

end Cert.KernelIdeal.Own

end
-- ==== Proof.HeadOut.lean ====
module

public import proofs.«01_k».proof.Proof.HeadVal

@[expose] public section

noncomputable section

/-! # The trip's results, row by row -/

namespace Cert.KernelIdeal.Own

open Idealize.ShloMosaic Idealize.ShloMosaic.TcCoe
open Cert.KernelIdeal.Gen

/-- A query's row for one head. -/
def qv (q : Vec Ideal S4x256x1024 .bf16) (g : Fin 4) (k : Fin 8) (i : Fin 256) (d : Fin 128) : EReal :=
  q (ix3 g i (⟨128 * k + d, by omega⟩ : Fin 1024))

variable (q : Vec Ideal S4x256x1024 .bf16) (kh vh : Head Ideal) (p : Dev nD) (g : Fin 4) (k : Fin 8)

/-- Rows read for a trip are the queries'. -/
theorem qRows_apply {n r : ℕ} (hr : r + n ≤ 256) (t : Fin n) (i : Fin 256) (hi : (i : ℕ) = r + t) (d : Fin 128) :
    qRows q g k n r hr (ix3 (0 : Fin 1) t d) = qv q g k i d :=
  congrArg (fun z => q (ix3 g z _)) (Fin.ext hi.symm)

/-- Values weighted by what the mask leaves. -/
theorem wt_mul (b : ℕ) (f : Fin 128 → EReal) (e : Fin 128) :
    (∑ a : Fin 4096, if See p b ((a : ℕ) / 64) then ew f kh a * rowX vh a e else 0) = ∑ a : Fin 4096, wt p b f kh a * rowX vh a e := by
  refine Finset.sum_congr rfl fun a _ => ?_
  unfold wt
  split
  · rfl
  · rw [zero_mul]

set_option maxHeartbeats 1000000

theorem cls_three (p : Dev nD) : clsF p 3 = clsF p 0 := by
  revert p; decide

theorem out0_apply (t : Fin 64) (e : Fin 128) (i : Fin 256) (hi : (i : ℕ) = t) :
    outB p (gotM q kh vh p g k) 0 (ix3 (0 : Fin 1) t e) = ∑ a : Fin 4096, wt p 0 (qv q g k i) kh a * rowX vh a e := by
  rw [← wt_mul, ← sum_own p 0 (Or.inl rfl) (fun n => ew (qv q g k i) kh n * rowX vh n e), ← cls_sum (qv q g k i) kh vh _ _ (cls_word0 p) e]
  unfold outB
  unfold out0 o03
  pointwise [k0_pay126, k0_pay115, k0_pay114, k0_pay113]
  have hq : ∀ d, (gotM q kh vh p g k).q0 (ix3 (0 : Fin 1) t d) = qv q g k i d := fun d => qRows_apply q g k (by decide) t i (by omega) d
  simp only [hq]
  rfl

theorem out3_apply (t : Fin 64) (e : Fin 128) (i : Fin 256) (hi : (i : ℕ) = 192 + t) :
    outB p (gotM q kh vh p g k) 3 (ix3 (0 : Fin 1) t e) = ∑ a : Fin 4096, wt p 3 (qv q g k i) kh a * rowX vh a e := by
  rw [← wt_mul, ← sum_own p 3 (Or.inr rfl) (fun n => ew (qv q g k i) kh n * rowX vh n e), ← cls_sum (qv q g k i) kh vh _ _ (cls_word3 p) e]
  unfold outB
  unfold out3 o03
  pointwise [k0_pay519, k0_pay115, k0_pay114, k0_pay113]
  have hq : ∀ d, (gotM q kh vh p g k).q3 (ix3 (0 : Fin 1) t d) = qv q g k i d := fun d => qRows_apply q g k (by decide) t i (by omega) d
  simp only [hq]
  rw [cls_three]
  rfl

theorem out1_apply (t : Fin 64) (e : Fin 128) (i : Fin 256) (hi : (i : ℕ) = 64 + t) :
    outB p (gotM q kh vh p g k) 1 (ix3 (0 : Fin 1) t e) = ∑ a : Fin 4096, wt p 1 (qv q g k i) kh a * rowX vh a e := by
  have hx := more_sum p (qv q g k i) kh vh (⟨t, by omega⟩ : Fin 128) e
  have e1 : 1 + ((⟨t, by omega⟩ : Fin 128) : ℕ) / 64 = 1 := by simp only; omega
  rw [e1] at hx
  rw [← wt_mul, ← sum_more p 1 (Or.inl rfl) (fun n => ew (qv q g k i) kh n * rowX vh n e),
    ← cls_sum (qv q g k i) kh vh _ _ (cls_word1 p) e, ← hx]
  unfold outB
  unfold out1 o1
  pointwise [k0_pay127, k0_pay118, k0_pay117, k0_pay125, k0_pay111, k0_pay112, k0_pay123]
  have hq : ∀ d, (gotM q kh vh p g k).q1 (ix3 (0 : Fin 1) t d) = qv q g k i d := fun d => qRows_apply q g k (by decide) t i (by omega) d
  have hx' : ∀ d, (gotM q kh vh p g k).q12 (ix3 (0 : Fin 1) (⟨t, by omega⟩ : Fin 128) d) = qv q g k i d := fun d =>
    qRows_apply q g k (by decide) _ i (by simp only; omega) d
  simp only [hq, hx']
  rfl

theorem out2_apply (t : Fin 64) (e : Fin 128) (i : Fin 256) (hi : (i : ℕ) = 128 + t) :
    outB p (gotM q kh vh p g k) 2 (ix3 (0 : Fin 1) t e) = ∑ a : Fin 4096, wt p 2 (qv q g k i) kh a * rowX vh a e := by
  have hx := more_sum p (qv q g k i) kh vh (⟨64 + t, by omega⟩ : Fin 128) e
  have e1 : 1 + ((⟨64 + t, by omega⟩ : Fin 128) : ℕ) / 64 = 2 := by simp only; omega
  rw [e1] at hx
  rw [← wt_mul, ← sum_more p 2 (Or.inr rfl) (fun n => ew (qv q g k i) kh n * rowX vh n e),
    ← cls_sum (qv q g k i) kh vh _ _ (cls_word2 p) e, ← hx]
  unfold outB
  unfold out2
  pointwise [k0_pay518, k0_pay128, k0_pay120, k0_pay121, k0_pay125, k0_pay111, k0_pay112, k0_pay123]
  have hq : ∀ d, (gotM q kh vh p g k).q2 (ix3 (0 : Fin 1) t d) = qv q g k i d := fun d => qRows_apply q g k (by decide) t i (by omega) d
  have hx' : ∀ d, (gotM q kh vh p g k).q12 (ix3 (0 : Fin 1) (⟨64 + t, by omega⟩ : Fin 128) d) = qv q g k i d := fun d =>
    qRows_apply q g k (by decide) _ i (by simp only; omega) d
  simp only [hq, hx']
  rfl

/-! ## The sums of the weights -/

theorem l0_apply (t : Fin 64) (i : Fin 256) (hi : (i : ℕ) = t) :
    l03 p t22M t21M (gotM q kh vh p g k) (ix1 (⟨t, by omega⟩ : Fin 128)) = ∑ a : Fin 4096, wt p 0 (qv q g k i) kh a := by
  refine Eq.trans ?_ ((cls_total (qv q g k i) kh _ _ (cls_word0 p)).trans (sum_own p 0 (Or.inl rfl) (fun n => ew (qv q g k i) kh n)))
  unfold l03
  pointwise [k0_pay116, k0_pay113]
  have hq : ∀ d, (gotM q kh vh p g k).q0 (ix3 (0 : Fin 1) t d) = qv q g k i d := fun d => qRows_apply q g k (by decide) t i (by omega) d
  simp only [hq]
  rfl

theorem l3_apply (t : Fin 64) (i : Fin 256) (hi : (i : ℕ) = 192 + t) :
    l03 p t22M t21M (gotM q kh vh p g k) (ix1 (⟨64 + t, by omega⟩ : Fin 128)) = ∑ a : Fin 4096, wt p 3 (qv q g k i) kh a := by
  refine Eq.trans ?_ ((cls_total (qv q g k i) kh _ _ (cls_word3 p)).trans (sum_own p 3 (Or.inr rfl) (fun n => ew (qv q g k i) kh n)))
  unfold l03
  pointwise [k0_pay116, k0_pay113]
  have hq : ∀ d, (gotM q kh vh p g k).q3 (ix3 (0 : Fin 1) t d) = qv q g k i d := fun d => qRows_apply q g k (by decide) t i (by omega) d
  simp only [hq]
  rw [cls_three]
  rfl

/-- The sum over the first four blocks, for row `r` of the two middle query blocks. -/
theorem lx_apply (r : Fin 128) (i : Fin 256) (hi : (i : ℕ) = 64 + r) :
    lx (xbM p) (gotM q kh vh p g k) (ix1 r)
      = ∑ a : Fin 4096, if SeeX p (1 + (r : ℕ) / 64) ((a : ℕ) / 64) then ew (qv q g k i) kh a else 0 := by
  rw [← more_total p (qv q g k i) kh r]
  have hx' : ∀ d, (gotM q kh vh p g k).q12 (ix3 (0 : Fin 1) r d) = qv q g k i d := fun d => qRows_apply q g k (by decide) r i hi d
  unfold lx
  pointwise [k0_pay124, k0_pay123, k0_pay111]
  simp only [hx']
  rfl

theorem l1_apply (t : Fin 64) (i : Fin 256) (hi : (i : ℕ) = 64 + t) :
    l1 p t22M t21M (gotM q kh vh p g k) (ix1 t) = ∑ a : Fin 4096, if (a : ℕ) / 64 % 3 = (clsF p 1 : ℕ) then ew (qv q g k i) kh a else 0 := by
  rw [← cls_total (qv q g k i) kh _ _ (cls_word1 p)]
  unfold l1
  pointwise [k0_pay119, k0_pay117]
  have hq : ∀ d, (gotM q kh vh p g k).q1 (ix3 (0 : Fin 1) t d) = qv q g k i d := fun d => qRows_apply q g k (by decide) t i (by omega) d
  simp only [hq]
  rfl

theorem l2_apply (t : Fin 64) (i : Fin 256) (hi : (i : ℕ) = 128 + t) :
    l2 p t22M t21M (gotM q kh vh p g k) (ix1 t) = ∑ a : Fin 4096, if (a : ℕ) / 64 % 3 = (clsF p 2 : ℕ) then ew (qv q g k i) kh a else 0 := by
  rw [← cls_total (qv q g k i) kh _ _ (cls_word2 p)]
  unfold l2
  pointwise [k0_pay122, k0_pay121, k0_pay120]
  have hq : ∀ d, (gotM q kh vh p g k).q2 (ix3 (0 : Fin 1) t d) = qv q g k i d := fun d => qRows_apply q g k (by decide) t i (by omega) d
  simp only [hq]
  rfl

/-- The sums of the weights, for every query. -/
theorem outL_apply (i : Fin 256) :
    outL p t22M t21M (xbM p) (gotM q kh vh p g k) (ix3 (0 : Fin 1) (0 : Fin 1) i)
      = ∑ a : Fin 4096, wt p ((i : ℕ) / 64) (qv q g k i) kh a := by
  have hlt := i.isLt
  unfold outL
  pointwise [k0_pay520]
  split
  · rename_i h
    rw [show (i : ℕ) / 64 = 0 by omega]
    exact l0_apply q kh vh p g k ⟨i, h⟩ i rfl
  · split
    · rename_i h h1
      rw [show (i : ℕ) / 64 = 1 by omega, l1_apply q kh vh p g k _ i (by simp only; omega),
        lx_apply q kh vh p g k _ i (by simp only; omega)]
      simp only [show 1 + ((i : ℕ) - 64) / 64 = 1 by omega]
      exact sum_more p 1 (Or.inl rfl) (fun n => ew (qv q g k i) kh n)
    · split
      · rename_i h h1 h2
        rw [show (i : ℕ) / 64 = 2 by omega, l2_apply q kh vh p g k _ i (by simp only; omega),
          lx_apply q kh vh p g k _ i (by simp only; omega)]
        simp only [show 1 + (64 + ((i : ℕ) - 64 - 64)) / 64 = 2 by omega]
        exact sum_more p 2 (Or.inr rfl) (fun n => ew (qv q g k i) kh n)
      · rename_i h h1 h2
        rw [show (i : ℕ) / 64 = 3 by omega]
        exact l3_apply q kh vh p g k ⟨(i : ℕ) - 64 - 64 - 64, by omega⟩ i (by simp only; omega)

/-- The weighted values, for every query. -/
theorem outB_apply (i : Fin 256) (e : Fin 128) :
    outB p (gotM q kh vh p g k) ((i : ℕ) / 64) (ix3 (0 : Fin 1) (⟨(i : ℕ) % 64, Nat.mod_lt _ (by decide)⟩ : Fin 64) e)
      = ∑ a : Fin 4096, wt p ((i : ℕ) / 64) (qv q g k i) kh a * rowX vh a e := by
  have hlt := i.isLt
  have h : (i : ℕ) / 64 = 0 ∨ (i : ℕ) / 64 = 1 ∨ (i : ℕ) / 64 = 2 ∨ (i : ℕ) / 64 = 3 := by omega
  rcases h with h | h | h | h <;> rw [h]
  · exact out0_apply q kh vh p g k _ e i (by simp only; omega)
  · exact out1_apply q kh vh p g k _ e i (by simp only; omega)
  · exact out2_apply q kh vh p g k _ e i (by simp only; omega)
  · exact out3_apply q kh vh p g k _ e i (by simp only; omega)

/-! ## A device's own results -/

theorem opM_apply (K V : Vec Ideal S1x4096x32x128 .f32) (i : Fin 256) (y : Fin 1024) :
    opM q K V p (ix3 g i y) = ∑ a : Fin 4096,
      wt p ((i : ℕ) / 64) (qv q g (⟨(y : ℕ) / 128, by omega⟩ : Fin 8) i) (headOf K (hd g ⟨(y : ℕ) / 128, by omega⟩)) a
        * rowX (headOf V (hd g ⟨(y : ℕ) / 128, by omega⟩)) a (⟨(y : ℕ) % 128, Nat.mod_lt _ (by decide)⟩ : Fin 128) :=
  outB_apply q _ _ p g _ i _

theorem lpM_apply (K V : Vec Ideal S1x4096x32x128 .f32) (i : Fin 256) :
    lpM q K V p (ix3 g k i) = ∑ a : Fin 4096, wt p ((i : ℕ) / 64) (qv q g k i) (headOf K (hd g k)) a :=
  outL_apply q _ _ p g k i

end Cert.KernelIdeal.Own

end
-- ==== Proof.Shares.lean ====
module

public import proofs.«01_k».proof.Proof.HeadOut

@[expose] public section

noncomputable section

/-! # The result, entry by entry -/

namespace Cert.KernelIdeal.Own

open Idealize.ShloMosaic Idealize.ShloMosaic.TcCoe
open Cert.KernelIdeal.Gen

set_option maxHeartbeats 0 in
theorem arM_apply (o : Vec Ideal S4x256x1024 .bf16) (l : Vec Ideal S4x8x256 .f32) (wo : Vec Ideal S1024x1024 .f32)
    (i : Fin 256) (n : Fin 1024) :
    arM o l wo (ix3 (0 : Fin 1) i n) = ∑ y : Fin 1024,
      Ideal.div (∑ s : Fin 4, o (ix3 s i y)) (∑ s : Fin 4, l (ix3 s (⟨(y : ℕ) / 128, by omega⟩ : Fin 8) i)) * wo (ix2 y n) := by
  unfold arM
  pointwise [k0_pay542, k0_pay532, k0_pay533, k0_pay534, k0_pay535, k0_pay536, k0_pay537, k0_pay538, k0_pay539, k0_pay540, k0_pay541, oaCol]
  refine Finset.sum_congr rfl fun y _ => congrArg (· * wo (ix2 y n)) ?_
  have hy := y.isLt
  have key : ∀ (z : Fin 1024) (j : Fin 8), z = y → j = ⟨(y : ℕ) / 128, by omega⟩ →
      Ideal.div (∑ s : Fin 4, o (ix3 s i z)) (∑ s : Fin 4, l (ix3 s j i))
        = Ideal.div (∑ s : Fin 4, o (ix3 s i y)) (∑ s : Fin 4, l (ix3 s (⟨(y : ℕ) / 128, by omega⟩ : Fin 8) i)) := by
    rintro _ _ rfl rfl
    rfl
  repeat' split
  all_goals exact key _ _ (Fin.ext (by simp only <;> omega)) (Fin.ext (by simp <;> omega))

theorem resM_apply (I : Ins Ideal) (i : Fin 256) (n : Fin 1024) :
    resM I (ix3 (0 : Fin 1) i n) = ∑ c : Fin 4, arAll I (ix3 c i n) := by
  unfold resM
  pointwise [k0_pay1]

theorem qAll_apply (I : Ins Ideal) (g : Fin 4) (i : Fin 256) (y : Fin 1024) :
    qAll I (ix3 g i y) = (∑ x : Fin 1024, I.x g (ix3 (0 : Fin 1) i x) * I.wq g (ix2 x y)) * Ideal.ofBits .f32 0x3DB504F3#32 := by
  unfold qAll
  pointwise [k0_pay512]

/-! ## In the whole arrays -/

/-- Whether query block `b` sees key block `n`. -/
def SeeG (b n : ℕ) : Prop := b = n ∨ n = 0 ∨ (b + n) % 3 = 0

instance (b n : ℕ) : Decidable (SeeG b n) := by unfold SeeG; infer_instance

variable (X : Fin 256 → Fin 1024 → EReal) (WQ : Fin 1024 → ℕ → EReal) (KG VG : ℕ → ℕ → Fin 128 → EReal) (WO : ℕ → Fin 1024 → EReal)

/-- A query's entry before the scale. -/
def qG (i : Fin 256) (z : ℕ) : EReal := ∑ x : Fin 1024, X i x * WQ x z

/-- The score of key `j` for query `i` in head `h`. -/
def scG (i : Fin 256) (h j : ℕ) : EReal :=
  ∑ d : Fin 128, qG X WQ i (128 * h + d) * Ideal.ofBits .f32 0x3DB504F3#32 * KG j h d

/-- Its weight. -/
def wG (i : Fin 256) (h j : ℕ) : EReal := if SeeG ((i : ℕ) / 64) (j / 64) then Ideal.exp (scG X WQ KG i h j) else 0

/-- The weighted mean of the values: entry `z` of query `i`, its head and its lane. -/
def attG (i : Fin 256) (z : ℕ) : EReal :=
  Ideal.div (∑ j : Fin 16384, wG X WQ KG i (z / 128) j * VG j (z / 128) ⟨z % 128, Nat.mod_lt _ (by decide)⟩)
    (∑ j : Fin 16384, wG X WQ KG i (z / 128) j)

variable (I : Ins Ideal)
  (hX : ∀ (c : Fin 4) (i : Fin 256) (x : Fin 1024), I.x c (ix3 (0 : Fin 1) i x) = X i x)
  (hQ : ∀ (c : Fin 4) (x y : Fin 1024), I.wq c (ix2 x y) = WQ x (1024 * c + y))
  (hK : ∀ (s : Fin 4) (a : Fin 4096) (h : Fin 32) (d : Fin 128), I.K s (ix4 (0 : Fin 1) a h d) = KG (4096 * s + a) h d)
  (hV : ∀ (s : Fin 4) (a : Fin 4096) (h : Fin 32) (d : Fin 128), I.V s (ix4 (0 : Fin 1) a h d) = VG (4096 * s + a) h d)
  (hO : ∀ (c : Fin 4) (y n : Fin 1024), I.wo c (ix2 y n) = WO (1024 * c + y) n)

include hX hQ hK in
/-- A device's weight for its key `a` is the whole array's for key `4096 s + a`. -/
theorem wt_eq (s c : Fin 4) (k : Fin 8) (i : Fin 256) (a : Fin 4096) :
    wt s ((i : ℕ) / 64) (qv (qAll I) c k i) (headOf (I.K s) (hd c k)) a = wG X WQ KG i (8 * c + k) (4096 * s + a) := by
  have ha := a.isLt
  unfold wt wG ew
  rw [if_pos ha]
  refine if_congr ?_ (congrArg Ideal.exp (Finset.sum_congr rfl fun d _ => ?_)) rfl
  · simp only [See, SeeG]
    omega
  · refine congrArg₂ (· * ·) ?_ ?_
    · refine (qAll_apply I c i _).trans (congrArg (· * Ideal.ofBits .f32 0x3DB504F3#32) (Finset.sum_congr rfl fun x _ => ?_))
      rw [hX, hQ]
      refine congrArg (fun z => X i x * WQ x z) ?_
      simp only
      omega
    · exact (rowX_eq (headOf (I.K s) (hd c k)) ha d rfl).symm.trans (hK s a (hd c k) d)

include hX hQ hK hV hO in
/-- The result in terms of the whole arrays. -/
theorem resM_eq (i : Fin 256) (n : Fin 1024) :
    resM I (ix3 (0 : Fin 1) i n) = ∑ z : Fin 4096, attG X WQ KG VG i z * WO z n := by
  rw [resM_apply, sum_blocks 4 1024 4096 rfl (fun z => attG X WQ KG VG i z * WO z n)]
  refine Finset.sum_congr rfl fun c _ => ?_
  refine (arM_apply (oaD I c) (laD I c) (I.wo c) i n).trans (Finset.sum_congr rfl fun y _ => ?_)
  have hy := y.isLt
  have e1 : (1024 * (c : ℕ) + (y : ℕ)) / 128 = 8 * c + (⟨(y : ℕ) / 128, by omega⟩ : Fin 8) := by simp only; omega
  have e2 : (⟨(1024 * (c : ℕ) + (y : ℕ)) % 128, Nat.mod_lt _ (by decide)⟩ : Fin 128) = ⟨(y : ℕ) % 128, Nat.mod_lt _ (by decide)⟩ :=
    Fin.ext (by simp only; omega)
  rw [hO]
  refine congrArg (· * WO (1024 * c + y) n) ?_
  unfold attG
  rw [e1, e2]
  refine congrArg₂ Ideal.div ?_ ?_
  · rw [sum_blocks 4 4096 16384 rfl (fun j => wG X WQ KG i (8 * c + (⟨(y : ℕ) / 128, by omega⟩ : Fin 8)) j
      * VG j (8 * c + (⟨(y : ℕ) / 128, by omega⟩ : Fin 8)) ⟨(y : ℕ) % 128, Nat.mod_lt _ (by decide)⟩)]
    refine Finset.sum_congr rfl fun s _ => ?_
    refine (opM_apply (qAll I) s c (I.K s) (I.V s) i y).trans (Finset.sum_congr rfl fun a _ => ?_)
    exact congrArg₂ (· * ·) (wt_eq X WQ KG I hX hQ hK s c _ i a)
      ((rowX_eq (headOf (I.V s) (hd c _)) a.isLt _ rfl).symm.trans (hV s a (hd c _) _))
  · rw [sum_blocks 4 4096 16384 rfl (fun j => wG X WQ KG i (8 * c + (⟨(y : ℕ) / 128, by omega⟩ : Fin 8)) j)]
    refine Finset.sum_congr rfl fun s _ => ?_
    refine (lpM_apply (qAll I) s c _ (I.K s) (I.V s) i).trans (Finset.sum_congr rfl fun a _ => ?_)
    exact wt_eq X WQ KG I hX hQ hK s c _ i a

end Cert.KernelIdeal.Own

end
-- ==== Proof.RefEq.lean ====
module

public import proofs.«01_k».proof.Proof.RefVal
public import proofs.«01_k».proof.Proof.Shares

@[expose] public section

noncomputable section

/-! # The reference's result in terms of the scores, the weights and the values -/

namespace Cert.ReferenceIdeal.Own

open Cert.ReferenceIdeal Cert.ReferenceIdeal.Gen Idealize.ShloMosaic Idealize.ShloMosaic.TcCoe
open Cert.KernelIdeal.Own (qG scG wG attG SeeG sum_scale sum_real mul_real mean_shift)

/-- The scale is a real number. -/
theorem scale_real : ∃ σ : ℝ, Ideal.ofBits .f32 0x3DB504F3#32 = (σ : EReal) :=
  ⟨_, by simp [Ideal.ofBits, Ideal.ieee, -EReal.coe_mul]; rfl⟩

variable (x : FVec Ideal S1x256x1024 .f32) (wq : FVec Ideal S1024x4096 .f32) (K V : FVec Ideal S1x16384x32x128 .f32)
  (wo : FVec Ideal S4096x1024 .f32)
  (X : Fin 256 → Fin 1024 → EReal) (WQ : Fin 1024 → ℕ → EReal) (KG VG : ℕ → ℕ → Fin 128 → EReal) (WO : ℕ → Fin 1024 → EReal)
  (hX : ∀ (i : Fin 256) (y : Fin 1024), x (ix3 (0 : Fin 1) i y) = X i y)
  (hQ : ∀ (y : Fin 1024) (z : Fin 4096), wq (ix2 y z) = WQ y z)
  (hK : ∀ (j : Fin 16384) (h : Fin 32) (d : Fin 128), K (ix4 (0 : Fin 1) j h d) = KG j h d)
  (hV : ∀ (j : Fin 16384) (h : Fin 32) (d : Fin 128), V (ix4 (0 : Fin 1) j h d) = VG j h d)
  (hO : ∀ (z : Fin 4096) (n : Fin 1024), wo (ix2 z n) = WO z n)
  (fX : ∀ (i : Fin 256) (y : Fin 1024), X i y ≠ ⊤ ∧ X i y ≠ ⊥)
  (fQ : ∀ (y : Fin 1024) (z : Fin 4096), WQ y z ≠ ⊤ ∧ WQ y z ≠ ⊥)
  (fK : ∀ (j : Fin 16384) (h : Fin 32) (d : Fin 128), KG j h d ≠ ⊤ ∧ KG j h d ≠ ⊥)

include fX fQ in
theorem q_real (i : Fin 256) (h : Fin 32) (d : Fin 128) : qG X WQ i (128 * h + d) ≠ ⊤ ∧ qG X WQ i (128 * h + d) ≠ ⊥ :=
  sum_real _ _ fun y => mul_real (fX i y) (fQ y ⟨128 * h + d, by omega⟩)

include fX fQ fK in
theorem score_real (i : Fin 256) (h : Fin 32) (j : Fin 16384) : scG X WQ KG i h j ≠ ⊤ ∧ scG X WQ KG i h j ≠ ⊥ := by
  obtain ⟨σ, hσ⟩ := scale_real
  unfold scG
  rw [hσ]
  exact sum_real _ _ fun d => mul_real (mul_real (q_real X WQ fX fQ i h d) ⟨EReal.coe_ne_top _, EReal.coe_ne_bot _⟩) (fK j h d)

include hX hQ hK fX fQ fK in
/-- The reference scales the finished score, the kernel the query: one real factor. -/
theorem score_eq (i : Fin 256) (h : Fin 32) (j : Fin 16384) : scR x wq K (ix4 (0 : Fin 1) h i j) = scG X WQ KG i h j := by
  obtain ⟨σ, hσ⟩ := scale_real
  rw [scR_apply]
  unfold scG
  rw [hσ, sum_scale _ _ _ σ (fun d => q_real X WQ fX fQ i h d) (fun d => fK j h d)]
  refine congrArg (· * (σ : EReal)) (Finset.sum_congr rfl fun d _ => congrArg₂ (· * ·) (Finset.sum_congr rfl fun y _ => ?_) (hK j h d))
  rw [hX, hQ]
  exact congrArg (fun z => X i y * WQ y z) (by simp only; omega)

/-- The masked scores' exponentials are the weights. -/
theorem weight_eq (i : Fin 256) (h j : ℕ) :
    Ideal.exp (Scalar.select (if SeeR ((i : ℕ) / 64) (j / 64) then 1#1 else 0#1) (scG X WQ KG i h j) (⊥ : EReal)) = wG X WQ KG i h j := by
  unfold wG
  by_cases hs : SeeR ((i : ℕ) / 64) (j / 64)
  · rw [if_pos hs, if_pos (show SeeG _ _ from hs)]
    rfl
  · rw [if_neg hs, if_neg (show ¬ SeeG _ _ from hs)]
    exact Ideal.exp_bot

include hX hQ hK hV hO fX fQ fK in
/-- Lowering every exponent by the row's largest leaves the weighted means as they are. -/
theorem out_eq (i : Fin 256) (n : Fin 1024) :
    outR V wo (wtR maskR (exR (msR maskR (scR x wq K)))) (ix3 (0 : Fin 1) i n) = ∑ z : Fin 4096, attG X WQ KG VG i z * WO z n := by
  rw [outR_apply]
  refine Finset.sum_congr rfl fun z _ => congrArg₂ (· * ·) ?_ (hO z n)
  have hz := z.isLt
  obtain ⟨h, hh⟩ : ∃ h : Fin 32, h = ⟨(z : ℕ) / 128, by omega⟩ := ⟨_, rfl⟩
  obtain ⟨d, hd⟩ : ∃ d : Fin 128, d = ⟨(z : ℕ) % 128, Nat.mod_lt _ (by decide)⟩ := ⟨_, rfl⟩
  obtain ⟨s, hs⟩ : ∃ s : Fin 16384 → EReal, s = fun j : Fin 16384 =>
    Scalar.select (if SeeR ((i : ℕ) / 64) ((j : ℕ) / 64) then 1#1 else 0#1) (scG X WQ KG i h j) (⊥ : EReal) := ⟨_, rfl⟩
  have es : ∀ j, msR maskR (scR x wq K) (ix4 (0 : Fin 1) h i j) = s j := fun j => by
    rw [msR_apply, maskR_apply, score_eq x wq K X WQ KG hX hQ hK fX fQ fK, hs]
  have ew : ∀ j : Fin 16384, Ideal.exp (s j) = wG X WQ KG i h j := fun j => by
    rw [hs]
    exact weight_eq X WQ KG i h j
  have top : ∀ j, s j ≠ ⊤ := fun j => by
    rw [hs]
    by_cases hc : SeeR ((i : ℕ) / 64) ((j : ℕ) / 64)
    · simp only [if_pos hc]
      exact (score_real X WQ KG fX fQ fK i h j).1
    · simp only [if_neg hc]
      exact bot_ne_top
  have bot : ∃ j, s j ≠ ⊥ := ⟨0, by
    rw [hs]
    simp only [if_pos (show SeeR ((i : ℕ) / 64) (((0 : Fin 16384) : ℕ) / 64) from Or.inr (Or.inl rfl))]
    exact (score_real X WQ KG fX fQ fK i h 0).2⟩
  have key := mean_shift s (fun j => VG j h d) top bot _ rfl
  simp only [ew] at key
  unfold attG
  rw [← hh, ← hd]
  have eh : (z : ℕ) / 128 = (h : ℕ) := by rw [hh]
  rw [eh, ← key]
  refine Finset.sum_congr rfl fun j _ => congrArg₂ (· * ·) (hV j h d) ?_
  rw [wtR_apply]
  simp only [exR_apply, es]

end Cert.ReferenceIdeal.Own

end
-- ==== Proof.Pre.lean ====
module

public import proofs.«01_k».proof.Pre_finite_scores_KernelIdeal
public import proofs.«01_k».proof.Pre_finite_scores_ReferenceIdeal
public import Idealize.ShloMosaic.Lib.ReduceAll
public import Idealize.ShloMosaic.Lib.ValueIdx
public import Idealize.ShloMosaic.PureOps.Ideal.Laws

@[expose] public section

noncomputable section

/-! # What the precondition says -/

namespace Cert.Pre_finite_scores_KernelIdeal.Own

open Cert.Pre_finite_scores_KernelIdeal Idealize.ShloMosaic

theorem facts : Cert.Pre_finite_scores_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

/-- A value whose absolute value is below plus infinity is real. -/
theorem real_of_lt (a : Ideal .f32) (h : FloatOps.cmpf .olt (FloatOps.absf a) (Ideal.ofBits .f32 0x7F800000#32) = 1#1) :
    (a : EReal) ≠ ⊤ ∧ (a : EReal) ≠ ⊥ := by
  constructor
  · rintro rfl
    revert h
    show ¬ (BitVec.ofBool (decide (max (⊤ : EReal) (-⊤) < ⊤)) = 1#1)
    simp
  · rintro rfl
    revert h
    show ¬ (BitVec.ofBool (decide (max (⊥ : EReal) (-⊥) < ⊤)) = 1#1)
    simp

attribute [local instance] facts

/-- The input, the query projection and the keys are real. -/
theorem real_of_pre (x : FVec Ideal S1x256x1024 .f32) (wq : FVec Ideal S1024x1024 .f32) (K V : FVec Ideal S1x4096x32x128 .f32)
    (wo : FVec Ideal S1024x1024 .f32) (h : fn (F := Ideal) x wq K V wo = fun _ => 1#1) :
    (∀ i, (x i : EReal) ≠ ⊤ ∧ (x i : EReal) ≠ ⊥) ∧ (∀ i, (wq i : EReal) ≠ ⊤ ∧ (wq i : EReal) ≠ ⊥)
      ∧ (∀ i, (K i : EReal) ≠ ⊤ ∧ (K i : EReal) ≠ ⊥) := by
  have h0 := congrFun h fun k => k.elim0
  dsimp only [fn] at h0
  haveI : Subsingleton S_.Idx := ⟨fun i j => funext fun k => k.elim0⟩
  obtain ⟨h1, hk⟩ := IntOp.andi_eq_one.1 h0
  obtain ⟨hx, hw⟩ := IntOp.andi_eq_one.1 h1
  refine ⟨fun i => real_of_lt _ ?_, fun i => real_of_lt _ ?_, fun i => real_of_lt _ ?_⟩
  · exact Host.reduce_andi_all _ _ _ _ _ hx i
  · exact Host.reduce_andi_all _ _ _ _ _ hw i
  · exact Host.reduce_andi_all _ _ _ _ _ hk i

end Cert.Pre_finite_scores_KernelIdeal.Own

namespace Cert.Pre_finite_scores_ReferenceIdeal.Own

theorem facts : Cert.Pre_finite_scores_ReferenceIdeal.Facts := by
  constructor <;> decide

end Cert.Pre_finite_scores_ReferenceIdeal.Own

end
-- ==== Proof.Value.lean ====
module

public import proofs.«01_k».proof.Proof.RefEq
public import proofs.«01_k».proof.Proof.Pre
public import proofs.«01_k».proof.Proof.Launch
public import Idealize.ShloMosaic.Lib.Layout

@[expose] public section

noncomputable section

/-! # The kernel's result is the reference's -/

namespace Cert.Value

open Idealize.ShloMosaic Idealize.ShloMosaic.TcCoe
open Cert.KernelIdeal.Own (attG resM resM_eq ins)

/-- A block read at an index is the whole array at any index with the block's coordinates. -/
theorem block_at {α : Type} {S T : Shape} {a k : ℕ} (c : Fin k) (v : T.Idx → α) (h : Layout.Tiles S T a k) (i : S.Idx) (j : T.Idx)
    (e : ∀ b, (h.idx c i b).val = (j b).val) : Layout.block S T a k c v h i = v j :=
  congrArg v (funext fun b => Fin.ext (e b))

theorem block_cols (c : Fin 4) (v : (⟨2, ![1024, 4096]⟩ : Shape).Idx → EReal) (x y : Fin 1024) :
    Layout.block ⟨2, ![1024, 1024]⟩ ⟨2, ![1024, 4096]⟩ 1 4 c v (by decide) (ix2 x y) = v (ix2 x (⟨1024 * c + y, by omega⟩ : Fin 4096)) :=
  block_at c v _ _ _ fun b => by
    fin_cases b
    · rfl
    · show (c : ℕ) * 1024 + (y : ℕ) = 1024 * c + y
      omega

theorem block_rows (c : Fin 4) (v : (⟨2, ![4096, 1024]⟩ : Shape).Idx → EReal) (y n : Fin 1024) :
    Layout.block ⟨2, ![1024, 1024]⟩ ⟨2, ![4096, 1024]⟩ 0 4 c v (by decide) (ix2 y n) = v (ix2 (⟨1024 * c + y, by omega⟩ : Fin 4096) n) :=
  block_at c v _ _ _ fun b => by
    fin_cases b
    · show (c : ℕ) * 1024 + (y : ℕ) = 1024 * c + y
      omega
    · rfl

theorem block_keys (c : Fin 4) (v : (⟨4, ![1, 16384, 32, 128]⟩ : Shape).Idx → EReal) (a : Fin 4096) (h : Fin 32) (d : Fin 128) :
    Layout.block ⟨4, ![1, 4096, 32, 128]⟩ ⟨4, ![1, 16384, 32, 128]⟩ 1 4 c v (by decide) (ix4 (0 : Fin 1) a h d)
      = v (ix4 (0 : Fin 1) (⟨4096 * c + a, by omega⟩ : Fin 16384) h d) :=
  block_at c v _ _ _ fun b => by
    fin_cases b
    · rfl
    · show (c : ℕ) * 4096 + (a : ℕ) = 4096 * c + a
      omega
    · rfl
    · rfl

/-! ## The whole arrays as functions of numbers -/

variable (x : (⟨3, ![1, 256, 1024]⟩ : Shape).Idx → EReal) (wq : (⟨2, ![1024, 4096]⟩ : Shape).Idx → EReal)
  (K V : (⟨4, ![1, 16384, 32, 128]⟩ : Shape).Idx → EReal) (wo : (⟨2, ![4096, 1024]⟩ : Shape).Idx → EReal)

def wqN (y : Fin 1024) (z : ℕ) : EReal := if h : z < 4096 then wq (ix2 y (⟨z, h⟩ : Fin 4096)) else 0
def keyN (j h : ℕ) (d : Fin 128) : EReal :=
  if hj : j < 16384 ∧ h < 32 then K (ix4 (0 : Fin 1) (⟨j, hj.1⟩ : Fin 16384) (⟨h, hj.2⟩ : Fin 32) d) else 0
def woN (z : ℕ) (n : Fin 1024) : EReal := if h : z < 4096 then wo (ix2 (⟨z, h⟩ : Fin 4096) n) else 0

theorem wqN_eq (y : Fin 1024) (z : Fin 4096) : wq (ix2 y z) = wqN wq y z := by
  unfold wqN
  rw [dif_pos z.isLt]
theorem keyN_eq (j : Fin 16384) (h : Fin 32) (d : Fin 128) : K (ix4 (0 : Fin 1) j h d) = keyN K j h d := by
  unfold keyN
  rw [dif_pos (⟨j.isLt, h.isLt⟩ : (j : ℕ) < 16384 ∧ (h : ℕ) < 32)]
theorem woN_eq (z : Fin 4096) (n : Fin 1024) : wo (ix2 z n) = woN wo z n := by
  unfold woN
  rw [dif_pos z.isLt]

/-- Each key position is some device's. -/
theorem key_real (f : ∀ (c : Fin 4) i, Layout.block ⟨4, ![1, 4096, 32, 128]⟩ ⟨4, ![1, 16384, 32, 128]⟩ 1 4 c K (by decide) i ≠ ⊤
      ∧ Layout.block ⟨4, ![1, 4096, 32, 128]⟩ ⟨4, ![1, 16384, 32, 128]⟩ 1 4 c K (by decide) i ≠ ⊥)
    (j : Fin 16384) (h : Fin 32) (d : Fin 128) : keyN K j h d ≠ ⊤ ∧ keyN K j h d ≠ ⊥ := by
  have g := f ⟨(j : ℕ) / 4096, by omega⟩ (ix4 (0 : Fin 1) (⟨(j : ℕ) % 4096, by omega⟩ : Fin 4096) h d)
  rw [block_keys] at g
  rw [← keyN_eq]
  have e : (⟨4096 * ((⟨(j : ℕ) / 4096, by omega⟩ : Fin 4) : ℕ) + ((⟨(j : ℕ) % 4096, by omega⟩ : Fin 4096) : ℕ), by simp only; omega⟩ : Fin 16384) = j :=
    Fin.ext (by simp only; omega)
  rwa [e] at g

/-- Each column of the query projection is some device's. -/
theorem wq_real (f : ∀ (c : Fin 4) i, Layout.block ⟨2, ![1024, 1024]⟩ ⟨2, ![1024, 4096]⟩ 1 4 c wq (by decide) i ≠ ⊤
      ∧ Layout.block ⟨2, ![1024, 1024]⟩ ⟨2, ![1024, 4096]⟩ 1 4 c wq (by decide) i ≠ ⊥)
    (y : Fin 1024) (z : Fin 4096) : wqN wq y z ≠ ⊤ ∧ wqN wq y z ≠ ⊥ := by
  have g := f ⟨(z : ℕ) / 1024, by omega⟩ (ix2 y (⟨(z : ℕ) % 1024, by omega⟩ : Fin 1024))
  rw [block_cols] at g
  rw [← wqN_eq]
  have e : (⟨1024 * ((⟨(z : ℕ) / 1024, by omega⟩ : Fin 4) : ℕ) + ((⟨(z : ℕ) % 1024, by omega⟩ : Fin 1024) : ℕ), by simp only; omega⟩ : Fin 4096) = z :=
    Fin.ext (by simp only; omega)
  rwa [e] at g

/-! ## The two programs -/

attribute [local instance] Cert.Pre_finite_scores_KernelIdeal.Own.facts

/-- What every device ends with is the reference's result. -/
theorem result_eq (m : (ℓ : Loc Cert.KernelIdeal.nD Cert.KernelIdeal.τ Cert.KernelIdeal.sig) → Buf (Elt Ideal) ℓ)
    (hp : ∀ c : Dev Cert.KernelIdeal.nD, Cert.Pre_finite_scores_KernelIdeal.fn (F := Ideal) ((ins m).x c) ((ins m).wq c) ((ins m).K c)
      ((ins m).V c) ((ins m).wo c) = fun _ => 1#1)
    (h0 : ∀ c, (ins m).x c = x)
    (h1 : ∀ c, (ins m).wq c = Layout.block ⟨2, ![1024, 1024]⟩ ⟨2, ![1024, 4096]⟩ 1 4 c wq)
    (h2 : ∀ c, (ins m).K c = Layout.block ⟨4, ![1, 4096, 32, 128]⟩ ⟨4, ![1, 16384, 32, 128]⟩ 1 4 c K)
    (h3 : ∀ c, (ins m).V c = Layout.block ⟨4, ![1, 4096, 32, 128]⟩ ⟨4, ![1, 16384, 32, 128]⟩ 1 4 c V)
    (h4 : ∀ c, (ins m).wo c = Layout.block ⟨2, ![1024, 1024]⟩ ⟨2, ![4096, 1024]⟩ 0 4 c wo) :
    resM (ins m) = Cert.ReferenceIdeal.Own.outR V wo (Cert.ReferenceIdeal.Own.wtR Cert.ReferenceIdeal.Own.maskR
      (Cert.ReferenceIdeal.Own.exR (Cert.ReferenceIdeal.Own.msR Cert.ReferenceIdeal.Own.maskR (Cert.ReferenceIdeal.Own.scR x wq K)))) := by
  have fin := fun c => Cert.Pre_finite_scores_KernelIdeal.Own.real_of_pre _ _ _ _ _ (hp c)
  have fx : ∀ (i : Fin 256) (y : Fin 1024), x (ix3 (0 : Fin 1) i y) ≠ ⊤ ∧ x (ix3 (0 : Fin 1) i y) ≠ ⊥ := fun i y => by
    have g := (fin 0).1 (ix3 (0 : Fin 1) i y)
    rwa [h0] at g
  have fq := wq_real wq fun c i => by
    have g := (fin c).2.1 i
    rwa [h1] at g
  have fk := key_real K fun c i => by
    have g := (fin c).2.2 i
    rwa [h2] at g
  funext j
  obtain ⟨i, n, rfl⟩ : ∃ (i : Fin 256) (n : Fin 1024), j = ix3 (0 : Fin 1) i n :=
    ⟨j 1, j 2, (eq_ix3 j).trans (congrArg (fun a : Fin 1 => ix3 a (j 1 : Fin 256) (j 2 : Fin 1024)) (Subsingleton.elim _ _))⟩
  refine (resM_eq (fun i y => x (ix3 (0 : Fin 1) i y)) (wqN wq) (keyN K) (keyN V) (woN wo) (ins m)
    (fun c i y => by rw [h0]) (fun c y z => ?_) (fun s a h d => ?_) (fun s a h d => ?_) (fun c y n => ?_) i n).trans
    (Cert.ReferenceIdeal.Own.out_eq x wq K V wo _ (wqN wq) (keyN K) (keyN V) (woN wo) (fun _ _ => rfl) (wqN_eq wq) (keyN_eq K) (keyN_eq V)
      (woN_eq wo) fx fq fk i n).symm
  · rw [h1]
    exact (block_cols c wq y z).trans (wqN_eq wq _ _)
  · rw [h2]
    exact (block_keys s K a h d).trans (keyN_eq K _ _ _)
  · rw [h3]
    exact (block_keys s V a h d).trans (keyN_eq V _ _ _)
  · rw [h4]
    exact (block_rows c wo y n).trans (woN_eq wo _ _)

end Cert.Value

end
-- ==== Proof.lean ====
module

public import proofs.«01_k».proof.Defs
public import proofs.«01_k».proof.Proof.Twin
public import proofs.«01_k».proof.Proof.Gen.ReferenceIdeal.Run
public import proofs.«01_k».proof.Proof.Value

@[expose] public section

noncomputable section

/-! # The claims -/

namespace Cert.Proof

open Idealize.ShloMosaic Idealize.SL.Sem

theorem frame_kernel : Cert.quiescent_Kernel := fun m ρ _ => Cert.Kernel.Own.run_main (F := Bits) m ρ

theorem frame_ideal : Cert.quiescent_KernelIdeal := fun m ρ _ =>
  (θ_run (Cert.KernelIdeal.defs (F := Ideal)) _ _).mono (fun _ h => ⟨fun c => (h.1 c).2, h.2⟩)
    (Cert.KernelIdeal.Own.run_main (F := Ideal) m ρ)

theorem frame_reference : Cert.quiescent_ReferenceIdeal := fun m ρ _ =>
  (θ_run (Cert.ReferenceIdeal.defs (F := Ideal)) _ _).mono (fun _ h => ⟨fun c => (h c).2, sem_eq_zero_of_no_sems (by decide) _⟩)
    (Cert.ReferenceIdeal.Value.run (F := Ideal) m ρ)

theorem mask_named : Cert.preserves_Kernel_KernelIdeal :=
  IdealRules.named_const.statement Cert.KernelIdeal.κ "mask" .f32 0xCE6E6B28#32 ⊥ rfl

attribute [local instance] Cert.Pre_finite_scores_KernelIdeal.Own.facts Cert.Pre_finite_scores_ReferenceIdeal.Own.facts

theorem frame_ideal_pre : Cert.quiescent_KernelIdeal_pre_finite_scores_KernelIdeal := fun m ρ _ => frame_ideal m ρ trivial

theorem frame_reference_pre : Cert.quiescent_ReferenceIdeal_pre_finite_scores_ReferenceIdeal := fun m ρ _ => frame_reference m ρ trivial

/-- Every device's result is the reference's. -/
theorem value : Cert.algebraic_KernelIdeal_ReferenceIdeal_pre_finite_scores_KernelIdeal := fun m ρ m' ρ' hp h => by
  refine ⟨Cert.ReferenceIdeal.Value.res_main_v44 m' 0, ?_, ?_⟩
  · refine (θ_run (Cert.KernelIdeal.defs (F := Ideal)) _ _).mono (fun _ H c => ⟨(H.1 c).1.trans ?_, (H.1 c).2⟩)
      (Cert.KernelIdeal.Own.run_main (F := Ideal) m ρ)
    exact (Cert.Value.result_eq _ _ _ _ _ m hp (fun c => (h c).1) (fun c => (h c).2.1) (fun c => (h c).2.2.1) (fun c => (h c).2.2.2.1)
      (fun c => (h c).2.2.2.2)).trans (Cert.ReferenceIdeal.Own.res_stages m' 0).symm
  · exact (θ_run (Cert.ReferenceIdeal.defs (F := Ideal)) _ _).mono (fun _ H => H 0) (Cert.ReferenceIdeal.Value.run (F := Ideal) m' ρ')

theorem claim : Cert.Claim :=
  ⟨Cert.Kernel.Gen.facts, Cert.KernelIdeal.Gen.facts, Cert.ReferenceIdeal.Gen.facts, Cert.Pre_finite_scores_KernelIdeal.Own.facts,
    Cert.Pre_finite_scores_ReferenceIdeal.Own.facts, frame_kernel, frame_ideal, frame_ideal_pre, frame_reference, frame_reference_pre,
    mask_named, value⟩

end Cert.Proof

end
